-- ==== Defs.lean ====
def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantDyT (m : (ℓ : Loc Cert.QuantDyT.nD Cert.QuantDyT.τ Cert.QuantDyT.sig) → Buf (Elt Bits) ℓ) : Prop :=
  True

def Pre_QuantDyN (m : (ℓ : Loc Cert.QuantDyN.nD Cert.QuantDyN.τ Cert.QuantDyN.sig) → Buf (Elt Bits) ℓ) : Prop :=
  True

def Pre_QuantW (m : (ℓ : Loc Cert.QuantW.nD Cert.QuantW.τ Cert.QuantW.sig) → Buf (Elt Bits) ℓ) : Prop :=
  True

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1)
      ∧ r.2.mem ((c.tc : Thread Cert.QuantX.nD Cert.QuantX.τ).loc Cert.QuantX.main_arg2) = m ((c.tc : Thread Cert.QuantX.nD Cert.QuantX.τ).loc Cert.QuantX.main_arg2)
      ∧ r.2.mem ((c.tc : Thread Cert.QuantX.nD Cert.QuantX.τ).loc Cert.QuantX.main_arg3) = m ((c.tc : Thread Cert.QuantX.nD Cert.QuantX.τ).loc Cert.QuantX.main_arg3))
      ∧ r.2.sem = fun _ => 0)

def quiescent_QuantDyT [hQuantDyT : Cert.QuantDyT.Facts] : Prop :=
  ∀ (m : (ℓ : Loc Cert.QuantDyT.nD Cert.QuantDyT.τ Cert.QuantDyT.sig) → Buf (Elt Bits) ℓ) (g : Dev Cert.QuantDyT.nD → PrngReg), Pre_QuantDyT m →
    θ_run (Cert.QuantDyT.defs (F := Bits)) (onTc (τ := Cert.QuantDyT.τ) (Cert.QuantDyT.main (F := Bits))) ⟨m, fun _ => 0, g⟩ (fun r => (∀ c : Dev Cert.QuantDyT.nD,
      r.2.mem ((c.tc : Thread Cert.QuantDyT.nD Cert.QuantDyT.τ).loc Cert.QuantDyT.main_arg0) = m ((c.tc : Thread Cert.QuantDyT.nD Cert.QuantDyT.τ).loc Cert.QuantDyT.main_arg0)
      ∧ r.2.mem ((c.tc : Thread Cert.QuantDyT.nD Cert.QuantDyT.τ).loc Cert.QuantDyT.main_arg1) = m ((c.tc : Thread Cert.QuantDyT.nD Cert.QuantDyT.τ).loc Cert.QuantDyT.main_arg1)
      ∧ r.2.mem ((c.tc : Thread Cert.QuantDyT.nD Cert.QuantDyT.τ).loc Cert.QuantDyT.main_arg2) = m ((c.tc : Thread Cert.QuantDyT.nD Cert.QuantDyT.τ).loc Cert.QuantDyT.main_arg2))
      ∧ r.2.sem = fun _ => 0)

def quiescent_QuantDyN [hQuantDyN : Cert.QuantDyN.Facts] : Prop :=
  ∀ (m : (ℓ : Loc Cert.QuantDyN.nD Cert.QuantDyN.τ Cert.QuantDyN.sig) → Buf (Elt Bits) ℓ) (g : Dev Cert.QuantDyN.nD → PrngReg), Pre_QuantDyN m →
    θ_run (Cert.QuantDyN.defs (F := Bits)) (onTc (τ := Cert.QuantDyN.τ) (Cert.QuantDyN.main (F := Bits))) ⟨m, fun _ => 0, g⟩ (fun r => (∀ c : Dev Cert.QuantDyN.nD,
      r.2.mem ((c.tc : Thread Cert.QuantDyN.nD Cert.QuantDyN.τ).loc Cert.QuantDyN.main_arg0) = m ((c.tc : Thread Cert.QuantDyN.nD Cert.QuantDyN.τ).loc Cert.QuantDyN.main_arg0)
      ∧ r.2.mem ((c.tc : Thread Cert.QuantDyN.nD Cert.QuantDyN.τ).loc Cert.QuantDyN.main_arg1) = m ((c.tc : Thread Cert.QuantDyN.nD Cert.QuantDyN.τ).loc Cert.QuantDyN.main_arg1)
      ∧ r.2.mem ((c.tc : Thread Cert.QuantDyN.nD Cert.QuantDyN.τ).loc Cert.QuantDyN.main_arg2) = m ((c.tc : Thread Cert.QuantDyN.nD Cert.QuantDyN.τ).loc Cert.QuantDyN.main_arg2))
      ∧ r.2.sem = fun _ => 0)

def quiescent_QuantW [hQuantW : Cert.QuantW.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => (∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0)
      ∧ r.2.mem ((c.tc : Thread Cert.QuantW.nD Cert.QuantW.τ).loc Cert.QuantW.main_arg1) = m ((c.tc : Thread Cert.QuantW.nD Cert.QuantW.τ).loc Cert.QuantW.main_arg1)
      ∧ r.2.mem ((c.tc : Thread Cert.QuantW.nD Cert.QuantW.τ).loc Cert.QuantW.main_arg2) = m ((c.tc : Thread Cert.QuantW.nD Cert.QuantW.τ).loc Cert.QuantW.main_arg2))
      ∧ r.2.sem = fun _ => 0)

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v2) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)) →
    ∃ (v0 : (c : Dev Cert.KernelDxIdeal.nD) → Buf (Elt Ideal) ((c.tc : Thread Cert.KernelDxIdeal.nD Cert.KernelDxIdeal.τ).loc Cert.KernelDxIdeal.main_v2_0)) (v1 : (c : Dev Cert.KernelDxIdeal.nD) → Buf (Elt Ideal) ((c.tc : Thread Cert.KernelDxIdeal.nD Cert.KernelDxIdeal.τ).loc Cert.KernelDxIdeal.main_v2_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v2_0) = v0 c
          ∧ r.2.mem ((c.tc : Thread Cert.KernelDxIdeal.nD Cert.KernelDxIdeal.τ).loc Cert.KernelDxIdeal.main_v2_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v22) = v0 c
          ∧ r.2.mem ((c.tc : Thread Cert.ReferenceDxIdeal.nD Cert.ReferenceDxIdeal.τ).loc Cert.ReferenceDxIdeal.main_v24) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3))

def holds_QuantW_w_scales [hQuantW : Cert.QuantW.Facts] [hPost_w_scales : Cert.Post_w_scales.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => ∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0)
      ∧ r.2.mem ((c.tc : Thread Cert.QuantW.nD Cert.QuantW.τ).loc Cert.QuantW.main_arg1) = m ((c.tc : Thread Cert.QuantW.nD Cert.QuantW.τ).loc Cert.QuantW.main_arg1)
      ∧ r.2.mem ((c.tc : Thread Cert.QuantW.nD Cert.QuantW.τ).loc Cert.QuantW.main_arg2) = m ((c.tc : Thread Cert.QuantW.nD Cert.QuantW.τ).loc Cert.QuantW.main_arg2)
      ∧ (Cert.Post_w_scales.fn (F := Bits) (m ((c.tc : Thread Cert.QuantW.nD Cert.QuantW.τ).loc Cert.QuantW.main_arg0)) (m ((c.tc : Thread Cert.QuantW.nD Cert.QuantW.τ).loc Cert.QuantW.main_arg1)) (m ((c.tc : Thread Cert.QuantW.nD Cert.QuantW.τ).loc Cert.QuantW.main_arg2)) (r.2.mem ((c.tc : Thread Cert.QuantW.nD Cert.QuantW.τ).loc Cert.QuantW.main_v6_0)) (r.2.mem ((c.tc : Thread Cert.QuantW.nD Cert.QuantW.τ).loc Cert.QuantW.main_v6_1)) (r.2.mem ((c.tc : Thread Cert.QuantW.nD Cert.QuantW.τ).loc Cert.QuantW.main_v6_2))) = (fun _ => 1#1))

def holds_QuantDyN_dy_scales_n [hQuantDyN : Cert.QuantDyN.Facts] [hPost_dy_scales_n : Cert.Post_dy_scales_n.Facts] : Prop :=
  ∀ (m : (ℓ : Loc Cert.QuantDyN.nD Cert.QuantDyN.τ Cert.QuantDyN.sig) → Buf (Elt Bits) ℓ) (g : Dev Cert.QuantDyN.nD → PrngReg), Pre_QuantDyN m →
    θ_run (Cert.QuantDyN.defs (F := Bits)) (onTc (τ := Cert.QuantDyN.τ) (Cert.QuantDyN.main (F := Bits))) ⟨m, fun _ => 0, g⟩ (fun r => ∀ c : Dev Cert.QuantDyN.nD,
      r.2.mem ((c.tc : Thread Cert.QuantDyN.nD Cert.QuantDyN.τ).loc Cert.QuantDyN.main_arg0) = m ((c.tc : Thread Cert.QuantDyN.nD Cert.QuantDyN.τ).loc Cert.QuantDyN.main_arg0)
      ∧ r.2.mem ((c.tc : Thread Cert.QuantDyN.nD Cert.QuantDyN.τ).loc Cert.QuantDyN.main_arg1) = m ((c.tc : Thread Cert.QuantDyN.nD Cert.QuantDyN.τ).loc Cert.QuantDyN.main_arg1)
      ∧ r.2.mem ((c.tc : Thread Cert.QuantDyN.nD Cert.QuantDyN.τ).loc Cert.QuantDyN.main_arg2) = m ((c.tc : Thread Cert.QuantDyN.nD Cert.QuantDyN.τ).loc Cert.QuantDyN.main_arg2)
      ∧ (Cert.Post_dy_scales_n.fn (F := Bits) (m ((c.tc : Thread Cert.QuantDyN.nD Cert.QuantDyN.τ).loc Cert.QuantDyN.main_arg0)) (m ((c.tc : Thread Cert.QuantDyN.nD Cert.QuantDyN.τ).loc Cert.QuantDyN.main_arg1)) (m ((c.tc : Thread Cert.QuantDyN.nD Cert.QuantDyN.τ).loc Cert.QuantDyN.main_arg2)) (r.2.mem ((c.tc : Thread Cert.QuantDyN.nD Cert.QuantDyN.τ).loc Cert.QuantDyN.main_v8_0)) (r.2.mem ((c.tc : Thread Cert.QuantDyN.nD Cert.QuantDyN.τ).loc Cert.QuantDyN.main_v8_1)) (r.2.mem ((c.tc : Thread Cert.QuantDyN.nD Cert.QuantDyN.τ).loc Cert.QuantDyN.main_v8_2))) = (fun _ => 1#1))

def holds_QuantDyT_dy_scales_t [hQuantDyT : Cert.QuantDyT.Facts] [hPost_dy_scales_t : Cert.Post_dy_scales_t.Facts] : Prop :=
  ∀ (m : (ℓ : Loc Cert.QuantDyT.nD Cert.QuantDyT.τ Cert.QuantDyT.sig) → Buf (Elt Bits) ℓ) (g : Dev Cert.QuantDyT.nD → PrngReg), Pre_QuantDyT m →
    θ_run (Cert.QuantDyT.defs (F := Bits)) (onTc (τ := Cert.QuantDyT.τ) (Cert.QuantDyT.main (F := Bits))) ⟨m, fun _ => 0, g⟩ (fun r => ∀ c : Dev Cert.QuantDyT.nD,
      r.2.mem ((c.tc : Thread Cert.QuantDyT.nD Cert.QuantDyT.τ).loc Cert.QuantDyT.main_arg0) = m ((c.tc : Thread Cert.QuantDyT.nD Cert.QuantDyT.τ).loc Cert.QuantDyT.main_arg0)
      ∧ r.2.mem ((c.tc : Thread Cert.QuantDyT.nD Cert.QuantDyT.τ).loc Cert.QuantDyT.main_arg1) = m ((c.tc : Thread Cert.QuantDyT.nD Cert.QuantDyT.τ).loc Cert.QuantDyT.main_arg1)
      ∧ r.2.mem ((c.tc : Thread Cert.QuantDyT.nD Cert.QuantDyT.τ).loc Cert.QuantDyT.main_arg2) = m ((c.tc : Thread Cert.QuantDyT.nD Cert.QuantDyT.τ).loc Cert.QuantDyT.main_arg2)
      ∧ (Cert.Post_dy_scales_t.fn (F := Bits) (m ((c.tc : Thread Cert.QuantDyT.nD Cert.QuantDyT.τ).loc Cert.QuantDyT.main_arg0)) (m ((c.tc : Thread Cert.QuantDyT.nD Cert.QuantDyT.τ).loc Cert.QuantDyT.main_arg1)) (m ((c.tc : Thread Cert.QuantDyT.nD Cert.QuantDyT.τ).loc Cert.QuantDyT.main_arg2)) (r.2.mem ((c.tc : Thread Cert.QuantDyT.nD Cert.QuantDyT.τ).loc Cert.QuantDyT.main_v9_0)) (r.2.mem ((c.tc : Thread Cert.QuantDyT.nD Cert.QuantDyT.τ).loc Cert.QuantDyT.main_v9_1)) (r.2.mem ((c.tc : Thread Cert.QuantDyT.nD Cert.QuantDyT.τ).loc Cert.QuantDyT.main_v9_2))) = (fun _ => 1#1))

def Claim : Prop :=
  ∃ (hKernelDw : Cert.KernelDw.Facts) (hKernelDwIdeal : Cert.KernelDwIdeal.Facts) (hReferenceDwIdeal : Cert.ReferenceDwIdeal.Facts) (hKernelDx : Cert.KernelDx.Facts) (hKernelDxIdeal : Cert.KernelDxIdeal.Facts) (hReferenceDxIdeal : Cert.ReferenceDxIdeal.Facts) (hQuantX : Cert.QuantX.Facts) (hQuantDyT : Cert.QuantDyT.Facts) (hQuantDyN : Cert.QuantDyN.Facts) (hQuantW : Cert.QuantW.Facts) (hPost_w_scales : Cert.Post_w_scales.Facts) (hPost_dy_scales_n : Cert.Post_dy_scales_n.Facts) (hPost_dy_scales_t : Cert.Post_dy_scales_t.Facts),
    quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_QuantX (hQuantX := hQuantX)
    ∧ quiescent_QuantDyT (hQuantDyT := hQuantDyT)
    ∧ quiescent_QuantDyN (hQuantDyN := hQuantDyN)
    ∧ quiescent_QuantW (hQuantW := hQuantW)
    ∧ preserves_KernelDw_KernelDwIdeal
    ∧ algebraic_KernelDwIdeal_ReferenceDwIdeal (hKernelDwIdeal := hKernelDwIdeal) (hReferenceDwIdeal := hReferenceDwIdeal)
    ∧ preserves_KernelDx_KernelDxIdeal
    ∧ algebraic_KernelDxIdeal_ReferenceDxIdeal (hKernelDxIdeal := hKernelDxIdeal) (hReferenceDxIdeal := hReferenceDxIdeal)
    ∧ holds_QuantW_w_scales (hQuantW := hQuantW) (hPost_w_scales := hPost_w_scales)
    ∧ holds_QuantDyN_dy_scales_n (hQuantDyN := hQuantDyN) (hPost_dy_scales_n := hPost_dy_scales_n)
    ∧ holds_QuantDyT_dy_scales_t (hQuantDyT := hQuantDyT) (hPost_dy_scales_t := hPost_dy_scales_t)
-- ==== Post_dy_scales_n.lean ====
abbrev S3x1280x16384 : Shape := ⟨3, ![3, 1280, 16384]⟩
abbrev S16384 : Shape := ⟨1, ![16384]⟩
abbrev S3840x16384 : Shape := ⟨2, ![3840, 16384]⟩
abbrev S3840x8192 : Shape := ⟨2, ![3840, 8192]⟩
abbrev S3840x512 : Shape := ⟨2, ![3840, 512]⟩
abbrev S_ : Shape := ⟨0, ![]⟩
abbrev S512 : Shape := ⟨1, ![512]⟩
abbrev S1x512 : Shape := ⟨2, ![1, 512]⟩

class Facts : Prop where
  shapeCasts_S3x1280x16384_S3840x16384 : S3x1280x16384.ShapeCasts S3840x16384
  natLt_16_32 : 16 < 32
  bcast_S_S3840x16384 : S_.BroadcastsInDim S3840x16384 (![] : Fin 0 → Fin S3840x16384.rank)
  bcast_S_S16384 : S_.BroadcastsInDim S16384 (![] : Fin 0 → Fin S16384.rank)
  slicesBy_S3840x16384_S3840x512_0s1_0s32 : S3840x16384.SlicesBy (![0, 0] : Fin 2 → Nat) ![1, 32] S3840x512
  slicesBy_S16384_S512_0s32 : S16384.SlicesBy (![0] : Fin 1 → Nat) ![32] S512
  bcast_S512_S1x512_1 : S512.BroadcastsInDim S1x512 (![1] : Fin 1 → Fin S1x512.rank)
  bcast_S1x512_S3840x512_0_1 : S1x512.BroadcastsInDim S3840x512 (![0, 1] : Fin 2 → Fin S3840x512.rank)
  slicesBy_S3840x16384_S3840x512_0s1_1s32 : S3840x16384.SlicesBy (![0, 1] : Fin 2 → Nat) ![1, 32] S3840x512
  slicesBy_S16384_S512_1s32 : S16384.SlicesBy (![1] : Fin 1 → Nat) ![32] S512
  slicesBy_S3840x16384_S3840x512_0s1_2s32 : S3840x16384.SlicesBy (![0, 2] : Fin 2 → Nat) ![1, 32] S3840x512
  slicesBy_S16384_S512_2s32 : S16384.SlicesBy (![2] : Fin 1 → Nat) ![32] S512
  slicesBy_S3840x16384_S3840x512_0s1_3s32 : S3840x16384.SlicesBy (![0, 3] : Fin 2 → Nat) ![1, 32] S3840x512
  slicesBy_S16384_S512_3s32 : S16384.SlicesBy (![3] : Fin 1 → Nat) ![32] S512
  slicesBy_S3840x16384_S3840x512_0s1_4s32 : S3840x16384.SlicesBy (![0, 4] : Fin 2 → Nat) ![1, 32] S3840x512
  slicesBy_S16384_S512_4s32 : S16384.SlicesBy (![4] : Fin 1 → Nat) ![32] S512
  slicesBy_S3840x16384_S3840x512_0s1_5s32 : S3840x16384.SlicesBy (![0, 5] : Fin 2 → Nat) ![1, 32] S3840x512
  slicesBy_S16384_S512_5s32 : S16384.SlicesBy (![5] : Fin 1 → Nat) ![32] S512
  slicesBy_S3840x16384_S3840x512_0s1_6s32 : S3840x16384.SlicesBy (![0, 6] : Fin 2 → Nat) ![1, 32] S3840x512
  slicesBy_S16384_S512_6s32 : S16384.SlicesBy (![6] : Fin 1 → Nat) ![32] S512
  slicesBy_S3840x16384_S3840x512_0s1_7s32 : S3840x16384.SlicesBy (![0, 7] : Fin 2 → Nat) ![1, 32] S3840x512
  slicesBy_S16384_S512_7s32 : S16384.SlicesBy (![7] : Fin 1 → Nat) ![32] S512
  slicesBy_S3840x16384_S3840x512_0s1_8s32 : S3840x16384.SlicesBy (![0, 8] : Fin 2 → Nat) ![1, 32] S3840x512
  slicesBy_S16384_S512_8s32 : S16384.SlicesBy (![8] : Fin 1 → Nat) ![32] S512
  slicesBy_S3840x16384_S3840x512_0s1_9s32 : S3840x16384.SlicesBy (![0, 9] : Fin 2 → Nat) ![1, 32] S3840x512
  slicesBy_S16384_S512_9s32 : S16384.SlicesBy (![9] : Fin 1 → Nat) ![32] S512
  slicesBy_S3840x16384_S3840x512_0s1_10s32 : S3840x16384.SlicesBy (![0, 10] : Fin 2 → Nat) ![1, 32] S3840x512
  slicesBy_S16384_S512_10s32 : S16384.SlicesBy (![10] : Fin 1 → Nat) ![32] S512
  slicesBy_S3840x16384_S3840x512_0s1_11s32 : S3840x16384.SlicesBy (![0, 11] : Fin 2 → Nat) ![1, 32] S3840x512
  slicesBy_S16384_S512_11s32 : S16384.SlicesBy (![11] : Fin 1 → Nat) ![32] S512
  slicesBy_S3840x16384_S3840x512_0s1_12s32 : S3840x16384.SlicesBy (![0, 12] : Fin 2 → Nat) ![1, 32] S3840x512
  slicesBy_S16384_S512_12s32 : S16384.SlicesBy (![12] : Fin 1 → Nat) ![32] S512
  slicesBy_S3840x16384_S3840x512_0s1_13s32 : S3840x16384.SlicesBy (![0, 13] : Fin 2 → Nat) ![1, 32] S3840x512
  slicesBy_S16384_S512_13s32 : S16384.SlicesBy (![13] : Fin 1 → Nat) ![32] S512
  slicesBy_S3840x16384_S3840x512_0s1_14s32 : S3840x16384.SlicesBy (![0, 14] : Fin 2 → Nat) ![1, 32] S3840x512
  slicesBy_S16384_S512_14s32 : S16384.SlicesBy (![14] : Fin 1 → Nat) ![32] S512
  slicesBy_S3840x16384_S3840x512_0s1_15s32 : S3840x16384.SlicesBy (![0, 15] : Fin 2 → Nat) ![1, 32] S3840x512
  slicesBy_S16384_S512_15s32 : S16384.SlicesBy (![15] : Fin 1 → Nat) ![32] S512
  slicesBy_S3840x16384_S3840x512_0s1_16s32 : S3840x16384.SlicesBy (![0, 16] : Fin 2 → Nat) ![1, 32] S3840x512
  slicesBy_S16384_S512_16s32 : S16384.SlicesBy (![16] : Fin 1 → Nat) ![32] S512
  slicesBy_S3840x16384_S3840x512_0s1_17s32 : S3840x16384.SlicesBy (![0, 17] : Fin 2 → Nat) ![1, 32] S3840x512
  slicesBy_S16384_S512_17s32 : S16384.SlicesBy (![17] : Fin 1 → Nat) ![32] S512
  slicesBy_S3840x16384_S3840x512_0s1_18s32 : S3840x16384.SlicesBy (![0, 18] : Fin 2 → Nat) ![1, 32] S3840x512
  slicesBy_S16384_S512_18s32 : S16384.SlicesBy (![18] : Fin 1 → Nat) ![32] S512
  slicesBy_S3840x16384_S3840x512_0s1_19s32 : S3840x16384.SlicesBy (![0, 19] : Fin 2 → Nat) ![1, 32] S3840x512
  slicesBy_S16384_S512_19s32 : S16384.SlicesBy (![19] : Fin 1 → Nat) ![32] S512
  slicesBy_S3840x16384_S3840x512_0s1_20s32 : S3840x16384.SlicesBy (![0, 20] : Fin 2 → Nat) ![1, 32] S3840x512
  slicesBy_S16384_S512_20s32 : S16384.SlicesBy (![20] : Fin 1 → Nat) ![32] S512
  slicesBy_S3840x16384_S3840x512_0s1_21s32 : S3840x16384.SlicesBy (![0, 21] : Fin 2 → Nat) ![1, 32] S3840x512
  slicesBy_S16384_S512_21s32 : S16384.SlicesBy (![21] : Fin 1 → Nat) ![32] S512
  slicesBy_S3840x16384_S3840x512_0s1_22s32 : S3840x16384.SlicesBy (![0, 22] : Fin 2 → Nat) ![1, 32] S3840x512
  slicesBy_S16384_S512_22s32 : S16384.SlicesBy (![22] : Fin 1 → Nat) ![32] S512
  slicesBy_S3840x16384_S3840x512_0s1_23s32 : S3840x16384.SlicesBy (![0, 23] : Fin 2 → Nat) ![1, 32] S3840x512
  slicesBy_S16384_S512_23s32 : S16384.SlicesBy (![23] : Fin 1 → Nat) ![32] S512
  slicesBy_S3840x16384_S3840x512_0s1_24s32 : S3840x16384.SlicesBy (![0, 24] : Fin 2 → Nat) ![1, 32] S3840x512
  slicesBy_S16384_S512_24s32 : S16384.SlicesBy (![24] : Fin 1 → Nat) ![32] S512
  slicesBy_S3840x16384_S3840x512_0s1_25s32 : S3840x16384.SlicesBy (![0, 25] : Fin 2 → Nat) ![1, 32] S3840x512
  slicesBy_S16384_S512_25s32 : S16384.SlicesBy (![25] : Fin 1 → Nat) ![32] S512
  slicesBy_S3840x16384_S3840x512_0s1_26s32 : S3840x16384.SlicesBy (![0, 26] : Fin 2 → Nat) ![1, 32] S3840x512
  slicesBy_S16384_S512_26s32 : S16384.SlicesBy (![26] : Fin 1 → Nat) ![32] S512
  slicesBy_S3840x16384_S3840x512_0s1_27s32 : S3840x16384.SlicesBy (![0, 27] : Fin 2 → Nat) ![1, 32] S3840x512
  slicesBy_S16384_S512_27s32 : S16384.SlicesBy (![27] : Fin 1 → Nat) ![32] S512
  slicesBy_S3840x16384_S3840x512_0s1_28s32 : S3840x16384.SlicesBy (![0, 28] : Fin 2 → Nat) ![1, 32] S3840x512
  slicesBy_S16384_S512_28s32 : S16384.SlicesBy (![28] : Fin 1 → Nat) ![32] S512
  slicesBy_S3840x16384_S3840x512_0s1_29s32 : S3840x16384.SlicesBy (![0, 29] : Fin 2 → Nat) ![1, 32] S3840x512
  slicesBy_S16384_S512_29s32 : S16384.SlicesBy (![29] : Fin 1 → Nat) ![32] S512
  slicesBy_S3840x16384_S3840x512_0s1_30s32 : S3840x16384.SlicesBy (![0, 30] : Fin 2 → Nat) ![1, 32] S3840x512
  slicesBy_S16384_S512_30s32 : S16384.SlicesBy (![30] : Fin 1 → Nat) ![32] S512
  slicesBy_S3840x16384_S3840x512_0s1_31s32 : S3840x16384.SlicesBy (![0, 31] : Fin 2 → Nat) ![1, 32] S3840x512
  slicesBy_S16384_S512_31s32 : S16384.SlicesBy (![31] : Fin 1 → Nat) ![32] S512
  bcast_S_S3840x512 : S_.BroadcastsInDim S3840x512 (![] : Fin 0 → Fin S3840x512.rank)
  natLt_8_32 : 8 < 32

variable [Facts]

def fn_row_element {F : FTy → Type} [BitOps F] (arg0 : FVec F S3840x16384 .f32) (arg1 : FVec F S16384 .f32) : FVec F S3840x512 .f32 :=
  let v0 : FVec F S3840x512 .f32 := (Host.slice S3840x512 ![0, 0] ![1, 32] · slicesBy_S3840x16384_S3840x512_0s1_0s32) arg0
  let v1 : FVec F S512 .f32 := (Host.slice S512 ![0] ![32] · slicesBy_S16384_S512_0s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_0 {F : FTy → Type} [BitOps F] (arg0 : FVec F S3840x16384 .f32) (arg1 : FVec F S16384 .f32) : FVec F S3840x512 .f32 :=
  let v0 : FVec F S3840x512 .f32 := (Host.slice S3840x512 ![0, 1] ![1, 32] · slicesBy_S3840x16384_S3840x512_0s1_1s32) arg0
  let v1 : FVec F S512 .f32 := (Host.slice S512 ![1] ![32] · slicesBy_S16384_S512_1s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_1 {F : FTy → Type} [BitOps F] (arg0 : FVec F S3840x16384 .f32) (arg1 : FVec F S16384 .f32) : FVec F S3840x512 .f32 :=
  let v0 : FVec F S3840x512 .f32 := (Host.slice S3840x512 ![0, 2] ![1, 32] · slicesBy_S3840x16384_S3840x512_0s1_2s32) arg0
  let v1 : FVec F S512 .f32 := (Host.slice S512 ![2] ![32] · slicesBy_S16384_S512_2s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_2 {F : FTy → Type} [BitOps F] (arg0 : FVec F S3840x16384 .f32) (arg1 : FVec F S16384 .f32) : FVec F S3840x512 .f32 :=
  let v0 : FVec F S3840x512 .f32 := (Host.slice S3840x512 ![0, 3] ![1, 32] · slicesBy_S3840x16384_S3840x512_0s1_3s32) arg0
  let v1 : FVec F S512 .f32 := (Host.slice S512 ![3] ![32] · slicesBy_S16384_S512_3s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_3 {F : FTy → Type} [BitOps F] (arg0 : FVec F S3840x16384 .f32) (arg1 : FVec F S16384 .f32) : FVec F S3840x512 .f32 :=
  let v0 : FVec F S3840x512 .f32 := (Host.slice S3840x512 ![0, 4] ![1, 32] · slicesBy_S3840x16384_S3840x512_0s1_4s32) arg0
  let v1 : FVec F S512 .f32 := (Host.slice S512 ![4] ![32] · slicesBy_S16384_S512_4s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_4 {F : FTy → Type} [BitOps F] (arg0 : FVec F S3840x16384 .f32) (arg1 : FVec F S16384 .f32) : FVec F S3840x512 .f32 :=
  let v0 : FVec F S3840x512 .f32 := (Host.slice S3840x512 ![0, 5] ![1, 32] · slicesBy_S3840x16384_S3840x512_0s1_5s32) arg0
  let v1 : FVec F S512 .f32 := (Host.slice S512 ![5] ![32] · slicesBy_S16384_S512_5s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_5 {F : FTy → Type} [BitOps F] (arg0 : FVec F S3840x16384 .f32) (arg1 : FVec F S16384 .f32) : FVec F S3840x512 .f32 :=
  let v0 : FVec F S3840x512 .f32 := (Host.slice S3840x512 ![0, 6] ![1, 32] · slicesBy_S3840x16384_S3840x512_0s1_6s32) arg0
  let v1 : FVec F S512 .f32 := (Host.slice S512 ![6] ![32] · slicesBy_S16384_S512_6s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_6 {F : FTy → Type} [BitOps F] (arg0 : FVec F S3840x16384 .f32) (arg1 : FVec F S16384 .f32) : FVec F S3840x512 .f32 :=
  let v0 : FVec F S3840x512 .f32 := (Host.slice S3840x512 ![0, 7] ![1, 32] · slicesBy_S3840x16384_S3840x512_0s1_7s32) arg0
  let v1 : FVec F S512 .f32 := (Host.slice S512 ![7] ![32] · slicesBy_S16384_S512_7s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_7 {F : FTy → Type} [BitOps F] (arg0 : FVec F S3840x16384 .f32) (arg1 : FVec F S16384 .f32) : FVec F S3840x512 .f32 :=
  let v0 : FVec F S3840x512 .f32 := (Host.slice S3840x512 ![0, 8] ![1, 32] · slicesBy_S3840x16384_S3840x512_0s1_8s32) arg0
  let v1 : FVec F S512 .f32 := (Host.slice S512 ![8] ![32] · slicesBy_S16384_S512_8s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_8 {F : FTy → Type} [BitOps F] (arg0 : FVec F S3840x16384 .f32) (arg1 : FVec F S16384 .f32) : FVec F S3840x512 .f32 :=
  let v0 : FVec F S3840x512 .f32 := (Host.slice S3840x512 ![0, 9] ![1, 32] · slicesBy_S3840x16384_S3840x512_0s1_9s32) arg0
  let v1 : FVec F S512 .f32 := (Host.slice S512 ![9] ![32] · slicesBy_S16384_S512_9s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_9 {F : FTy → Type} [BitOps F] (arg0 : FVec F S3840x16384 .f32) (arg1 : FVec F S16384 .f32) : FVec F S3840x512 .f32 :=
  let v0 : FVec F S3840x512 .f32 := (Host.slice S3840x512 ![0, 10] ![1, 32] · slicesBy_S3840x16384_S3840x512_0s1_10s32) arg0
  let v1 : FVec F S512 .f32 := (Host.slice S512 ![10] ![32] · slicesBy_S16384_S512_10s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_10 {F : FTy → Type} [BitOps F] (arg0 : FVec F S3840x16384 .f32) (arg1 : FVec F S16384 .f32) : FVec F S3840x512 .f32 :=
  let v0 : FVec F S3840x512 .f32 := (Host.slice S3840x512 ![0, 11] ![1, 32] · slicesBy_S3840x16384_S3840x512_0s1_11s32) arg0
  let v1 : FVec F S512 .f32 := (Host.slice S512 ![11] ![32] · slicesBy_S16384_S512_11s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_11 {F : FTy → Type} [BitOps F] (arg0 : FVec F S3840x16384 .f32) (arg1 : FVec F S16384 .f32) : FVec F S3840x512 .f32 :=
  let v0 : FVec F S3840x512 .f32 := (Host.slice S3840x512 ![0, 12] ![1, 32] · slicesBy_S3840x16384_S3840x512_0s1_12s32) arg0
  let v1 : FVec F S512 .f32 := (Host.slice S512 ![12] ![32] · slicesBy_S16384_S512_12s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_12 {F : FTy → Type} [BitOps F] (arg0 : FVec F S3840x16384 .f32) (arg1 : FVec F S16384 .f32) : FVec F S3840x512 .f32 :=
  let v0 : FVec F S3840x512 .f32 := (Host.slice S3840x512 ![0, 13] ![1, 32] · slicesBy_S3840x16384_S3840x512_0s1_13s32) arg0
  let v1 : FVec F S512 .f32 := (Host.slice S512 ![13] ![32] · slicesBy_S16384_S512_13s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_13 {F : FTy → Type} [BitOps F] (arg0 : FVec F S3840x16384 .f32) (arg1 : FVec F S16384 .f32) : FVec F S3840x512 .f32 :=
  let v0 : FVec F S3840x512 .f32 := (Host.slice S3840x512 ![0, 14] ![1, 32] · slicesBy_S3840x16384_S3840x512_0s1_14s32) arg0
  let v1 : FVec F S512 .f32 := (Host.slice S512 ![14] ![32] · slicesBy_S16384_S512_14s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_14 {F : FTy → Type} [BitOps F] (arg0 : FVec F S3840x16384 .f32) (arg1 : FVec F S16384 .f32) : FVec F S3840x512 .f32 :=
  let v0 : FVec F S3840x512 .f32 := (Host.slice S3840x512 ![0, 15] ![1, 32] · slicesBy_S3840x16384_S3840x512_0s1_15s32) arg0
  let v1 : FVec F S512 .f32 := (Host.slice S512 ![15] ![32] · slicesBy_S16384_S512_15s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_15 {F : FTy → Type} [BitOps F] (arg0 : FVec F S3840x16384 .f32) (arg1 : FVec F S16384 .f32) : FVec F S3840x512 .f32 :=
  let v0 : FVec F S3840x512 .f32 := (Host.slice S3840x512 ![0, 16] ![1, 32] · slicesBy_S3840x16384_S3840x512_0s1_16s32) arg0
  let v1 : FVec F S512 .f32 := (Host.slice S512 ![16] ![32] · slicesBy_S16384_S512_16s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_16 {F : FTy → Type} [BitOps F] (arg0 : FVec F S3840x16384 .f32) (arg1 : FVec F S16384 .f32) : FVec F S3840x512 .f32 :=
  let v0 : FVec F S3840x512 .f32 := (Host.slice S3840x512 ![0, 17] ![1, 32] · slicesBy_S3840x16384_S3840x512_0s1_17s32) arg0
  let v1 : FVec F S512 .f32 := (Host.slice S512 ![17] ![32] · slicesBy_S16384_S512_17s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_17 {F : FTy → Type} [BitOps F] (arg0 : FVec F S3840x16384 .f32) (arg1 : FVec F S16384 .f32) : FVec F S3840x512 .f32 :=
  let v0 : FVec F S3840x512 .f32 := (Host.slice S3840x512 ![0, 18] ![1, 32] · slicesBy_S3840x16384_S3840x512_0s1_18s32) arg0
  let v1 : FVec F S512 .f32 := (Host.slice S512 ![18] ![32] · slicesBy_S16384_S512_18s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_18 {F : FTy → Type} [BitOps F] (arg0 : FVec F S3840x16384 .f32) (arg1 : FVec F S16384 .f32) : FVec F S3840x512 .f32 :=
  let v0 : FVec F S3840x512 .f32 := (Host.slice S3840x512 ![0, 19] ![1, 32] · slicesBy_S3840x16384_S3840x512_0s1_19s32) arg0
  let v1 : FVec F S512 .f32 := (Host.slice S512 ![19] ![32] · slicesBy_S16384_S512_19s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_19 {F : FTy → Type} [BitOps F] (arg0 : FVec F S3840x16384 .f32) (arg1 : FVec F S16384 .f32) : FVec F S3840x512 .f32 :=
  let v0 : FVec F S3840x512 .f32 := (Host.slice S3840x512 ![0, 20] ![1, 32] · slicesBy_S3840x16384_S3840x512_0s1_20s32) arg0
  let v1 : FVec F S512 .f32 := (Host.slice S512 ![20] ![32] · slicesBy_S16384_S512_20s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_20 {F : FTy → Type} [BitOps F] (arg0 : FVec F S3840x16384 .f32) (arg1 : FVec F S16384 .f32) : FVec F S3840x512 .f32 :=
  let v0 : FVec F S3840x512 .f32 := (Host.slice S3840x512 ![0, 21] ![1, 32] · slicesBy_S3840x16384_S3840x512_0s1_21s32) arg0
  let v1 : FVec F S512 .f32 := (Host.slice S512 ![21] ![32] · slicesBy_S16384_S512_21s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_21 {F : FTy → Type} [BitOps F] (arg0 : FVec F S3840x16384 .f32) (arg1 : FVec F S16384 .f32) : FVec F S3840x512 .f32 :=
  let v0 : FVec F S3840x512 .f32 := (Host.slice S3840x512 ![0, 22] ![1, 32] · slicesBy_S3840x16384_S3840x512_0s1_22s32) arg0
  let v1 : FVec F S512 .f32 := (Host.slice S512 ![22] ![32] · slicesBy_S16384_S512_22s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_22 {F : FTy → Type} [BitOps F] (arg0 : FVec F S3840x16384 .f32) (arg1 : FVec F S16384 .f32) : FVec F S3840x512 .f32 :=
  let v0 : FVec F S3840x512 .f32 := (Host.slice S3840x512 ![0, 23] ![1, 32] · slicesBy_S3840x16384_S3840x512_0s1_23s32) arg0
  let v1 : FVec F S512 .f32 := (Host.slice S512 ![23] ![32] · slicesBy_S16384_S512_23s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_23 {F : FTy → Type} [BitOps F] (arg0 : FVec F S3840x16384 .f32) (arg1 : FVec F S16384 .f32) : FVec F S3840x512 .f32 :=
  let v0 : FVec F S3840x512 .f32 := (Host.slice S3840x512 ![0, 24] ![1, 32] · slicesBy_S3840x16384_S3840x512_0s1_24s32) arg0
  let v1 : FVec F S512 .f32 := (Host.slice S512 ![24] ![32] · slicesBy_S16384_S512_24s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_24 {F : FTy → Type} [BitOps F] (arg0 : FVec F S3840x16384 .f32) (arg1 : FVec F S16384 .f32) : FVec F S3840x512 .f32 :=
  let v0 : FVec F S3840x512 .f32 := (Host.slice S3840x512 ![0, 25] ![1, 32] · slicesBy_S3840x16384_S3840x512_0s1_25s32) arg0
  let v1 : FVec F S512 .f32 := (Host.slice S512 ![25] ![32] · slicesBy_S16384_S512_25s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_25 {F : FTy → Type} [BitOps F] (arg0 : FVec F S3840x16384 .f32) (arg1 : FVec F S16384 .f32) : FVec F S3840x512 .f32 :=
  let v0 : FVec F S3840x512 .f32 := (Host.slice S3840x512 ![0, 26] ![1, 32] · slicesBy_S3840x16384_S3840x512_0s1_26s32) arg0
  let v1 : FVec F S512 .f32 := (Host.slice S512 ![26] ![32] · slicesBy_S16384_S512_26s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_26 {F : FTy → Type} [BitOps F] (arg0 : FVec F S3840x16384 .f32) (arg1 : FVec F S16384 .f32) : FVec F S3840x512 .f32 :=
  let v0 : FVec F S3840x512 .f32 := (Host.slice S3840x512 ![0, 27] ![1, 32] · slicesBy_S3840x16384_S3840x512_0s1_27s32) arg0
  let v1 : FVec F S512 .f32 := (Host.slice S512 ![27] ![32] · slicesBy_S16384_S512_27s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_27 {F : FTy → Type} [BitOps F] (arg0 : FVec F S3840x16384 .f32) (arg1 : FVec F S16384 .f32) : FVec F S3840x512 .f32 :=
  let v0 : FVec F S3840x512 .f32 := (Host.slice S3840x512 ![0, 28] ![1, 32] · slicesBy_S3840x16384_S3840x512_0s1_28s32) arg0
  let v1 : FVec F S512 .f32 := (Host.slice S512 ![28] ![32] · slicesBy_S16384_S512_28s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_28 {F : FTy → Type} [BitOps F] (arg0 : FVec F S3840x16384 .f32) (arg1 : FVec F S16384 .f32) : FVec F S3840x512 .f32 :=
  let v0 : FVec F S3840x512 .f32 := (Host.slice S3840x512 ![0, 29] ![1, 32] · slicesBy_S3840x16384_S3840x512_0s1_29s32) arg0
  let v1 : FVec F S512 .f32 := (Host.slice S512 ![29] ![32] · slicesBy_S16384_S512_29s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_29 {F : FTy → Type} [BitOps F] (arg0 : FVec F S3840x16384 .f32) (arg1 : FVec F S16384 .f32) : FVec F S3840x512 .f32 :=
  let v0 : FVec F S3840x512 .f32 := (Host.slice S3840x512 ![0, 30] ![1, 32] · slicesBy_S3840x16384_S3840x512_0s1_30s32) arg0
  let v1 : FVec F S512 .f32 := (Host.slice S512 ![30] ![32] · slicesBy_S16384_S512_30s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_row_element_30 {F : FTy → Type} [BitOps F] (arg0 : FVec F S3840x16384 .f32) (arg1 : FVec F S16384 .f32) : FVec F S3840x512 .f32 :=
  let v0 : FVec F S3840x512 .f32 := (Host.slice S3840x512 ![0, 31] ![1, 32] · slicesBy_S3840x16384_S3840x512_0s1_31s32) arg0
  let v1 : FVec F S512 .f32 := (Host.slice S512 ![31] ![32] · slicesBy_S16384_S512_31s32) arg1
  let v2 : FVec F S1x512 .f32 := broadcastInDim S1x512 ![1] bcast_S512_S1x512_1 v1
  let v3 : FVec F S3840x512 .f32 := broadcastInDim S3840x512 ![0, 1] bcast_S1x512_S3840x512_0_1 v2
  let v4 : FVec F S3840x512 .f32 := mulf v0 v3
  v4

def fn_where {F : FTy → Type} [BitOps F] (arg0 : IVec S3840x512 1) (arg1 : IVec S_ 32) (arg2 : IVec S3840x512 32) : IVec S3840x512 32 :=
  let v0 : IVec S_ 32 := id arg1
  let v1 : IVec S3840x512 32 := broadcastInDim S3840x512 ![] bcast_S_S3840x512 v0
  let v2 : IVec S3840x512 32 := select arg0 v1 arg2
  v2

def fn_part11 {F : FTy → Type} [BitOps F] (main_arg5 : IVec S3840x512 8) (main_v231 : FVec F S3840x512 .f32) (main_v261 : FVec F S3840x512 .f32) : IVec S3840x512 1 :=
  let main_v262 : FVec F S3840x512 .f32 := maximumf main_v261 main_v231
  let main_v263 : IVec S3840x512 32 := bitcastToInt main_v262
  let main_c_0 : IVec S_ 32 := constantI S_ 32 23#32
  let main_v264 : IVec S3840x512 32 := broadcastInDim S3840x512 ![] bcast_S_S3840x512 main_c_0
  let main_v265 : IVec S3840x512 32 := Host.shrui main_v263 main_v264
  let main_v266 : IVec S3840x512 32 := id main_v265
  let main_c_1 : IVec S_ 32 := constantI S_ 32 0#32
  let main_v267 : IVec S3840x512 32 := broadcastInDim S3840x512 ![] bcast_S_S3840x512 main_c_1
  let main_v268 : IVec S3840x512 1 := cmpi .eq main_v266 main_v267
  let main_c_2 : IVec S_ 32 := constantI S_ 32 129#32
  let main_v269 : IVec S3840x512 32 := broadcastInDim S3840x512 ![] bcast_S_S3840x512 main_c_2
  let main_v270 : IVec S3840x512 32 := subi main_v266 main_v269
  let main_c_3 : IVec S_ 32 := constantI S_ 32 0#32
  let main_v271 : IVec S3840x512 32 := fn_where (F := F) main_v268 main_c_3 main_v270
  let main_v272 : IVec S3840x512 8 := (trunci 8 · natLt_8_32) main_v271
  let main_v273 : IVec S3840x512 1 := cmpi .eq main_arg5 main_v272
  main_v273

def fn_part10 {F : FTy → Type} [BitOps F] (main_arg5 : IVec S3840x512 8) (main_v207 : FVec F S3840x512 .f32) (main_v208 : FVec F S3840x512 .f32) (main_v209 : FVec F S3840x512 .f32) (main_v210 : FVec F S3840x512 .f32) (main_v211 : FVec F S3840x512 .f32) (main_v212 : FVec F S3840x512 .f32) (main_v213 : FVec F S3840x512 .f32) (main_v214 : FVec F S3840x512 .f32) (main_v215 : FVec F S3840x512 .f32) (main_v216 : FVec F S3840x512 .f32) (main_v217 : FVec F S3840x512 .f32) (main_v218 : FVec F S3840x512 .f32) (main_v219 : FVec F S3840x512 .f32) (main_v220 : FVec F S3840x512 .f32) (main_v221 : FVec F S3840x512 .f32) (main_v222 : FVec F S3840x512 .f32) (main_v223 : FVec F S3840x512 .f32) (main_v224 : FVec F S3840x512 .f32) (main_v225 : FVec F S3840x512 .f32) (main_v226 : FVec F S3840x512 .f32) (main_v227 : FVec F S3840x512 .f32) (main_v228 : FVec F S3840x512 .f32) (main_v229 : FVec F S3840x512 .f32) (main_v230 : FVec F S3840x512 .f32) (main_v231 : FVec F S3840x512 .f32) (main_v237 : FVec F S3840x512 .f32) : IVec S3840x512 1 :=
  let main_v238 : FVec F S3840x512 .f32 := maximumf main_v237 main_v207
  let main_v239 : FVec F S3840x512 .f32 := maximumf main_v238 main_v208
  let main_v240 : FVec F S3840x512 .f32 := maximumf main_v239 main_v209
  let main_v241 : FVec F S3840x512 .f32 := maximumf main_v240 main_v210
  let main_v242 : FVec F S3840x512 .f32 := maximumf main_v241 main_v211
  let main_v243 : FVec F S3840x512 .f32 := maximumf main_v242 main_v212
  let main_v244 : FVec F S3840x512 .f32 := maximumf main_v243 main_v213
  let main_v245 : FVec F S3840x512 .f32 := maximumf main_v244 main_v214
  let main_v246 : FVec F S3840x512 .f32 := maximumf main_v245 main_v215
  let main_v247 : FVec F S3840x512 .f32 := maximumf main_v246 main_v216
  let main_v248 : FVec F S3840x512 .f32 := maximumf main_v247 main_v217
  let main_v249 : FVec F S3840x512 .f32 := maximumf main_v248 main_v218
  let main_v250 : FVec F S3840x512 .f32 := maximumf main_v249 main_v219
  let main_v251 : FVec F S3840x512 .f32 := maximumf main_v250 main_v220
  let main_v252 : FVec F S3840x512 .f32 := maximumf main_v251 main_v221
  let main_v253 : FVec F S3840x512 .f32 := maximumf main_v252 main_v222
  let main_v254 : FVec F S3840x512 .f32 := maximumf main_v253 main_v223
  let main_v255 : FVec F S3840x512 .f32 := maximumf main_v254 main_v224
  let main_v256 : FVec F S3840x512 .f32 := maximumf main_v255 main_v225
  let main_v257 : FVec F S3840x512 .f32 := maximumf main_v256 main_v226
  let main_v258 : FVec F S3840x512 .f32 := maximumf main_v257 main_v227
  let main_v259 : FVec F S3840x512 .f32 := maximumf main_v258 main_v228
  let main_v260 : FVec F S3840x512 .f32 := maximumf main_v259 main_v229
  let main_v261 : FVec F S3840x512 .f32 := maximumf main_v260 main_v230
  fn_part11 (F := F) main_arg5 main_v231 main_v261

def fn_part9 {F : FTy → Type} [BitOps F] (main_arg5 : IVec S3840x512 8) (main_v182 : FVec F S3840x512 .f32) (main_v183 : FVec F S3840x512 .f32) (main_v184 : FVec F S3840x512 .f32) (main_v185 : FVec F S3840x512 .f32) (main_v186 : FVec F S3840x512 .f32) (main_v187 : FVec F S3840x512 .f32) (main_v188 : FVec F S3840x512 .f32) (main_v189 : FVec F S3840x512 .f32) (main_v190 : FVec F S3840x512 .f32) (main_v191 : FVec F S3840x512 .f32) (main_v192 : FVec F S3840x512 .f32) (main_v193 : FVec F S3840x512 .f32) (main_v194 : FVec F S3840x512 .f32) (main_v195 : FVec F S3840x512 .f32) (main_v196 : FVec F S3840x512 .f32) (main_v197 : FVec F S3840x512 .f32) (main_v198 : FVec F S3840x512 .f32) (main_v199 : FVec F S3840x512 .f32) (main_v200 : FVec F S3840x512 .f32) (main_v201 : FVec F S3840x512 .f32) (main_v202 : FVec F S3840x512 .f32) (main_v203 : FVec F S3840x512 .f32) (main_v204 : FVec F S3840x512 .f32) (main_v205 : FVec F S3840x512 .f32) (main_v206 : FVec F S3840x512 .f32) (main_v207 : FVec F S3840x512 .f32) (main_v208 : FVec F S3840x512 .f32) (main_v209 : FVec F S3840x512 .f32) (main_v210 : FVec F S3840x512 .f32) (main_v211 : FVec F S3840x512 .f32) (main_v212 : FVec F S3840x512 .f32) (main_v213 : FVec F S3840x512 .f32) : IVec S3840x512 1 :=
  let main_v214 : FVec F S3840x512 .f32 := Host.absf main_v182
  let main_v215 : FVec F S3840x512 .f32 := Host.absf main_v183
  let main_v216 : FVec F S3840x512 .f32 := Host.absf main_v184
  let main_v217 : FVec F S3840x512 .f32 := Host.absf main_v185
  let main_v218 : FVec F S3840x512 .f32 := Host.absf main_v186
  let main_v219 : FVec F S3840x512 .f32 := Host.absf main_v187
  let main_v220 : FVec F S3840x512 .f32 := Host.absf main_v188
  let main_v221 : FVec F S3840x512 .f32 := Host.absf main_v189
  let main_v222 : FVec F S3840x512 .f32 := Host.absf main_v190
  let main_v223 : FVec F S3840x512 .f32 := Host.absf main_v191
  let main_v224 : FVec F S3840x512 .f32 := Host.absf main_v192
  let main_v225 : FVec F S3840x512 .f32 := Host.absf main_v193
  let main_v226 : FVec F S3840x512 .f32 := Host.absf main_v194
  let main_v227 : FVec F S3840x512 .f32 := Host.absf main_v195
  let main_v228 : FVec F S3840x512 .f32 := Host.absf main_v196
  let main_v229 : FVec F S3840x512 .f32 := Host.absf main_v197
  let main_v230 : FVec F S3840x512 .f32 := Host.absf main_v198
  let main_v231 : FVec F S3840x512 .f32 := Host.absf main_v199
  let main_v232 : FVec F S3840x512 .f32 := maximumf main_v200 main_v201
  let main_v233 : FVec F S3840x512 .f32 := maximumf main_v232 main_v202
  let main_v234 : FVec F S3840x512 .f32 := maximumf main_v233 main_v203
  let main_v235 : FVec F S3840x512 .f32 := maximumf main_v234 main_v204
  let main_v236 : FVec F S3840x512 .f32 := maximumf main_v235 main_v205
  let main_v237 : FVec F S3840x512 .f32 := maximumf main_v236 main_v206
  fn_part10 (F := F) main_arg5 main_v207 main_v208 main_v209 main_v210 main_v211 main_v212 main_v213 main_v214 main_v215 main_v216 main_v217 main_v218 main_v219 main_v220 main_v221 main_v222 main_v223 main_v224 main_v225 main_v226 main_v227 main_v228 main_v229 main_v230 main_v231 main_v237

def fn_part8 {F : FTy → Type} [BitOps F] (main_arg5 : IVec S3840x512 8) (main_v94 : FVec F S3840x512 .f32) (main_v95 : FVec F S3840x512 .f32) (main_v96 : FVec F S3840x512 .f32) (main_v97 : FVec F S3840x512 .f32) (main_v98 : FVec F S3840x512 .f32) (main_v99 : FVec F S3840x512 .f32) (main_v100 : FVec F S3840x512 .f32) (main_v101 : FVec F S3840x512 .f32) (main_v102 : FVec F S3840x512 .f32) (main_v103 : FVec F S3840x512 .f32) (main_v158 : FVec F S3840x512 .f32) (main_v159 : FVec F S3840x512 .f32) (main_v160 : FVec F S3840x512 .f32) (main_v161 : FVec F S3840x512 .f32) (main_v162 : FVec F S3840x512 .f32) (main_v163 : FVec F S3840x512 .f32) (main_v164 : FVec F S3840x512 .f32) (main_v165 : FVec F S3840x512 .f32) (main_v166 : FVec F S3840x512 .f32) (main_v167 : FVec F S3840x512 .f32) (main_v168 : FVec F S3840x512 .f32) (main_v169 : FVec F S3840x512 .f32) (main_v170 : FVec F S3840x512 .f32) (main_v171 : FVec F S3840x512 .f32) (main_v172 : FVec F S3840x512 .f32) (main_v173 : FVec F S3840x512 .f32) (main_v174 : FVec F S3840x512 .f32) (main_v175 : FVec F S3840x512 .f32) (main_v176 : FVec F S3840x512 .f32) (main_v177 : FVec F S3840x512 .f32) (main_v178 : FVec F S3840x512 .f32) (main_v179 : FVec F S3840x512 .f32) (main_v180 : FVec F S3840x512 .f32) (main_v181 : FVec F S3840x512 .f32) (main_v182 : FVec F S3840x512 .f32) (main_v183 : FVec F S3840x512 .f32) (main_v184 : FVec F S3840x512 .f32) (main_v185 : FVec F S3840x512 .f32) (main_v186 : FVec F S3840x512 .f32) (main_v187 : FVec F S3840x512 .f32) (main_v188 : FVec F S3840x512 .f32) (main_v189 : FVec F S3840x512 .f32) : IVec S3840x512 1 :=
  let main_v190 : FVec F S3840x512 .f32 := subf main_v94 main_v158
  let main_v191 : FVec F S3840x512 .f32 := subf main_v95 main_v159
  let main_v192 : FVec F S3840x512 .f32 := subf main_v96 main_v160
  let main_v193 : FVec F S3840x512 .f32 := subf main_v97 main_v161
  let main_v194 : FVec F S3840x512 .f32 := subf main_v98 main_v162
  let main_v195 : FVec F S3840x512 .f32 := subf main_v99 main_v163
  let main_v196 : FVec F S3840x512 .f32 := subf main_v100 main_v164
  let main_v197 : FVec F S3840x512 .f32 := subf main_v101 main_v165
  let main_v198 : FVec F S3840x512 .f32 := subf main_v102 main_v166
  let main_v199 : FVec F S3840x512 .f32 := subf main_v103 main_v167
  let main_v200 : FVec F S3840x512 .f32 := Host.absf main_v168
  let main_v201 : FVec F S3840x512 .f32 := Host.absf main_v169
  let main_v202 : FVec F S3840x512 .f32 := Host.absf main_v170
  let main_v203 : FVec F S3840x512 .f32 := Host.absf main_v171
  let main_v204 : FVec F S3840x512 .f32 := Host.absf main_v172
  let main_v205 : FVec F S3840x512 .f32 := Host.absf main_v173
  let main_v206 : FVec F S3840x512 .f32 := Host.absf main_v174
  let main_v207 : FVec F S3840x512 .f32 := Host.absf main_v175
  let main_v208 : FVec F S3840x512 .f32 := Host.absf main_v176
  let main_v209 : FVec F S3840x512 .f32 := Host.absf main_v177
  let main_v210 : FVec F S3840x512 .f32 := Host.absf main_v178
  let main_v211 : FVec F S3840x512 .f32 := Host.absf main_v179
  let main_v212 : FVec F S3840x512 .f32 := Host.absf main_v180
  let main_v213 : FVec F S3840x512 .f32 := Host.absf main_v181
  fn_part9 (F := F) main_arg5 main_v182 main_v183 main_v184 main_v185 main_v186 main_v187 main_v188 main_v189 main_v190 main_v191 main_v192 main_v193 main_v194 main_v195 main_v196 main_v197 main_v198 main_v199 main_v200 main_v201 main_v202 main_v203 main_v204 main_v205 main_v206 main_v207 main_v208 main_v209 main_v210 main_v211 main_v212 main_v213

def fn_part7 {F : FTy → Type} [BitOps F] (main_arg5 : IVec S3840x512 8) (main_v88 : FVec F S3840x512 .f32) (main_v89 : FVec F S3840x512 .f32) (main_v90 : FVec F S3840x512 .f32) (main_v91 : FVec F S3840x512 .f32) (main_v92 : FVec F S3840x512 .f32) (main_v93 : FVec F S3840x512 .f32) (main_v94 : FVec F S3840x512 .f32) (main_v95 : FVec F S3840x512 .f32) (main_v96 : FVec F S3840x512 .f32) (main_v97 : FVec F S3840x512 .f32) (main_v98 : FVec F S3840x512 .f32) (main_v99 : FVec F S3840x512 .f32) (main_v100 : FVec F S3840x512 .f32) (main_v101 : FVec F S3840x512 .f32) (main_v102 : FVec F S3840x512 .f32) (main_v103 : FVec F S3840x512 .f32) (main_v126 : FVec F S3840x512 .f32) (main_v127 : FVec F S3840x512 .f32) (main_v150 : FVec F S3840x512 .f32) (main_v151 : FVec F S3840x512 .f32) (main_v152 : FVec F S3840x512 .f32) (main_v153 : FVec F S3840x512 .f32) (main_v154 : FVec F S3840x512 .f32) (main_v155 : FVec F S3840x512 .f32) (main_v156 : FVec F S3840x512 .f32) (main_v157 : FVec F S3840x512 .f32) (main_v158 : FVec F S3840x512 .f32) (main_v159 : FVec F S3840x512 .f32) (main_v160 : FVec F S3840x512 .f32) (main_v161 : FVec F S3840x512 .f32) (main_v162 : FVec F S3840x512 .f32) (main_v163 : FVec F S3840x512 .f32) (main_v164 : FVec F S3840x512 .f32) (main_v165 : FVec F S3840x512 .f32) : IVec S3840x512 1 :=
  let main_v166 : FVec F S3840x512 .f32 := subf main_v126 main_v150
  let main_v167 : FVec F S3840x512 .f32 := subf main_v127 main_v151
  let main_v168 : FVec F S3840x512 .f32 := addf main_v88 main_v152
  let main_v169 : FVec F S3840x512 .f32 := addf main_v89 main_v153
  let main_v170 : FVec F S3840x512 .f32 := addf main_v90 main_v154
  let main_v171 : FVec F S3840x512 .f32 := addf main_v91 main_v155
  let main_v172 : FVec F S3840x512 .f32 := addf main_v92 main_v156
  let main_v173 : FVec F S3840x512 .f32 := addf main_v93 main_v157
  let main_v174 : FVec F S3840x512 .f32 := addf main_v94 main_v158
  let main_v175 : FVec F S3840x512 .f32 := addf main_v95 main_v159
  let main_v176 : FVec F S3840x512 .f32 := addf main_v96 main_v160
  let main_v177 : FVec F S3840x512 .f32 := addf main_v97 main_v161
  let main_v178 : FVec F S3840x512 .f32 := addf main_v98 main_v162
  let main_v179 : FVec F S3840x512 .f32 := addf main_v99 main_v163
  let main_v180 : FVec F S3840x512 .f32 := addf main_v100 main_v164
  let main_v181 : FVec F S3840x512 .f32 := addf main_v101 main_v165
  let main_v182 : FVec F S3840x512 .f32 := addf main_v102 main_v166
  let main_v183 : FVec F S3840x512 .f32 := addf main_v103 main_v167
  let main_v184 : FVec F S3840x512 .f32 := subf main_v88 main_v152
  let main_v185 : FVec F S3840x512 .f32 := subf main_v89 main_v153
  let main_v186 : FVec F S3840x512 .f32 := subf main_v90 main_v154
  let main_v187 : FVec F S3840x512 .f32 := subf main_v91 main_v155
  let main_v188 : FVec F S3840x512 .f32 := subf main_v92 main_v156
  let main_v189 : FVec F S3840x512 .f32 := subf main_v93 main_v157
  fn_part8 (F := F) main_arg5 main_v94 main_v95 main_v96 main_v97 main_v98 main_v99 main_v100 main_v101 main_v102 main_v103 main_v158 main_v159 main_v160 main_v161 main_v162 main_v163 main_v164 main_v165 main_v166 main_v167 main_v168 main_v169 main_v170 main_v171 main_v172 main_v173 main_v174 main_v175 main_v176 main_v177 main_v178 main_v179 main_v180 main_v181 main_v182 main_v183 main_v184 main_v185 main_v186 main_v187 main_v188 main_v189

def fn_part6 {F : FTy → Type} [BitOps F] (main_arg5 : IVec S3840x512 8) (main_v88 : FVec F S3840x512 .f32) (main_v89 : FVec F S3840x512 .f32) (main_v90 : FVec F S3840x512 .f32) (main_v91 : FVec F S3840x512 .f32) (main_v92 : FVec F S3840x512 .f32) (main_v93 : FVec F S3840x512 .f32) (main_v94 : FVec F S3840x512 .f32) (main_v95 : FVec F S3840x512 .f32) (main_v96 : FVec F S3840x512 .f32) (main_v97 : FVec F S3840x512 .f32) (main_v98 : FVec F S3840x512 .f32) (main_v99 : FVec F S3840x512 .f32) (main_v100 : FVec F S3840x512 .f32) (main_v101 : FVec F S3840x512 .f32) (main_v102 : FVec F S3840x512 .f32) (main_v103 : FVec F S3840x512 .f32) (main_v120 : FVec F S3840x512 .f32) (main_v121 : FVec F S3840x512 .f32) (main_v122 : FVec F S3840x512 .f32) (main_v123 : FVec F S3840x512 .f32) (main_v124 : FVec F S3840x512 .f32) (main_v125 : FVec F S3840x512 .f32) (main_v126 : FVec F S3840x512 .f32) (main_v127 : FVec F S3840x512 .f32) (main_v132 : FVec F S3840x512 .f32) (main_v133 : FVec F S3840x512 .f32) (main_v134 : FVec F S3840x512 .f32) (main_v135 : FVec F S3840x512 .f32) (main_v136 : FVec F S3840x512 .f32) (main_v137 : FVec F S3840x512 .f32) (main_v138 : FVec F S3840x512 .f32) (main_v139 : FVec F S3840x512 .f32) (main_v140 : FVec F S3840x512 .f32) (main_v141 : FVec F S3840x512 .f32) : IVec S3840x512 1 :=
  let main_v142 : FVec F S3840x512 .f32 := subf main_v136 main_v138
  let main_v143 : FVec F S3840x512 .f32 := subf main_v137 main_v139
  let main_v144 : FVec F S3840x512 .f32 := addf main_v132 main_v140
  let main_v145 : FVec F S3840x512 .f32 := addf main_v133 main_v141
  let main_v146 : FVec F S3840x512 .f32 := addf main_v134 main_v142
  let main_v147 : FVec F S3840x512 .f32 := addf main_v135 main_v143
  let main_v148 : FVec F S3840x512 .f32 := subf main_v132 main_v140
  let main_v149 : FVec F S3840x512 .f32 := subf main_v133 main_v141
  let main_v150 : FVec F S3840x512 .f32 := subf main_v134 main_v142
  let main_v151 : FVec F S3840x512 .f32 := subf main_v135 main_v143
  let main_v152 : FVec F S3840x512 .f32 := addf main_v120 main_v144
  let main_v153 : FVec F S3840x512 .f32 := addf main_v121 main_v145
  let main_v154 : FVec F S3840x512 .f32 := addf main_v122 main_v146
  let main_v155 : FVec F S3840x512 .f32 := addf main_v123 main_v147
  let main_v156 : FVec F S3840x512 .f32 := addf main_v124 main_v148
  let main_v157 : FVec F S3840x512 .f32 := addf main_v125 main_v149
  let main_v158 : FVec F S3840x512 .f32 := addf main_v126 main_v150
  let main_v159 : FVec F S3840x512 .f32 := addf main_v127 main_v151
  let main_v160 : FVec F S3840x512 .f32 := subf main_v120 main_v144
  let main_v161 : FVec F S3840x512 .f32 := subf main_v121 main_v145
  let main_v162 : FVec F S3840x512 .f32 := subf main_v122 main_v146
  let main_v163 : FVec F S3840x512 .f32 := subf main_v123 main_v147
  let main_v164 : FVec F S3840x512 .f32 := subf main_v124 main_v148
  let main_v165 : FVec F S3840x512 .f32 := subf main_v125 main_v149
  fn_part7 (F := F) main_arg5 main_v88 main_v89 main_v90 main_v91 main_v92 main_v93 main_v94 main_v95 main_v96 main_v97 main_v98 main_v99 main_v100 main_v101 main_v102 main_v103 main_v126 main_v127 main_v150 main_v151 main_v152 main_v153 main_v154 main_v155 main_v156 main_v157 main_v158 main_v159 main_v160 main_v161 main_v162 main_v163 main_v164 main_v165

def fn_part5 {F : FTy → Type} [BitOps F] (main_arg5 : IVec S3840x512 8) (main_v32 : FVec F S3840x512 .f32) (main_v33 : FVec F S3840x512 .f32) (main_v34 : FVec F S3840x512 .f32) (main_v35 : FVec F S3840x512 .f32) (main_v36 : FVec F S3840x512 .f32) (main_v37 : FVec F S3840x512 .f32) (main_v38 : FVec F S3840x512 .f32) (main_v39 : FVec F S3840x512 .f32) (main_v88 : FVec F S3840x512 .f32) (main_v89 : FVec F S3840x512 .f32) (main_v90 : FVec F S3840x512 .f32) (main_v91 : FVec F S3840x512 .f32) (main_v92 : FVec F S3840x512 .f32) (main_v93 : FVec F S3840x512 .f32) (main_v94 : FVec F S3840x512 .f32) (main_v95 : FVec F S3840x512 .f32) (main_v96 : FVec F S3840x512 .f32) (main_v97 : FVec F S3840x512 .f32) (main_v98 : FVec F S3840x512 .f32) (main_v99 : FVec F S3840x512 .f32) (main_v100 : FVec F S3840x512 .f32) (main_v101 : FVec F S3840x512 .f32) (main_v102 : FVec F S3840x512 .f32) (main_v103 : FVec F S3840x512 .f32) (main_v108 : FVec F S3840x512 .f32) (main_v109 : FVec F S3840x512 .f32) (main_v110 : FVec F S3840x512 .f32) (main_v111 : FVec F S3840x512 .f32) (main_v112 : FVec F S3840x512 .f32) (main_v113 : FVec F S3840x512 .f32) (main_v114 : FVec F S3840x512 .f32) (main_v115 : FVec F S3840x512 .f32) (main_v116 : FVec F S3840x512 .f32) (main_v117 : FVec F S3840x512 .f32) : IVec S3840x512 1 :=
  let main_v118 : FVec F S3840x512 .f32 := subf main_v112 main_v114
  let main_v119 : FVec F S3840x512 .f32 := subf main_v113 main_v115
  let main_v120 : FVec F S3840x512 .f32 := addf main_v108 main_v116
  let main_v121 : FVec F S3840x512 .f32 := addf main_v109 main_v117
  let main_v122 : FVec F S3840x512 .f32 := addf main_v110 main_v118
  let main_v123 : FVec F S3840x512 .f32 := addf main_v111 main_v119
  let main_v124 : FVec F S3840x512 .f32 := subf main_v108 main_v116
  let main_v125 : FVec F S3840x512 .f32 := subf main_v109 main_v117
  let main_v126 : FVec F S3840x512 .f32 := subf main_v110 main_v118
  let main_v127 : FVec F S3840x512 .f32 := subf main_v111 main_v119
  let main_v128 : FVec F S3840x512 .f32 := addf main_v32 main_v33
  let main_v129 : FVec F S3840x512 .f32 := subf main_v32 main_v33
  let main_v130 : FVec F S3840x512 .f32 := addf main_v34 main_v35
  let main_v131 : FVec F S3840x512 .f32 := subf main_v34 main_v35
  let main_v132 : FVec F S3840x512 .f32 := addf main_v128 main_v130
  let main_v133 : FVec F S3840x512 .f32 := addf main_v129 main_v131
  let main_v134 : FVec F S3840x512 .f32 := subf main_v128 main_v130
  let main_v135 : FVec F S3840x512 .f32 := subf main_v129 main_v131
  let main_v136 : FVec F S3840x512 .f32 := addf main_v36 main_v37
  let main_v137 : FVec F S3840x512 .f32 := subf main_v36 main_v37
  let main_v138 : FVec F S3840x512 .f32 := addf main_v38 main_v39
  let main_v139 : FVec F S3840x512 .f32 := subf main_v38 main_v39
  let main_v140 : FVec F S3840x512 .f32 := addf main_v136 main_v138
  let main_v141 : FVec F S3840x512 .f32 := addf main_v137 main_v139
  fn_part6 (F := F) main_arg5 main_v88 main_v89 main_v90 main_v91 main_v92 main_v93 main_v94 main_v95 main_v96 main_v97 main_v98 main_v99 main_v100 main_v101 main_v102 main_v103 main_v120 main_v121 main_v122 main_v123 main_v124 main_v125 main_v126 main_v127 main_v132 main_v133 main_v134 main_v135 main_v136 main_v137 main_v138 main_v139 main_v140 main_v141

def fn_part4 {F : FTy → Type} [BitOps F] (main_arg5 : IVec S3840x512 8) (main_v24 : FVec F S3840x512 .f32) (main_v25 : FVec F S3840x512 .f32) (main_v26 : FVec F S3840x512 .f32) (main_v27 : FVec F S3840x512 .f32) (main_v28 : FVec F S3840x512 .f32) (main_v29 : FVec F S3840x512 .f32) (main_v30 : FVec F S3840x512 .f32) (main_v31 : FVec F S3840x512 .f32) (main_v32 : FVec F S3840x512 .f32) (main_v33 : FVec F S3840x512 .f32) (main_v34 : FVec F S3840x512 .f32) (main_v35 : FVec F S3840x512 .f32) (main_v36 : FVec F S3840x512 .f32) (main_v37 : FVec F S3840x512 .f32) (main_v38 : FVec F S3840x512 .f32) (main_v39 : FVec F S3840x512 .f32) (main_v56 : FVec F S3840x512 .f32) (main_v57 : FVec F S3840x512 .f32) (main_v58 : FVec F S3840x512 .f32) (main_v59 : FVec F S3840x512 .f32) (main_v60 : FVec F S3840x512 .f32) (main_v61 : FVec F S3840x512 .f32) (main_v62 : FVec F S3840x512 .f32) (main_v63 : FVec F S3840x512 .f32) (main_v80 : FVec F S3840x512 .f32) (main_v81 : FVec F S3840x512 .f32) (main_v82 : FVec F S3840x512 .f32) (main_v83 : FVec F S3840x512 .f32) (main_v84 : FVec F S3840x512 .f32) (main_v85 : FVec F S3840x512 .f32) (main_v86 : FVec F S3840x512 .f32) (main_v87 : FVec F S3840x512 .f32) (main_v88 : FVec F S3840x512 .f32) (main_v89 : FVec F S3840x512 .f32) (main_v90 : FVec F S3840x512 .f32) (main_v91 : FVec F S3840x512 .f32) (main_v92 : FVec F S3840x512 .f32) (main_v93 : FVec F S3840x512 .f32) : IVec S3840x512 1 :=
  let main_v94 : FVec F S3840x512 .f32 := addf main_v62 main_v86
  let main_v95 : FVec F S3840x512 .f32 := addf main_v63 main_v87
  let main_v96 : FVec F S3840x512 .f32 := subf main_v56 main_v80
  let main_v97 : FVec F S3840x512 .f32 := subf main_v57 main_v81
  let main_v98 : FVec F S3840x512 .f32 := subf main_v58 main_v82
  let main_v99 : FVec F S3840x512 .f32 := subf main_v59 main_v83
  let main_v100 : FVec F S3840x512 .f32 := subf main_v60 main_v84
  let main_v101 : FVec F S3840x512 .f32 := subf main_v61 main_v85
  let main_v102 : FVec F S3840x512 .f32 := subf main_v62 main_v86
  let main_v103 : FVec F S3840x512 .f32 := subf main_v63 main_v87
  let main_v104 : FVec F S3840x512 .f32 := addf main_v24 main_v25
  let main_v105 : FVec F S3840x512 .f32 := subf main_v24 main_v25
  let main_v106 : FVec F S3840x512 .f32 := addf main_v26 main_v27
  let main_v107 : FVec F S3840x512 .f32 := subf main_v26 main_v27
  let main_v108 : FVec F S3840x512 .f32 := addf main_v104 main_v106
  let main_v109 : FVec F S3840x512 .f32 := addf main_v105 main_v107
  let main_v110 : FVec F S3840x512 .f32 := subf main_v104 main_v106
  let main_v111 : FVec F S3840x512 .f32 := subf main_v105 main_v107
  let main_v112 : FVec F S3840x512 .f32 := addf main_v28 main_v29
  let main_v113 : FVec F S3840x512 .f32 := subf main_v28 main_v29
  let main_v114 : FVec F S3840x512 .f32 := addf main_v30 main_v31
  let main_v115 : FVec F S3840x512 .f32 := subf main_v30 main_v31
  let main_v116 : FVec F S3840x512 .f32 := addf main_v112 main_v114
  let main_v117 : FVec F S3840x512 .f32 := addf main_v113 main_v115
  fn_part5 (F := F) main_arg5 main_v32 main_v33 main_v34 main_v35 main_v36 main_v37 main_v38 main_v39 main_v88 main_v89 main_v90 main_v91 main_v92 main_v93 main_v94 main_v95 main_v96 main_v97 main_v98 main_v99 main_v100 main_v101 main_v102 main_v103 main_v108 main_v109 main_v110 main_v111 main_v112 main_v113 main_v114 main_v115 main_v116 main_v117

def fn_part3 {F : FTy → Type} [BitOps F] (main_arg5 : IVec S3840x512 8) (main_v20 : FVec F S3840x512 .f32) (main_v21 : FVec F S3840x512 .f32) (main_v22 : FVec F S3840x512 .f32) (main_v23 : FVec F S3840x512 .f32) (main_v24 : FVec F S3840x512 .f32) (main_v25 : FVec F S3840x512 .f32) (main_v26 : FVec F S3840x512 .f32) (main_v27 : FVec F S3840x512 .f32) (main_v28 : FVec F S3840x512 .f32) (main_v29 : FVec F S3840x512 .f32) (main_v30 : FVec F S3840x512 .f32) (main_v31 : FVec F S3840x512 .f32) (main_v32 : FVec F S3840x512 .f32) (main_v33 : FVec F S3840x512 .f32) (main_v34 : FVec F S3840x512 .f32) (main_v35 : FVec F S3840x512 .f32) (main_v36 : FVec F S3840x512 .f32) (main_v37 : FVec F S3840x512 .f32) (main_v38 : FVec F S3840x512 .f32) (main_v39 : FVec F S3840x512 .f32) (main_v56 : FVec F S3840x512 .f32) (main_v57 : FVec F S3840x512 .f32) (main_v58 : FVec F S3840x512 .f32) (main_v59 : FVec F S3840x512 .f32) (main_v60 : FVec F S3840x512 .f32) (main_v61 : FVec F S3840x512 .f32) (main_v62 : FVec F S3840x512 .f32) (main_v63 : FVec F S3840x512 .f32) (main_v64 : FVec F S3840x512 .f32) (main_v65 : FVec F S3840x512 .f32) (main_v66 : FVec F S3840x512 .f32) (main_v67 : FVec F S3840x512 .f32) (main_v68 : FVec F S3840x512 .f32) (main_v69 : FVec F S3840x512 .f32) : IVec S3840x512 1 :=
  let main_v70 : FVec F S3840x512 .f32 := subf main_v64 main_v66
  let main_v71 : FVec F S3840x512 .f32 := subf main_v65 main_v67
  let main_v72 : FVec F S3840x512 .f32 := addf main_v20 main_v21
  let main_v73 : FVec F S3840x512 .f32 := subf main_v20 main_v21
  let main_v74 : FVec F S3840x512 .f32 := addf main_v22 main_v23
  let main_v75 : FVec F S3840x512 .f32 := subf main_v22 main_v23
  let main_v76 : FVec F S3840x512 .f32 := addf main_v72 main_v74
  let main_v77 : FVec F S3840x512 .f32 := addf main_v73 main_v75
  let main_v78 : FVec F S3840x512 .f32 := subf main_v72 main_v74
  let main_v79 : FVec F S3840x512 .f32 := subf main_v73 main_v75
  let main_v80 : FVec F S3840x512 .f32 := addf main_v68 main_v76
  let main_v81 : FVec F S3840x512 .f32 := addf main_v69 main_v77
  let main_v82 : FVec F S3840x512 .f32 := addf main_v70 main_v78
  let main_v83 : FVec F S3840x512 .f32 := addf main_v71 main_v79
  let main_v84 : FVec F S3840x512 .f32 := subf main_v68 main_v76
  let main_v85 : FVec F S3840x512 .f32 := subf main_v69 main_v77
  let main_v86 : FVec F S3840x512 .f32 := subf main_v70 main_v78
  let main_v87 : FVec F S3840x512 .f32 := subf main_v71 main_v79
  let main_v88 : FVec F S3840x512 .f32 := addf main_v56 main_v80
  let main_v89 : FVec F S3840x512 .f32 := addf main_v57 main_v81
  let main_v90 : FVec F S3840x512 .f32 := addf main_v58 main_v82
  let main_v91 : FVec F S3840x512 .f32 := addf main_v59 main_v83
  let main_v92 : FVec F S3840x512 .f32 := addf main_v60 main_v84
  let main_v93 : FVec F S3840x512 .f32 := addf main_v61 main_v85
  fn_part4 (F := F) main_arg5 main_v24 main_v25 main_v26 main_v27 main_v28 main_v29 main_v30 main_v31 main_v32 main_v33 main_v34 main_v35 main_v36 main_v37 main_v38 main_v39 main_v56 main_v57 main_v58 main_v59 main_v60 main_v61 main_v62 main_v63 main_v80 main_v81 main_v82 main_v83 main_v84 main_v85 main_v86 main_v87 main_v88 main_v89 main_v90 main_v91 main_v92 main_v93

def fn_part2 {F : FTy → Type} [BitOps F] (main_arg5 : IVec S3840x512 8) (main_v12 : FVec F S3840x512 .f32) (main_v13 : FVec F S3840x512 .f32) (main_v14 : FVec F S3840x512 .f32) (main_v15 : FVec F S3840x512 .f32) (main_v16 : FVec F S3840x512 .f32) (main_v17 : FVec F S3840x512 .f32) (main_v18 : FVec F S3840x512 .f32) (main_v19 : FVec F S3840x512 .f32) (main_v20 : FVec F S3840x512 .f32) (main_v21 : FVec F S3840x512 .f32) (main_v22 : FVec F S3840x512 .f32) (main_v23 : FVec F S3840x512 .f32) (main_v24 : FVec F S3840x512 .f32) (main_v25 : FVec F S3840x512 .f32) (main_v26 : FVec F S3840x512 .f32) (main_v27 : FVec F S3840x512 .f32) (main_v28 : FVec F S3840x512 .f32) (main_v29 : FVec F S3840x512 .f32) (main_v30 : FVec F S3840x512 .f32) (main_v31 : FVec F S3840x512 .f32) (main_v32 : FVec F S3840x512 .f32) (main_v33 : FVec F S3840x512 .f32) (main_v34 : FVec F S3840x512 .f32) (main_v35 : FVec F S3840x512 .f32) (main_v36 : FVec F S3840x512 .f32) (main_v37 : FVec F S3840x512 .f32) (main_v38 : FVec F S3840x512 .f32) (main_v39 : FVec F S3840x512 .f32) (main_v40 : FVec F S3840x512 .f32) (main_v41 : FVec F S3840x512 .f32) (main_v42 : FVec F S3840x512 .f32) (main_v43 : FVec F S3840x512 .f32) (main_v44 : FVec F S3840x512 .f32) (main_v45 : FVec F S3840x512 .f32) : IVec S3840x512 1 :=
  let main_v46 : FVec F S3840x512 .f32 := subf main_v40 main_v42
  let main_v47 : FVec F S3840x512 .f32 := subf main_v41 main_v43
  let main_v48 : FVec F S3840x512 .f32 := addf main_v12 main_v13
  let main_v49 : FVec F S3840x512 .f32 := subf main_v12 main_v13
  let main_v50 : FVec F S3840x512 .f32 := addf main_v14 main_v15
  let main_v51 : FVec F S3840x512 .f32 := subf main_v14 main_v15
  let main_v52 : FVec F S3840x512 .f32 := addf main_v48 main_v50
  let main_v53 : FVec F S3840x512 .f32 := addf main_v49 main_v51
  let main_v54 : FVec F S3840x512 .f32 := subf main_v48 main_v50
  let main_v55 : FVec F S3840x512 .f32 := subf main_v49 main_v51
  let main_v56 : FVec F S3840x512 .f32 := addf main_v44 main_v52
  let main_v57 : FVec F S3840x512 .f32 := addf main_v45 main_v53
  let main_v58 : FVec F S3840x512 .f32 := addf main_v46 main_v54
  let main_v59 : FVec F S3840x512 .f32 := addf main_v47 main_v55
  let main_v60 : FVec F S3840x512 .f32 := subf main_v44 main_v52
  let main_v61 : FVec F S3840x512 .f32 := subf main_v45 main_v53
  let main_v62 : FVec F S3840x512 .f32 := subf main_v46 main_v54
  let main_v63 : FVec F S3840x512 .f32 := subf main_v47 main_v55
  let main_v64 : FVec F S3840x512 .f32 := addf main_v16 main_v17
  let main_v65 : FVec F S3840x512 .f32 := subf main_v16 main_v17
  let main_v66 : FVec F S3840x512 .f32 := addf main_v18 main_v19
  let main_v67 : FVec F S3840x512 .f32 := subf main_v18 main_v19
  let main_v68 : FVec F S3840x512 .f32 := addf main_v64 main_v66
  let main_v69 : FVec F S3840x512 .f32 := addf main_v65 main_v67
  fn_part3 (F := F) main_arg5 main_v20 main_v21 main_v22 main_v23 main_v24 main_v25 main_v26 main_v27 main_v28 main_v29 main_v30 main_v31 main_v32 main_v33 main_v34 main_v35 main_v36 main_v37 main_v38 main_v39 main_v56 main_v57 main_v58 main_v59 main_v60 main_v61 main_v62 main_v63 main_v64 main_v65 main_v66 main_v67 main_v68 main_v69

def fn_part1 {F : FTy → Type} [BitOps F] (main_arg5 : IVec S3840x512 8) (main_v5 : FVec F S3840x16384 .f32) (main_v7 : FVec F S16384 .f32) (main_v8 : FVec F S3840x512 .f32) (main_v9 : FVec F S3840x512 .f32) (main_v10 : FVec F S3840x512 .f32) (main_v11 : FVec F S3840x512 .f32) (main_v12 : FVec F S3840x512 .f32) (main_v13 : FVec F S3840x512 .f32) (main_v14 : FVec F S3840x512 .f32) (main_v15 : FVec F S3840x512 .f32) (main_v16 : FVec F S3840x512 .f32) (main_v17 : FVec F S3840x512 .f32) (main_v18 : FVec F S3840x512 .f32) (main_v19 : FVec F S3840x512 .f32) (main_v20 : FVec F S3840x512 .f32) (main_v21 : FVec F S3840x512 .f32) : IVec S3840x512 1 :=
  let main_v22 : FVec F S3840x512 .f32 := fn_row_element_13 (F := F) main_v5 main_v7
  let main_v23 : FVec F S3840x512 .f32 := fn_row_element_14 (F := F) main_v5 main_v7
  let main_v24 : FVec F S3840x512 .f32 := fn_row_element_15 (F := F) main_v5 main_v7
  let main_v25 : FVec F S3840x512 .f32 := fn_row_element_16 (F := F) main_v5 main_v7
  let main_v26 : FVec F S3840x512 .f32 := fn_row_element_17 (F := F) main_v5 main_v7
  let main_v27 : FVec F S3840x512 .f32 := fn_row_element_18 (F := F) main_v5 main_v7
  let main_v28 : FVec F S3840x512 .f32 := fn_row_element_19 (F := F) main_v5 main_v7
  let main_v29 : FVec F S3840x512 .f32 := fn_row_element_20 (F := F) main_v5 main_v7
  let main_v30 : FVec F S3840x512 .f32 := fn_row_element_21 (F := F) main_v5 main_v7
  let main_v31 : FVec F S3840x512 .f32 := fn_row_element_22 (F := F) main_v5 main_v7
  let main_v32 : FVec F S3840x512 .f32 := fn_row_element_23 (F := F) main_v5 main_v7
  let main_v33 : FVec F S3840x512 .f32 := fn_row_element_24 (F := F) main_v5 main_v7
  let main_v34 : FVec F S3840x512 .f32 := fn_row_element_25 (F := F) main_v5 main_v7
  let main_v35 : FVec F S3840x512 .f32 := fn_row_element_26 (F := F) main_v5 main_v7
  let main_v36 : FVec F S3840x512 .f32 := fn_row_element_27 (F := F) main_v5 main_v7
  let main_v37 : FVec F S3840x512 .f32 := fn_row_element_28 (F := F) main_v5 main_v7
  let main_v38 : FVec F S3840x512 .f32 := fn_row_element_29 (F := F) main_v5 main_v7
  let main_v39 : FVec F S3840x512 .f32 := fn_row_element_30 (F := F) main_v5 main_v7
  let main_v40 : FVec F S3840x512 .f32 := addf main_v8 main_v9
  let main_v41 : FVec F S3840x512 .f32 := subf main_v8 main_v9
  let main_v42 : FVec F S3840x512 .f32 := addf main_v10 main_v11
  let main_v43 : FVec F S3840x512 .f32 := subf main_v10 main_v11
  let main_v44 : FVec F S3840x512 .f32 := addf main_v40 main_v42
  let main_v45 : FVec F S3840x512 .f32 := addf main_v41 main_v43
  fn_part2 (F := F) main_arg5 main_v12 main_v13 main_v14 main_v15 main_v16 main_v17 main_v18 main_v19 main_v20 main_v21 main_v22 main_v23 main_v24 main_v25 main_v26 main_v27 main_v28 main_v29 main_v30 main_v31 main_v32 main_v33 main_v34 main_v35 main_v36 main_v37 main_v38 main_v39 main_v40 main_v41 main_v42 main_v43 main_v44 main_v45

def fn {F : FTy → Type} [BitOps F] (main_arg0 : FVec F S3x1280x16384 .bf16) (main_arg1 : FVec F S16384 .f32) (main_arg2 : IVec S3x1280x16384 8) (main_arg3 : FVec F S3840x16384 .bf16) (main_arg4 : IVec S3840x8192 8) (main_arg5 : IVec S3840x512 8) : IVec S3840x512 1 :=
  let main_v0 : FVec F S3840x16384 .bf16 := shapeCast S3840x16384 main_arg0 shapeCasts_S3x1280x16384_S3840x16384
  let main_v1 : IVec S3840x16384 16 := bitcastToInt main_v0
  let main_v2 : IVec S3840x16384 32 := (extui 32 · natLt_16_32) main_v1
  let main_c : IVec S_ 32 := constantI S_ 32 16#32
  let main_v3 : IVec S3840x16384 32 := broadcastInDim S3840x16384 ![] bcast_S_S3840x16384 main_c
  let main_v4 : IVec S3840x16384 32 := Host.shli main_v2 main_v3
  let main_v5 : FVec F S3840x16384 .f32 := bitcastToFloat .f32 main_v4
  let main_cst : FVec F S_ .f32 := constant S_ .f32 0x3E3504F3#32
  let main_v6 : FVec F S16384 .f32 := broadcastInDim S16384 ![] bcast_S_S16384 main_cst
  let main_v7 : FVec F S16384 .f32 := mulf main_arg1 main_v6
  let main_v8 : FVec F S3840x512 .f32 := fn_row_element (F := F) main_v5 main_v7
  let main_v9 : FVec F S3840x512 .f32 := fn_row_element_0 (F := F) main_v5 main_v7
  let main_v10 : FVec F S3840x512 .f32 := fn_row_element_1 (F := F) main_v5 main_v7
  let main_v11 : FVec F S3840x512 .f32 := fn_row_element_2 (F := F) main_v5 main_v7
  let main_v12 : FVec F S3840x512 .f32 := fn_row_element_3 (F := F) main_v5 main_v7
  let main_v13 : FVec F S3840x512 .f32 := fn_row_element_4 (F := F) main_v5 main_v7
  let main_v14 : FVec F S3840x512 .f32 := fn_row_element_5 (F := F) main_v5 main_v7
  let main_v15 : FVec F S3840x512 .f32 := fn_row_element_6 (F := F) main_v5 main_v7
  let main_v16 : FVec F S3840x512 .f32 := fn_row_element_7 (F := F) main_v5 main_v7
  let main_v17 : FVec F S3840x512 .f32 := fn_row_element_8 (F := F) main_v5 main_v7
  let main_v18 : FVec F S3840x512 .f32 := fn_row_element_9 (F := F) main_v5 main_v7
  let main_v19 : FVec F S3840x512 .f32 := fn_row_element_10 (F := F) main_v5 main_v7
  let main_v20 : FVec F S3840x512 .f32 := fn_row_element_11 (F := F) main_v5 main_v7
  let main_v21 : FVec F S3840x512 .f32 := fn_row_element_12 (F := F) main_v5 main_v7
  fn_part1 (F := F) main_arg5 main_v5 main_v7 main_v8 main_v9 main_v10 main_v11 main_v12 main_v13 main_v14 main_v15 main_v16 main_v17 main_v18 main_v19 main_v20 main_v21
-- ==== Post_dy_scales_t.lean ====
abbrev S3x1280x16384 : Shape := ⟨3, ![3, 1280, 16384]⟩
abbrev S3x1280 : Shape := ⟨2, ![3, 1280]⟩
abbrev S3840x16384 : Shape := ⟨2, ![3840, 16384]⟩
abbrev S1920x16384 : Shape := ⟨2, ![1920, 16384]⟩
abbrev S3x40x16384 : Shape := ⟨3, ![3, 40, 16384]⟩
abbrev S3840 : Shape := ⟨1, ![3840]⟩
abbrev S_ : Shape := ⟨0, ![]⟩
abbrev S120x16384 : Shape := ⟨2, ![120, 16384]⟩
abbrev S120 : Shape := ⟨1, ![120]⟩
abbrev S120x1 : Shape := ⟨2, ![120, 1]⟩

class Facts : Prop where
  shapeCasts_S3x1280x16384_S3840x16384 : S3x1280x16384.ShapeCasts S3840x16384
  shapeCasts_S3x1280_S3840 : S3x1280.ShapeCasts S3840
  natLt_16_32 : 16 < 32
  bcast_S_S3840x16384 : S_.BroadcastsInDim S3840x16384 (![] : Fin 0 → Fin S3840x16384.rank)
  bcast_S_S3840 : S_.BroadcastsInDim S3840 (![] : Fin 0 → Fin S3840.rank)
  slicesBy_S3840x16384_S120x16384_0s32_0s1 : S3840x16384.SlicesBy (![0, 0] : Fin 2 → Nat) ![32, 1] S120x16384
  slicesBy_S3840_S120_0s32 : S3840.SlicesBy (![0] : Fin 1 → Nat) ![32] S120
  bcast_S120_S120x1_0 : S120.BroadcastsInDim S120x1 (![0] : Fin 1 → Fin S120x1.rank)
  bcast_S120x1_S120x16384_0_1 : S120x1.BroadcastsInDim S120x16384 (![0, 1] : Fin 2 → Fin S120x16384.rank)
  slicesBy_S3840x16384_S120x16384_1s32_0s1 : S3840x16384.SlicesBy (![1, 0] : Fin 2 → Nat) ![32, 1] S120x16384
  slicesBy_S3840_S120_1s32 : S3840.SlicesBy (![1] : Fin 1 → Nat) ![32] S120
  slicesBy_S3840x16384_S120x16384_2s32_0s1 : S3840x16384.SlicesBy (![2, 0] : Fin 2 → Nat) ![32, 1] S120x16384
  slicesBy_S3840_S120_2s32 : S3840.SlicesBy (![2] : Fin 1 → Nat) ![32] S120
  slicesBy_S3840x16384_S120x16384_3s32_0s1 : S3840x16384.SlicesBy (![3, 0] : Fin 2 → Nat) ![32, 1] S120x16384
  slicesBy_S3840_S120_3s32 : S3840.SlicesBy (![3] : Fin 1 → Nat) ![32] S120
  slicesBy_S3840x16384_S120x16384_4s32_0s1 : S3840x16384.SlicesBy (![4, 0] : Fin 2 → Nat) ![32, 1] S120x16384
  slicesBy_S3840_S120_4s32 : S3840.SlicesBy (![4] : Fin 1 → Nat) ![32] S120
  slicesBy_S3840x16384_S120x16384_5s32_0s1 : S3840x16384.SlicesBy (![5, 0] : Fin 2 → Nat) ![32, 1] S120x16384
  slicesBy_S3840_S120_5s32 : S3840.SlicesBy (![5] : Fin 1 → Nat) ![32] S120
  slicesBy_S3840x16384_S120x16384_6s32_0s1 : S3840x16384.SlicesBy (![6, 0] : Fin 2 → Nat) ![32, 1] S120x16384
  slicesBy_S3840_S120_6s32 : S3840.SlicesBy (![6] : Fin 1 → Nat) ![32] S120
  slicesBy_S3840x16384_S120x16384_7s32_0s1 : S3840x16384.SlicesBy (![7, 0] : Fin 2 → Nat) ![32, 1] S120x16384
  slicesBy_S3840_S120_7s32 : S3840.SlicesBy (![7] : Fin 1 → Nat) ![32] S120
  slicesBy_S3840x16384_S120x16384_8s32_0s1 : S3840x16384.SlicesBy (![8, 0] : Fin 2 → Nat) ![32, 1] S120x16384
  slicesBy_S3840_S120_8s32 : S3840.SlicesBy (![8] : Fin 1 → Nat) ![32] S120
  slicesBy_S3840x16384_S120x16384_9s32_0s1 : S3840x16384.SlicesBy (![9, 0] : Fin 2 → Nat) ![32, 1] S120x16384
  slicesBy_S3840_S120_9s32 : S3840.SlicesBy (![9] : Fin 1 → Nat) ![32] S120
  slicesBy_S3840x16384_S120x16384_10s32_0s1 : S3840x16384.SlicesBy (![10, 0] : Fin 2 → Nat) ![32, 1] S120x16384
  slicesBy_S3840_S120_10s32 : S3840.SlicesBy (![10] : Fin 1 → Nat) ![32] S120
  slicesBy_S3840x16384_S120x16384_11s32_0s1 : S3840x16384.SlicesBy (![11, 0] : Fin 2 → Nat) ![32, 1] S120x16384
  slicesBy_S3840_S120_11s32 : S3840.SlicesBy (![11] : Fin 1 → Nat) ![32] S120
  slicesBy_S3840x16384_S120x16384_12s32_0s1 : S3840x16384.SlicesBy (![12, 0] : Fin 2 → Nat) ![32, 1] S120x16384
  slicesBy_S3840_S120_12s32 : S3840.SlicesBy (![12] : Fin 1 → Nat) ![32] S120
  slicesBy_S3840x16384_S120x16384_13s32_0s1 : S3840x16384.SlicesBy (![13, 0] : Fin 2 → Nat) ![32, 1] S120x16384
  slicesBy_S3840_S120_13s32 : S3840.SlicesBy (![13] : Fin 1 → Nat) ![32] S120
  slicesBy_S3840x16384_S120x16384_14s32_0s1 : S3840x16384.SlicesBy (![14, 0] : Fin 2 → Nat) ![32, 1] S120x16384
  slicesBy_S3840_S120_14s32 : S3840.SlicesBy (![14] : Fin 1 → Nat) ![32] S120
  slicesBy_S3840x16384_S120x16384_15s32_0s1 : S3840x16384.SlicesBy (![15, 0] : Fin 2 → Nat) ![32, 1] S120x16384
  slicesBy_S3840_S120_15s32 : S3840.SlicesBy (![15] : Fin 1 → Nat) ![32] S120
  slicesBy_S3840x16384_S120x16384_16s32_0s1 : S3840x16384.SlicesBy (![16, 0] : Fin 2 → Nat) ![32, 1] S120x16384
  slicesBy_S3840_S120_16s32 : S3840.SlicesBy (![16] : Fin 1 → Nat) ![32] S120
  slicesBy_S3840x16384_S120x16384_17s32_0s1 : S3840x16384.SlicesBy (![17, 0] : Fin 2 → Nat) ![32, 1] S120x16384
  slicesBy_S3840_S120_17s32 : S3840.SlicesBy (![17] : Fin 1 → Nat) ![32] S120
  slicesBy_S3840x16384_S120x16384_18s32_0s1 : S3840x16384.SlicesBy (![18, 0] : Fin 2 → Nat) ![32, 1] S120x16384
  slicesBy_S3840_S120_18s32 : S3840.SlicesBy (![18] : Fin 1 → Nat) ![32] S120
  slicesBy_S3840x16384_S120x16384_19s32_0s1 : S3840x16384.SlicesBy (![19, 0] : Fin 2 → Nat) ![32, 1] S120x16384
  slicesBy_S3840_S120_19s32 : S3840.SlicesBy (![19] : Fin 1 → Nat) ![32] S120
  slicesBy_S3840x16384_S120x16384_20s32_0s1 : S3840x16384.SlicesBy (![20, 0] : Fin 2 → Nat) ![32, 1] S120x16384
  slicesBy_S3840_S120_20s32 : S3840.SlicesBy (![20] : Fin 1 → Nat) ![32] S120
  slicesBy_S3840x16384_S120x16384_21s32_0s1 : S3840x16384.SlicesBy (![21, 0] : Fin 2 → Nat) ![32, 1] S120x16384
  slicesBy_S3840_S120_21s32 : S3840.SlicesBy (![21] : Fin 1 → Nat) ![32] S120
  slicesBy_S3840x16384_S120x16384_22s32_0s1 : S3840x16384.SlicesBy (![22, 0] : Fin 2 → Nat) ![32, 1] S120x16384
  slicesBy_S3840_S120_22s32 : S3840.SlicesBy (![22] : Fin 1 → Nat) ![32] S120
  slicesBy_S3840x16384_S120x16384_23s32_0s1 : S3840x16384.SlicesBy (![23, 0] : Fin 2 → Nat) ![32, 1] S120x16384
  slicesBy_S3840_S120_23s32 : S3840.SlicesBy (![23] : Fin 1 → Nat) ![32] S120
  slicesBy_S3840x16384_S120x16384_24s32_0s1 : S3840x16384.SlicesBy (![24, 0] : Fin 2 → Nat) ![32, 1] S120x16384
  slicesBy_S3840_S120_24s32 : S3840.SlicesBy (![24] : Fin 1 → Nat) ![32] S120
  slicesBy_S3840x16384_S120x16384_25s32_0s1 : S3840x16384.SlicesBy (![25, 0] : Fin 2 → Nat) ![32, 1] S120x16384
  slicesBy_S3840_S120_25s32 : S3840.SlicesBy (![25] : Fin 1 → Nat) ![32] S120
  slicesBy_S3840x16384_S120x16384_26s32_0s1 : S3840x16384.SlicesBy (![26, 0] : Fin 2 → Nat) ![32, 1] S120x16384
  slicesBy_S3840_S120_26s32 : S3840.SlicesBy (![26] : Fin 1 → Nat) ![32] S120
  slicesBy_S3840x16384_S120x16384_27s32_0s1 : S3840x16384.SlicesBy (![27, 0] : Fin 2 → Nat) ![32, 1] S120x16384
  slicesBy_S3840_S120_27s32 : S3840.SlicesBy (![27] : Fin 1 → Nat) ![32] S120
  slicesBy_S3840x16384_S120x16384_28s32_0s1 : S3840x16384.SlicesBy (![28, 0] : Fin 2 → Nat) ![32, 1] S120x16384
  slicesBy_S3840_S120_28s32 : S3840.SlicesBy (![28] : Fin 1 → Nat) ![32] S120
  slicesBy_S3840x16384_S120x16384_29s32_0s1 : S3840x16384.SlicesBy (![29, 0] : Fin 2 → Nat) ![32, 1] S120x16384
  slicesBy_S3840_S120_29s32 : S3840.SlicesBy (![29] : Fin 1 → Nat) ![32] S120
  slicesBy_S3840x16384_S120x16384_30s32_0s1 : S3840x16384.SlicesBy (![30, 0] : Fin 2 → Nat) ![32, 1] S120x16384
  slicesBy_S3840_S120_30s32 : S3840.SlicesBy (![30] : Fin 1 → Nat) ![32] S120
  slicesBy_S3840x16384_S120x16384_31s32_0s1 : S3840x16384.SlicesBy (![31, 0] : Fin 2 → Nat) ![32, 1] S120x16384
  slicesBy_S3840_S120_31s32 : S3840.SlicesBy (![31] : Fin 1 → Nat) ![32] S120
  bcast_S_S120x16384 : S_.BroadcastsInDim S120x16384 (![] : Fin 0 → Fin S120x16384.rank)
  natLt_8_32 : 8 < 32
  shapeCasts_S120x16384_S3x40x16384 : S120x16384.ShapeCasts S3x40x16384

variable [Facts]

def fn_column_element {F : FTy → Type} [BitOps F] (arg0 : FVec F S3840x16384 .f32) (arg1 : FVec F S3840 .f32) : FVec F S120x16384 .f32 :=
  let v0 : FVec F S120x16384 .f32 := (Host.slice S120x16384 ![0, 0] ![32, 1] · slicesBy_S3840x16384_S120x16384_0s32_0s1) arg0
  let v1 : FVec F S120 .f32 := (Host.slice S120 ![0] ![32] · slicesBy_S3840_S120_0s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_0 {F : FTy → Type} [BitOps F] (arg0 : FVec F S3840x16384 .f32) (arg1 : FVec F S3840 .f32) : FVec F S120x16384 .f32 :=
  let v0 : FVec F S120x16384 .f32 := (Host.slice S120x16384 ![1, 0] ![32, 1] · slicesBy_S3840x16384_S120x16384_1s32_0s1) arg0
  let v1 : FVec F S120 .f32 := (Host.slice S120 ![1] ![32] · slicesBy_S3840_S120_1s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_1 {F : FTy → Type} [BitOps F] (arg0 : FVec F S3840x16384 .f32) (arg1 : FVec F S3840 .f32) : FVec F S120x16384 .f32 :=
  let v0 : FVec F S120x16384 .f32 := (Host.slice S120x16384 ![2, 0] ![32, 1] · slicesBy_S3840x16384_S120x16384_2s32_0s1) arg0
  let v1 : FVec F S120 .f32 := (Host.slice S120 ![2] ![32] · slicesBy_S3840_S120_2s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_2 {F : FTy → Type} [BitOps F] (arg0 : FVec F S3840x16384 .f32) (arg1 : FVec F S3840 .f32) : FVec F S120x16384 .f32 :=
  let v0 : FVec F S120x16384 .f32 := (Host.slice S120x16384 ![3, 0] ![32, 1] · slicesBy_S3840x16384_S120x16384_3s32_0s1) arg0
  let v1 : FVec F S120 .f32 := (Host.slice S120 ![3] ![32] · slicesBy_S3840_S120_3s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_3 {F : FTy → Type} [BitOps F] (arg0 : FVec F S3840x16384 .f32) (arg1 : FVec F S3840 .f32) : FVec F S120x16384 .f32 :=
  let v0 : FVec F S120x16384 .f32 := (Host.slice S120x16384 ![4, 0] ![32, 1] · slicesBy_S3840x16384_S120x16384_4s32_0s1) arg0
  let v1 : FVec F S120 .f32 := (Host.slice S120 ![4] ![32] · slicesBy_S3840_S120_4s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_4 {F : FTy → Type} [BitOps F] (arg0 : FVec F S3840x16384 .f32) (arg1 : FVec F S3840 .f32) : FVec F S120x16384 .f32 :=
  let v0 : FVec F S120x16384 .f32 := (Host.slice S120x16384 ![5, 0] ![32, 1] · slicesBy_S3840x16384_S120x16384_5s32_0s1) arg0
  let v1 : FVec F S120 .f32 := (Host.slice S120 ![5] ![32] · slicesBy_S3840_S120_5s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_5 {F : FTy → Type} [BitOps F] (arg0 : FVec F S3840x16384 .f32) (arg1 : FVec F S3840 .f32) : FVec F S120x16384 .f32 :=
  let v0 : FVec F S120x16384 .f32 := (Host.slice S120x16384 ![6, 0] ![32, 1] · slicesBy_S3840x16384_S120x16384_6s32_0s1) arg0
  let v1 : FVec F S120 .f32 := (Host.slice S120 ![6] ![32] · slicesBy_S3840_S120_6s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_6 {F : FTy → Type} [BitOps F] (arg0 : FVec F S3840x16384 .f32) (arg1 : FVec F S3840 .f32) : FVec F S120x16384 .f32 :=
  let v0 : FVec F S120x16384 .f32 := (Host.slice S120x16384 ![7, 0] ![32, 1] · slicesBy_S3840x16384_S120x16384_7s32_0s1) arg0
  let v1 : FVec F S120 .f32 := (Host.slice S120 ![7] ![32] · slicesBy_S3840_S120_7s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_7 {F : FTy → Type} [BitOps F] (arg0 : FVec F S3840x16384 .f32) (arg1 : FVec F S3840 .f32) : FVec F S120x16384 .f32 :=
  let v0 : FVec F S120x16384 .f32 := (Host.slice S120x16384 ![8, 0] ![32, 1] · slicesBy_S3840x16384_S120x16384_8s32_0s1) arg0
  let v1 : FVec F S120 .f32 := (Host.slice S120 ![8] ![32] · slicesBy_S3840_S120_8s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_8 {F : FTy → Type} [BitOps F] (arg0 : FVec F S3840x16384 .f32) (arg1 : FVec F S3840 .f32) : FVec F S120x16384 .f32 :=
  let v0 : FVec F S120x16384 .f32 := (Host.slice S120x16384 ![9, 0] ![32, 1] · slicesBy_S3840x16384_S120x16384_9s32_0s1) arg0
  let v1 : FVec F S120 .f32 := (Host.slice S120 ![9] ![32] · slicesBy_S3840_S120_9s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_9 {F : FTy → Type} [BitOps F] (arg0 : FVec F S3840x16384 .f32) (arg1 : FVec F S3840 .f32) : FVec F S120x16384 .f32 :=
  let v0 : FVec F S120x16384 .f32 := (Host.slice S120x16384 ![10, 0] ![32, 1] · slicesBy_S3840x16384_S120x16384_10s32_0s1) arg0
  let v1 : FVec F S120 .f32 := (Host.slice S120 ![10] ![32] · slicesBy_S3840_S120_10s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_10 {F : FTy → Type} [BitOps F] (arg0 : FVec F S3840x16384 .f32) (arg1 : FVec F S3840 .f32) : FVec F S120x16384 .f32 :=
  let v0 : FVec F S120x16384 .f32 := (Host.slice S120x16384 ![11, 0] ![32, 1] · slicesBy_S3840x16384_S120x16384_11s32_0s1) arg0
  let v1 : FVec F S120 .f32 := (Host.slice S120 ![11] ![32] · slicesBy_S3840_S120_11s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_11 {F : FTy → Type} [BitOps F] (arg0 : FVec F S3840x16384 .f32) (arg1 : FVec F S3840 .f32) : FVec F S120x16384 .f32 :=
  let v0 : FVec F S120x16384 .f32 := (Host.slice S120x16384 ![12, 0] ![32, 1] · slicesBy_S3840x16384_S120x16384_12s32_0s1) arg0
  let v1 : FVec F S120 .f32 := (Host.slice S120 ![12] ![32] · slicesBy_S3840_S120_12s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_12 {F : FTy → Type} [BitOps F] (arg0 : FVec F S3840x16384 .f32) (arg1 : FVec F S3840 .f32) : FVec F S120x16384 .f32 :=
  let v0 : FVec F S120x16384 .f32 := (Host.slice S120x16384 ![13, 0] ![32, 1] · slicesBy_S3840x16384_S120x16384_13s32_0s1) arg0
  let v1 : FVec F S120 .f32 := (Host.slice S120 ![13] ![32] · slicesBy_S3840_S120_13s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_13 {F : FTy → Type} [BitOps F] (arg0 : FVec F S3840x16384 .f32) (arg1 : FVec F S3840 .f32) : FVec F S120x16384 .f32 :=
  let v0 : FVec F S120x16384 .f32 := (Host.slice S120x16384 ![14, 0] ![32, 1] · slicesBy_S3840x16384_S120x16384_14s32_0s1) arg0
  let v1 : FVec F S120 .f32 := (Host.slice S120 ![14] ![32] · slicesBy_S3840_S120_14s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_14 {F : FTy → Type} [BitOps F] (arg0 : FVec F S3840x16384 .f32) (arg1 : FVec F S3840 .f32) : FVec F S120x16384 .f32 :=
  let v0 : FVec F S120x16384 .f32 := (Host.slice S120x16384 ![15, 0] ![32, 1] · slicesBy_S3840x16384_S120x16384_15s32_0s1) arg0
  let v1 : FVec F S120 .f32 := (Host.slice S120 ![15] ![32] · slicesBy_S3840_S120_15s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_15 {F : FTy → Type} [BitOps F] (arg0 : FVec F S3840x16384 .f32) (arg1 : FVec F S3840 .f32) : FVec F S120x16384 .f32 :=
  let v0 : FVec F S120x16384 .f32 := (Host.slice S120x16384 ![16, 0] ![32, 1] · slicesBy_S3840x16384_S120x16384_16s32_0s1) arg0
  let v1 : FVec F S120 .f32 := (Host.slice S120 ![16] ![32] · slicesBy_S3840_S120_16s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_16 {F : FTy → Type} [BitOps F] (arg0 : FVec F S3840x16384 .f32) (arg1 : FVec F S3840 .f32) : FVec F S120x16384 .f32 :=
  let v0 : FVec F S120x16384 .f32 := (Host.slice S120x16384 ![17, 0] ![32, 1] · slicesBy_S3840x16384_S120x16384_17s32_0s1) arg0
  let v1 : FVec F S120 .f32 := (Host.slice S120 ![17] ![32] · slicesBy_S3840_S120_17s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_17 {F : FTy → Type} [BitOps F] (arg0 : FVec F S3840x16384 .f32) (arg1 : FVec F S3840 .f32) : FVec F S120x16384 .f32 :=
  let v0 : FVec F S120x16384 .f32 := (Host.slice S120x16384 ![18, 0] ![32, 1] · slicesBy_S3840x16384_S120x16384_18s32_0s1) arg0
  let v1 : FVec F S120 .f32 := (Host.slice S120 ![18] ![32] · slicesBy_S3840_S120_18s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_18 {F : FTy → Type} [BitOps F] (arg0 : FVec F S3840x16384 .f32) (arg1 : FVec F S3840 .f32) : FVec F S120x16384 .f32 :=
  let v0 : FVec F S120x16384 .f32 := (Host.slice S120x16384 ![19, 0] ![32, 1] · slicesBy_S3840x16384_S120x16384_19s32_0s1) arg0
  let v1 : FVec F S120 .f32 := (Host.slice S120 ![19] ![32] · slicesBy_S3840_S120_19s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_19 {F : FTy → Type} [BitOps F] (arg0 : FVec F S3840x16384 .f32) (arg1 : FVec F S3840 .f32) : FVec F S120x16384 .f32 :=
  let v0 : FVec F S120x16384 .f32 := (Host.slice S120x16384 ![20, 0] ![32, 1] · slicesBy_S3840x16384_S120x16384_20s32_0s1) arg0
  let v1 : FVec F S120 .f32 := (Host.slice S120 ![20] ![32] · slicesBy_S3840_S120_20s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_20 {F : FTy → Type} [BitOps F] (arg0 : FVec F S3840x16384 .f32) (arg1 : FVec F S3840 .f32) : FVec F S120x16384 .f32 :=
  let v0 : FVec F S120x16384 .f32 := (Host.slice S120x16384 ![21, 0] ![32, 1] · slicesBy_S3840x16384_S120x16384_21s32_0s1) arg0
  let v1 : FVec F S120 .f32 := (Host.slice S120 ![21] ![32] · slicesBy_S3840_S120_21s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_21 {F : FTy → Type} [BitOps F] (arg0 : FVec F S3840x16384 .f32) (arg1 : FVec F S3840 .f32) : FVec F S120x16384 .f32 :=
  let v0 : FVec F S120x16384 .f32 := (Host.slice S120x16384 ![22, 0] ![32, 1] · slicesBy_S3840x16384_S120x16384_22s32_0s1) arg0
  let v1 : FVec F S120 .f32 := (Host.slice S120 ![22] ![32] · slicesBy_S3840_S120_22s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_22 {F : FTy → Type} [BitOps F] (arg0 : FVec F S3840x16384 .f32) (arg1 : FVec F S3840 .f32) : FVec F S120x16384 .f32 :=
  let v0 : FVec F S120x16384 .f32 := (Host.slice S120x16384 ![23, 0] ![32, 1] · slicesBy_S3840x16384_S120x16384_23s32_0s1) arg0
  let v1 : FVec F S120 .f32 := (Host.slice S120 ![23] ![32] · slicesBy_S3840_S120_23s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_23 {F : FTy → Type} [BitOps F] (arg0 : FVec F S3840x16384 .f32) (arg1 : FVec F S3840 .f32) : FVec F S120x16384 .f32 :=
  let v0 : FVec F S120x16384 .f32 := (Host.slice S120x16384 ![24, 0] ![32, 1] · slicesBy_S3840x16384_S120x16384_24s32_0s1) arg0
  let v1 : FVec F S120 .f32 := (Host.slice S120 ![24] ![32] · slicesBy_S3840_S120_24s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_24 {F : FTy → Type} [BitOps F] (arg0 : FVec F S3840x16384 .f32) (arg1 : FVec F S3840 .f32) : FVec F S120x16384 .f32 :=
  let v0 : FVec F S120x16384 .f32 := (Host.slice S120x16384 ![25, 0] ![32, 1] · slicesBy_S3840x16384_S120x16384_25s32_0s1) arg0
  let v1 : FVec F S120 .f32 := (Host.slice S120 ![25] ![32] · slicesBy_S3840_S120_25s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_25 {F : FTy → Type} [BitOps F] (arg0 : FVec F S3840x16384 .f32) (arg1 : FVec F S3840 .f32) : FVec F S120x16384 .f32 :=
  let v0 : FVec F S120x16384 .f32 := (Host.slice S120x16384 ![26, 0] ![32, 1] · slicesBy_S3840x16384_S120x16384_26s32_0s1) arg0
  let v1 : FVec F S120 .f32 := (Host.slice S120 ![26] ![32] · slicesBy_S3840_S120_26s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_26 {F : FTy → Type} [BitOps F] (arg0 : FVec F S3840x16384 .f32) (arg1 : FVec F S3840 .f32) : FVec F S120x16384 .f32 :=
  let v0 : FVec F S120x16384 .f32 := (Host.slice S120x16384 ![27, 0] ![32, 1] · slicesBy_S3840x16384_S120x16384_27s32_0s1) arg0
  let v1 : FVec F S120 .f32 := (Host.slice S120 ![27] ![32] · slicesBy_S3840_S120_27s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_27 {F : FTy → Type} [BitOps F] (arg0 : FVec F S3840x16384 .f32) (arg1 : FVec F S3840 .f32) : FVec F S120x16384 .f32 :=
  let v0 : FVec F S120x16384 .f32 := (Host.slice S120x16384 ![28, 0] ![32, 1] · slicesBy_S3840x16384_S120x16384_28s32_0s1) arg0
  let v1 : FVec F S120 .f32 := (Host.slice S120 ![28] ![32] · slicesBy_S3840_S120_28s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_28 {F : FTy → Type} [BitOps F] (arg0 : FVec F S3840x16384 .f32) (arg1 : FVec F S3840 .f32) : FVec F S120x16384 .f32 :=
  let v0 : FVec F S120x16384 .f32 := (Host.slice S120x16384 ![29, 0] ![32, 1] · slicesBy_S3840x16384_S120x16384_29s32_0s1) arg0
  let v1 : FVec F S120 .f32 := (Host.slice S120 ![29] ![32] · slicesBy_S3840_S120_29s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_29 {F : FTy → Type} [BitOps F] (arg0 : FVec F S3840x16384 .f32) (arg1 : FVec F S3840 .f32) : FVec F S120x16384 .f32 :=
  let v0 : FVec F S120x16384 .f32 := (Host.slice S120x16384 ![30, 0] ![32, 1] · slicesBy_S3840x16384_S120x16384_30s32_0s1) arg0
  let v1 : FVec F S120 .f32 := (Host.slice S120 ![30] ![32] · slicesBy_S3840_S120_30s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_column_element_30 {F : FTy → Type} [BitOps F] (arg0 : FVec F S3840x16384 .f32) (arg1 : FVec F S3840 .f32) : FVec F S120x16384 .f32 :=
  let v0 : FVec F S120x16384 .f32 := (Host.slice S120x16384 ![31, 0] ![32, 1] · slicesBy_S3840x16384_S120x16384_31s32_0s1) arg0
  let v1 : FVec F S120 .f32 := (Host.slice S120 ![31] ![32] · slicesBy_S3840_S120_31s32) arg1
  let v2 : FVec F S120x1 .f32 := broadcastInDim S120x1 ![0] bcast_S120_S120x1_0 v1
  let v3 : FVec F S120x16384 .f32 := broadcastInDim S120x16384 ![0, 1] bcast_S120x1_S120x16384_0_1 v2
  let v4 : FVec F S120x16384 .f32 := mulf v0 v3
  v4

def fn_where {F : FTy → Type} [BitOps F] (arg0 : IVec S120x16384 1) (arg1 : IVec S_ 32) (arg2 : IVec S120x16384 32) : IVec S120x16384 32 :=
  let v0 : IVec S_ 32 := id arg1
  let v1 : IVec S120x16384 32 := broadcastInDim S120x16384 ![] bcast_S_S120x16384 v0
  let v2 : IVec S120x16384 32 := select arg0 v1 arg2
  v2

def fn_part11 {F : FTy → Type} [BitOps F] (main_arg5 : IVec S3x40x16384 8) (main_v231 : FVec F S120x16384 .f32) (main_v232 : FVec F S120x16384 .f32) (main_v261 : FVec F S120x16384 .f32) : IVec S3x40x16384 1 :=
  let main_v262 : FVec F S120x16384 .f32 := maximumf main_v261 main_v231
  let main_v263 : FVec F S120x16384 .f32 := maximumf main_v262 main_v232
  let main_v264 : IVec S120x16384 32 := bitcastToInt main_v263
  let main_c_0 : IVec S_ 32 := constantI S_ 32 23#32
  let main_v265 : IVec S120x16384 32 := broadcastInDim S120x16384 ![] bcast_S_S120x16384 main_c_0
  let main_v266 : IVec S120x16384 32 := Host.shrui main_v264 main_v265
  let main_v267 : IVec S120x16384 32 := id main_v266
  let main_c_1 : IVec S_ 32 := constantI S_ 32 0#32
  let main_v268 : IVec S120x16384 32 := broadcastInDim S120x16384 ![] bcast_S_S120x16384 main_c_1
  let main_v269 : IVec S120x16384 1 := cmpi .eq main_v267 main_v268
  let main_c_2 : IVec S_ 32 := constantI S_ 32 129#32
  let main_v270 : IVec S120x16384 32 := broadcastInDim S120x16384 ![] bcast_S_S120x16384 main_c_2
  let main_v271 : IVec S120x16384 32 := subi main_v267 main_v270
  let main_c_3 : IVec S_ 32 := constantI S_ 32 0#32
  let main_v272 : IVec S120x16384 32 := fn_where (F := F) main_v269 main_c_3 main_v271
  let main_v273 : IVec S120x16384 8 := (trunci 8 · natLt_8_32) main_v272
  let main_v274 : IVec S3x40x16384 8 := shapeCast S3x40x16384 main_v273 shapeCasts_S120x16384_S3x40x16384
  let main_v275 : IVec S3x40x16384 1 := cmpi .eq main_arg5 main_v274
  main_v275

def fn_part10 {F : FTy → Type} [BitOps F] (main_arg5 : IVec S3x40x16384 8) (main_v207 : FVec F S120x16384 .f32) (main_v208 : FVec F S120x16384 .f32) (main_v209 : FVec F S120x16384 .f32) (main_v210 : FVec F S120x16384 .f32) (main_v211 : FVec F S120x16384 .f32) (main_v212 : FVec F S120x16384 .f32) (main_v213 : FVec F S120x16384 .f32) (main_v214 : FVec F S120x16384 .f32) (main_v215 : FVec F S120x16384 .f32) (main_v216 : FVec F S120x16384 .f32) (main_v217 : FVec F S120x16384 .f32) (main_v218 : FVec F S120x16384 .f32) (main_v219 : FVec F S120x16384 .f32) (main_v220 : FVec F S120x16384 .f32) (main_v221 : FVec F S120x16384 .f32) (main_v222 : FVec F S120x16384 .f32) (main_v223 : FVec F S120x16384 .f32) (main_v224 : FVec F S120x16384 .f32) (main_v225 : FVec F S120x16384 .f32) (main_v226 : FVec F S120x16384 .f32) (main_v227 : FVec F S120x16384 .f32) (main_v228 : FVec F S120x16384 .f32) (main_v229 : FVec F S120x16384 .f32) (main_v230 : FVec F S120x16384 .f32) (main_v231 : FVec F S120x16384 .f32) (main_v232 : FVec F S120x16384 .f32) (main_v237 : FVec F S120x16384 .f32) : IVec S3x40x16384 1 :=
  let main_v238 : FVec F S120x16384 .f32 := maximumf main_v237 main_v207
  let main_v239 : FVec F S120x16384 .f32 := maximumf main_v238 main_v208
  let main_v240 : FVec F S120x16384 .f32 := maximumf main_v239 main_v209
  let main_v241 : FVec F S120x16384 .f32 := maximumf main_v240 main_v210
  let main_v242 : FVec F S120x16384 .f32 := maximumf main_v241 main_v211
  let main_v243 : FVec F S120x16384 .f32 := maximumf main_v242 main_v212
  let main_v244 : FVec F S120x16384 .f32 := maximumf main_v243 main_v213
  let main_v245 : FVec F S120x16384 .f32 := maximumf main_v244 main_v214
  let main_v246 : FVec F S120x16384 .f32 := maximumf main_v245 main_v215
  let main_v247 : FVec F S120x16384 .f32 := maximumf main_v246 main_v216
  let main_v248 : FVec F S120x16384 .f32 := maximumf main_v247 main_v217
  let main_v249 : FVec F S120x16384 .f32 := maximumf main_v248 main_v218
  let main_v250 : FVec F S120x16384 .f32 := maximumf main_v249 main_v219
  let main_v251 : FVec F S120x16384 .f32 := maximumf main_v250 main_v220
  let main_v252 : FVec F S120x16384 .f32 := maximumf main_v251 main_v221
  let main_v253 : FVec F S120x16384 .f32 := maximumf main_v252 main_v222
  let main_v254 : FVec F S120x16384 .f32 := maximumf main_v253 main_v223
  let main_v255 : FVec F S120x16384 .f32 := maximumf main_v254 main_v224
  let main_v256 : FVec F S120x16384 .f32 := maximumf main_v255 main_v225
  let main_v257 : FVec F S120x16384 .f32 := maximumf main_v256 main_v226
  let main_v258 : FVec F S120x16384 .f32 := maximumf main_v257 main_v227
  let main_v259 : FVec F S120x16384 .f32 := maximumf main_v258 main_v228
  let main_v260 : FVec F S120x16384 .f32 := maximumf main_v259 main_v229
  let main_v261 : FVec F S120x16384 .f32 := maximumf main_v260 main_v230
  fn_part11 (F := F) main_arg5 main_v231 main_v232 main_v261

def fn_part9 {F : FTy → Type} [BitOps F] (main_arg5 : IVec S3x40x16384 8) (main_v182 : FVec F S120x16384 .f32) (main_v183 : FVec F S120x16384 .f32) (main_v184 : FVec F S120x16384 .f32) (main_v185 : FVec F S120x16384 .f32) (main_v186 : FVec F S120x16384 .f32) (main_v187 : FVec F S120x16384 .f32) (main_v188 : FVec F S120x16384 .f32) (main_v189 : FVec F S120x16384 .f32) (main_v190 : FVec F S120x16384 .f32) (main_v191 : FVec F S120x16384 .f32) (main_v192 : FVec F S120x16384 .f32) (main_v193 : FVec F S120x16384 .f32) (main_v194 : FVec F S120x16384 .f32) (main_v195 : FVec F S120x16384 .f32) (main_v196 : FVec F S120x16384 .f32) (main_v197 : FVec F S120x16384 .f32) (main_v198 : FVec F S120x16384 .f32) (main_v199 : FVec F S120x16384 .f32) (main_v200 : FVec F S120x16384 .f32) (main_v201 : FVec F S120x16384 .f32) (main_v202 : FVec F S120x16384 .f32) (main_v203 : FVec F S120x16384 .f32) (main_v204 : FVec F S120x16384 .f32) (main_v205 : FVec F S120x16384 .f32) (main_v206 : FVec F S120x16384 .f32) (main_v207 : FVec F S120x16384 .f32) (main_v208 : FVec F S120x16384 .f32) (main_v209 : FVec F S120x16384 .f32) (main_v210 : FVec F S120x16384 .f32) (main_v211 : FVec F S120x16384 .f32) (main_v212 : FVec F S120x16384 .f32) (main_v213 : FVec F S120x16384 .f32) : IVec S3x40x16384 1 :=
  let main_v214 : FVec F S120x16384 .f32 := Host.absf main_v182
  let main_v215 : FVec F S120x16384 .f32 := Host.absf main_v183
  let main_v216 : FVec F S120x16384 .f32 := Host.absf main_v184
  let main_v217 : FVec F S120x16384 .f32 := Host.absf main_v185
  let main_v218 : FVec F S120x16384 .f32 := Host.absf main_v186
  let main_v219 : FVec F S120x16384 .f32 := Host.absf main_v187
  let main_v220 : FVec F S120x16384 .f32 := Host.absf main_v188
  let main_v221 : FVec F S120x16384 .f32 := Host.absf main_v189
  let main_v222 : FVec F S120x16384 .f32 := Host.absf main_v190
  let main_v223 : FVec F S120x16384 .f32 := Host.absf main_v191
  let main_v224 : FVec F S120x16384 .f32 := Host.absf main_v192
  let main_v225 : FVec F S120x16384 .f32 := Host.absf main_v193
  let main_v226 : FVec F S120x16384 .f32 := Host.absf main_v194
  let main_v227 : FVec F S120x16384 .f32 := Host.absf main_v195
  let main_v228 : FVec F S120x16384 .f32 := Host.absf main_v196
  let main_v229 : FVec F S120x16384 .f32 := Host.absf main_v197
  let main_v230 : FVec F S120x16384 .f32 := Host.absf main_v198
  let main_v231 : FVec F S120x16384 .f32 := Host.absf main_v199
  let main_v232 : FVec F S120x16384 .f32 := Host.absf main_v200
  let main_v233 : FVec F S120x16384 .f32 := maximumf main_v201 main_v202
  let main_v234 : FVec F S120x16384 .f32 := maximumf main_v233 main_v203
  let main_v235 : FVec F S120x16384 .f32 := maximumf main_v234 main_v204
  let main_v236 : FVec F S120x16384 .f32 := maximumf main_v235 main_v205
  let main_v237 : FVec F S120x16384 .f32 := maximumf main_v236 main_v206
  fn_part10 (F := F) main_arg5 main_v207 main_v208 main_v209 main_v210 main_v211 main_v212 main_v213 main_v214 main_v215 main_v216 main_v217 main_v218 main_v219 main_v220 main_v221 main_v222 main_v223 main_v224 main_v225 main_v226 main_v227 main_v228 main_v229 main_v230 main_v231 main_v232 main_v237

def fn_part8 {F : FTy → Type} [BitOps F] (main_arg5 : IVec S3x40x16384 8) (main_v94 : FVec F S120x16384 .f32) (main_v95 : FVec F S120x16384 .f32) (main_v96 : FVec F S120x16384 .f32) (main_v97 : FVec F S120x16384 .f32) (main_v98 : FVec F S120x16384 .f32) (main_v99 : FVec F S120x16384 .f32) (main_v100 : FVec F S120x16384 .f32) (main_v101 : FVec F S120x16384 .f32) (main_v102 : FVec F S120x16384 .f32) (main_v103 : FVec F S120x16384 .f32) (main_v104 : FVec F S120x16384 .f32) (main_v158 : FVec F S120x16384 .f32) (main_v159 : FVec F S120x16384 .f32) (main_v160 : FVec F S120x16384 .f32) (main_v161 : FVec F S120x16384 .f32) (main_v162 : FVec F S120x16384 .f32) (main_v163 : FVec F S120x16384 .f32) (main_v164 : FVec F S120x16384 .f32) (main_v165 : FVec F S120x16384 .f32) (main_v166 : FVec F S120x16384 .f32) (main_v167 : FVec F S120x16384 .f32) (main_v168 : FVec F S120x16384 .f32) (main_v169 : FVec F S120x16384 .f32) (main_v170 : FVec F S120x16384 .f32) (main_v171 : FVec F S120x16384 .f32) (main_v172 : FVec F S120x16384 .f32) (main_v173 : FVec F S120x16384 .f32) (main_v174 : FVec F S120x16384 .f32) (main_v175 : FVec F S120x16384 .f32) (main_v176 : FVec F S120x16384 .f32) (main_v177 : FVec F S120x16384 .f32) (main_v178 : FVec F S120x16384 .f32) (main_v179 : FVec F S120x16384 .f32) (main_v180 : FVec F S120x16384 .f32) (main_v181 : FVec F S120x16384 .f32) (main_v182 : FVec F S120x16384 .f32) (main_v183 : FVec F S120x16384 .f32) (main_v184 : FVec F S120x16384 .f32) (main_v185 : FVec F S120x16384 .f32) (main_v186 : FVec F S120x16384 .f32) (main_v187 : FVec F S120x16384 .f32) (main_v188 : FVec F S120x16384 .f32) (main_v189 : FVec F S120x16384 .f32) : IVec S3x40x16384 1 :=
  let main_v190 : FVec F S120x16384 .f32 := subf main_v94 main_v158
  let main_v191 : FVec F S120x16384 .f32 := subf main_v95 main_v159
  let main_v192 : FVec F S120x16384 .f32 := subf main_v96 main_v160
  let main_v193 : FVec F S120x16384 .f32 := subf main_v97 main_v161
  let main_v194 : FVec F S120x16384 .f32 := subf main_v98 main_v162
  let main_v195 : FVec F S120x16384 .f32 := subf main_v99 main_v163
  let main_v196 : FVec F S120x16384 .f32 := subf main_v100 main_v164
  let main_v197 : FVec F S120x16384 .f32 := subf main_v101 main_v165
  let main_v198 : FVec F S120x16384 .f32 := subf main_v102 main_v166
  let main_v199 : FVec F S120x16384 .f32 := subf main_v103 main_v167
  let main_v200 : FVec F S120x16384 .f32 := subf main_v104 main_v168
  let main_v201 : FVec F S120x16384 .f32 := Host.absf main_v169
  let main_v202 : FVec F S120x16384 .f32 := Host.absf main_v170
  let main_v203 : FVec F S120x16384 .f32 := Host.absf main_v171
  let main_v204 : FVec F S120x16384 .f32 := Host.absf main_v172
  let main_v205 : FVec F S120x16384 .f32 := Host.absf main_v173
  let main_v206 : FVec F S120x16384 .f32 := Host.absf main_v174
  let main_v207 : FVec F S120x16384 .f32 := Host.absf main_v175
  let main_v208 : FVec F S120x16384 .f32 := Host.absf main_v176
  let main_v209 : FVec F S120x16384 .f32 := Host.absf main_v177
  let main_v210 : FVec F S120x16384 .f32 := Host.absf main_v178
  let main_v211 : FVec F S120x16384 .f32 := Host.absf main_v179
  let main_v212 : FVec F S120x16384 .f32 := Host.absf main_v180
  let main_v213 : FVec F S120x16384 .f32 := Host.absf main_v181
  fn_part9 (F := F) main_arg5 main_v182 main_v183 main_v184 main_v185 main_v186 main_v187 main_v188 main_v189 main_v190 main_v191 main_v192 main_v193 main_v194 main_v195 main_v196 main_v197 main_v198 main_v199 main_v200 main_v201 main_v202 main_v203 main_v204 main_v205 main_v206 main_v207 main_v208 main_v209 main_v210 main_v211 main_v212 main_v213

def fn_part7 {F : FTy → Type} [BitOps F] (main_arg5 : IVec S3x40x16384 8) (main_v89 : FVec F S120x16384 .f32) (main_v90 : FVec F S120x16384 .f32) (main_v91 : FVec F S120x16384 .f32) (main_v92 : FVec F S120x16384 .f32) (main_v93 : FVec F S120x16384 .f32) (main_v94 : FVec F S120x16384 .f32) (main_v95 : FVec F S120x16384 .f32) (main_v96 : FVec F S120x16384 .f32) (main_v97 : FVec F S120x16384 .f32) (main_v98 : FVec F S120x16384 .f32) (main_v99 : FVec F S120x16384 .f32) (main_v100 : FVec F S120x16384 .f32) (main_v101 : FVec F S120x16384 .f32) (main_v102 : FVec F S120x16384 .f32) (main_v103 : FVec F S120x16384 .f32) (main_v104 : FVec F S120x16384 .f32) (main_v126 : FVec F S120x16384 .f32) (main_v127 : FVec F S120x16384 .f32) (main_v128 : FVec F S120x16384 .f32) (main_v150 : FVec F S120x16384 .f32) (main_v151 : FVec F S120x16384 .f32) (main_v152 : FVec F S120x16384 .f32) (main_v153 : FVec F S120x16384 .f32) (main_v154 : FVec F S120x16384 .f32) (main_v155 : FVec F S120x16384 .f32) (main_v156 : FVec F S120x16384 .f32) (main_v157 : FVec F S120x16384 .f32) (main_v158 : FVec F S120x16384 .f32) (main_v159 : FVec F S120x16384 .f32) (main_v160 : FVec F S120x16384 .f32) (main_v161 : FVec F S120x16384 .f32) (main_v162 : FVec F S120x16384 .f32) (main_v163 : FVec F S120x16384 .f32) (main_v164 : FVec F S120x16384 .f32) (main_v165 : FVec F S120x16384 .f32) : IVec S3x40x16384 1 :=
  let main_v166 : FVec F S120x16384 .f32 := subf main_v126 main_v150
  let main_v167 : FVec F S120x16384 .f32 := subf main_v127 main_v151
  let main_v168 : FVec F S120x16384 .f32 := subf main_v128 main_v152
  let main_v169 : FVec F S120x16384 .f32 := addf main_v89 main_v153
  let main_v170 : FVec F S120x16384 .f32 := addf main_v90 main_v154
  let main_v171 : FVec F S120x16384 .f32 := addf main_v91 main_v155
  let main_v172 : FVec F S120x16384 .f32 := addf main_v92 main_v156
  let main_v173 : FVec F S120x16384 .f32 := addf main_v93 main_v157
  let main_v174 : FVec F S120x16384 .f32 := addf main_v94 main_v158
  let main_v175 : FVec F S120x16384 .f32 := addf main_v95 main_v159
  let main_v176 : FVec F S120x16384 .f32 := addf main_v96 main_v160
  let main_v177 : FVec F S120x16384 .f32 := addf main_v97 main_v161
  let main_v178 : FVec F S120x16384 .f32 := addf main_v98 main_v162
  let main_v179 : FVec F S120x16384 .f32 := addf main_v99 main_v163
  let main_v180 : FVec F S120x16384 .f32 := addf main_v100 main_v164
  let main_v181 : FVec F S120x16384 .f32 := addf main_v101 main_v165
  let main_v182 : FVec F S120x16384 .f32 := addf main_v102 main_v166
  let main_v183 : FVec F S120x16384 .f32 := addf main_v103 main_v167
  let main_v184 : FVec F S120x16384 .f32 := addf main_v104 main_v168
  let main_v185 : FVec F S120x16384 .f32 := subf main_v89 main_v153
  let main_v186 : FVec F S120x16384 .f32 := subf main_v90 main_v154
  let main_v187 : FVec F S120x16384 .f32 := subf main_v91 main_v155
  let main_v188 : FVec F S120x16384 .f32 := subf main_v92 main_v156
  let main_v189 : FVec F S120x16384 .f32 := subf main_v93 main_v157
  fn_part8 (F := F) main_arg5 main_v94 main_v95 main_v96 main_v97 main_v98 main_v99 main_v100 main_v101 main_v102 main_v103 main_v104 main_v158 main_v159 main_v160 main_v161 main_v162 main_v163 main_v164 main_v165 main_v166 main_v167 main_v168 main_v169 main_v170 main_v171 main_v172 main_v173 main_v174 main_v175 main_v176 main_v177 main_v178 main_v179 main_v180 main_v181 main_v182 main_v183 main_v184 main_v185 main_v186 main_v187 main_v188 main_v189

def fn_part6 {F : FTy → Type} [BitOps F] (main_arg5 : IVec S3x40x16384 8) (main_v89 : FVec F S120x16384 .f32) (main_v90 : FVec F S120x16384 .f32) (main_v91 : FVec F S120x16384 .f32) (main_v92 : FVec F S120x16384 .f32) (main_v93 : FVec F S120x16384 .f32) (main_v94 : FVec F S120x16384 .f32) (main_v95 : FVec F S120x16384 .f32) (main_v96 : FVec F S120x16384 .f32) (main_v97 : FVec F S120x16384 .f32) (main_v98 : FVec F S120x16384 .f32) (main_v99 : FVec F S120x16384 .f32) (main_v100 : FVec F S120x16384 .f32) (main_v101 : FVec F S120x16384 .f32) (main_v102 : FVec F S120x16384 .f32) (main_v103 : FVec F S120x16384 .f32) (main_v104 : FVec F S120x16384 .f32) (main_v121 : FVec F S120x16384 .f32) (main_v122 : FVec F S120x16384 .f32) (main_v123 : FVec F S120x16384 .f32) (main_v124 : FVec F S120x16384 .f32) (main_v125 : FVec F S120x16384 .f32) (main_v126 : FVec F S120x16384 .f32) (main_v127 : FVec F S120x16384 .f32) (main_v128 : FVec F S120x16384 .f32) (main_v133 : FVec F S120x16384 .f32) (main_v134 : FVec F S120x16384 .f32) (main_v135 : FVec F S120x16384 .f32) (main_v136 : FVec F S120x16384 .f32) (main_v137 : FVec F S120x16384 .f32) (main_v138 : FVec F S120x16384 .f32) (main_v139 : FVec F S120x16384 .f32) (main_v140 : FVec F S120x16384 .f32) (main_v141 : FVec F S120x16384 .f32) : IVec S3x40x16384 1 :=
  let main_v142 : FVec F S120x16384 .f32 := addf main_v138 main_v140
  let main_v143 : FVec F S120x16384 .f32 := subf main_v137 main_v139
  let main_v144 : FVec F S120x16384 .f32 := subf main_v138 main_v140
  let main_v145 : FVec F S120x16384 .f32 := addf main_v133 main_v141
  let main_v146 : FVec F S120x16384 .f32 := addf main_v134 main_v142
  let main_v147 : FVec F S120x16384 .f32 := addf main_v135 main_v143
  let main_v148 : FVec F S120x16384 .f32 := addf main_v136 main_v144
  let main_v149 : FVec F S120x16384 .f32 := subf main_v133 main_v141
  let main_v150 : FVec F S120x16384 .f32 := subf main_v134 main_v142
  let main_v151 : FVec F S120x16384 .f32 := subf main_v135 main_v143
  let main_v152 : FVec F S120x16384 .f32 := subf main_v136 main_v144
  let main_v153 : FVec F S120x16384 .f32 := addf main_v121 main_v145
  let main_v154 : FVec F S120x16384 .f32 := addf main_v122 main_v146
  let main_v155 : FVec F S120x16384 .f32 := addf main_v123 main_v147
  let main_v156 : FVec F S120x16384 .f32 := addf main_v124 main_v148
  let main_v157 : FVec F S120x16384 .f32 := addf main_v125 main_v149
  let main_v158 : FVec F S120x16384 .f32 := addf main_v126 main_v150
  let main_v159 : FVec F S120x16384 .f32 := addf main_v127 main_v151
  let main_v160 : FVec F S120x16384 .f32 := addf main_v128 main_v152
  let main_v161 : FVec F S120x16384 .f32 := subf main_v121 main_v145
  let main_v162 : FVec F S120x16384 .f32 := subf main_v122 main_v146
  let main_v163 : FVec F S120x16384 .f32 := subf main_v123 main_v147
  let main_v164 : FVec F S120x16384 .f32 := subf main_v124 main_v148
  let main_v165 : FVec F S120x16384 .f32 := subf main_v125 main_v149
  fn_part7 (F := F) main_arg5 main_v89 main_v90 main_v91 main_v92 main_v93 main_v94 main_v95 main_v96 main_v97 main_v98 main_v99 main_v100 main_v101 main_v102 main_v103 main_v104 main_v126 main_v127 main_v128 main_v150 main_v151 main_v152 main_v153 main_v154 main_v155 main_v156 main_v157 main_v158 main_v159 main_v160 main_v161 main_v162 main_v163 main_v164 main_v165

def fn_part5 {F : FTy → Type} [BitOps F] (main_arg5 : IVec S3x40x16384 8) (main_v33 : FVec F S120x16384 .f32) (main_v34 : FVec F S120x16384 .f32) (main_v35 : FVec F S120x16384 .f32) (main_v36 : FVec F S120x16384 .f32) (main_v37 : FVec F S120x16384 .f32) (main_v38 : FVec F S120x16384 .f32) (main_v39 : FVec F S120x16384 .f32) (main_v40 : FVec F S120x16384 .f32) (main_v89 : FVec F S120x16384 .f32) (main_v90 : FVec F S120x16384 .f32) (main_v91 : FVec F S120x16384 .f32) (main_v92 : FVec F S120x16384 .f32) (main_v93 : FVec F S120x16384 .f32) (main_v94 : FVec F S120x16384 .f32) (main_v95 : FVec F S120x16384 .f32) (main_v96 : FVec F S120x16384 .f32) (main_v97 : FVec F S120x16384 .f32) (main_v98 : FVec F S120x16384 .f32) (main_v99 : FVec F S120x16384 .f32) (main_v100 : FVec F S120x16384 .f32) (main_v101 : FVec F S120x16384 .f32) (main_v102 : FVec F S120x16384 .f32) (main_v103 : FVec F S120x16384 .f32) (main_v104 : FVec F S120x16384 .f32) (main_v109 : FVec F S120x16384 .f32) (main_v110 : FVec F S120x16384 .f32) (main_v111 : FVec F S120x16384 .f32) (main_v112 : FVec F S120x16384 .f32) (main_v113 : FVec F S120x16384 .f32) (main_v114 : FVec F S120x16384 .f32) (main_v115 : FVec F S120x16384 .f32) (main_v116 : FVec F S120x16384 .f32) (main_v117 : FVec F S120x16384 .f32) : IVec S3x40x16384 1 :=
  let main_v118 : FVec F S120x16384 .f32 := addf main_v114 main_v116
  let main_v119 : FVec F S120x16384 .f32 := subf main_v113 main_v115
  let main_v120 : FVec F S120x16384 .f32 := subf main_v114 main_v116
  let main_v121 : FVec F S120x16384 .f32 := addf main_v109 main_v117
  let main_v122 : FVec F S120x16384 .f32 := addf main_v110 main_v118
  let main_v123 : FVec F S120x16384 .f32 := addf main_v111 main_v119
  let main_v124 : FVec F S120x16384 .f32 := addf main_v112 main_v120
  let main_v125 : FVec F S120x16384 .f32 := subf main_v109 main_v117
  let main_v126 : FVec F S120x16384 .f32 := subf main_v110 main_v118
  let main_v127 : FVec F S120x16384 .f32 := subf main_v111 main_v119
  let main_v128 : FVec F S120x16384 .f32 := subf main_v112 main_v120
  let main_v129 : FVec F S120x16384 .f32 := addf main_v33 main_v34
  let main_v130 : FVec F S120x16384 .f32 := subf main_v33 main_v34
  let main_v131 : FVec F S120x16384 .f32 := addf main_v35 main_v36
  let main_v132 : FVec F S120x16384 .f32 := subf main_v35 main_v36
  let main_v133 : FVec F S120x16384 .f32 := addf main_v129 main_v131
  let main_v134 : FVec F S120x16384 .f32 := addf main_v130 main_v132
  let main_v135 : FVec F S120x16384 .f32 := subf main_v129 main_v131
  let main_v136 : FVec F S120x16384 .f32 := subf main_v130 main_v132
  let main_v137 : FVec F S120x16384 .f32 := addf main_v37 main_v38
  let main_v138 : FVec F S120x16384 .f32 := subf main_v37 main_v38
  let main_v139 : FVec F S120x16384 .f32 := addf main_v39 main_v40
  let main_v140 : FVec F S120x16384 .f32 := subf main_v39 main_v40
  let main_v141 : FVec F S120x16384 .f32 := addf main_v137 main_v139
  fn_part6 (F := F) main_arg5 main_v89 main_v90 main_v91 main_v92 main_v93 main_v94 main_v95 main_v96 main_v97 main_v98 main_v99 main_v100 main_v101 main_v102 main_v103 main_v104 main_v121 main_v122 main_v123 main_v124 main_v125 main_v126 main_v127 main_v128 main_v133 main_v134 main_v135 main_v136 main_v137 main_v138 main_v139 main_v140 main_v141

def fn_part4 {F : FTy → Type} [BitOps F] (main_arg5 : IVec S3x40x16384 8) (main_v25 : FVec F S120x16384 .f32) (main_v26 : FVec F S120x16384 .f32) (main_v27 : FVec F S120x16384 .f32) (main_v28 : FVec F S120x16384 .f32) (main_v29 : FVec F S120x16384 .f32) (main_v30 : FVec F S120x16384 .f32) (main_v31 : FVec F S120x16384 .f32) (main_v32 : FVec F S120x16384 .f32) (main_v33 : FVec F S120x16384 .f32) (main_v34 : FVec F S120x16384 .f32) (main_v35 : FVec F S120x16384 .f32) (main_v36 : FVec F S120x16384 .f32) (main_v37 : FVec F S120x16384 .f32) (main_v38 : FVec F S120x16384 .f32) (main_v39 : FVec F S120x16384 .f32) (main_v40 : FVec F S120x16384 .f32) (main_v57 : FVec F S120x16384 .f32) (main_v58 : FVec F S120x16384 .f32) (main_v59 : FVec F S120x16384 .f32) (main_v60 : FVec F S120x16384 .f32) (main_v61 : FVec F S120x16384 .f32) (main_v62 : FVec F S120x16384 .f32) (main_v63 : FVec F S120x16384 .f32) (main_v64 : FVec F S120x16384 .f32) (main_v81 : FVec F S120x16384 .f32) (main_v82 : FVec F S120x16384 .f32) (main_v83 : FVec F S120x16384 .f32) (main_v84 : FVec F S120x16384 .f32) (main_v85 : FVec F S120x16384 .f32) (main_v86 : FVec F S120x16384 .f32) (main_v87 : FVec F S120x16384 .f32) (main_v88 : FVec F S120x16384 .f32) (main_v89 : FVec F S120x16384 .f32) (main_v90 : FVec F S120x16384 .f32) (main_v91 : FVec F S120x16384 .f32) (main_v92 : FVec F S120x16384 .f32) (main_v93 : FVec F S120x16384 .f32) : IVec S3x40x16384 1 :=
  let main_v94 : FVec F S120x16384 .f32 := addf main_v62 main_v86
  let main_v95 : FVec F S120x16384 .f32 := addf main_v63 main_v87
  let main_v96 : FVec F S120x16384 .f32 := addf main_v64 main_v88
  let main_v97 : FVec F S120x16384 .f32 := subf main_v57 main_v81
  let main_v98 : FVec F S120x16384 .f32 := subf main_v58 main_v82
  let main_v99 : FVec F S120x16384 .f32 := subf main_v59 main_v83
  let main_v100 : FVec F S120x16384 .f32 := subf main_v60 main_v84
  let main_v101 : FVec F S120x16384 .f32 := subf main_v61 main_v85
  let main_v102 : FVec F S120x16384 .f32 := subf main_v62 main_v86
  let main_v103 : FVec F S120x16384 .f32 := subf main_v63 main_v87
  let main_v104 : FVec F S120x16384 .f32 := subf main_v64 main_v88
  let main_v105 : FVec F S120x16384 .f32 := addf main_v25 main_v26
  let main_v106 : FVec F S120x16384 .f32 := subf main_v25 main_v26
  let main_v107 : FVec F S120x16384 .f32 := addf main_v27 main_v28
  let main_v108 : FVec F S120x16384 .f32 := subf main_v27 main_v28
  let main_v109 : FVec F S120x16384 .f32 := addf main_v105 main_v107
  let main_v110 : FVec F S120x16384 .f32 := addf main_v106 main_v108
  let main_v111 : FVec F S120x16384 .f32 := subf main_v105 main_v107
  let main_v112 : FVec F S120x16384 .f32 := subf main_v106 main_v108
  let main_v113 : FVec F S120x16384 .f32 := addf main_v29 main_v30
  let main_v114 : FVec F S120x16384 .f32 := subf main_v29 main_v30
  let main_v115 : FVec F S120x16384 .f32 := addf main_v31 main_v32
  let main_v116 : FVec F S120x16384 .f32 := subf main_v31 main_v32
  let main_v117 : FVec F S120x16384 .f32 := addf main_v113 main_v115
  fn_part5 (F := F) main_arg5 main_v33 main_v34 main_v35 main_v36 main_v37 main_v38 main_v39 main_v40 main_v89 main_v90 main_v91 main_v92 main_v93 main_v94 main_v95 main_v96 main_v97 main_v98 main_v99 main_v100 main_v101 main_v102 main_v103 main_v104 main_v109 main_v110 main_v111 main_v112 main_v113 main_v114 main_v115 main_v116 main_v117

def fn_part3 {F : FTy → Type} [BitOps F] (main_arg5 : IVec S3x40x16384 8) (main_v21 : FVec F S120x16384 .f32) (main_v22 : FVec F S120x16384 .f32) (main_v23 : FVec F S120x16384 .f32) (main_v24 : FVec F S120x16384 .f32) (main_v25 : FVec F S120x16384 .f32) (main_v26 : FVec F S120x16384 .f32) (main_v27 : FVec F S120x16384 .f32) (main_v28 : FVec F S120x16384 .f32) (main_v29 : FVec F S120x16384 .f32) (main_v30 : FVec F S120x16384 .f32) (main_v31 : FVec F S120x16384 .f32) (main_v32 : FVec F S120x16384 .f32) (main_v33 : FVec F S120x16384 .f32) (main_v34 : FVec F S120x16384 .f32) (main_v35 : FVec F S120x16384 .f32) (main_v36 : FVec F S120x16384 .f32) (main_v37 : FVec F S120x16384 .f32) (main_v38 : FVec F S120x16384 .f32) (main_v39 : FVec F S120x16384 .f32) (main_v40 : FVec F S120x16384 .f32) (main_v57 : FVec F S120x16384 .f32) (main_v58 : FVec F S120x16384 .f32) (main_v59 : FVec F S120x16384 .f32) (main_v60 : FVec F S120x16384 .f32) (main_v61 : FVec F S120x16384 .f32) (main_v62 : FVec F S120x16384 .f32) (main_v63 : FVec F S120x16384 .f32) (main_v64 : FVec F S120x16384 .f32) (main_v65 : FVec F S120x16384 .f32) (main_v66 : FVec F S120x16384 .f32) (main_v67 : FVec F S120x16384 .f32) (main_v68 : FVec F S120x16384 .f32) (main_v69 : FVec F S120x16384 .f32) : IVec S3x40x16384 1 :=
  let main_v70 : FVec F S120x16384 .f32 := addf main_v66 main_v68
  let main_v71 : FVec F S120x16384 .f32 := subf main_v65 main_v67
  let main_v72 : FVec F S120x16384 .f32 := subf main_v66 main_v68
  let main_v73 : FVec F S120x16384 .f32 := addf main_v21 main_v22
  let main_v74 : FVec F S120x16384 .f32 := subf main_v21 main_v22
  let main_v75 : FVec F S120x16384 .f32 := addf main_v23 main_v24
  let main_v76 : FVec F S120x16384 .f32 := subf main_v23 main_v24
  let main_v77 : FVec F S120x16384 .f32 := addf main_v73 main_v75
  let main_v78 : FVec F S120x16384 .f32 := addf main_v74 main_v76
  let main_v79 : FVec F S120x16384 .f32 := subf main_v73 main_v75
  let main_v80 : FVec F S120x16384 .f32 := subf main_v74 main_v76
  let main_v81 : FVec F S120x16384 .f32 := addf main_v69 main_v77
  let main_v82 : FVec F S120x16384 .f32 := addf main_v70 main_v78
  let main_v83 : FVec F S120x16384 .f32 := addf main_v71 main_v79
  let main_v84 : FVec F S120x16384 .f32 := addf main_v72 main_v80
  let main_v85 : FVec F S120x16384 .f32 := subf main_v69 main_v77
  let main_v86 : FVec F S120x16384 .f32 := subf main_v70 main_v78
  let main_v87 : FVec F S120x16384 .f32 := subf main_v71 main_v79
  let main_v88 : FVec F S120x16384 .f32 := subf main_v72 main_v80
  let main_v89 : FVec F S120x16384 .f32 := addf main_v57 main_v81
  let main_v90 : FVec F S120x16384 .f32 := addf main_v58 main_v82
  let main_v91 : FVec F S120x16384 .f32 := addf main_v59 main_v83
  let main_v92 : FVec F S120x16384 .f32 := addf main_v60 main_v84
  let main_v93 : FVec F S120x16384 .f32 := addf main_v61 main_v85
  fn_part4 (F := F) main_arg5 main_v25 main_v26 main_v27 main_v28 main_v29 main_v30 main_v31 main_v32 main_v33 main_v34 main_v35 main_v36 main_v37 main_v38 main_v39 main_v40 main_v57 main_v58 main_v59 main_v60 main_v61 main_v62 main_v63 main_v64 main_v81 main_v82 main_v83 main_v84 main_v85 main_v86 main_v87 main_v88 main_v89 main_v90 main_v91 main_v92 main_v93

def fn_part2 {F : FTy → Type} [BitOps F] (main_arg5 : IVec S3x40x16384 8) (main_v13 : FVec F S120x16384 .f32) (main_v14 : FVec F S120x16384 .f32) (main_v15 : FVec F S120x16384 .f32) (main_v16 : FVec F S120x16384 .f32) (main_v17 : FVec F S120x16384 .f32) (main_v18 : FVec F S120x16384 .f32) (main_v19 : FVec F S120x16384 .f32) (main_v20 : FVec F S120x16384 .f32) (main_v21 : FVec F S120x16384 .f32) (main_v22 : FVec F S120x16384 .f32) (main_v23 : FVec F S120x16384 .f32) (main_v24 : FVec F S120x16384 .f32) (main_v25 : FVec F S120x16384 .f32) (main_v26 : FVec F S120x16384 .f32) (main_v27 : FVec F S120x16384 .f32) (main_v28 : FVec F S120x16384 .f32) (main_v29 : FVec F S120x16384 .f32) (main_v30 : FVec F S120x16384 .f32) (main_v31 : FVec F S120x16384 .f32) (main_v32 : FVec F S120x16384 .f32) (main_v33 : FVec F S120x16384 .f32) (main_v34 : FVec F S120x16384 .f32) (main_v35 : FVec F S120x16384 .f32) (main_v36 : FVec F S120x16384 .f32) (main_v37 : FVec F S120x16384 .f32) (main_v38 : FVec F S120x16384 .f32) (main_v39 : FVec F S120x16384 .f32) (main_v40 : FVec F S120x16384 .f32) (main_v41 : FVec F S120x16384 .f32) (main_v42 : FVec F S120x16384 .f32) (main_v43 : FVec F S120x16384 .f32) (main_v44 : FVec F S120x16384 .f32) (main_v45 : FVec F S120x16384 .f32) : IVec S3x40x16384 1 :=
  let main_v46 : FVec F S120x16384 .f32 := addf main_v42 main_v44
  let main_v47 : FVec F S120x16384 .f32 := subf main_v41 main_v43
  let main_v48 : FVec F S120x16384 .f32 := subf main_v42 main_v44
  let main_v49 : FVec F S120x16384 .f32 := addf main_v13 main_v14
  let main_v50 : FVec F S120x16384 .f32 := subf main_v13 main_v14
  let main_v51 : FVec F S120x16384 .f32 := addf main_v15 main_v16
  let main_v52 : FVec F S120x16384 .f32 := subf main_v15 main_v16
  let main_v53 : FVec F S120x16384 .f32 := addf main_v49 main_v51
  let main_v54 : FVec F S120x16384 .f32 := addf main_v50 main_v52
  let main_v55 : FVec F S120x16384 .f32 := subf main_v49 main_v51
  let main_v56 : FVec F S120x16384 .f32 := subf main_v50 main_v52
  let main_v57 : FVec F S120x16384 .f32 := addf main_v45 main_v53
  let main_v58 : FVec F S120x16384 .f32 := addf main_v46 main_v54
  let main_v59 : FVec F S120x16384 .f32 := addf main_v47 main_v55
  let main_v60 : FVec F S120x16384 .f32 := addf main_v48 main_v56
  let main_v61 : FVec F S120x16384 .f32 := subf main_v45 main_v53
  let main_v62 : FVec F S120x16384 .f32 := subf main_v46 main_v54
  let main_v63 : FVec F S120x16384 .f32 := subf main_v47 main_v55
  let main_v64 : FVec F S120x16384 .f32 := subf main_v48 main_v56
  let main_v65 : FVec F S120x16384 .f32 := addf main_v17 main_v18
  let main_v66 : FVec F S120x16384 .f32 := subf main_v17 main_v18
  let main_v67 : FVec F S120x16384 .f32 := addf main_v19 main_v20
  let main_v68 : FVec F S120x16384 .f32 := subf main_v19 main_v20
  let main_v69 : FVec F S120x16384 .f32 := addf main_v65 main_v67
  fn_part3 (F := F) main_arg5 main_v21 main_v22 main_v23 main_v24 main_v25 main_v26 main_v27 main_v28 main_v29 main_v30 main_v31 main_v32 main_v33 main_v34 main_v35 main_v36 main_v37 main_v38 main_v39 main_v40 main_v57 main_v58 main_v59 main_v60 main_v61 main_v62 main_v63 main_v64 main_v65 main_v66 main_v67 main_v68 main_v69

def fn_part1 {F : FTy → Type} [BitOps F] (main_arg5 : IVec S3x40x16384 8) (main_v6 : FVec F S3840x16384 .f32) (main_v8 : FVec F S3840 .f32) (main_v9 : FVec F S120x16384 .f32) (main_v10 : FVec F S120x16384 .f32) (main_v11 : FVec F S120x16384 .f32) (main_v12 : FVec F S120x16384 .f32) (main_v13 : FVec F S120x16384 .f32) (main_v14 : FVec F S120x16384 .f32) (main_v15 : FVec F S120x16384 .f32) (main_v16 : FVec F S120x16384 .f32) (main_v17 : FVec F S120x16384 .f32) (main_v18 : FVec F S120x16384 .f32) (main_v19 : FVec F S120x16384 .f32) (main_v20 : FVec F S120x16384 .f32) (main_v21 : FVec F S120x16384 .f32) : IVec S3x40x16384 1 :=
  let main_v22 : FVec F S120x16384 .f32 := fn_column_element_12 (F := F) main_v6 main_v8
  let main_v23 : FVec F S120x16384 .f32 := fn_column_element_13 (F := F) main_v6 main_v8
  let main_v24 : FVec F S120x16384 .f32 := fn_column_element_14 (F := F) main_v6 main_v8
  let main_v25 : FVec F S120x16384 .f32 := fn_column_element_15 (F := F) main_v6 main_v8
  let main_v26 : FVec F S120x16384 .f32 := fn_column_element_16 (F := F) main_v6 main_v8
  let main_v27 : FVec F S120x16384 .f32 := fn_column_element_17 (F := F) main_v6 main_v8
  let main_v28 : FVec F S120x16384 .f32 := fn_column_element_18 (F := F) main_v6 main_v8
  let main_v29 : FVec F S120x16384 .f32 := fn_column_element_19 (F := F) main_v6 main_v8
  let main_v30 : FVec F S120x16384 .f32 := fn_column_element_20 (F := F) main_v6 main_v8
  let main_v31 : FVec F S120x16384 .f32 := fn_column_element_21 (F := F) main_v6 main_v8
  let main_v32 : FVec F S120x16384 .f32 := fn_column_element_22 (F := F) main_v6 main_v8
  let main_v33 : FVec F S120x16384 .f32 := fn_column_element_23 (F := F) main_v6 main_v8
  let main_v34 : FVec F S120x16384 .f32 := fn_column_element_24 (F := F) main_v6 main_v8
  let main_v35 : FVec F S120x16384 .f32 := fn_column_element_25 (F := F) main_v6 main_v8
  let main_v36 : FVec F S120x16384 .f32 := fn_column_element_26 (F := F) main_v6 main_v8
  let main_v37 : FVec F S120x16384 .f32 := fn_column_element_27 (F := F) main_v6 main_v8
  let main_v38 : FVec F S120x16384 .f32 := fn_column_element_28 (F := F) main_v6 main_v8
  let main_v39 : FVec F S120x16384 .f32 := fn_column_element_29 (F := F) main_v6 main_v8
  let main_v40 : FVec F S120x16384 .f32 := fn_column_element_30 (F := F) main_v6 main_v8
  let main_v41 : FVec F S120x16384 .f32 := addf main_v9 main_v10
  let main_v42 : FVec F S120x16384 .f32 := subf main_v9 main_v10
  let main_v43 : FVec F S120x16384 .f32 := addf main_v11 main_v12
  let main_v44 : FVec F S120x16384 .f32 := subf main_v11 main_v12
  let main_v45 : FVec F S120x16384 .f32 := addf main_v41 main_v43
  fn_part2 (F := F) main_arg5 main_v13 main_v14 main_v15 main_v16 main_v17 main_v18 main_v19 main_v20 main_v21 main_v22 main_v23 main_v24 main_v25 main_v26 main_v27 main_v28 main_v29 main_v30 main_v31 main_v32 main_v33 main_v34 main_v35 main_v36 main_v37 main_v38 main_v39 main_v40 main_v41 main_v42 main_v43 main_v44 main_v45

def fn {F : FTy → Type} [BitOps F] (main_arg0 : FVec F S3x1280x16384 .bf16) (main_arg1 : FVec F S3x1280 .f32) (main_arg2 : IVec S3x1280x16384 8) (main_arg3 : FVec F S3840x16384 .bf16) (main_arg4 : IVec S1920x16384 8) (main_arg5 : IVec S3x40x16384 8) : IVec S3x40x16384 1 :=
  let main_v0 : FVec F S3840x16384 .bf16 := shapeCast S3840x16384 main_arg0 shapeCasts_S3x1280x16384_S3840x16384
  let main_v1 : FVec F S3840 .f32 := shapeCast S3840 main_arg1 shapeCasts_S3x1280_S3840
  let main_v2 : IVec S3840x16384 16 := bitcastToInt main_v0
  let main_v3 : IVec S3840x16384 32 := (extui 32 · natLt_16_32) main_v2
  let main_c : IVec S_ 32 := constantI S_ 32 16#32
  let main_v4 : IVec S3840x16384 32 := broadcastInDim S3840x16384 ![] bcast_S_S3840x16384 main_c
  let main_v5 : IVec S3840x16384 32 := Host.shli main_v3 main_v4
  let main_v6 : FVec F S3840x16384 .f32 := bitcastToFloat .f32 main_v5
  let main_cst : FVec F S_ .f32 := constant S_ .f32 0x3E3504F3#32
  let main_v7 : FVec F S3840 .f32 := broadcastInDim S3840 ![] bcast_S_S3840 main_cst
  let main_v8 : FVec F S3840 .f32 := mulf main_v1 main_v7
  let main_v9 : FVec F S120x16384 .f32 := fn_column_element (F := F) main_v6 main_v8
  let main_v10 : FVec F S120x16384 .f32 := fn_column_element_0 (F := F) main_v6 main_v8
  let main_v11 : FVec F S120x16384 .f32 := fn_column_element_1 (F := F) main_v6 main_v8
  let main_v12 : FVec F S120x16384 .f32 := fn_column_element_2 (F := F) main_v6 main_v8
  let main_v13 : FVec F S120x16384 .f32 := fn_column_element_3 (F := F) main_v6 main_v8
  let main_v14 : FVec F S120x16384 .f32 := fn_column_element_4 (F := F) main_v6 main_v8
  let main_v15 : FVec F S120x16384 .f32 := fn_column_element_5 (F := F) main_v6 main_v8
  let main_v16 : FVec F S120x16384 .f32 := fn_column_element_6 (F := F) main_v6 main_v8
  let main_v17 : FVec F S120x16384 .f32 := fn_column_element_7 (F := F) main_v6 main_v8
  let main_v18 : FVec F S120x16384 .f32 := fn_column_element_8 (F := F) main_v6 main_v8
  let main_v19 : FVec F S120x16384 .f32 := fn_column_element_9 (F := F) main_v6 main_v8
  let main_v20 : FVec F S120x16384 .f32 := fn_column_element_10 (F := F) main_v6 main_v8
  let main_v21 : FVec F S120x16384 .f32 := fn_column_element_11 (F := F) main_v6 main_v8
  fn_part1 (F := F) main_arg5 main_v6 main_v8 main_v9 main_v10 main_v11 main_v12 main_v13 main_v14 main_v15 main_v16 main_v17 main_v18 main_v19 main_v20 main_v21
-- ==== Post_w_scales.lean ====
abbrev S6144x16384 : Shape := ⟨2, ![6144, 16384]⟩
abbrev S16384 : Shape := ⟨1, ![16384]⟩
abbrev S16384x6144 : Shape := ⟨2, ![16384, 6144]⟩
abbrev S6144x8192 : Shape := ⟨2, ![6144, 8192]⟩
abbrev S6144x512 : Shape := ⟨2, ![6144, 512]⟩
abbrev S_ : Shape := ⟨0, ![]⟩
abbrev S512 : Shape := ⟨1, ![512]⟩
abbrev S1x512 : Shape := ⟨2, ![1, 512]⟩

class Facts : Prop where
  natLt_16_32 : 16 < 32
  bcast_S_S6144x16384 : S_.BroadcastsInDim S6144x16384 (![] : Fin 0 → Fin S6144x16384.rank)
  bcast_S_S16384 : S_.BroadcastsInDim S16384 (![] : Fin 0 → Fin S16384.rank)
  slicesBy_S6144x16384_S6144x512_0s1_0s32 : S6144x16384.SlicesBy (![0, 0] : Fin 2 → Nat) ![1, 32] S6144x512
  slicesBy_S16384_S512_0s32 : S16384.SlicesBy (![0] : Fin 1 → Nat) ![32] S512
  bcast_S512_S1x512_1 : S512.BroadcastsInDim S1x512 (![1] : Fin 1 → Fin S1x512.rank)
  bcast_S1x512_S6144x512_0_1 : S1x512.BroadcastsInDim S6144x512 (![0, 1] : Fin 2 → Fin S6144x512.rank)
  slicesBy_S6144x16384_S6144x512_0s1_1s32 : S6144x16384.SlicesBy (![0, 1] : Fin 2 → Nat) ![1, 32] S6144x512
  slicesBy_S16384_S512_1s32 : S16384.SlicesBy (![1] : Fin 1 → Nat) ![32] S512
  slicesBy_S6144x16384_S6144x512_0s1_2s32 : S6144x16384.SlicesBy (![0, 2] : Fin 2 → Nat) ![1, 32] S6144x512
  slicesBy_S16384_S512_2s32 : S16384.SlicesBy (![2] : Fin 1 → Nat) ![32] S512
  slicesBy_S6144x16384_S6144x512_0s1_3s32 : S6144x16384.SlicesBy (![0, 3] : Fin 2 → Nat) ![1, 32] S6144x512
  slicesBy_S16384_S512_3s32 : S16384.SlicesBy (![3] : Fin 1 → Nat) ![32] S512
  slicesBy_S6144x16384_S6144x512_0s1_4s32 : S6144x16384.SlicesBy (![0, 4] : Fin 2 → Nat) ![1, 32] S6144x512
  slicesBy_S16384_S512_4s32 : S16384.SlicesBy (![4] : Fin 1 → Nat) ![32] S512
  slicesBy_S6144x16384_S6144x512_0s1_5s32 : S6144x16384.SlicesBy (![0, 5] : Fin 2 → Nat) ![1, 32] S6144x512
  slicesBy_S16384_S512_5s32 : S16384.SlicesBy (![5] : Fin 1 → Nat) ![32] S512
  slicesBy_S6144x16384_S6144x512_0s1_6s32 : S6144x16384.SlicesBy (![0, 6] : Fin 2 → Nat) ![1, 32] S6144x512
  slicesBy_S16384_S512_6s32 : S16384.SlicesBy (![6] : Fin 1 → Nat) ![32] S512
  slicesBy_S6144x16384_S6144x512_0s1_7s32 : S6144x16384.SlicesBy (![0, 7] : Fin 2 → Nat) ![1, 32] S6144x512
  slicesBy_S16384_S512_7s32 : S16384.SlicesBy (![7] : Fin 1 → Nat) ![32] S512
  slicesBy_S6144x16384_S6144x512_0s1_8s32 : S6144x16384.SlicesBy (![0, 8] : Fin 2 → Nat) ![1, 32] S6144x512
  slicesBy_S16384_S512_8s32 : S16384.SlicesBy (![8] : Fin 1 → Nat) ![32] S512
  slicesBy_S6144x16384_S6144x512_0s1_9s32 : S6144x16384.SlicesBy (![0, 9] : Fin 2 → Nat) ![1, 32] S6144x512
  slicesBy_S16384_S512_9s32 : S16384.SlicesBy (![9] : Fin 1 → Nat) ![32] S512
  slicesBy_S6144x16384_S6144x512_0s1_10s32 : S6144x16384.SlicesBy (![0, 10] : Fin 2 → Nat) ![1, 32] S6144x512
  slicesBy_S16384_S512_10s32 : S16384.SlicesBy (![10] : Fin 1 → Nat) ![32] S512
  slicesBy_S6144x16384_S6144x512_0s1_11s32 : S6144x16384.SlicesBy (![0, 11] : Fin 2 → Nat) ![1, 32] S6144x512
  slicesBy_S16384_S512_11s32 : S16384.SlicesBy (![11] : Fin 1 → Nat) ![32] S512
  slicesBy_S6144x16384_S6144x512_0s1_12s32 : S6144x16384.SlicesBy (![0, 12] : Fin 2 → Nat) ![1, 32] S6144x512
  slicesBy_S16384_S512_12s32 : S16384.SlicesBy (![12] : Fin 1 → Nat) ![32] S512
  slicesBy_S6144x16384_S6144x512_0s1_13s32 : S6144x16384.SlicesBy (![0, 13] : Fin 2 → Nat) ![1, 32] S6144x512
  slicesBy_S16384_S512_13s32 : S16384.SlicesBy (![13] : Fin 1 → Nat) ![32] S512
  slicesBy_S6144x16384_S6144x512_0s1_14s32 : S6144x16384.SlicesBy (![0, 14] : Fin 2 → Nat) ![1, 32] S6144x512
  slicesBy_S16384_S512_14s32 : S16384.SlicesBy (![14] : Fin 1 → Nat) ![32] S512
  slicesBy_S6144x16384_S6144x512_0s1_15s32 : S6144x16384.SlicesBy (![0, 15] : Fin 2 → Nat) ![1, 32] S6144x512
  slicesBy_S16384_S512_15s32 : S16384.SlicesBy (![15] : Fin 1 → Nat) ![32] S512
  slicesBy_S6144x16384_S6144x512_0s1_16s32 : S6144x16384.SlicesBy (![0, 16] : Fin 2 → Nat) ![1, 32] S6144x512
  slicesBy_S16384_S512_16s32 : S16384.SlicesBy (![16] : Fin 1 → Nat) ![32] S512
  slicesBy_S6144x16384_S6144x512_0s1_17s32 : S6144x16384.SlicesBy (![0, 17] : Fin 2 → Nat) ![1, 32] S6144x512
  slicesBy_S16384_S512_17s32 : S16384.SlicesBy (![17] : Fin 1 → Nat) ![32] S512
  slicesBy_S6144x16384_S6144x512_0s1_18s32 : S6144x16384.SlicesBy (![0, 18] : Fin 2 → Nat) ![1, 32] S6144x512
  slicesBy_S16384_S512_18s32 : S16384.SlicesBy (![18] : Fin 1 → Nat) ![32] S512
  slicesBy_S6144x16384_S6144x512_0s1_19s32 : S6144x16384.SlicesBy (![0, 19] : Fin 2 → Nat) ![1, 32] S6144x512
  slicesBy_S16384_S512_19s32 : S16384.SlicesBy (![19] : Fin 1 → Nat) ![32] S512
  slicesBy_S6144x16384_S6144x512_0s1_20s32 : S6144x16384.SlicesBy (![0, 20] : Fin 2 → Nat) ![1, 32] S6144x512
  slicesBy_S16384_S512_20s32 : S16384.SlicesBy (![20] : Fin 1 → Nat) ![32] S512
  slicesBy_S6144x16384_S6144x512_0s1_21s32 : S6144x16384.SlicesBy (![0, 21] : Fin 2 → Nat) ![1, 32] S6144x512
  slicesBy_S16384_S512_21s32 : S16384.SlicesBy (![21] : Fin 1 → Nat) ![32] S512
  slicesBy_S6144x16384_S6144x512_0s1_22s32 : S6144x16384.SlicesBy (![0, 22] : Fin 2 → Nat) ![1, 32] S6144x512
  slicesBy_S16384_S512_22s32 : S16384.SlicesBy (![22] : Fin 1 → Nat) ![32] S512
  slicesBy_S6144x16384_S6144x512_0s1_23s32 : S6144x16384.SlicesBy (![0, 23] : Fin 2 → Nat) ![1, 32] S6144x512
  slicesBy_S16384_S512_23s32 : S16384.SlicesBy (![23] : Fin 1 → Nat) ![32] S512
  slicesBy_S6144x16384_S6144x512_0s1_24s32 : S6144x16384.SlicesBy (![0, 24] : Fin 2 → Nat) ![1, 32] S6144x512
  slicesBy_S16384_S512_24s32 : S16384.SlicesBy (![24] : Fin 1 → Nat) ![32] S512
  slicesBy_S6144x16384_S6144x512_0s1_25s32 : S6144x16384.SlicesBy (![0, 25] : Fin 2 → Nat) ![1, 32] S6144x512
  slicesBy_S16384_S512_25s32 : S16384.SlicesBy (![25] : Fin 1 → Nat) ![32] S512
  slicesBy_S6144x16384_S6144x512_0s1_26s32 : S6144x16384.SlicesBy (![0, 26] : Fin 2 → Nat) ![1, 32] S6144x512
  slicesBy_S16384_S512_26s32 : S16384.SlicesBy (![26] : Fin 1 → Nat) ![32] S512
  slicesBy_S6144x16384_S6144x512_0s1_27s32 : S6144x16384.SlicesBy (![0, 27] : Fin 2 → Nat) ![1, 32] S6144x512
  slicesBy_S16384_S512_27s32 : S16384.SlicesBy (![27] : Fin 1 → Nat) ![32] S512
  slicesBy_S6144x16384_S6144x512_0s1_28s32 : S6144x16384.SlicesBy (![0, 28] : Fin 2 → Nat) ![1, 32] S6144x512
  slicesBy_S16384_S512_28s32 : S16384.SlicesBy (![28] : Fin 1 → Nat) ![32] S512
  slicesBy_S6144x16384_S6144x512_0s1_29s32 : S6144x16384.SlicesBy (![0, 29] : Fin 2 → Nat) ![1, 32] S6144x512
  slicesBy_S16384_S512_29s32 : S16384.SlicesBy (![29] : Fin 1 → Nat) ![32] S512
  slicesBy_S6144x16384_S6144x512_0s1_30s32 : S6144x16384.SlicesBy (![0, 30] : Fin 2 → Nat) ![1, 32] S6144x512
  slicesBy_S16384_S512_30s32 : S16384.SlicesBy (![30] : Fin 1 → Nat) ![32] S512
  slicesBy_S6144x16384_S6144x512_0s1_31s32 : S6144x16384.SlicesBy (![0, 31] : Fin 2 → Nat) ![1, 32] S6144x512
  slicesBy_S16384_S512_31s32 : S16384.SlicesBy (![31] : Fin 1 → Nat) ![32] S512
  bcast_S_S6144x512 : S_.BroadcastsInDim S6144x512 (![] : Fin 0 → Fin S6144x512.rank)
  natLt_8_32 : 8 < 32

variable [Facts]

def fn_row_element {F : FTy → Type} [BitOps F] (arg0 : FVec F S6144x16384 .f32) (arg1 : FVec F S16384 .f32) : FVec F S6144x512 .f32 :=
  let v0 : FVec F S6144x512 .f32 := (Host.slice S6144x512 ![0, 0] ![1, 32] · slicesBy_S6144x16384_S6144x512_0s1_0s32) arg0
  let v1 : FVec F S512 .f32 := (Host.slice S512 ![0] ![32] · slicesBy_S16384_S512_0s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_0 {F : FTy → Type} [BitOps F] (arg0 : FVec F S6144x16384 .f32) (arg1 : FVec F S16384 .f32) : FVec F S6144x512 .f32 :=
  let v0 : FVec F S6144x512 .f32 := (Host.slice S6144x512 ![0, 1] ![1, 32] · slicesBy_S6144x16384_S6144x512_0s1_1s32) arg0
  let v1 : FVec F S512 .f32 := (Host.slice S512 ![1] ![32] · slicesBy_S16384_S512_1s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_1 {F : FTy → Type} [BitOps F] (arg0 : FVec F S6144x16384 .f32) (arg1 : FVec F S16384 .f32) : FVec F S6144x512 .f32 :=
  let v0 : FVec F S6144x512 .f32 := (Host.slice S6144x512 ![0, 2] ![1, 32] · slicesBy_S6144x16384_S6144x512_0s1_2s32) arg0
  let v1 : FVec F S512 .f32 := (Host.slice S512 ![2] ![32] · slicesBy_S16384_S512_2s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_2 {F : FTy → Type} [BitOps F] (arg0 : FVec F S6144x16384 .f32) (arg1 : FVec F S16384 .f32) : FVec F S6144x512 .f32 :=
  let v0 : FVec F S6144x512 .f32 := (Host.slice S6144x512 ![0, 3] ![1, 32] · slicesBy_S6144x16384_S6144x512_0s1_3s32) arg0
  let v1 : FVec F S512 .f32 := (Host.slice S512 ![3] ![32] · slicesBy_S16384_S512_3s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_3 {F : FTy → Type} [BitOps F] (arg0 : FVec F S6144x16384 .f32) (arg1 : FVec F S16384 .f32) : FVec F S6144x512 .f32 :=
  let v0 : FVec F S6144x512 .f32 := (Host.slice S6144x512 ![0, 4] ![1, 32] · slicesBy_S6144x16384_S6144x512_0s1_4s32) arg0
  let v1 : FVec F S512 .f32 := (Host.slice S512 ![4] ![32] · slicesBy_S16384_S512_4s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_4 {F : FTy → Type} [BitOps F] (arg0 : FVec F S6144x16384 .f32) (arg1 : FVec F S16384 .f32) : FVec F S6144x512 .f32 :=
  let v0 : FVec F S6144x512 .f32 := (Host.slice S6144x512 ![0, 5] ![1, 32] · slicesBy_S6144x16384_S6144x512_0s1_5s32) arg0
  let v1 : FVec F S512 .f32 := (Host.slice S512 ![5] ![32] · slicesBy_S16384_S512_5s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_5 {F : FTy → Type} [BitOps F] (arg0 : FVec F S6144x16384 .f32) (arg1 : FVec F S16384 .f32) : FVec F S6144x512 .f32 :=
  let v0 : FVec F S6144x512 .f32 := (Host.slice S6144x512 ![0, 6] ![1, 32] · slicesBy_S6144x16384_S6144x512_0s1_6s32) arg0
  let v1 : FVec F S512 .f32 := (Host.slice S512 ![6] ![32] · slicesBy_S16384_S512_6s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_6 {F : FTy → Type} [BitOps F] (arg0 : FVec F S6144x16384 .f32) (arg1 : FVec F S16384 .f32) : FVec F S6144x512 .f32 :=
  let v0 : FVec F S6144x512 .f32 := (Host.slice S6144x512 ![0, 7] ![1, 32] · slicesBy_S6144x16384_S6144x512_0s1_7s32) arg0
  let v1 : FVec F S512 .f32 := (Host.slice S512 ![7] ![32] · slicesBy_S16384_S512_7s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_7 {F : FTy → Type} [BitOps F] (arg0 : FVec F S6144x16384 .f32) (arg1 : FVec F S16384 .f32) : FVec F S6144x512 .f32 :=
  let v0 : FVec F S6144x512 .f32 := (Host.slice S6144x512 ![0, 8] ![1, 32] · slicesBy_S6144x16384_S6144x512_0s1_8s32) arg0
  let v1 : FVec F S512 .f32 := (Host.slice S512 ![8] ![32] · slicesBy_S16384_S512_8s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_8 {F : FTy → Type} [BitOps F] (arg0 : FVec F S6144x16384 .f32) (arg1 : FVec F S16384 .f32) : FVec F S6144x512 .f32 :=
  let v0 : FVec F S6144x512 .f32 := (Host.slice S6144x512 ![0, 9] ![1, 32] · slicesBy_S6144x16384_S6144x512_0s1_9s32) arg0
  let v1 : FVec F S512 .f32 := (Host.slice S512 ![9] ![32] · slicesBy_S16384_S512_9s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_9 {F : FTy → Type} [BitOps F] (arg0 : FVec F S6144x16384 .f32) (arg1 : FVec F S16384 .f32) : FVec F S6144x512 .f32 :=
  let v0 : FVec F S6144x512 .f32 := (Host.slice S6144x512 ![0, 10] ![1, 32] · slicesBy_S6144x16384_S6144x512_0s1_10s32) arg0
  let v1 : FVec F S512 .f32 := (Host.slice S512 ![10] ![32] · slicesBy_S16384_S512_10s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_10 {F : FTy → Type} [BitOps F] (arg0 : FVec F S6144x16384 .f32) (arg1 : FVec F S16384 .f32) : FVec F S6144x512 .f32 :=
  let v0 : FVec F S6144x512 .f32 := (Host.slice S6144x512 ![0, 11] ![1, 32] · slicesBy_S6144x16384_S6144x512_0s1_11s32) arg0
  let v1 : FVec F S512 .f32 := (Host.slice S512 ![11] ![32] · slicesBy_S16384_S512_11s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_11 {F : FTy → Type} [BitOps F] (arg0 : FVec F S6144x16384 .f32) (arg1 : FVec F S16384 .f32) : FVec F S6144x512 .f32 :=
  let v0 : FVec F S6144x512 .f32 := (Host.slice S6144x512 ![0, 12] ![1, 32] · slicesBy_S6144x16384_S6144x512_0s1_12s32) arg0
  let v1 : FVec F S512 .f32 := (Host.slice S512 ![12] ![32] · slicesBy_S16384_S512_12s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_12 {F : FTy → Type} [BitOps F] (arg0 : FVec F S6144x16384 .f32) (arg1 : FVec F S16384 .f32) : FVec F S6144x512 .f32 :=
  let v0 : FVec F S6144x512 .f32 := (Host.slice S6144x512 ![0, 13] ![1, 32] · slicesBy_S6144x16384_S6144x512_0s1_13s32) arg0
  let v1 : FVec F S512 .f32 := (Host.slice S512 ![13] ![32] · slicesBy_S16384_S512_13s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_13 {F : FTy → Type} [BitOps F] (arg0 : FVec F S6144x16384 .f32) (arg1 : FVec F S16384 .f32) : FVec F S6144x512 .f32 :=
  let v0 : FVec F S6144x512 .f32 := (Host.slice S6144x512 ![0, 14] ![1, 32] · slicesBy_S6144x16384_S6144x512_0s1_14s32) arg0
  let v1 : FVec F S512 .f32 := (Host.slice S512 ![14] ![32] · slicesBy_S16384_S512_14s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_14 {F : FTy → Type} [BitOps F] (arg0 : FVec F S6144x16384 .f32) (arg1 : FVec F S16384 .f32) : FVec F S6144x512 .f32 :=
  let v0 : FVec F S6144x512 .f32 := (Host.slice S6144x512 ![0, 15] ![1, 32] · slicesBy_S6144x16384_S6144x512_0s1_15s32) arg0
  let v1 : FVec F S512 .f32 := (Host.slice S512 ![15] ![32] · slicesBy_S16384_S512_15s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_15 {F : FTy → Type} [BitOps F] (arg0 : FVec F S6144x16384 .f32) (arg1 : FVec F S16384 .f32) : FVec F S6144x512 .f32 :=
  let v0 : FVec F S6144x512 .f32 := (Host.slice S6144x512 ![0, 16] ![1, 32] · slicesBy_S6144x16384_S6144x512_0s1_16s32) arg0
  let v1 : FVec F S512 .f32 := (Host.slice S512 ![16] ![32] · slicesBy_S16384_S512_16s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_16 {F : FTy → Type} [BitOps F] (arg0 : FVec F S6144x16384 .f32) (arg1 : FVec F S16384 .f32) : FVec F S6144x512 .f32 :=
  let v0 : FVec F S6144x512 .f32 := (Host.slice S6144x512 ![0, 17] ![1, 32] · slicesBy_S6144x16384_S6144x512_0s1_17s32) arg0
  let v1 : FVec F S512 .f32 := (Host.slice S512 ![17] ![32] · slicesBy_S16384_S512_17s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_17 {F : FTy → Type} [BitOps F] (arg0 : FVec F S6144x16384 .f32) (arg1 : FVec F S16384 .f32) : FVec F S6144x512 .f32 :=
  let v0 : FVec F S6144x512 .f32 := (Host.slice S6144x512 ![0, 18] ![1, 32] · slicesBy_S6144x16384_S6144x512_0s1_18s32) arg0
  let v1 : FVec F S512 .f32 := (Host.slice S512 ![18] ![32] · slicesBy_S16384_S512_18s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_18 {F : FTy → Type} [BitOps F] (arg0 : FVec F S6144x16384 .f32) (arg1 : FVec F S16384 .f32) : FVec F S6144x512 .f32 :=
  let v0 : FVec F S6144x512 .f32 := (Host.slice S6144x512 ![0, 19] ![1, 32] · slicesBy_S6144x16384_S6144x512_0s1_19s32) arg0
  let v1 : FVec F S512 .f32 := (Host.slice S512 ![19] ![32] · slicesBy_S16384_S512_19s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_19 {F : FTy → Type} [BitOps F] (arg0 : FVec F S6144x16384 .f32) (arg1 : FVec F S16384 .f32) : FVec F S6144x512 .f32 :=
  let v0 : FVec F S6144x512 .f32 := (Host.slice S6144x512 ![0, 20] ![1, 32] · slicesBy_S6144x16384_S6144x512_0s1_20s32) arg0
  let v1 : FVec F S512 .f32 := (Host.slice S512 ![20] ![32] · slicesBy_S16384_S512_20s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_20 {F : FTy → Type} [BitOps F] (arg0 : FVec F S6144x16384 .f32) (arg1 : FVec F S16384 .f32) : FVec F S6144x512 .f32 :=
  let v0 : FVec F S6144x512 .f32 := (Host.slice S6144x512 ![0, 21] ![1, 32] · slicesBy_S6144x16384_S6144x512_0s1_21s32) arg0
  let v1 : FVec F S512 .f32 := (Host.slice S512 ![21] ![32] · slicesBy_S16384_S512_21s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_21 {F : FTy → Type} [BitOps F] (arg0 : FVec F S6144x16384 .f32) (arg1 : FVec F S16384 .f32) : FVec F S6144x512 .f32 :=
  let v0 : FVec F S6144x512 .f32 := (Host.slice S6144x512 ![0, 22] ![1, 32] · slicesBy_S6144x16384_S6144x512_0s1_22s32) arg0
  let v1 : FVec F S512 .f32 := (Host.slice S512 ![22] ![32] · slicesBy_S16384_S512_22s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_22 {F : FTy → Type} [BitOps F] (arg0 : FVec F S6144x16384 .f32) (arg1 : FVec F S16384 .f32) : FVec F S6144x512 .f32 :=
  let v0 : FVec F S6144x512 .f32 := (Host.slice S6144x512 ![0, 23] ![1, 32] · slicesBy_S6144x16384_S6144x512_0s1_23s32) arg0
  let v1 : FVec F S512 .f32 := (Host.slice S512 ![23] ![32] · slicesBy_S16384_S512_23s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_23 {F : FTy → Type} [BitOps F] (arg0 : FVec F S6144x16384 .f32) (arg1 : FVec F S16384 .f32) : FVec F S6144x512 .f32 :=
  let v0 : FVec F S6144x512 .f32 := (Host.slice S6144x512 ![0, 24] ![1, 32] · slicesBy_S6144x16384_S6144x512_0s1_24s32) arg0
  let v1 : FVec F S512 .f32 := (Host.slice S512 ![24] ![32] · slicesBy_S16384_S512_24s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_24 {F : FTy → Type} [BitOps F] (arg0 : FVec F S6144x16384 .f32) (arg1 : FVec F S16384 .f32) : FVec F S6144x512 .f32 :=
  let v0 : FVec F S6144x512 .f32 := (Host.slice S6144x512 ![0, 25] ![1, 32] · slicesBy_S6144x16384_S6144x512_0s1_25s32) arg0
  let v1 : FVec F S512 .f32 := (Host.slice S512 ![25] ![32] · slicesBy_S16384_S512_25s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_25 {F : FTy → Type} [BitOps F] (arg0 : FVec F S6144x16384 .f32) (arg1 : FVec F S16384 .f32) : FVec F S6144x512 .f32 :=
  let v0 : FVec F S6144x512 .f32 := (Host.slice S6144x512 ![0, 26] ![1, 32] · slicesBy_S6144x16384_S6144x512_0s1_26s32) arg0
  let v1 : FVec F S512 .f32 := (Host.slice S512 ![26] ![32] · slicesBy_S16384_S512_26s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_26 {F : FTy → Type} [BitOps F] (arg0 : FVec F S6144x16384 .f32) (arg1 : FVec F S16384 .f32) : FVec F S6144x512 .f32 :=
  let v0 : FVec F S6144x512 .f32 := (Host.slice S6144x512 ![0, 27] ![1, 32] · slicesBy_S6144x16384_S6144x512_0s1_27s32) arg0
  let v1 : FVec F S512 .f32 := (Host.slice S512 ![27] ![32] · slicesBy_S16384_S512_27s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_27 {F : FTy → Type} [BitOps F] (arg0 : FVec F S6144x16384 .f32) (arg1 : FVec F S16384 .f32) : FVec F S6144x512 .f32 :=
  let v0 : FVec F S6144x512 .f32 := (Host.slice S6144x512 ![0, 28] ![1, 32] · slicesBy_S6144x16384_S6144x512_0s1_28s32) arg0
  let v1 : FVec F S512 .f32 := (Host.slice S512 ![28] ![32] · slicesBy_S16384_S512_28s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_28 {F : FTy → Type} [BitOps F] (arg0 : FVec F S6144x16384 .f32) (arg1 : FVec F S16384 .f32) : FVec F S6144x512 .f32 :=
  let v0 : FVec F S6144x512 .f32 := (Host.slice S6144x512 ![0, 29] ![1, 32] · slicesBy_S6144x16384_S6144x512_0s1_29s32) arg0
  let v1 : FVec F S512 .f32 := (Host.slice S512 ![29] ![32] · slicesBy_S16384_S512_29s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_29 {F : FTy → Type} [BitOps F] (arg0 : FVec F S6144x16384 .f32) (arg1 : FVec F S16384 .f32) : FVec F S6144x512 .f32 :=
  let v0 : FVec F S6144x512 .f32 := (Host.slice S6144x512 ![0, 30] ![1, 32] · slicesBy_S6144x16384_S6144x512_0s1_30s32) arg0
  let v1 : FVec F S512 .f32 := (Host.slice S512 ![30] ![32] · slicesBy_S16384_S512_30s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_row_element_30 {F : FTy → Type} [BitOps F] (arg0 : FVec F S6144x16384 .f32) (arg1 : FVec F S16384 .f32) : FVec F S6144x512 .f32 :=
  let v0 : FVec F S6144x512 .f32 := (Host.slice S6144x512 ![0, 31] ![1, 32] · slicesBy_S6144x16384_S6144x512_0s1_31s32) arg0
  let v1 : FVec F S512 .f32 := (Host.slice S512 ![31] ![32] · slicesBy_S16384_S512_31s32) arg1
  let v2 : FVec F S1x512 .f32 := broadcastInDim S1x512 ![1] bcast_S512_S1x512_1 v1
  let v3 : FVec F S6144x512 .f32 := broadcastInDim S6144x512 ![0, 1] bcast_S1x512_S6144x512_0_1 v2
  let v4 : FVec F S6144x512 .f32 := mulf v0 v3
  v4

def fn_where {F : FTy → Type} [BitOps F] (arg0 : IVec S6144x512 1) (arg1 : IVec S_ 32) (arg2 : IVec S6144x512 32) : IVec S6144x512 32 :=
  let v0 : IVec S_ 32 := id arg1
  let v1 : IVec S6144x512 32 := broadcastInDim S6144x512 ![] bcast_S_S6144x512 v0
  let v2 : IVec S6144x512 32 := select arg0 v1 arg2
  v2

def fn_part11 {F : FTy → Type} [BitOps F] (main_arg5 : IVec S6144x512 8) (main_v261 : FVec F S6144x512 .f32) : IVec S6144x512 1 :=
  let main_v262 : IVec S6144x512 32 := bitcastToInt main_v261
  let main_c_0 : IVec S_ 32 := constantI S_ 32 23#32
  let main_v263 : IVec S6144x512 32 := broadcastInDim S6144x512 ![] bcast_S_S6144x512 main_c_0
  let main_v264 : IVec S6144x512 32 := Host.shrui main_v262 main_v263
  let main_v265 : IVec S6144x512 32 := id main_v264
  let main_c_1 : IVec S_ 32 := constantI S_ 32 0#32
  let main_v266 : IVec S6144x512 32 := broadcastInDim S6144x512 ![] bcast_S_S6144x512 main_c_1
  let main_v267 : IVec S6144x512 1 := cmpi .eq main_v265 main_v266
  let main_c_2 : IVec S_ 32 := constantI S_ 32 129#32
  let main_v268 : IVec S6144x512 32 := broadcastInDim S6144x512 ![] bcast_S_S6144x512 main_c_2
  let main_v269 : IVec S6144x512 32 := subi main_v265 main_v268
  let main_c_3 : IVec S_ 32 := constantI S_ 32 0#32
  let main_v270 : IVec S6144x512 32 := fn_where (F := F) main_v267 main_c_3 main_v269
  let main_v271 : IVec S6144x512 8 := (trunci 8 · natLt_8_32) main_v270
  let main_v272 : IVec S6144x512 1 := cmpi .eq main_arg5 main_v271
  main_v272

def fn_part10 {F : FTy → Type} [BitOps F] (main_arg5 : IVec S6144x512 8) (main_v207 : FVec F S6144x512 .f32) (main_v208 : FVec F S6144x512 .f32) (main_v209 : FVec F S6144x512 .f32) (main_v210 : FVec F S6144x512 .f32) (main_v211 : FVec F S6144x512 .f32) (main_v212 : FVec F S6144x512 .f32) (main_v213 : FVec F S6144x512 .f32) (main_v214 : FVec F S6144x512 .f32) (main_v215 : FVec F S6144x512 .f32) (main_v216 : FVec F S6144x512 .f32) (main_v217 : FVec F S6144x512 .f32) (main_v218 : FVec F S6144x512 .f32) (main_v219 : FVec F S6144x512 .f32) (main_v220 : FVec F S6144x512 .f32) (main_v221 : FVec F S6144x512 .f32) (main_v222 : FVec F S6144x512 .f32) (main_v223 : FVec F S6144x512 .f32) (main_v224 : FVec F S6144x512 .f32) (main_v225 : FVec F S6144x512 .f32) (main_v226 : FVec F S6144x512 .f32) (main_v227 : FVec F S6144x512 .f32) (main_v228 : FVec F S6144x512 .f32) (main_v229 : FVec F S6144x512 .f32) (main_v230 : FVec F S6144x512 .f32) (main_v237 : FVec F S6144x512 .f32) : IVec S6144x512 1 :=
  let main_v238 : FVec F S6144x512 .f32 := maximumf main_v237 main_v207
  let main_v239 : FVec F S6144x512 .f32 := maximumf main_v238 main_v208
  let main_v240 : FVec F S6144x512 .f32 := maximumf main_v239 main_v209
  let main_v241 : FVec F S6144x512 .f32 := maximumf main_v240 main_v210
  let main_v242 : FVec F S6144x512 .f32 := maximumf main_v241 main_v211
  let main_v243 : FVec F S6144x512 .f32 := maximumf main_v242 main_v212
  let main_v244 : FVec F S6144x512 .f32 := maximumf main_v243 main_v213
  let main_v245 : FVec F S6144x512 .f32 := maximumf main_v244 main_v214
  let main_v246 : FVec F S6144x512 .f32 := maximumf main_v245 main_v215
  let main_v247 : FVec F S6144x512 .f32 := maximumf main_v246 main_v216
  let main_v248 : FVec F S6144x512 .f32 := maximumf main_v247 main_v217
  let main_v249 : FVec F S6144x512 .f32 := maximumf main_v248 main_v218
  let main_v250 : FVec F S6144x512 .f32 := maximumf main_v249 main_v219
  let main_v251 : FVec F S6144x512 .f32 := maximumf main_v250 main_v220
  let main_v252 : FVec F S6144x512 .f32 := maximumf main_v251 main_v221
  let main_v253 : FVec F S6144x512 .f32 := maximumf main_v252 main_v222
  let main_v254 : FVec F S6144x512 .f32 := maximumf main_v253 main_v223
  let main_v255 : FVec F S6144x512 .f32 := maximumf main_v254 main_v224
  let main_v256 : FVec F S6144x512 .f32 := maximumf main_v255 main_v225
  let main_v257 : FVec F S6144x512 .f32 := maximumf main_v256 main_v226
  let main_v258 : FVec F S6144x512 .f32 := maximumf main_v257 main_v227
  let main_v259 : FVec F S6144x512 .f32 := maximumf main_v258 main_v228
  let main_v260 : FVec F S6144x512 .f32 := maximumf main_v259 main_v229
  let main_v261 : FVec F S6144x512 .f32 := maximumf main_v260 main_v230
  fn_part11 (F := F) main_arg5 main_v261

def fn_part9 {F : FTy → Type} [BitOps F] (main_arg5 : IVec S6144x512 8) (main_v182 : FVec F S6144x512 .f32) (main_v183 : FVec F S6144x512 .f32) (main_v184 : FVec F S6144x512 .f32) (main_v185 : FVec F S6144x512 .f32) (main_v186 : FVec F S6144x512 .f32) (main_v187 : FVec F S6144x512 .f32) (main_v188 : FVec F S6144x512 .f32) (main_v189 : FVec F S6144x512 .f32) (main_v190 : FVec F S6144x512 .f32) (main_v191 : FVec F S6144x512 .f32) (main_v192 : FVec F S6144x512 .f32) (main_v193 : FVec F S6144x512 .f32) (main_v194 : FVec F S6144x512 .f32) (main_v195 : FVec F S6144x512 .f32) (main_v196 : FVec F S6144x512 .f32) (main_v197 : FVec F S6144x512 .f32) (main_v198 : FVec F S6144x512 .f32) (main_v199 : FVec F S6144x512 .f32) (main_v200 : FVec F S6144x512 .f32) (main_v201 : FVec F S6144x512 .f32) (main_v202 : FVec F S6144x512 .f32) (main_v203 : FVec F S6144x512 .f32) (main_v204 : FVec F S6144x512 .f32) (main_v205 : FVec F S6144x512 .f32) (main_v206 : FVec F S6144x512 .f32) (main_v207 : FVec F S6144x512 .f32) (main_v208 : FVec F S6144x512 .f32) (main_v209 : FVec F S6144x512 .f32) (main_v210 : FVec F S6144x512 .f32) (main_v211 : FVec F S6144x512 .f32) (main_v212 : FVec F S6144x512 .f32) (main_v213 : FVec F S6144x512 .f32) : IVec S6144x512 1 :=
  let main_v214 : FVec F S6144x512 .f32 := Host.absf main_v182
  let main_v215 : FVec F S6144x512 .f32 := Host.absf main_v183
  let main_v216 : FVec F S6144x512 .f32 := Host.absf main_v184
  let main_v217 : FVec F S6144x512 .f32 := Host.absf main_v185
  let main_v218 : FVec F S6144x512 .f32 := Host.absf main_v186
  let main_v219 : FVec F S6144x512 .f32 := Host.absf main_v187
  let main_v220 : FVec F S6144x512 .f32 := Host.absf main_v188
  let main_v221 : FVec F S6144x512 .f32 := Host.absf main_v189
  let main_v222 : FVec F S6144x512 .f32 := Host.absf main_v190
  let main_v223 : FVec F S6144x512 .f32 := Host.absf main_v191
  let main_v224 : FVec F S6144x512 .f32 := Host.absf main_v192
  let main_v225 : FVec F S6144x512 .f32 := Host.absf main_v193
  let main_v226 : FVec F S6144x512 .f32 := Host.absf main_v194
  let main_v227 : FVec F S6144x512 .f32 := Host.absf main_v195
  let main_v228 : FVec F S6144x512 .f32 := Host.absf main_v196
  let main_v229 : FVec F S6144x512 .f32 := Host.absf main_v197
  let main_v230 : FVec F S6144x512 .f32 := Host.absf main_v198
  let main_v231 : FVec F S6144x512 .f32 := maximumf main_v199 main_v200
  let main_v232 : FVec F S6144x512 .f32 := maximumf main_v231 main_v201
  let main_v233 : FVec F S6144x512 .f32 := maximumf main_v232 main_v202
  let main_v234 : FVec F S6144x512 .f32 := maximumf main_v233 main_v203
  let main_v235 : FVec F S6144x512 .f32 := maximumf main_v234 main_v204
  let main_v236 : FVec F S6144x512 .f32 := maximumf main_v235 main_v205
  let main_v237 : FVec F S6144x512 .f32 := maximumf main_v236 main_v206
  fn_part10 (F := F) main_arg5 main_v207 main_v208 main_v209 main_v210 main_v211 main_v212 main_v213 main_v214 main_v215 main_v216 main_v217 main_v218 main_v219 main_v220 main_v221 main_v222 main_v223 main_v224 main_v225 main_v226 main_v227 main_v228 main_v229 main_v230 main_v237

def fn_part8 {F : FTy → Type} [BitOps F] (main_arg5 : IVec S6144x512 8) (main_v94 : FVec F S6144x512 .f32) (main_v95 : FVec F S6144x512 .f32) (main_v96 : FVec F S6144x512 .f32) (main_v97 : FVec F S6144x512 .f32) (main_v98 : FVec F S6144x512 .f32) (main_v99 : FVec F S6144x512 .f32) (main_v100 : FVec F S6144x512 .f32) (main_v101 : FVec F S6144x512 .f32) (main_v102 : FVec F S6144x512 .f32) (main_v158 : FVec F S6144x512 .f32) (main_v159 : FVec F S6144x512 .f32) (main_v160 : FVec F S6144x512 .f32) (main_v161 : FVec F S6144x512 .f32) (main_v162 : FVec F S6144x512 .f32) (main_v163 : FVec F S6144x512 .f32) (main_v164 : FVec F S6144x512 .f32) (main_v165 : FVec F S6144x512 .f32) (main_v166 : FVec F S6144x512 .f32) (main_v167 : FVec F S6144x512 .f32) (main_v168 : FVec F S6144x512 .f32) (main_v169 : FVec F S6144x512 .f32) (main_v170 : FVec F S6144x512 .f32) (main_v171 : FVec F S6144x512 .f32) (main_v172 : FVec F S6144x512 .f32) (main_v173 : FVec F S6144x512 .f32) (main_v174 : FVec F S6144x512 .f32) (main_v175 : FVec F S6144x512 .f32) (main_v176 : FVec F S6144x512 .f32) (main_v177 : FVec F S6144x512 .f32) (main_v178 : FVec F S6144x512 .f32) (main_v179 : FVec F S6144x512 .f32) (main_v180 : FVec F S6144x512 .f32) (main_v181 : FVec F S6144x512 .f32) (main_v182 : FVec F S6144x512 .f32) (main_v183 : FVec F S6144x512 .f32) (main_v184 : FVec F S6144x512 .f32) (main_v185 : FVec F S6144x512 .f32) (main_v186 : FVec F S6144x512 .f32) (main_v187 : FVec F S6144x512 .f32) (main_v188 : FVec F S6144x512 .f32) (main_v189 : FVec F S6144x512 .f32) : IVec S6144x512 1 :=
  let main_v190 : FVec F S6144x512 .f32 := subf main_v94 main_v158
  let main_v191 : FVec F S6144x512 .f32 := subf main_v95 main_v159
  let main_v192 : FVec F S6144x512 .f32 := subf main_v96 main_v160
  let main_v193 : FVec F S6144x512 .f32 := subf main_v97 main_v161
  let main_v194 : FVec F S6144x512 .f32 := subf main_v98 main_v162
  let main_v195 : FVec F S6144x512 .f32 := subf main_v99 main_v163
  let main_v196 : FVec F S6144x512 .f32 := subf main_v100 main_v164
  let main_v197 : FVec F S6144x512 .f32 := subf main_v101 main_v165
  let main_v198 : FVec F S6144x512 .f32 := subf main_v102 main_v166
  let main_v199 : FVec F S6144x512 .f32 := Host.absf main_v167
  let main_v200 : FVec F S6144x512 .f32 := Host.absf main_v168
  let main_v201 : FVec F S6144x512 .f32 := Host.absf main_v169
  let main_v202 : FVec F S6144x512 .f32 := Host.absf main_v170
  let main_v203 : FVec F S6144x512 .f32 := Host.absf main_v171
  let main_v204 : FVec F S6144x512 .f32 := Host.absf main_v172
  let main_v205 : FVec F S6144x512 .f32 := Host.absf main_v173
  let main_v206 : FVec F S6144x512 .f32 := Host.absf main_v174
  let main_v207 : FVec F S6144x512 .f32 := Host.absf main_v175
  let main_v208 : FVec F S6144x512 .f32 := Host.absf main_v176
  let main_v209 : FVec F S6144x512 .f32 := Host.absf main_v177
  let main_v210 : FVec F S6144x512 .f32 := Host.absf main_v178
  let main_v211 : FVec F S6144x512 .f32 := Host.absf main_v179
  let main_v212 : FVec F S6144x512 .f32 := Host.absf main_v180
  let main_v213 : FVec F S6144x512 .f32 := Host.absf main_v181
  fn_part9 (F := F) main_arg5 main_v182 main_v183 main_v184 main_v185 main_v186 main_v187 main_v188 main_v189 main_v190 main_v191 main_v192 main_v193 main_v194 main_v195 main_v196 main_v197 main_v198 main_v199 main_v200 main_v201 main_v202 main_v203 main_v204 main_v205 main_v206 main_v207 main_v208 main_v209 main_v210 main_v211 main_v212 main_v213

def fn_part7 {F : FTy → Type} [BitOps F] (main_arg5 : IVec S6144x512 8) (main_v87 : FVec F S6144x512 .f32) (main_v88 : FVec F S6144x512 .f32) (main_v89 : FVec F S6144x512 .f32) (main_v90 : FVec F S6144x512 .f32) (main_v91 : FVec F S6144x512 .f32) (main_v92 : FVec F S6144x512 .f32) (main_v93 : FVec F S6144x512 .f32) (main_v94 : FVec F S6144x512 .f32) (main_v95 : FVec F S6144x512 .f32) (main_v96 : FVec F S6144x512 .f32) (main_v97 : FVec F S6144x512 .f32) (main_v98 : FVec F S6144x512 .f32) (main_v99 : FVec F S6144x512 .f32) (main_v100 : FVec F S6144x512 .f32) (main_v101 : FVec F S6144x512 .f32) (main_v102 : FVec F S6144x512 .f32) (main_v126 : FVec F S6144x512 .f32) (main_v150 : FVec F S6144x512 .f32) (main_v151 : FVec F S6144x512 .f32) (main_v152 : FVec F S6144x512 .f32) (main_v153 : FVec F S6144x512 .f32) (main_v154 : FVec F S6144x512 .f32) (main_v155 : FVec F S6144x512 .f32) (main_v156 : FVec F S6144x512 .f32) (main_v157 : FVec F S6144x512 .f32) (main_v158 : FVec F S6144x512 .f32) (main_v159 : FVec F S6144x512 .f32) (main_v160 : FVec F S6144x512 .f32) (main_v161 : FVec F S6144x512 .f32) (main_v162 : FVec F S6144x512 .f32) (main_v163 : FVec F S6144x512 .f32) (main_v164 : FVec F S6144x512 .f32) (main_v165 : FVec F S6144x512 .f32) : IVec S6144x512 1 :=
  let main_v166 : FVec F S6144x512 .f32 := subf main_v126 main_v150
  let main_v167 : FVec F S6144x512 .f32 := addf main_v87 main_v151
  let main_v168 : FVec F S6144x512 .f32 := addf main_v88 main_v152
  let main_v169 : FVec F S6144x512 .f32 := addf main_v89 main_v153
  let main_v170 : FVec F S6144x512 .f32 := addf main_v90 main_v154
  let main_v171 : FVec F S6144x512 .f32 := addf main_v91 main_v155
  let main_v172 : FVec F S6144x512 .f32 := addf main_v92 main_v156
  let main_v173 : FVec F S6144x512 .f32 := addf main_v93 main_v157
  let main_v174 : FVec F S6144x512 .f32 := addf main_v94 main_v158
  let main_v175 : FVec F S6144x512 .f32 := addf main_v95 main_v159
  let main_v176 : FVec F S6144x512 .f32 := addf main_v96 main_v160
  let main_v177 : FVec F S6144x512 .f32 := addf main_v97 main_v161
  let main_v178 : FVec F S6144x512 .f32 := addf main_v98 main_v162
  let main_v179 : FVec F S6144x512 .f32 := addf main_v99 main_v163
  let main_v180 : FVec F S6144x512 .f32 := addf main_v100 main_v164
  let main_v181 : FVec F S6144x512 .f32 := addf main_v101 main_v165
  let main_v182 : FVec F S6144x512 .f32 := addf main_v102 main_v166
  let main_v183 : FVec F S6144x512 .f32 := subf main_v87 main_v151
  let main_v184 : FVec F S6144x512 .f32 := subf main_v88 main_v152
  let main_v185 : FVec F S6144x512 .f32 := subf main_v89 main_v153
  let main_v186 : FVec F S6144x512 .f32 := subf main_v90 main_v154
  let main_v187 : FVec F S6144x512 .f32 := subf main_v91 main_v155
  let main_v188 : FVec F S6144x512 .f32 := subf main_v92 main_v156
  let main_v189 : FVec F S6144x512 .f32 := subf main_v93 main_v157
  fn_part8 (F := F) main_arg5 main_v94 main_v95 main_v96 main_v97 main_v98 main_v99 main_v100 main_v101 main_v102 main_v158 main_v159 main_v160 main_v161 main_v162 main_v163 main_v164 main_v165 main_v166 main_v167 main_v168 main_v169 main_v170 main_v171 main_v172 main_v173 main_v174 main_v175 main_v176 main_v177 main_v178 main_v179 main_v180 main_v181 main_v182 main_v183 main_v184 main_v185 main_v186 main_v187 main_v188 main_v189

def fn_part6 {F : FTy → Type} [BitOps F] (main_arg5 : IVec S6144x512 8) (main_v87 : FVec F S6144x512 .f32) (main_v88 : FVec F S6144x512 .f32) (main_v89 : FVec F S6144x512 .f32) (main_v90 : FVec F S6144x512 .f32) (main_v91 : FVec F S6144x512 .f32) (main_v92 : FVec F S6144x512 .f32) (main_v93 : FVec F S6144x512 .f32) (main_v94 : FVec F S6144x512 .f32) (main_v95 : FVec F S6144x512 .f32) (main_v96 : FVec F S6144x512 .f32) (main_v97 : FVec F S6144x512 .f32) (main_v98 : FVec F S6144x512 .f32) (main_v99 : FVec F S6144x512 .f32) (main_v100 : FVec F S6144x512 .f32) (main_v101 : FVec F S6144x512 .f32) (main_v102 : FVec F S6144x512 .f32) (main_v119 : FVec F S6144x512 .f32) (main_v120 : FVec F S6144x512 .f32) (main_v121 : FVec F S6144x512 .f32) (main_v122 : FVec F S6144x512 .f32) (main_v123 : FVec F S6144x512 .f32) (main_v124 : FVec F S6144x512 .f32) (main_v125 : FVec F S6144x512 .f32) (main_v126 : FVec F S6144x512 .f32) (main_v131 : FVec F S6144x512 .f32) (main_v132 : FVec F S6144x512 .f32) (main_v133 : FVec F S6144x512 .f32) (main_v134 : FVec F S6144x512 .f32) (main_v136 : FVec F S6144x512 .f32) (main_v138 : FVec F S6144x512 .f32) (main_v139 : FVec F S6144x512 .f32) (main_v140 : FVec F S6144x512 .f32) (main_v141 : FVec F S6144x512 .f32) : IVec S6144x512 1 :=
  let main_v142 : FVec F S6144x512 .f32 := subf main_v136 main_v138
  let main_v143 : FVec F S6144x512 .f32 := addf main_v131 main_v139
  let main_v144 : FVec F S6144x512 .f32 := addf main_v132 main_v140
  let main_v145 : FVec F S6144x512 .f32 := addf main_v133 main_v141
  let main_v146 : FVec F S6144x512 .f32 := addf main_v134 main_v142
  let main_v147 : FVec F S6144x512 .f32 := subf main_v131 main_v139
  let main_v148 : FVec F S6144x512 .f32 := subf main_v132 main_v140
  let main_v149 : FVec F S6144x512 .f32 := subf main_v133 main_v141
  let main_v150 : FVec F S6144x512 .f32 := subf main_v134 main_v142
  let main_v151 : FVec F S6144x512 .f32 := addf main_v119 main_v143
  let main_v152 : FVec F S6144x512 .f32 := addf main_v120 main_v144
  let main_v153 : FVec F S6144x512 .f32 := addf main_v121 main_v145
  let main_v154 : FVec F S6144x512 .f32 := addf main_v122 main_v146
  let main_v155 : FVec F S6144x512 .f32 := addf main_v123 main_v147
  let main_v156 : FVec F S6144x512 .f32 := addf main_v124 main_v148
  let main_v157 : FVec F S6144x512 .f32 := addf main_v125 main_v149
  let main_v158 : FVec F S6144x512 .f32 := addf main_v126 main_v150
  let main_v159 : FVec F S6144x512 .f32 := subf main_v119 main_v143
  let main_v160 : FVec F S6144x512 .f32 := subf main_v120 main_v144
  let main_v161 : FVec F S6144x512 .f32 := subf main_v121 main_v145
  let main_v162 : FVec F S6144x512 .f32 := subf main_v122 main_v146
  let main_v163 : FVec F S6144x512 .f32 := subf main_v123 main_v147
  let main_v164 : FVec F S6144x512 .f32 := subf main_v124 main_v148
  let main_v165 : FVec F S6144x512 .f32 := subf main_v125 main_v149
  fn_part7 (F := F) main_arg5 main_v87 main_v88 main_v89 main_v90 main_v91 main_v92 main_v93 main_v94 main_v95 main_v96 main_v97 main_v98 main_v99 main_v100 main_v101 main_v102 main_v126 main_v150 main_v151 main_v152 main_v153 main_v154 main_v155 main_v156 main_v157 main_v158 main_v159 main_v160 main_v161 main_v162 main_v163 main_v164 main_v165

def fn_part5 {F : FTy → Type} [BitOps F] (main_arg5 : IVec S6144x512 8) (main_v31 : FVec F S6144x512 .f32) (main_v32 : FVec F S6144x512 .f32) (main_v33 : FVec F S6144x512 .f32) (main_v34 : FVec F S6144x512 .f32) (main_v35 : FVec F S6144x512 .f32) (main_v36 : FVec F S6144x512 .f32) (main_v37 : FVec F S6144x512 .f32) (main_v38 : FVec F S6144x512 .f32) (main_v87 : FVec F S6144x512 .f32) (main_v88 : FVec F S6144x512 .f32) (main_v89 : FVec F S6144x512 .f32) (main_v90 : FVec F S6144x512 .f32) (main_v91 : FVec F S6144x512 .f32) (main_v92 : FVec F S6144x512 .f32) (main_v93 : FVec F S6144x512 .f32) (main_v94 : FVec F S6144x512 .f32) (main_v95 : FVec F S6144x512 .f32) (main_v96 : FVec F S6144x512 .f32) (main_v97 : FVec F S6144x512 .f32) (main_v98 : FVec F S6144x512 .f32) (main_v99 : FVec F S6144x512 .f32) (main_v100 : FVec F S6144x512 .f32) (main_v101 : FVec F S6144x512 .f32) (main_v102 : FVec F S6144x512 .f32) (main_v107 : FVec F S6144x512 .f32) (main_v108 : FVec F S6144x512 .f32) (main_v109 : FVec F S6144x512 .f32) (main_v110 : FVec F S6144x512 .f32) (main_v112 : FVec F S6144x512 .f32) (main_v114 : FVec F S6144x512 .f32) (main_v115 : FVec F S6144x512 .f32) (main_v116 : FVec F S6144x512 .f32) (main_v117 : FVec F S6144x512 .f32) : IVec S6144x512 1 :=
  let main_v118 : FVec F S6144x512 .f32 := subf main_v112 main_v114
  let main_v119 : FVec F S6144x512 .f32 := addf main_v107 main_v115
  let main_v120 : FVec F S6144x512 .f32 := addf main_v108 main_v116
  let main_v121 : FVec F S6144x512 .f32 := addf main_v109 main_v117
  let main_v122 : FVec F S6144x512 .f32 := addf main_v110 main_v118
  let main_v123 : FVec F S6144x512 .f32 := subf main_v107 main_v115
  let main_v124 : FVec F S6144x512 .f32 := subf main_v108 main_v116
  let main_v125 : FVec F S6144x512 .f32 := subf main_v109 main_v117
  let main_v126 : FVec F S6144x512 .f32 := subf main_v110 main_v118
  let main_v127 : FVec F S6144x512 .f32 := addf main_v31 main_v32
  let main_v128 : FVec F S6144x512 .f32 := subf main_v31 main_v32
  let main_v129 : FVec F S6144x512 .f32 := addf main_v33 main_v34
  let main_v130 : FVec F S6144x512 .f32 := subf main_v33 main_v34
  let main_v131 : FVec F S6144x512 .f32 := addf main_v127 main_v129
  let main_v132 : FVec F S6144x512 .f32 := addf main_v128 main_v130
  let main_v133 : FVec F S6144x512 .f32 := subf main_v127 main_v129
  let main_v134 : FVec F S6144x512 .f32 := subf main_v128 main_v130
  let main_v135 : FVec F S6144x512 .f32 := addf main_v35 main_v36
  let main_v136 : FVec F S6144x512 .f32 := subf main_v35 main_v36
  let main_v137 : FVec F S6144x512 .f32 := addf main_v37 main_v38
  let main_v138 : FVec F S6144x512 .f32 := subf main_v37 main_v38
  let main_v139 : FVec F S6144x512 .f32 := addf main_v135 main_v137
  let main_v140 : FVec F S6144x512 .f32 := addf main_v136 main_v138
  let main_v141 : FVec F S6144x512 .f32 := subf main_v135 main_v137
  fn_part6 (F := F) main_arg5 main_v87 main_v88 main_v89 main_v90 main_v91 main_v92 main_v93 main_v94 main_v95 main_v96 main_v97 main_v98 main_v99 main_v100 main_v101 main_v102 main_v119 main_v120 main_v121 main_v122 main_v123 main_v124 main_v125 main_v126 main_v131 main_v132 main_v133 main_v134 main_v136 main_v138 main_v139 main_v140 main_v141

def fn_part4 {F : FTy → Type} [BitOps F] (main_arg5 : IVec S6144x512 8) (main_v23 : FVec F S6144x512 .f32) (main_v24 : FVec F S6144x512 .f32) (main_v25 : FVec F S6144x512 .f32) (main_v26 : FVec F S6144x512 .f32) (main_v27 : FVec F S6144x512 .f32) (main_v28 : FVec F S6144x512 .f32) (main_v29 : FVec F S6144x512 .f32) (main_v30 : FVec F S6144x512 .f32) (main_v31 : FVec F S6144x512 .f32) (main_v32 : FVec F S6144x512 .f32) (main_v33 : FVec F S6144x512 .f32) (main_v34 : FVec F S6144x512 .f32) (main_v35 : FVec F S6144x512 .f32) (main_v36 : FVec F S6144x512 .f32) (main_v37 : FVec F S6144x512 .f32) (main_v38 : FVec F S6144x512 .f32) (main_v55 : FVec F S6144x512 .f32) (main_v56 : FVec F S6144x512 .f32) (main_v57 : FVec F S6144x512 .f32) (main_v58 : FVec F S6144x512 .f32) (main_v59 : FVec F S6144x512 .f32) (main_v60 : FVec F S6144x512 .f32) (main_v61 : FVec F S6144x512 .f32) (main_v62 : FVec F S6144x512 .f32) (main_v79 : FVec F S6144x512 .f32) (main_v80 : FVec F S6144x512 .f32) (main_v81 : FVec F S6144x512 .f32) (main_v82 : FVec F S6144x512 .f32) (main_v83 : FVec F S6144x512 .f32) (main_v84 : FVec F S6144x512 .f32) (main_v85 : FVec F S6144x512 .f32) (main_v86 : FVec F S6144x512 .f32) (main_v87 : FVec F S6144x512 .f32) (main_v88 : FVec F S6144x512 .f32) (main_v89 : FVec F S6144x512 .f32) (main_v90 : FVec F S6144x512 .f32) (main_v91 : FVec F S6144x512 .f32) (main_v92 : FVec F S6144x512 .f32) (main_v93 : FVec F S6144x512 .f32) : IVec S6144x512 1 :=
  let main_v94 : FVec F S6144x512 .f32 := addf main_v62 main_v86
  let main_v95 : FVec F S6144x512 .f32 := subf main_v55 main_v79
  let main_v96 : FVec F S6144x512 .f32 := subf main_v56 main_v80
  let main_v97 : FVec F S6144x512 .f32 := subf main_v57 main_v81
  let main_v98 : FVec F S6144x512 .f32 := subf main_v58 main_v82
  let main_v99 : FVec F S6144x512 .f32 := subf main_v59 main_v83
  let main_v100 : FVec F S6144x512 .f32 := subf main_v60 main_v84
  let main_v101 : FVec F S6144x512 .f32 := subf main_v61 main_v85
  let main_v102 : FVec F S6144x512 .f32 := subf main_v62 main_v86
  let main_v103 : FVec F S6144x512 .f32 := addf main_v23 main_v24
  let main_v104 : FVec F S6144x512 .f32 := subf main_v23 main_v24
  let main_v105 : FVec F S6144x512 .f32 := addf main_v25 main_v26
  let main_v106 : FVec F S6144x512 .f32 := subf main_v25 main_v26
  let main_v107 : FVec F S6144x512 .f32 := addf main_v103 main_v105
  let main_v108 : FVec F S6144x512 .f32 := addf main_v104 main_v106
  let main_v109 : FVec F S6144x512 .f32 := subf main_v103 main_v105
  let main_v110 : FVec F S6144x512 .f32 := subf main_v104 main_v106
  let main_v111 : FVec F S6144x512 .f32 := addf main_v27 main_v28
  let main_v112 : FVec F S6144x512 .f32 := subf main_v27 main_v28
  let main_v113 : FVec F S6144x512 .f32 := addf main_v29 main_v30
  let main_v114 : FVec F S6144x512 .f32 := subf main_v29 main_v30
  let main_v115 : FVec F S6144x512 .f32 := addf main_v111 main_v113
  let main_v116 : FVec F S6144x512 .f32 := addf main_v112 main_v114
  let main_v117 : FVec F S6144x512 .f32 := subf main_v111 main_v113
  fn_part5 (F := F) main_arg5 main_v31 main_v32 main_v33 main_v34 main_v35 main_v36 main_v37 main_v38 main_v87 main_v88 main_v89 main_v90 main_v91 main_v92 main_v93 main_v94 main_v95 main_v96 main_v97 main_v98 main_v99 main_v100 main_v101 main_v102 main_v107 main_v108 main_v109 main_v110 main_v112 main_v114 main_v115 main_v116 main_v117

def fn_part3 {F : FTy → Type} [BitOps F] (main_arg5 : IVec S6144x512 8) (main_v19 : FVec F S6144x512 .f32) (main_v20 : FVec F S6144x512 .f32) (main_v21 : FVec F S6144x512 .f32) (main_v22 : FVec F S6144x512 .f32) (main_v23 : FVec F S6144x512 .f32) (main_v24 : FVec F S6144x512 .f32) (main_v25 : FVec F S6144x512 .f32) (main_v26 : FVec F S6144x512 .f32) (main_v27 : FVec F S6144x512 .f32) (main_v28 : FVec F S6144x512 .f32) (main_v29 : FVec F S6144x512 .f32) (main_v30 : FVec F S6144x512 .f32) (main_v31 : FVec F S6144x512 .f32) (main_v32 : FVec F S6144x512 .f32) (main_v33 : FVec F S6144x512 .f32) (main_v34 : FVec F S6144x512 .f32) (main_v35 : FVec F S6144x512 .f32) (main_v36 : FVec F S6144x512 .f32) (main_v37 : FVec F S6144x512 .f32) (main_v38 : FVec F S6144x512 .f32) (main_v55 : FVec F S6144x512 .f32) (main_v56 : FVec F S6144x512 .f32) (main_v57 : FVec F S6144x512 .f32) (main_v58 : FVec F S6144x512 .f32) (main_v59 : FVec F S6144x512 .f32) (main_v60 : FVec F S6144x512 .f32) (main_v61 : FVec F S6144x512 .f32) (main_v62 : FVec F S6144x512 .f32) (main_v64 : FVec F S6144x512 .f32) (main_v66 : FVec F S6144x512 .f32) (main_v67 : FVec F S6144x512 .f32) (main_v68 : FVec F S6144x512 .f32) (main_v69 : FVec F S6144x512 .f32) : IVec S6144x512 1 :=
  let main_v70 : FVec F S6144x512 .f32 := subf main_v64 main_v66
  let main_v71 : FVec F S6144x512 .f32 := addf main_v19 main_v20
  let main_v72 : FVec F S6144x512 .f32 := subf main_v19 main_v20
  let main_v73 : FVec F S6144x512 .f32 := addf main_v21 main_v22
  let main_v74 : FVec F S6144x512 .f32 := subf main_v21 main_v22
  let main_v75 : FVec F S6144x512 .f32 := addf main_v71 main_v73
  let main_v76 : FVec F S6144x512 .f32 := addf main_v72 main_v74
  let main_v77 : FVec F S6144x512 .f32 := subf main_v71 main_v73
  let main_v78 : FVec F S6144x512 .f32 := subf main_v72 main_v74
  let main_v79 : FVec F S6144x512 .f32 := addf main_v67 main_v75
  let main_v80 : FVec F S6144x512 .f32 := addf main_v68 main_v76
  let main_v81 : FVec F S6144x512 .f32 := addf main_v69 main_v77
  let main_v82 : FVec F S6144x512 .f32 := addf main_v70 main_v78
  let main_v83 : FVec F S6144x512 .f32 := subf main_v67 main_v75
  let main_v84 : FVec F S6144x512 .f32 := subf main_v68 main_v76
  let main_v85 : FVec F S6144x512 .f32 := subf main_v69 main_v77
  let main_v86 : FVec F S6144x512 .f32 := subf main_v70 main_v78
  let main_v87 : FVec F S6144x512 .f32 := addf main_v55 main_v79
  let main_v88 : FVec F S6144x512 .f32 := addf main_v56 main_v80
  let main_v89 : FVec F S6144x512 .f32 := addf main_v57 main_v81
  let main_v90 : FVec F S6144x512 .f32 := addf main_v58 main_v82
  let main_v91 : FVec F S6144x512 .f32 := addf main_v59 main_v83
  let main_v92 : FVec F S6144x512 .f32 := addf main_v60 main_v84
  let main_v93 : FVec F S6144x512 .f32 := addf main_v61 main_v85
  fn_part4 (F := F) main_arg5 main_v23 main_v24 main_v25 main_v26 main_v27 main_v28 main_v29 main_v30 main_v31 main_v32 main_v33 main_v34 main_v35 main_v36 main_v37 main_v38 main_v55 main_v56 main_v57 main_v58 main_v59 main_v60 main_v61 main_v62 main_v79 main_v80 main_v81 main_v82 main_v83 main_v84 main_v85 main_v86 main_v87 main_v88 main_v89 main_v90 main_v91 main_v92 main_v93

def fn_part2 {F : FTy → Type} [BitOps F] (main_arg5 : IVec S6144x512 8) (main_v11 : FVec F S6144x512 .f32) (main_v12 : FVec F S6144x512 .f32) (main_v13 : FVec F S6144x512 .f32) (main_v14 : FVec F S6144x512 .f32) (main_v15 : FVec F S6144x512 .f32) (main_v16 : FVec F S6144x512 .f32) (main_v17 : FVec F S6144x512 .f32) (main_v18 : FVec F S6144x512 .f32) (main_v19 : FVec F S6144x512 .f32) (main_v20 : FVec F S6144x512 .f32) (main_v21 : FVec F S6144x512 .f32) (main_v22 : FVec F S6144x512 .f32) (main_v23 : FVec F S6144x512 .f32) (main_v24 : FVec F S6144x512 .f32) (main_v25 : FVec F S6144x512 .f32) (main_v26 : FVec F S6144x512 .f32) (main_v27 : FVec F S6144x512 .f32) (main_v28 : FVec F S6144x512 .f32) (main_v29 : FVec F S6144x512 .f32) (main_v30 : FVec F S6144x512 .f32) (main_v31 : FVec F S6144x512 .f32) (main_v32 : FVec F S6144x512 .f32) (main_v33 : FVec F S6144x512 .f32) (main_v34 : FVec F S6144x512 .f32) (main_v35 : FVec F S6144x512 .f32) (main_v36 : FVec F S6144x512 .f32) (main_v37 : FVec F S6144x512 .f32) (main_v38 : FVec F S6144x512 .f32) (main_v40 : FVec F S6144x512 .f32) (main_v42 : FVec F S6144x512 .f32) (main_v43 : FVec F S6144x512 .f32) (main_v44 : FVec F S6144x512 .f32) (main_v45 : FVec F S6144x512 .f32) : IVec S6144x512 1 :=
  let main_v46 : FVec F S6144x512 .f32 := subf main_v40 main_v42
  let main_v47 : FVec F S6144x512 .f32 := addf main_v11 main_v12
  let main_v48 : FVec F S6144x512 .f32 := subf main_v11 main_v12
  let main_v49 : FVec F S6144x512 .f32 := addf main_v13 main_v14
  let main_v50 : FVec F S6144x512 .f32 := subf main_v13 main_v14
  let main_v51 : FVec F S6144x512 .f32 := addf main_v47 main_v49
  let main_v52 : FVec F S6144x512 .f32 := addf main_v48 main_v50
  let main_v53 : FVec F S6144x512 .f32 := subf main_v47 main_v49
  let main_v54 : FVec F S6144x512 .f32 := subf main_v48 main_v50
  let main_v55 : FVec F S6144x512 .f32 := addf main_v43 main_v51
  let main_v56 : FVec F S6144x512 .f32 := addf main_v44 main_v52
  let main_v57 : FVec F S6144x512 .f32 := addf main_v45 main_v53
  let main_v58 : FVec F S6144x512 .f32 := addf main_v46 main_v54
  let main_v59 : FVec F S6144x512 .f32 := subf main_v43 main_v51
  let main_v60 : FVec F S6144x512 .f32 := subf main_v44 main_v52
  let main_v61 : FVec F S6144x512 .f32 := subf main_v45 main_v53
  let main_v62 : FVec F S6144x512 .f32 := subf main_v46 main_v54
  let main_v63 : FVec F S6144x512 .f32 := addf main_v15 main_v16
  let main_v64 : FVec F S6144x512 .f32 := subf main_v15 main_v16
  let main_v65 : FVec F S6144x512 .f32 := addf main_v17 main_v18
  let main_v66 : FVec F S6144x512 .f32 := subf main_v17 main_v18
  let main_v67 : FVec F S6144x512 .f32 := addf main_v63 main_v65
  let main_v68 : FVec F S6144x512 .f32 := addf main_v64 main_v66
  let main_v69 : FVec F S6144x512 .f32 := subf main_v63 main_v65
  fn_part3 (F := F) main_arg5 main_v19 main_v20 main_v21 main_v22 main_v23 main_v24 main_v25 main_v26 main_v27 main_v28 main_v29 main_v30 main_v31 main_v32 main_v33 main_v34 main_v35 main_v36 main_v37 main_v38 main_v55 main_v56 main_v57 main_v58 main_v59 main_v60 main_v61 main_v62 main_v64 main_v66 main_v67 main_v68 main_v69

def fn_part1 {F : FTy → Type} [BitOps F] (main_arg5 : IVec S6144x512 8) (main_v4 : FVec F S6144x16384 .f32) (main_v6 : FVec F S16384 .f32) (main_v7 : FVec F S6144x512 .f32) (main_v8 : FVec F S6144x512 .f32) (main_v9 : FVec F S6144x512 .f32) (main_v10 : FVec F S6144x512 .f32) (main_v11 : FVec F S6144x512 .f32) (main_v12 : FVec F S6144x512 .f32) (main_v13 : FVec F S6144x512 .f32) (main_v14 : FVec F S6144x512 .f32) (main_v15 : FVec F S6144x512 .f32) (main_v16 : FVec F S6144x512 .f32) (main_v17 : FVec F S6144x512 .f32) (main_v18 : FVec F S6144x512 .f32) (main_v19 : FVec F S6144x512 .f32) (main_v20 : FVec F S6144x512 .f32) (main_v21 : FVec F S6144x512 .f32) : IVec S6144x512 1 :=
  let main_v22 : FVec F S6144x512 .f32 := fn_row_element_14 (F := F) main_v4 main_v6
  let main_v23 : FVec F S6144x512 .f32 := fn_row_element_15 (F := F) main_v4 main_v6
  let main_v24 : FVec F S6144x512 .f32 := fn_row_element_16 (F := F) main_v4 main_v6
  let main_v25 : FVec F S6144x512 .f32 := fn_row_element_17 (F := F) main_v4 main_v6
  let main_v26 : FVec F S6144x512 .f32 := fn_row_element_18 (F := F) main_v4 main_v6
  let main_v27 : FVec F S6144x512 .f32 := fn_row_element_19 (F := F) main_v4 main_v6
  let main_v28 : FVec F S6144x512 .f32 := fn_row_element_20 (F := F) main_v4 main_v6
  let main_v29 : FVec F S6144x512 .f32 := fn_row_element_21 (F := F) main_v4 main_v6
  let main_v30 : FVec F S6144x512 .f32 := fn_row_element_22 (F := F) main_v4 main_v6
  let main_v31 : FVec F S6144x512 .f32 := fn_row_element_23 (F := F) main_v4 main_v6
  let main_v32 : FVec F S6144x512 .f32 := fn_row_element_24 (F := F) main_v4 main_v6
  let main_v33 : FVec F S6144x512 .f32 := fn_row_element_25 (F := F) main_v4 main_v6
  let main_v34 : FVec F S6144x512 .f32 := fn_row_element_26 (F := F) main_v4 main_v6
  let main_v35 : FVec F S6144x512 .f32 := fn_row_element_27 (F := F) main_v4 main_v6
  let main_v36 : FVec F S6144x512 .f32 := fn_row_element_28 (F := F) main_v4 main_v6
  let main_v37 : FVec F S6144x512 .f32 := fn_row_element_29 (F := F) main_v4 main_v6
  let main_v38 : FVec F S6144x512 .f32 := fn_row_element_30 (F := F) main_v4 main_v6
  let main_v39 : FVec F S6144x512 .f32 := addf main_v7 main_v8
  let main_v40 : FVec F S6144x512 .f32 := subf main_v7 main_v8
  let main_v41 : FVec F S6144x512 .f32 := addf main_v9 main_v10
  let main_v42 : FVec F S6144x512 .f32 := subf main_v9 main_v10
  let main_v43 : FVec F S6144x512 .f32 := addf main_v39 main_v41
  let main_v44 : FVec F S6144x512 .f32 := addf main_v40 main_v42
  let main_v45 : FVec F S6144x512 .f32 := subf main_v39 main_v41
  fn_part2 (F := F) main_arg5 main_v11 main_v12 main_v13 main_v14 main_v15 main_v16 main_v17 main_v18 main_v19 main_v20 main_v21 main_v22 main_v23 main_v24 main_v25 main_v26 main_v27 main_v28 main_v29 main_v30 main_v31 main_v32 main_v33 main_v34 main_v35 main_v36 main_v37 main_v38 main_v40 main_v42 main_v43 main_v44 main_v45

def fn {F : FTy → Type} [BitOps F] (main_arg0 : FVec F S6144x16384 .bf16) (main_arg1 : FVec F S16384 .f32) (main_arg2 : IVec S6144x16384 8) (main_arg3 : FVec F S16384x6144 .bf16) (main_arg4 : IVec S6144x8192 8) (main_arg5 : IVec S6144x512 8) : IVec S6144x512 1 :=
  let main_v0 : IVec S6144x16384 16 := bitcastToInt main_arg0
  let main_v1 : IVec S6144x16384 32 := (extui 32 · natLt_16_32) main_v0
  let main_c : IVec S_ 32 := constantI S_ 32 16#32
  let main_v2 : IVec S6144x16384 32 := broadcastInDim S6144x16384 ![] bcast_S_S6144x16384 main_c
  let main_v3 : IVec S6144x16384 32 := Host.shli main_v1 main_v2
  let main_v4 : FVec F S6144x16384 .f32 := bitcastToFloat .f32 main_v3
  let main_cst : FVec F S_ .f32 := constant S_ .f32 0x3E3504F3#32
  let main_v5 : FVec F S16384 .f32 := broadcastInDim S16384 ![] bcast_S_S16384 main_cst
  let main_v6 : FVec F S16384 .f32 := mulf main_arg1 main_v5
  let main_v7 : FVec F S6144x512 .f32 := fn_row_element (F := F) main_v4 main_v6
  let main_v8 : FVec F S6144x512 .f32 := fn_row_element_0 (F := F) main_v4 main_v6
  let main_v9 : FVec F S6144x512 .f32 := fn_row_element_1 (F := F) main_v4 main_v6
  let main_v10 : FVec F S6144x512 .f32 := fn_row_element_2 (F := F) main_v4 main_v6
  let main_v11 : FVec F S6144x512 .f32 := fn_row_element_3 (F := F) main_v4 main_v6
  let main_v12 : FVec F S6144x512 .f32 := fn_row_element_4 (F := F) main_v4 main_v6
  let main_v13 : FVec F S6144x512 .f32 := fn_row_element_5 (F := F) main_v4 main_v6
  let main_v14 : FVec F S6144x512 .f32 := fn_row_element_6 (F := F) main_v4 main_v6
  let main_v15 : FVec F S6144x512 .f32 := fn_row_element_7 (F := F) main_v4 main_v6
  let main_v16 : FVec F S6144x512 .f32 := fn_row_element_8 (F := F) main_v4 main_v6
  let main_v17 : FVec F S6144x512 .f32 := fn_row_element_9 (F := F) main_v4 main_v6
  let main_v18 : FVec F S6144x512 .f32 := fn_row_element_10 (F := F) main_v4 main_v6
  let main_v19 : FVec F S6144x512 .f32 := fn_row_element_11 (F := F) main_v4 main_v6
  let main_v20 : FVec F S6144x512 .f32 := fn_row_element_12 (F := F) main_v4 main_v6
  let main_v21 : FVec F S6144x512 .f32 := fn_row_element_13 (F := F) main_v4 main_v6
  fn_part1 (F := F) main_arg5 main_v4 main_v6 main_v7 main_v8 main_v9 main_v10 main_v11 main_v12 main_v13 main_v14 main_v15 main_v16 main_v17 main_v18 main_v19 main_v20 main_v21
-- ==== KernelDw.lean ====
abbrev S6144x3840 : Shape := ⟨2, ![6144, 3840]⟩
abbrev S3840x16384 : Shape := ⟨2, ![3840, 16384]⟩
abbrev S6144x16384 : Shape := ⟨2, ![6144, 16384]⟩
abbrev S512x3840 : Shape := ⟨2, ![512, 3840]⟩
abbrev S3840x1024 : Shape := ⟨2, ![3840, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6144x3840, .bf16⟩
  | .hbm, ⟨1, _⟩ => ⟨S3840x16384, .bf16⟩
  | .hbm, ⟨2, _⟩ => ⟨S6144x16384, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S3840x1024, .bf16⟩
  | .local _ .vmem, ⟨4, _⟩ => ⟨S512x1024, .f32⟩
  | .local _ .vmem, ⟨5, _⟩ => ⟨S512x1024, .f32⟩
  | _, _ => ⟨S6144x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3840x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwIdeal.lean ====
abbrev S6144x3840 : Shape := ⟨2, ![6144, 3840]⟩
abbrev S3840x16384 : Shape := ⟨2, ![3840, 16384]⟩
abbrev S6144x16384 : Shape := ⟨2, ![6144, 16384]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S6144x3840, .bf16⟩
  | .hbm, ⟨1, _⟩ => ⟨S3840x16384, .bf16⟩
  | .hbm, ⟨2, _⟩ => ⟨S6144x16384, .f32⟩
  | .hbm, ⟨3, _⟩ => ⟨S_, .f32⟩
  | .hbm, ⟨4, _⟩ => ⟨S6144x16384, .f32⟩
  | .hbm, ⟨5, _⟩ => ⟨S6144x16384, .f32⟩
  | _, _ => ⟨S6144x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDx.lean ====
abbrev S3840x16384 : Shape := ⟨2, ![3840, 16384]⟩
abbrev S16384x6144 : Shape := ⟨2, ![16384, 6144]⟩
abbrev S3x1280x6144 : Shape := ⟨3, ![3, 1280, 6144]⟩
abbrev S3840x6144 : Shape := ⟨2, ![3840, 6144]⟩
abbrev S1920x2048 : Shape := ⟨2, ![1920, 2048]⟩
abbrev S2048x512 : Shape := ⟨2, ![2048, 512]⟩
abbrev S1920x512 : Shape := ⟨2, ![1920, 512]⟩
abbrev S64x512 : Shape := ⟨2, ![64, 512]⟩

abbrev nBuf : Space → Nat
  | .hbm => 8
  | .vmem => 13
  | .smem => 0
  | _ => 0

abbrev bufTy : (tb : Table) → Fin (tcTables nBuf tb) → BufTy
  | .hbm, ⟨0, _⟩ => ⟨S3840x16384, .bf16⟩
  | .hbm, ⟨1, _⟩ => ⟨S16384x6144, .bf16⟩
  | .hbm, ⟨2, _⟩ => ⟨S3x1280x6144, .bf16⟩
  | .hbm, ⟨3, _⟩ => ⟨S3x1280x6144, .bf16⟩
  | .hbm, ⟨4, _⟩ => ⟨S3840x6144, .bf16⟩
  | .hbm, ⟨5, _⟩ => ⟨S3840x6144, .bf16⟩
  | .hbm, ⟨6, _⟩ => ⟨S3840x6144, .bf16⟩
  | .hbm, ⟨7, _⟩ => ⟨S3840x6144, .bf16⟩
  | .local _ .vmem, ⟨0, _⟩ => ⟨S1920x2048, .bf16⟩
  | .local _ .vmem, ⟨1, _⟩ => ⟨S1920x2048, .bf16⟩
  | .local _ .vmem, ⟨2, _⟩ => ⟨S2048x512, .bf16⟩
  | .local _ .vmem, ⟨3, _⟩ => ⟨S2048x512, .bf16⟩
  | .local _ .vmem, ⟨4, _⟩ => ⟨S1920x512, .bf16⟩
  | .local _ .vmem, ⟨5, _⟩ => ⟨S1920x512, .bf16⟩
  | .local _ .vmem, ⟨6, _⟩ => ⟨S1920x512, .bf16⟩
  | .local _ .vmem, ⟨7, _⟩ => ⟨S1920x512, .bf16⟩
  | .local _ .vmem, ⟨8, _⟩ => ⟨S1920x512, .bf16⟩
  | .local _ .vmem, ⟨9, _⟩ => ⟨S1920x512, .bf16⟩
  | .local _ .vmem, ⟨10, _⟩ => ⟨S1920x512, .bf16⟩
  | .local _ .vmem, ⟨11, _⟩ => ⟨S1920x512, .bf16⟩
  | .local _ .vmem, ⟨12, _⟩ => ⟨S1920x512, .f32⟩
  | _, _ => ⟨S3840x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![12, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c30_i32 : BitVec 32 := 30#32
  let v14 : BitVec 32 := Scalar.addi c0_i32_9 c30_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c64_i32 : BitVec 32 := 64#32
  let v15 : BitVec 32 := Scalar.muli arg10 c64_i32
  v15
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c64_i32 : BitVec 32 := 64#32
  let v15 : BitVec 32 := Scalar.muli arg10 c64_i32
  let v16 : BitVec 32 := v15
  let v17 : Index := Scalar.indexCast v16
  let c0_11 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1920x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1920x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1920x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1920x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1920x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceDxIdeal.lean ====
abbrev S3840x16384 : Shape := ⟨2, ![3840, 16384]⟩
abbrev S16384x6144 : Shape := ⟨2, ![16384, 6144]⟩
abbrev S3x1280x6144 : Shape := ⟨3, ![3, 1280, 6144]⟩
abbrev S3840x6144 : Shape := ⟨2, ![3840, 6144]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S3840x16384, .bf16⟩
  | .hbm, ⟨1, _⟩ => ⟨S16384x6144, .bf16⟩
  | .hbm, ⟨2, _⟩ => ⟨S3x1280x6144, .bf16⟩
  | .hbm, ⟨3, _⟩ => ⟨S3x1280x6144, .bf16⟩
  | .hbm, ⟨4, _⟩ => ⟨S3x1280x6144, .f32⟩
  | .hbm, ⟨5, _⟩ => ⟨S3840x6144, .f32⟩
  | .hbm, ⟨6, _⟩ => ⟨S3x1280x6144, .f32⟩
  | .hbm, ⟨7, _⟩ => ⟨S3840x6144, .f32⟩
  | .hbm, ⟨8, _⟩ => ⟨S3840x6144, .f32⟩
  | .hbm, ⟨9, _⟩ => ⟨S3840x6144, .f32⟩
  | .hbm, ⟨10, _⟩ => ⟨S_, .f32⟩
  | .hbm, ⟨11, _⟩ => ⟨S3840x6144, .f32⟩
  | .hbm, ⟨12, _⟩ => ⟨S3840x6144, .f32⟩
  | .hbm, ⟨13, _⟩ => ⟨S_, .f32⟩
  | .hbm, ⟨14, _⟩ => ⟨S3840x6144, .f32⟩
  | .hbm, ⟨15, _⟩ => ⟨S3840x6144, .f32⟩
  | .hbm, ⟨16, _⟩ => ⟨S3840x6144, .f32⟩
  | .hbm, ⟨17, _⟩ => ⟨S3840x6144, .f32⟩
  | .hbm, ⟨18, _⟩ => ⟨S_, .f32⟩
  | .hbm, ⟨19, _⟩ => ⟨S3840x6144, .f32⟩
  | .hbm, ⟨20, _⟩ => ⟨S3840x6144, .f32⟩
  | .hbm, ⟨21, _⟩ => ⟨S3840x6144, .f32⟩
  | .hbm, ⟨22, _⟩ => ⟨S3840x6144, .f32⟩
  | .hbm, ⟨23, _⟩ => ⟨S_, .f32⟩
  | .hbm, ⟨24, _⟩ => ⟨S3840x6144, .f32⟩
  | .hbm, ⟨25, _⟩ => ⟨S3840x6144, .f32⟩
  | .hbm, ⟨26, _⟩ => ⟨S3840x6144, .f32⟩
  | .hbm, ⟨27, _⟩ => ⟨S_, .f32⟩
  | .hbm, ⟨28, _⟩ => ⟨S3840x6144, .f32⟩
  | .hbm, ⟨29, _⟩ => ⟨S3840x6144, .f32⟩
  | .hbm, ⟨30, _⟩ => ⟨S3840x6144, .f32⟩
  | .hbm, ⟨31, _⟩ => ⟨S3840x6144, .bf16⟩
  | .hbm, ⟨32, _⟩ => ⟨S3840x6144, .f32⟩
  | .hbm, ⟨33, _⟩ => ⟨S3840x6144, .bf16⟩
  | _, _ => ⟨S3840x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== QuantX.lean ====
abbrev S3x1280x6144 : Shape := ⟨3, ![3, 1280, 6144]⟩
abbrev S3x1280 : Shape := ⟨2, ![3, 1280]⟩
abbrev S3840x6144 : Shape := ⟨2, ![3840, 6144]⟩
abbrev S3840 : Shape := ⟨1, ![3840]⟩
abbrev S_ : Shape := ⟨0, ![]⟩
abbrev S15x8x32 : Shape := ⟨3, ![15, 8, 32]⟩
abbrev S15x32x8 : Shape := ⟨3, ![15, 32, 8]⟩
abbrev S3840x1 : Shape := ⟨2, ![3840, 1]⟩
abbrev S3840x128 : Shape := ⟨2, ![3840, 128]⟩
abbrev S6144x3840 : Shape := ⟨2, ![6144, 3840]⟩
abbrev S1920x6144 : Shape := ⟨2, ![1920, 6144]⟩
abbrev S3x40x6144 : Shape := ⟨3, ![3, 40, 6144]⟩
abbrev S3840x256 : Shape := ⟨2, ![3840, 256]⟩
abbrev S256x3840 : Shape := ⟨2, ![256, 3840]⟩
abbrev S1920x256 : Shape := ⟨2, ![1920, 256]⟩
abbrev S3x40x256 : Shape := ⟨3, ![3, 40, 256]⟩
abbrev S120x256 : Shape := ⟨2, ![120, 256]⟩
abbrev S160x128 : Shape := ⟨2, ![160, 128]⟩
abbrev S96x128 : Shape := ⟨2, ![96, 128]⟩
abbrev S32x128 : Shape := ⟨2, ![32, 128]⟩
abbrev S256x128 : Shape := ⟨2, ![256, 128]⟩
abbrev S128x128 : Shape := ⟨2, ![128, 128]⟩
abbrev S64x128 : Shape := ⟨2, ![64, 128]⟩
abbrev S16x128 : Shape := ⟨2, ![16, 128]⟩
abbrev S8x128 : Shape := ⟨2, ![8, 128]⟩
abbrev S128x256 : Shape := ⟨2, ![128, 256]⟩
abbrev S40x256 : Shape := ⟨2, ![40, 256]⟩
abbrev S1x40x256 : Shape := ⟨3, ![1, 40, 256]⟩

abbrev nBuf : Space → Nat
  | .hbm => 18
  | .vmem => 20
  | .smem => 0
  | _ => 0

abbrev bufTy : (tb : Table) → Fin (tcTables nBuf tb) → BufTy
  | .hbm, ⟨0, _⟩ => ⟨S3x1280x6144, .bf16⟩
  | .hbm, ⟨1, _⟩ => ⟨S3x1280x6144, .bf16⟩
  | .hbm, ⟨2, _⟩ => ⟨S3x1280, .f32⟩
  | .hbm, ⟨3, _⟩ => ⟨S3x1280x6144, .i8⟩
  | .hbm, ⟨4, _⟩ => ⟨S3840x6144, .bf16⟩
  | .hbm, ⟨5, _⟩ => ⟨S3840x6144, .bf16⟩
  | .hbm, ⟨6, _⟩ => ⟨S3840x6144, .i8⟩
  | .hbm, ⟨7, _⟩ => ⟨S3840, .f32⟩
  | .hbm, ⟨8, _⟩ => ⟨S_, .f32⟩
  | .hbm, ⟨9, _⟩ => ⟨S3840, .f32⟩
  | .hbm, ⟨10, _⟩ => ⟨S3840, .f32⟩
  | .hbm, ⟨11, _⟩ => ⟨S15x8x32, .f32⟩
  | .hbm, ⟨12, _⟩ => ⟨S15x32x8, .f32⟩
  | .hbm, ⟨13, _⟩ => ⟨S3840x1, .f32⟩
  | .hbm, ⟨14, _⟩ => ⟨S3840x128, .f32⟩
  | .hbm, ⟨15, _⟩ => ⟨S6144x3840, .bf16⟩
  | .hbm, ⟨16, _⟩ => ⟨S1920x6144, .i8⟩
  | .hbm, ⟨17, _⟩ => ⟨S3x40x6144, .i8⟩
  | .local _ .vmem, ⟨0, _⟩ => ⟨S3840x128, .f32⟩
  | .local _ .vmem, ⟨1, _⟩ => ⟨S3840x256, .bf16⟩
  | .local _ .vmem, ⟨2, _⟩ => ⟨S3840x256, .bf16⟩
  | .local _ .vmem, ⟨3, _⟩ => ⟨S3840x256, .bf16⟩
  | .local _ .vmem, ⟨4, _⟩ => ⟨S3840x256, .bf16⟩
  | .local _ .vmem, ⟨5, _⟩ => ⟨S3840x256, .i8⟩
  | .local _ .vmem, ⟨6, _⟩ => ⟨S3840x256, .i8⟩
  | .local _ .vmem, ⟨7, _⟩ => ⟨S256x3840, .bf16⟩
  | .local _ .vmem, ⟨8, _⟩ => ⟨S256x3840, .bf16⟩
  | .local _ .vmem, ⟨9, _⟩ => ⟨S1920x256, .i8⟩
  | .local _ .vmem, ⟨10, _⟩ => ⟨S1920x256, .i8⟩
  | .local _ .vmem, ⟨11, _⟩ => ⟨S3x40x256, .i8⟩
  | .local _ .vmem, ⟨12, _⟩ => ⟨S3x40x256, .i8⟩
  | .local _ .vmem, ⟨13, _⟩ => ⟨S120x256, .i32⟩
  | .local _ .vmem, ⟨14, _⟩ => ⟨S160x128, .i32⟩
  | .local _ .vmem, ⟨15, _⟩ => ⟨S96x128, .i32⟩
  | .local _ .vmem, ⟨16, _⟩ => ⟨S32x128, .i32⟩
  | .local _ .vmem, ⟨17, _⟩ => ⟨S160x128, .i32⟩
  | .local _ .vmem, ⟨18, _⟩ => ⟨S96x128, .i32⟩
  | .local _ .vmem, ⟨19, _⟩ => ⟨S32x128, .i32⟩
  | _, _ => ⟨S3x1280x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32 : BitVec 32 := 0#32
  let c15_i32 : BitVec 32 := 15#32
  let v0 : BitVec 32 := Scalar.addi c0_i32 c15_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v16 : BitVec 32 := Scalar.muli arg15 c256_i32
  v16
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v16 : BitVec 32 := Scalar.muli arg15 c256_i32
  let v17 : BitVec 32 := v16
  let v18 : Index := Scalar.indexCast v17
  let c0_11 : Index := 0#32
  ![v18.toNat, 0]
def k0_off2 (k0_t1 : Fin k0_t1_loop.trips) (c0_i32_37 : BitVec 32) : Fin 2 → Nat :=
  let c0_i32 : BitVec 32 := 0#32
  let c1_i32 : BitVec 32 := 1#32
  let arg15 : BitVec 32 := Scf.iv c0_i32 c1_i32 k0_t1
  let c256_i32 : BitVec 32 := 256#32
  let v16 : BitVec 32 := Scalar.muli arg15 c256_i32
  let v17 : BitVec 32 := v16
  let v104 : BitVec 32 := Scalar.addi v17 c0_i32_37
  let v105 : Index := Scalar.indexCast v104
  let c0_38 : Index := 0#32
  ![v105.toNat, 0]
def k0_off3 (k0_t1 : Fin k0_t1_loop.trips) : Fin 2 → Nat :=
  let c0_488 : Index := 0#32
  let c0_i32 : BitVec 32 := 0#32
  let c1_i32 : BitVec 32 := 1#32
  let arg15 : BitVec 32 := Scf.iv c0_i32 c1_i32 k0_t1
  let c256_i32 : BitVec 32 := 256#32
  let v16 : BitVec 32 := Scalar.muli arg15 c256_i32
  let v17 : BitVec 32 := v16
  let v1649 : Index := Scalar.indexCast v17
  ![0, v1649.toNat]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_489 : BitVec 32 := 128#32
  let v1651 : BitVec 32 := Scalar.muli arg15 c128_i32_489
  v1651
def k0_off4 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32_489 : BitVec 32 := 128#32
  let v1651 : BitVec 32 := Scalar.muli arg15 c128_i32_489
  let v1652 : BitVec 32 := v1651
  let v1653 : Index := Scalar.indexCast v1652
  let c0_490 : Index := 0#32
  ![v1653.toNat, 0]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32_491 : BitVec 32 := 8#32
  let v1655 : BitVec 32 := Scalar.muli arg15 c8_i32_491
  v1655
def k0_off5 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32_491 : BitVec 32 := 8#32
  let v1655 : BitVec 32 := Scalar.muli arg15 c8_i32_491
  let v1656 : BitVec 32 := v1655
  let v1657 : Index := Scalar.indexCast v1656
  let c0_492 : Index := 0#32
  ![v1657.toNat, 0]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v16 : BitVec 32 := Scalar.muli arg15 c256_i32
  let v17 : BitVec 32 := v16
  let v1661 : Index := Scalar.indexCast v17
  let c128 : Index := 128#32
  ![v1661.toNat, 128]
def k0_off7 (k0_t1 : Fin k0_t1_loop.trips) : Fin 2 → Nat :=
  let c128_1041 : Index := 128#32
  let c0_i32 : BitVec 32 := 0#32
  let c1_i32 : BitVec 32 := 1#32
  let arg15 : BitVec 32 := Scf.iv c0_i32 c1_i32 k0_t1
  let c256_i32 : BitVec 32 := 256#32
  let v16 : BitVec 32 := Scalar.muli arg15 c256_i32
  let v17 : BitVec 32 := v16
  let v3292 : Index := Scalar.indexCast v17
  ![128, v3292.toNat]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_1042 : BitVec 32 := 128#32
  let v3294 : BitVec 32 := Scalar.muli arg15 c128_i32_1042
  v3294
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32_1042 : BitVec 32 := 128#32
  let v3294 : BitVec 32 := Scalar.muli arg15 c128_i32_1042
  let v3295 : BitVec 32 := v3294
  let v3296 : Index := Scalar.indexCast v3295
  let c128_1043 : Index := 128#32
  ![v3296.toNat, 128]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32_1044 : BitVec 32 := 8#32
  let v3298 : BitVec 32 := Scalar.muli arg15 c8_i32_1044
  v3298
def k0_off9 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32_1044 : BitVec 32 := 8#32
  let v3298 : BitVec 32 := Scalar.muli arg15 c8_i32_1044
  let v3299 : BitVec 32 := v3298
  let v3300 : Index := Scalar.indexCast v3299
  let c128_1045 : Index := 128#32
  ![v3300.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S3840x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3840x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3840x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3840x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1920x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x40x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantDyT.lean ====
abbrev S3x1280x16384 : Shape := ⟨3, ![3, 1280, 16384]⟩
abbrev S3x1280 : Shape := ⟨2, ![3, 1280]⟩
abbrev S3840x16384 : Shape := ⟨2, ![3840, 16384]⟩
abbrev S3840 : Shape := ⟨1, ![3840]⟩
abbrev S_ : Shape := ⟨0, ![]⟩
abbrev S15x8x32 : Shape := ⟨3, ![15, 8, 32]⟩
abbrev S15x32x8 : Shape := ⟨3, ![15, 32, 8]⟩
abbrev S3840x1 : Shape := ⟨2, ![3840, 1]⟩
abbrev S3840x128 : Shape := ⟨2, ![3840, 128]⟩
abbrev S1920x16384 : Shape := ⟨2, ![1920, 16384]⟩
abbrev S3x40x16384 : Shape := ⟨3, ![3, 40, 16384]⟩
abbrev S3840x256 : Shape := ⟨2, ![3840, 256]⟩
abbrev S1920x256 : Shape := ⟨2, ![1920, 256]⟩
abbrev S3x40x256 : Shape := ⟨3, ![3, 40, 256]⟩
abbrev S120x256 : Shape := ⟨2, ![120, 256]⟩
abbrev S160x128 : Shape := ⟨2, ![160, 128]⟩
abbrev S96x128 : Shape := ⟨2, ![96, 128]⟩
abbrev S32x128 : Shape := ⟨2, ![32, 128]⟩
abbrev S256x128 : Shape := ⟨2, ![256, 128]⟩
abbrev S128x128 : Shape := ⟨2, ![128, 128]⟩
abbrev S64x128 : Shape := ⟨2, ![64, 128]⟩
abbrev S16x128 : Shape := ⟨2, ![16, 128]⟩
abbrev S8x128 : Shape := ⟨2, ![8, 128]⟩
abbrev S40x256 : Shape := ⟨2, ![40, 256]⟩
abbrev S1x40x256 : Shape := ⟨3, ![1, 40, 256]⟩

abbrev nBuf : Space → Nat
  | .hbm => 16
  | .vmem => 18
  | .smem => 0
  | _ => 0

abbrev bufTy : (tb : Table) → Fin (tcTables nBuf tb) → BufTy
  | .hbm, ⟨0, _⟩ => ⟨S3x1280x16384, .bf16⟩
  | .hbm, ⟨1, _⟩ => ⟨S3x1280, .f32⟩
  | .hbm, ⟨2, _⟩ => ⟨S3x1280x16384, .i8⟩
  | .hbm, ⟨3, _⟩ => ⟨S3840x16384, .bf16⟩
  | .hbm, ⟨4, _⟩ => ⟨S3840x16384, .i8⟩
  | .hbm, ⟨5, _⟩ => ⟨S3840, .f32⟩
  | .hbm, ⟨6, _⟩ => ⟨S_, .f32⟩
  | .hbm, ⟨7, _⟩ => ⟨S3840, .f32⟩
  | .hbm, ⟨8, _⟩ => ⟨S3840, .f32⟩
  | .hbm, ⟨9, _⟩ => ⟨S15x8x32, .f32⟩
  | .hbm, ⟨10, _⟩ => ⟨S15x32x8, .f32⟩
  | .hbm, ⟨11, _⟩ => ⟨S3840x1, .f32⟩
  | .hbm, ⟨12, _⟩ => ⟨S3840x128, .f32⟩
  | .hbm, ⟨13, _⟩ => ⟨S3840x16384, .bf16⟩
  | .hbm, ⟨14, _⟩ => ⟨S1920x16384, .i8⟩
  | .hbm, ⟨15, _⟩ => ⟨S3x40x16384, .i8⟩
  | .local _ .vmem, ⟨0, _⟩ => ⟨S3840x128, .f32⟩
  | .local _ .vmem, ⟨1, _⟩ => ⟨S3840x256, .bf16⟩
  | .local _ .vmem, ⟨2, _⟩ => ⟨S3840x256, .bf16⟩
  | .local _ .vmem, ⟨3, _⟩ => ⟨S3840x256, .i8⟩
  | .local _ .vmem, ⟨4, _⟩ => ⟨S3840x256, .i8⟩
  | .local _ .vmem, ⟨5, _⟩ => ⟨S3840x256, .bf16⟩
  | .local _ .vmem, ⟨6, _⟩ => ⟨S3840x256, .bf16⟩
  | .local _ .vmem, ⟨7, _⟩ => ⟨S1920x256, .i8⟩
  | .local _ .vmem, ⟨8, _⟩ => ⟨S1920x256, .i8⟩
  | .local _ .vmem, ⟨9, _⟩ => ⟨S3x40x256, .i8⟩
  | .local _ .vmem, ⟨10, _⟩ => ⟨S3x40x256, .i8⟩
  | .local _ .vmem, ⟨11, _⟩ => ⟨S120x256, .i32⟩
  | .local _ .vmem, ⟨12, _⟩ => ⟨S160x128, .i32⟩
  | .local _ .vmem, ⟨13, _⟩ => ⟨S96x128, .i32⟩
  | .local _ .vmem, ⟨14, _⟩ => ⟨S32x128, .i32⟩
  | .local _ .vmem, ⟨15, _⟩ => ⟨S160x128, .i32⟩
  | .local _ .vmem, ⟨16, _⟩ => ⟨S96x128, .i32⟩
  | .local _ .vmem, ⟨17, _⟩ => ⟨S32x128, .i32⟩
  | _, _ => ⟨S3x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32 : BitVec 32 := 0#32
  let c15_i32 : BitVec 32 := 15#32
  let v0 : BitVec 32 := Scalar.addi c0_i32 c15_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v16 : BitVec 32 := Scalar.muli arg14 c256_i32
  v16
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v16 : BitVec 32 := Scalar.muli arg14 c256_i32
  let v17 : BitVec 32 := v16
  let v18 : Index := Scalar.indexCast v17
  let c0_11 : Index := 0#32
  ![v18.toNat, 0]
def k0_off2 (k0_t1 : Fin k0_t1_loop.trips) (c0_i32_36 : BitVec 32) : Fin 2 → Nat :=
  let c0_i32 : BitVec 32 := 0#32
  let c1_i32 : BitVec 32 := 1#32
  let arg14 : BitVec 32 := Scf.iv c0_i32 c1_i32 k0_t1
  let c256_i32 : BitVec 32 := 256#32
  let v16 : BitVec 32 := Scalar.muli arg14 c256_i32
  let v17 : BitVec 32 := v16
  let v95 : BitVec 32 := Scalar.addi v17 c0_i32_36
  let v96 : Index := Scalar.indexCast v95
  let c0_37 : Index := 0#32
  ![v96.toNat, 0]
def k0_off3 (k0_t1 : Fin k0_t1_loop.trips) (c0_i32_487 : BitVec 32) : Fin 2 → Nat :=
  let c0_i32 : BitVec 32 := 0#32
  let c1_i32 : BitVec 32 := 1#32
  let arg14 : BitVec 32 := Scf.iv c0_i32 c1_i32 k0_t1
  let c256_i32 : BitVec 32 := 256#32
  let v16 : BitVec 32 := Scalar.muli arg14 c256_i32
  let v17 : BitVec 32 := v16
  let v1638 : BitVec 32 := Scalar.addi v17 c0_i32_487
  let v1639 : Index := Scalar.indexCast v1638
  let c0_488 : Index := 0#32
  ![v1639.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_519 : BitVec 32 := 128#32
  let v1686 : BitVec 32 := Scalar.muli arg14 c128_i32_519
  v1686
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32_519 : BitVec 32 := 128#32
  let v1686 : BitVec 32 := Scalar.muli arg14 c128_i32_519
  let v1687 : BitVec 32 := v1686
  let v1688 : Index := Scalar.indexCast v1687
  let c0_520 : Index := 0#32
  ![v1688.toNat, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_521 : BitVec 32 := 8#32
  let v1690 : BitVec 32 := Scalar.muli arg14 c8_i32_521
  v1690
def k0_off5 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32_521 : BitVec 32 := 8#32
  let v1690 : BitVec 32 := Scalar.muli arg14 c8_i32_521
  let v1691 : BitVec 32 := v1690
  let v1692 : Index := Scalar.indexCast v1691
  let c0_522 : Index := 0#32
  ![v1692.toNat, 0]
def k0_off6 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v16 : BitVec 32 := Scalar.muli arg14 c256_i32
  let v17 : BitVec 32 := v16
  let v1696 : Index := Scalar.indexCast v17
  let c128 : Index := 128#32
  ![v1696.toNat, 128]
def k0_off7 (k0_t1 : Fin k0_t1_loop.trips) (c0_i32_1070 : BitVec 32) : Fin 2 → Nat :=
  let c0_i32 : BitVec 32 := 0#32
  let c1_i32 : BitVec 32 := 1#32
  let arg14 : BitVec 32 := Scf.iv c0_i32 c1_i32 k0_t1
  let c256_i32 : BitVec 32 := 256#32
  let v16 : BitVec 32 := Scalar.muli arg14 c256_i32
  let v17 : BitVec 32 := v16
  let v3316 : BitVec 32 := Scalar.addi v17 c0_i32_1070
  let v3317 : Index := Scalar.indexCast v3316
  let c128_1071 : Index := 128#32
  ![v3317.toNat, 128]
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_1102 : BitVec 32 := 128#32
  let v3364 : BitVec 32 := Scalar.muli arg14 c128_i32_1102
  v3364
def k0_off8 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32_1102 : BitVec 32 := 128#32
  let v3364 : BitVec 32 := Scalar.muli arg14 c128_i32_1102
  let v3365 : BitVec 32 := v3364
  let v3366 : Index := Scalar.indexCast v3365
  let c128_1103 : Index := 128#32
  ![v3366.toNat, 128]
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_1104 : BitVec 32 := 8#32
  let v3368 : BitVec 32 := Scalar.muli arg14 c8_i32_1104
  v3368
def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32_1104 : BitVec 32 := 8#32
  let v3368 : BitVec 32 := Scalar.muli arg14 c8_i32_1104
  let v3369 : BitVec 32 := v3368
  let v3370 : Index := Scalar.indexCast v3369
  let c128_1105 : Index := 128#32
  ![v3370.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S3840x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3840x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3840x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3840x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x40x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantDyN.lean ====
abbrev S3x1280x16384 : Shape := ⟨3, ![3, 1280, 16384]⟩
abbrev S16384 : Shape := ⟨1, ![16384]⟩
abbrev S3840x16384 : Shape := ⟨2, ![3840, 16384]⟩
abbrev S_ : Shape := ⟨0, ![]⟩
abbrev S64x8x32 : Shape := ⟨3, ![64, 8, 32]⟩
abbrev S64x32x8 : Shape := ⟨3, ![64, 32, 8]⟩
abbrev S16384x1 : Shape := ⟨2, ![16384, 1]⟩
abbrev S16384x128 : Shape := ⟨2, ![16384, 128]⟩
abbrev S3840x8192 : Shape := ⟨2, ![3840, 8192]⟩
abbrev S3840x512 : Shape := ⟨2, ![3840, 512]⟩
abbrev S4096x128 : Shape := ⟨2, ![4096, 128]⟩
abbrev S256x4096 : Shape := ⟨2, ![256, 4096]⟩
abbrev S256x2048 : Shape := ⟨2, ![256, 2048]⟩
abbrev S256x128 : Shape := ⟨2, ![256, 128]⟩
abbrev S128x256 : Shape := ⟨2, ![128, 256]⟩
abbrev S160x128 : Shape := ⟨2, ![160, 128]⟩
abbrev S96x128 : Shape := ⟨2, ![96, 128]⟩
abbrev S128x128 : Shape := ⟨2, ![128, 128]⟩
abbrev S16x128 : Shape := ⟨2, ![16, 128]⟩
abbrev S8x128 : Shape := ⟨2, ![8, 128]⟩
abbrev S64x128 : Shape := ⟨2, ![64, 128]⟩

abbrev nBuf : Space → Nat
  | .hbm => 15
  | .vmem => 19
  | .smem => 0
  | _ => 0

abbrev bufTy : (tb : Table) → Fin (tcTables nBuf tb) → BufTy
  | .hbm, ⟨0, _⟩ => ⟨S3x1280x16384, .bf16⟩
  | .hbm, ⟨1, _⟩ => ⟨S16384, .f32⟩
  | .hbm, ⟨2, _⟩ => ⟨S3x1280x16384, .i8⟩
  | .hbm, ⟨3, _⟩ => ⟨S3840x16384, .bf16⟩
  | .hbm, ⟨4, _⟩ => ⟨S3840x16384, .i8⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S64x8x32, .f32⟩
  | .hbm, ⟨9, _⟩ => ⟨S64x32x8, .f32⟩
  | .hbm, ⟨10, _⟩ => ⟨S16384x1, .f32⟩
  | .hbm, ⟨11, _⟩ => ⟨S16384x128, .f32⟩
  | .hbm, ⟨12, _⟩ => ⟨S3840x16384, .bf16⟩
  | .hbm, ⟨13, _⟩ => ⟨S3840x8192, .i8⟩
  | .hbm, ⟨14, _⟩ => ⟨S3840x512, .i8⟩
  | .local _ .vmem, ⟨0, _⟩ => ⟨S4096x128, .f32⟩
  | .local _ .vmem, ⟨1, _⟩ => ⟨S4096x128, .f32⟩
  | .local _ .vmem, ⟨2, _⟩ => ⟨S256x4096, .bf16⟩
  | .local _ .vmem, ⟨3, _⟩ => ⟨S256x4096, .bf16⟩
  | .local _ .vmem, ⟨4, _⟩ => ⟨S256x4096, .i8⟩
  | .local _ .vmem, ⟨5, _⟩ => ⟨S256x4096, .i8⟩
  | .local _ .vmem, ⟨6, _⟩ => ⟨S256x4096, .bf16⟩
  | .local _ .vmem, ⟨7, _⟩ => ⟨S256x4096, .bf16⟩
  | .local _ .vmem, ⟨8, _⟩ => ⟨S256x2048, .i8⟩
  | .local _ .vmem, ⟨9, _⟩ => ⟨S256x2048, .i8⟩
  | .local _ .vmem, ⟨10, _⟩ => ⟨S256x128, .i8⟩
  | .local _ .vmem, ⟨11, _⟩ => ⟨S256x128, .i8⟩
  | .local _ .vmem, ⟨12, _⟩ => ⟨S128x256, .i32⟩
  | .local _ .vmem, ⟨13, _⟩ => ⟨S160x128, .i32⟩
  | .local _ .vmem, ⟨14, _⟩ => ⟨S160x128, .i32⟩
  | .local _ .vmem, ⟨15, _⟩ => ⟨S96x128, .i32⟩
  | .local _ .vmem, ⟨16, _⟩ => ⟨S160x128, .i32⟩
  | .local _ .vmem, ⟨17, _⟩ => ⟨S160x128, .i32⟩
  | .local _ .vmem, ⟨18, _⟩ => ⟨S96x128, .i32⟩
  | _, _ => ⟨S3x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![15, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  v5
def k0_off1 (k0_t1 : Fin k0_t1_loop.trips) : Fin 2 → Nat :=
  let c0_4 : Index := 0#32
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v7 : Index := Scalar.indexCast v6
  ![0, v7.toNat]
def k0_off2 (k0_t1 : Fin k0_t1_loop.trips) (c0_i32_34 : BitVec 32) : Fin 2 → Nat :=
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v87 : BitVec 32 := Scalar.addi v6 c0_i32_34
  let v88 : Index := Scalar.indexCast v87
  let c0_35 : Index := 0#32
  ![v88.toNat, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_497 : BitVec 32 := 128#32
  let v1644 : BitVec 32 := Scalar.muli arg15 c128_i32_497
  v1644
def k0_off3 (k0_t1 : Fin k0_t1_loop.trips) : Fin 2 → Nat :=
  let c0_498 : Index := 0#32
  let c0_i32 : BitVec 32 := 0#32
  let c1_i32 : BitVec 32 := 1#32
  let arg15 : BitVec 32 := Scf.iv c0_i32 c1_i32 k0_t1
  let c128_i32_497 : BitVec 32 := 128#32
  let v1644 : BitVec 32 := Scalar.muli arg15 c128_i32_497
  let v1645 : BitVec 32 := v1644
  let v1646 : Index := Scalar.indexCast v1645
  ![0, v1646.toNat]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32_499 : BitVec 32 := 8#32
  let v1648 : BitVec 32 := Scalar.muli arg15 c8_i32_499
  v1648
def k0_off4 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32_499 : BitVec 32 := 8#32
  let v1648 : BitVec 32 := Scalar.muli arg15 c8_i32_499
  let v1649 : BitVec 32 := v1648
  let v1650 : Index := Scalar.indexCast v1649
  let c0_500 : Index := 0#32
  ![v1650.toNat, 0]
def k0_off5 (k0_t1 : Fin k0_t1_loop.trips) : Fin 2 → Nat :=
  let c128 : Index := 128#32
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v1654 : Index := Scalar.indexCast v6
  ![128, v1654.toNat]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_1067 : BitVec 32 := 128#32
  let v3291 : BitVec 32 := Scalar.muli arg15 c128_i32_1067
  v3291
def k0_off6 (k0_t1 : Fin k0_t1_loop.trips) : Fin 2 → Nat :=
  let c128_1068 : Index := 128#32
  let c0_i32 : BitVec 32 := 0#32
  let c1_i32 : BitVec 32 := 1#32
  let arg15 : BitVec 32 := Scf.iv c0_i32 c1_i32 k0_t1
  let c128_i32_1067 : BitVec 32 := 128#32
  let v3291 : BitVec 32 := Scalar.muli arg15 c128_i32_1067
  let v3292 : BitVec 32 := v3291
  let v3293 : Index := Scalar.indexCast v3292
  ![128, v3293.toNat]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32_1069 : BitVec 32 := 8#32
  let v3295 : BitVec 32 := Scalar.muli arg15 c8_i32_1069
  v3295
def k0_off7 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32_1069 : BitVec 32 := 8#32
  let v3295 : BitVec 32 := Scalar.muli arg15 c8_i32_1069
  let v3296 : BitVec 32 := v3295
  let v3297 : Index := Scalar.indexCast v3296
  let c128_1070 : Index := 128#32
  ![v3297.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QuantW.lean ====
abbrev S6144x16384 : Shape := ⟨2, ![6144, 16384]⟩
abbrev S16384 : Shape := ⟨1, ![16384]⟩
abbrev S_ : Shape := ⟨0, ![]⟩
abbrev S64x8x32 : Shape := ⟨3, ![64, 8, 32]⟩
abbrev S64x32x8 : Shape := ⟨3, ![64, 32, 8]⟩
abbrev S16384x1 : Shape := ⟨2, ![16384, 1]⟩
abbrev S16384x128 : Shape := ⟨2, ![16384, 128]⟩
abbrev S16384x6144 : Shape := ⟨2, ![16384, 6144]⟩
abbrev S6144x8192 : Shape := ⟨2, ![6144, 8192]⟩
abbrev S6144x512 : Shape := ⟨2, ![6144, 512]⟩
abbrev S4096x128 : Shape := ⟨2, ![4096, 128]⟩
abbrev S256x4096 : Shape := ⟨2, ![256, 4096]⟩
abbrev S4096x256 : Shape := ⟨2, ![4096, 256]⟩
abbrev S256x2048 : Shape := ⟨2, ![256, 2048]⟩
abbrev S256x128 : Shape := ⟨2, ![256, 128]⟩
abbrev S128x256 : Shape := ⟨2, ![128, 256]⟩
abbrev S160x128 : Shape := ⟨2, ![160, 128]⟩
abbrev S96x128 : Shape := ⟨2, ![96, 128]⟩
abbrev S128x128 : Shape := ⟨2, ![128, 128]⟩
abbrev S16x128 : Shape := ⟨2, ![16, 128]⟩
abbrev S8x128 : Shape := ⟨2, ![8, 128]⟩
abbrev S64x128 : Shape := ⟨2, ![64, 128]⟩

abbrev nBuf : Space → Nat
  | .hbm => 13
  | .vmem => 19
  | .smem => 0
  | _ => 0

abbrev bufTy : (tb : Table) → Fin (tcTables nBuf tb) → BufTy
  | .hbm, ⟨0, _⟩ => ⟨S6144x16384, .bf16⟩
  | .hbm, ⟨1, _⟩ => ⟨S16384, .f32⟩
  | .hbm, ⟨2, _⟩ => ⟨S6144x16384, .i8⟩
  | .hbm, ⟨3, _⟩ => ⟨S_, .f32⟩
  | .hbm, ⟨4, _⟩ => ⟨S16384, .f32⟩
  | .hbm, ⟨5, _⟩ => ⟨S16384, .f32⟩
  | .hbm, ⟨6, _⟩ => ⟨S64x8x32, .f32⟩
  | .hbm, ⟨7, _⟩ => ⟨S64x32x8, .f32⟩
  | .hbm, ⟨8, _⟩ => ⟨S16384x1, .f32⟩
  | .hbm, ⟨9, _⟩ => ⟨S16384x128, .f32⟩
  | .hbm, ⟨10, _⟩ => ⟨S16384x6144, .bf16⟩
  | .hbm, ⟨11, _⟩ => ⟨S6144x8192, .i8⟩
  | .hbm, ⟨12, _⟩ => ⟨S6144x512, .i8⟩
  | .local _ .vmem, ⟨0, _⟩ => ⟨S4096x128, .f32⟩
  | .local _ .vmem, ⟨1, _⟩ => ⟨S4096x128, .f32⟩
  | .local _ .vmem, ⟨2, _⟩ => ⟨S256x4096, .bf16⟩
  | .local _ .vmem, ⟨3, _⟩ => ⟨S256x4096, .bf16⟩
  | .local _ .vmem, ⟨4, _⟩ => ⟨S256x4096, .i8⟩
  | .local _ .vmem, ⟨5, _⟩ => ⟨S256x4096, .i8⟩
  | .local _ .vmem, ⟨6, _⟩ => ⟨S4096x256, .bf16⟩
  | .local _ .vmem, ⟨7, _⟩ => ⟨S4096x256, .bf16⟩
  | .local _ .vmem, ⟨8, _⟩ => ⟨S256x2048, .i8⟩
  | .local _ .vmem, ⟨9, _⟩ => ⟨S256x2048, .i8⟩
  | .local _ .vmem, ⟨10, _⟩ => ⟨S256x128, .i8⟩
  | .local _ .vmem, ⟨11, _⟩ => ⟨S256x128, .i8⟩
  | .local _ .vmem, ⟨12, _⟩ => ⟨S128x256, .i32⟩
  | .local _ .vmem, ⟨13, _⟩ => ⟨S160x128, .i32⟩
  | .local _ .vmem, ⟨14, _⟩ => ⟨S160x128, .i32⟩
  | .local _ .vmem, ⟨15, _⟩ => ⟨S96x128, .i32⟩
  | .local _ .vmem, ⟨16, _⟩ => ⟨S160x128, .i32⟩
  | .local _ .vmem, ⟨17, _⟩ => ⟨S160x128, .i32⟩
  | .local _ .vmem, ⟨18, _⟩ => ⟨S96x128, .i32⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![24, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  v5
def k0_off1 (k0_t1 : Fin k0_t1_loop.trips) : Fin 2 → Nat :=
  let c0_4 : Index := 0#32
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v7 : Index := Scalar.indexCast v6
  ![0, v7.toNat]
def k0_off2 (k0_t1 : Fin k0_t1_loop.trips) (c0_i32_34 : BitVec 32) : Fin 2 → Nat :=
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v85 : BitVec 32 := Scalar.addi v6 c0_i32_34
  let v86 : Index := Scalar.indexCast v85
  let c0_35 : Index := 0#32
  ![v86.toNat, 0]
def k0_off3 (k0_t1 : Fin k0_t1_loop.trips) (c0_i32_496 : BitVec 32) : Fin 2 → Nat :=
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v1638 : BitVec 32 := Scalar.addi v6 c0_i32_496
  let v1639 : Index := Scalar.indexCast v1638
  let c0_497 : Index := 0#32
  ![v1639.toNat, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_528 : BitVec 32 := 128#32
  let v1686 : BitVec 32 := Scalar.muli arg15 c128_i32_528
  v1686
def k0_off4 (k0_t1 : Fin k0_t1_loop.trips) : Fin 2 → Nat :=
  let c0_529 : Index := 0#32
  let c0_i32 : BitVec 32 := 0#32
  let c1_i32 : BitVec 32 := 1#32
  let arg15 : BitVec 32 := Scf.iv c0_i32 c1_i32 k0_t1
  let c128_i32_528 : BitVec 32 := 128#32
  let v1686 : BitVec 32 := Scalar.muli arg15 c128_i32_528
  let v1687 : BitVec 32 := v1686
  let v1688 : Index := Scalar.indexCast v1687
  ![0, v1688.toNat]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32_530 : BitVec 32 := 8#32
  let v1690 : BitVec 32 := Scalar.muli arg15 c8_i32_530
  v1690
def k0_off5 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32_530 : BitVec 32 := 8#32
  let v1690 : BitVec 32 := Scalar.muli arg15 c8_i32_530
  let v1691 : BitVec 32 := v1690
  let v1692 : Index := Scalar.indexCast v1691
  let c0_531 : Index := 0#32
  ![v1692.toNat, 0]
def k0_off6 (k0_t1 : Fin k0_t1_loop.trips) : Fin 2 → Nat :=
  let c128 : Index := 128#32
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v1696 : Index := Scalar.indexCast v6
  ![128, v1696.toNat]
def k0_off7 (k0_t1 : Fin k0_t1_loop.trips) (c0_i32_1097 : BitVec 32) : Fin 2 → Nat :=
  let c0_i32 : BitVec 32 := 0#32
  let c1_i32 : BitVec 32 := 1#32
  let arg15 : BitVec 32 := Scf.iv c0_i32 c1_i32 k0_t1
  let c256_i32 : BitVec 32 := 256#32
  let v5 : BitVec 32 := Scalar.muli arg15 c256_i32
  let v6 : BitVec 32 := v5
  let v3327 : BitVec 32 := Scalar.addi v6 c0_i32_1097
  let v3328 : Index := Scalar.indexCast v3327
  let c128_1098 : Index := 128#32
  ![v3328.toNat, 128]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_1129 : BitVec 32 := 128#32
  let v3375 : BitVec 32 := Scalar.muli arg15 c128_i32_1129
  v3375
def k0_off8 (k0_t1 : Fin k0_t1_loop.trips) : Fin 2 → Nat :=
  let c128_1130 : Index := 128#32
  let c0_i32 : BitVec 32 := 0#32
  let c1_i32 : BitVec 32 := 1#32
  let arg15 : BitVec 32 := Scf.iv c0_i32 c1_i32 k0_t1
  let c128_i32_1129 : BitVec 32 := 128#32
  let v3375 : BitVec 32 := Scalar.muli arg15 c128_i32_1129
  let v3376 : BitVec 32 := v3375
  let v3377 : Index := Scalar.indexCast v3376
  ![128, v3377.toNat]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32_1131 : BitVec 32 := 8#32
  let v3379 : BitVec 32 := Scalar.muli arg15 c8_i32_1131
  v3379
def k0_off9 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32_1131 : BitVec 32 := 8#32
  let v3379 : BitVec 32 := Scalar.muli arg15 c8_i32_1131
  let v3380 : BitVec 32 := v3379
  let v3381 : Index := Scalar.indexCast v3380
  let c128_1132 : Index := 128#32
  ![v3381.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.DwValue.lean ====
/-
  The weight-gradient product at the ideal values: what one grid point leaves in its block, and what the whole result
  array holds after the run.
-/
module

public import proofs.«01_k».proof.Proof.Gen.KernelDwIdeal.Value
public import Idealize.ShloMosaic.Lib.MatmulPlain
public import Idealize.ShloMosaic.Lib.Pipeline.ValueKit

@[expose] public section

noncomputable section

namespace Cert.DwValue

open Cert.KernelDwIdeal Cert.KernelDwIdeal.Gen Idealize.ShloMosaic.TcCoe Idealize.SL.Sem
open Idealize.ShloMosaic hiding ix2 eq_ix2
open Idealize.ShloMosaic.ValueIdx (ix2 eq_ix2)
open Idealize.ShloMosaic.Pipeline (Dat)
open scoped BigOperators

/-- The factor 16/9 that undoes the two shrinks by 3/4, as the single-precision number nearest to it. -/
abbrev unshrink : Ideal .f32 := FloatOps.ofBits .f32 0x3FE38E39#32

/-- What one grid point computes from its two blocks, at row `r` and column `c`: the sum over all 3840 contracted
    positions of the products, times the factor. -/
theorem block_apply (x : Vec Ideal S512x3840 .bf16) (y : Vec Ideal S3840x1024 .bf16) (r : Fin 512) (c : Fin 1024) :
    k0_pay1 (F := Ideal) x y (ix2 r c) = (∑ k : Fin 3840, x (ix2 r k) * y (ix2 k c)) * unshrink := by
  show FloatOps.matmul (DotDims.plain 512 3840 1024) none x y (constant S512x1024 .f32 0x00000000#32) (ix2 r c)
    * unshrink = _
  rw [Ideal.matmul_plain_apply]
  congr 1
  show Ideal.ofBits .f32 0x00000000#32 + _ = _
  rw [Ideal.ofBits_zero_f32, zero_add]

/-- The whole product: entry `(r, c)` is the sum over `k` of `x[r, k] * dy[k, c]`, times the factor. -/
def product (x : Vec Ideal S6144x3840 .bf16) (dy : Vec Ideal S3840x16384 .bf16) : Vec Ideal S6144x16384 .f32 :=
  fun i => (∑ k : Fin 3840, x (ix2 (i 0) k) * dy (ix2 k (i 1))) * unshrink

variable (m : (ℓ : Loc nD τ sig) → Buf (Elt Ideal) ℓ) (ρ : Dev nD → PrngReg)

theorem zeros : (![0, 0] : Fin 2 → Nat) = fun _ => 0 := funext fun a => by fin_cases a <;> rfl

/-- Where the blocks lie: point `t` takes row block `t mod 12` of `x`, column block `t / 12` of `dy`, and fills the block
    of the result at that row and column. -/
theorem places : ∀ t : Fin cfg0.N,
    (win0_0.index t (0 : Fin 2) = t.val % 12 ∧ win0_0.index t (1 : Fin 2) = 0)
    ∧ (win0_1.index t (0 : Fin 2) = 0 ∧ win0_1.index t (1 : Fin 2) = t.val / 12)
    ∧ (win0_2.index t (0 : Fin 2) = t.val % 12 ∧ win0_2.index t (1 : Fin 2) = t.val / 12) :=
  (by decide +kernel : ∀ t : Fin grid0.N, _)

/-- The whole result array after the run is the whole product of the two argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  obtain ⟨⟨a0, a1⟩, ⟨b0, b1⟩, ⟨c0, c1⟩⟩ := places t
  show (dats m 0 c).after 2 t y = _
  rw [after0_2]
  unfold out0_2
  rw [View.canon_unit_zero zeros, View.ld_unit_zero (S := S512x3840) zeros, View.ld_unit_zero (S := S3840x1024) zeros]
  rw [eq_ix2 y]
  refine (block_apply _ _ _ _).trans ?_
  unfold product
  congr 1
  refine Finset.sum_congr rfl fun k _ => ?_
  congr 1
  · show V m c main_arg0 _ = m (c.tc.loc main_arg0) _
    unfold V
    congr 1
    funext a
    apply Fin.ext
    match a with
    | ⟨0, _⟩ =>
      show win0_0.index t 0 * 512 + 1 * (y 0).val = win0_2.index t 0 * 512 + 1 * (y 0).val
      rw [a0, c0]
    | ⟨1, _⟩ =>
      show win0_0.index t 1 * 3840 + 1 * k.val = k.val
      rw [a1]; omega
  · show V m c main_arg1 _ = m (c.tc.loc main_arg1) _
    unfold V
    congr 1
    funext a
    apply Fin.ext
    match a with
    | ⟨0, _⟩ =>
      show win0_1.index t 0 * 3840 + 1 * k.val = k.val
      rw [b0]; omega
    | ⟨1, _⟩ =>
      show win0_1.index t 1 * 1024 + 1 * (y 1).val = win0_2.index t 1 * 1024 + 1 * (y 1).val
      rw [b1, c1]

/-- Every run of the call ends with the result array at the whole product of the arguments, the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩)
    (Cert.KernelDwIdeal.Value.run_blocks m ρ)

end Cert.DwValue

end
-- ==== Proof.DwEquation.lean ====
/-
  The weight-gradient product: what the reference computes, and the equation of the two.
-/
module

public import proofs.«01_k».proof.Defs
public import proofs.«01_k».proof.Proof.DwValue
public import proofs.«01_k».proof.Proof.Gen.ReferenceDwIdeal.Read
public import Idealize.ShloMosaic.Lib.Quiescent

@[expose] public section

noncomputable section

namespace Cert.DwEquation

open Idealize.ShloMosaic Idealize.ShloMosaic.TcCoe Idealize.SL.Sem
open scoped BigOperators

/-- The reference's array is the whole product: it multiplies the factor from the left, the kernel from the right. -/
theorem reference_eq (x : Vec Ideal Cert.KernelDwIdeal.S6144x3840 .bf16) (dy : Vec Ideal Cert.KernelDwIdeal.S3840x16384 .bf16) :
    Cert.ReferenceDwIdeal.Read.val_main_v2 (F := Ideal) x dy = Cert.DwValue.product x dy := by
  funext i
  rw [Cert.ReferenceDwIdeal.Read.val_main_v2_apply, Cert.ReferenceDwIdeal.Read.val_main_v1_apply,
    Cert.ReferenceDwIdeal.Read.val_main_cst_apply, Cert.ReferenceDwIdeal.Read.val_main_v0_apply]
  refine (mul_comm _ _).trans ?_
  unfold Cert.DwValue.product
  congr 1
  refine Finset.sum_congr rfl fun k _ => ?_
  congr 1
  · congr 1; funext a; match a with | ⟨0, _⟩ => rfl | ⟨1, _⟩ => rfl
  · congr 1; funext a; match a with | ⟨0, _⟩ => rfl | ⟨1, _⟩ => rfl

/-- The reference runs, leaves its arguments as they were, and ends with every semaphore at zero. -/
theorem frame_reference : Cert.quiescent_ReferenceDwIdeal (hReferenceDwIdeal := Cert.ReferenceDwIdeal.Gen.facts) := fun m ρ _ =>
  (θ_run Cert.ReferenceDwIdeal.defs _ _).mono (fun r h => ⟨fun c => (h c).2,
      Idealize.ShloMosaic.sem_eq_zero_of_no_sems (by decide) r.2⟩)
    (Cert.ReferenceDwIdeal.Value.run (F := Ideal) m ρ)

/-- From equal arguments the kernel's result and the reference's are equal, entry by entry. -/
theorem algebraic : Cert.algebraic_KernelDwIdeal_ReferenceDwIdeal (hKernelDwIdeal := Cert.KernelDwIdeal.Gen.facts)
    (hReferenceDwIdeal := Cert.ReferenceDwIdeal.Gen.facts) := by
  intro m ρ m' ρ' _ hagree
  refine ⟨fun c => Cert.DwValue.product (m ((c.tc : Thread _ _).loc Cert.KernelDwIdeal.main_arg0))
    (m ((c.tc : Thread _ _).loc Cert.KernelDwIdeal.main_arg1)), Cert.DwValue.run m ρ, ?_⟩
  refine (θ_run Cert.ReferenceDwIdeal.defs _ _).mono (fun _ h c => ⟨(h c).1.trans ?_, (h c).2⟩)
    (Cert.ReferenceDwIdeal.Value.run (F := Ideal) m' ρ')
  rw [(hagree c).1, (hagree c).2]
  exact (Cert.ReferenceDwIdeal.Read.val_main_v2_eq _ _).trans (reference_eq _ _)

end Cert.DwEquation

end
-- ==== Proof.DxCases.lean ====
/-
  What one grid point of the input-gradient call leaves behind, at any float numbers: the accumulator after a point that
  starts a sweep of the contraction, after one in the middle of it, and after the one that ends it; and the pieces which
  that last point's loop stores into the two result blocks.
-/
module

public import proofs.«01_k».proof.Proof.Gen.KernelDxIdeal.Value
public import Idealize.ShloMosaic.Lib.Pipeline.ValueKit

@[expose] public section

noncomputable section

namespace Cert.DxCases

open Cert.KernelDxIdeal Cert.KernelDxIdeal.Gen Idealize.ShloMosaic Idealize.ShloMosaic.TcCoe Idealize.SL.Sem
open Idealize.ShloMosaic.Tactic

variable {F : FTy → Type} [FloatOps F]

theorem zeros : (![0, 0] : Fin 2 → Nat) = fun _ => 0 := funext fun a => by fin_cases a <;> rfl

section

variable (c : Dev nD) (i : grid0.Coords)
  (arg3 : Memref sig .tc .vmem S1920x2048 .bf16) (harg3 : arg3.IsWhole) (arg4 : Memref sig .tc .vmem S2048x512 .bf16) (harg4 : arg4.IsWhole)
  (arg5 : Memref sig .tc .vmem S1920x512 .bf16) (harg5 : arg5.IsWhole) (arg6 : Memref sig .tc .vmem S1920x512 .bf16) (harg6 : arg6.IsWhole)
  (arg7 : Memref sig .tc .vmem S1920x512 .bf16) (harg7 : arg7.IsWhole) (arg8 : Memref sig .tc .vmem S1920x512 .bf16) (harg8 : arg8.IsWhole)
  (arg9 : Memref sig .tc .vmem S1920x512 .f32) (harg9 : arg9.IsWhole)
  (x0 : Vec F S1920x2048 .bf16) (x1 : Vec F S2048x512 .bf16) (x2 : Vec F S1920x512 .bf16) (x3 : Vec F S1920x512 .bf16)
  (xs0 : Vec F S1920x512 .f32)

/-- The first point of a sweep leaves zero plus the product of its two blocks in the accumulator. -/
theorem scratch_A (hc0 : cond0_0 i) (hc1 : ¬cond0_1 i) :
    sout0_A_0 c i arg3 harg3 arg4 harg4 arg5 harg5 arg6 harg6 arg7 harg7 arg8 harg8 arg9 harg9 hc0 hc1 x0 x1 x2 x3
      = k0_pay2 k0_pay1 x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1920x512) zeros, View.readCov_unit_zero (S := S1920x512) _ zeros]
  simp only [View.readAt_eq_ld, harg3.read_unread, harg4.read_unread, View.ld_unit_zero (S := S1920x2048) zeros,
    View.ld_unit_zero (S := S2048x512) zeros]

/-- A point in the middle of a sweep adds the product of its two blocks to the accumulator. -/
theorem scratch_B (hc0 : ¬cond0_0 i) (hc1 : ¬cond0_1 i) :
    sout0_B_0 c i arg3 harg3 arg4 harg4 arg5 harg5 arg6 harg6 arg7 harg7 arg8 harg8 arg9 harg9 hc0 hc1 x0 x1 x2 x3 xs0
      = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0)]
  unfold kernelRun0_B
  dsimp only
  rw [View.canon_unit_zero zeros]
  simp only [View.readAt_eq_ld, harg3.read_unread, harg4.read_unread, harg9.read_unread,
    View.ld_unit_zero (S := S1920x2048) zeros, View.ld_unit_zero (S := S2048x512) zeros, View.ld_unit_zero (S := S1920x512) zeros]

/-- The last point of a sweep adds the product of its two blocks to the accumulator too. -/
theorem scratch_C (hc0 : ¬cond0_0 i) (hc1 : cond0_1 i) :
    sout0_C_0 c i arg3 harg3 arg4 harg4 arg5 harg5 arg6 harg6 arg7 harg7 arg8 harg8 arg9 harg9 hc0 hc1 x0 x1 x2 x3 xs0
      = k0_pay2 xs0 x0 x1 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero zeros]
  simp only [View.readAt_eq_ld, harg3.read_unread, harg4.read_unread, harg9.read_unread,
    View.ld_unit_zero (S := S1920x2048) zeros, View.ld_unit_zero (S := S2048x512) zeros, View.ld_unit_zero (S := S1920x512) zeros]

/-- Trip `k` of the last point's loop stores one strip of 64 rows into each result block: the strip of the payload
    computed from the same strip of `g`, of `u` and of the accumulator. -/
theorem trip_pieces (h : k0_cond2 i = 1#1) (X5 : BufTy.Contents (Elt F) arg5.view.ty)
    (X6 : BufTy.Contents (Elt F) arg6.view.ty) (X9 : BufTy.Contents (Elt F) arg9.view.ty) (k : Fin k0_t1_loop.trips) :
    tripL_k0_t1 (F := F) Variants.none c none i arg3 harg3 arg4 harg4 arg5 harg5 arg6 harg6 arg7 harg7 arg8 harg8 arg9 harg9 h X5 X6 X9 k
      = ([⟨Rect.unit (s := S1920x512) (k0_off1 k) S64x512.size (k0_off1_inb i k h),
            k0_pay6 (View.ld (arg5.view.read (Elt F) X5) (Rect.unit (s := S1920x512) (k0_off1 k) S64x512.size (k0_off1_inb i k h)))
              (View.ld (arg6.view.read (Elt F) X6) (Rect.unit (s := S1920x512) (k0_off1 k) S64x512.size (k0_off1_inb i k h)))
              (View.ld (arg9.view.read (Elt F) X9) (Rect.unit (s := S1920x512) (k0_off1 k) S64x512.size (k0_off1_inb i k h)))⟩],
         [⟨Rect.unit (s := S1920x512) (k0_off1 k) S64x512.size (k0_off1_inb i k h),
            k0_pay7 (View.ld (arg5.view.read (Elt F) X5) (Rect.unit (s := S1920x512) (k0_off1 k) S64x512.size (k0_off1_inb i k h)))
              (View.ld (arg9.view.read (Elt F) X9) (Rect.unit (s := S1920x512) (k0_off1 k) S64x512.size (k0_off1_inb i k h)))⟩]) := by
  unfold tripL_k0_t1 trip_k0_t1
  rfl

/-- If the two payloads act entry by entry, as `f` of `g`, `u` and the accumulator and as `f'` of `g` and the accumulator,
    then every piece stored by the trips before `n` holds those entries of the whole block. -/
theorem pieces_agree (h : k0_cond2 i = 1#1) (X5 : BufTy.Contents (Elt F) arg5.view.ty)
    (X6 : BufTy.Contents (Elt F) arg6.view.ty) (X9 : BufTy.Contents (Elt F) arg9.view.ty)
    (f : F .bf16 → F .bf16 → F .f32 → F .bf16) (f' : F .bf16 → F .f32 → F .bf16)
    (hf : ∀ (a b : Vec F S64x512 .bf16) (s : Vec F S64x512 .f32) (x : S64x512.Idx), k0_pay6 a b s x = f (a x) (b x) (s x))
    (hf' : ∀ (a : Vec F S64x512 .bf16) (s : Vec F S64x512 .f32) (x : S64x512.Idx), k0_pay7 a s x = f' (a x) (s x)) :
    ∀ n : ℕ, n ≤ k0_t1_loop.trips →
      (∀ p ∈ (pb_k0_t1 (F := F) Variants.none c none i arg3 harg3 arg4 harg4 arg5 harg5 arg6 harg6 arg7 harg7 arg8 harg8 arg9 harg9 h X5 X6 X9 n).1,
        ∀ x : p.1.shape.Idx, p.2 x = f (arg5.view.read (Elt F) X5 (p.1.emb x)) (arg6.view.read (Elt F) X6 (p.1.emb x))
          (arg9.view.read (Elt F) X9 (p.1.emb x)))
      ∧ (∀ p ∈ (pb_k0_t1 (F := F) Variants.none c none i arg3 harg3 arg4 harg4 arg5 harg5 arg6 harg6 arg7 harg7 arg8 harg8 arg9 harg9 h X5 X6 X9 n).2,
        ∀ x : p.1.shape.Idx, p.2 x = f' (arg5.view.read (Elt F) X5 (p.1.emb x)) (arg9.view.read (Elt F) X9 (p.1.emb x)))
  | 0, _ => ⟨fun p hp => absurd hp (by unfold pb_k0_t1; simp), fun p hp => absurd hp (by unfold pb_k0_t1; simp)⟩
  | n + 1, hn => by
    obtain ⟨ih1, ih2⟩ := pieces_agree h X5 X6 X9 f f' hf hf' n (Nat.le_of_succ_le hn)
    have e := pb_k0_t1_succ (F := F) Variants.none c none i arg3 harg3 arg4 harg4 arg5 harg5 arg6 harg6 arg7 harg7 arg8 harg8 arg9 harg9 h X5 X6 X9 ⟨n, hn⟩
    rw [trip_pieces] at e
    rw [show n + 1 = (⟨n, hn⟩ : Fin k0_t1_loop.trips).val + 1 from rfl, e]
    refine ⟨fun p hp => ?_, fun p hp => ?_⟩
    · rcases List.mem_cons.mp hp with rfl | hp
      · exact fun x => hf _ _ _ x
      · exact ih1 p hp
    · rcases List.mem_cons.mp hp with rfl | hp
      · exact fun x => hf' _ _ x
      · exact ih2 p hp

/-- The accumulator's contents as the last point's loop finds them. -/
theorem read_acc : arg9.view.read (Elt F) (arg9.view.writes (Elt F) arg9.view.junk
      [⟨Rect.unit ![0, 0] S1920x512.size inb_S1920x512_S1920x512_0_0,
          k0_pay2
            (View.readAt (Elt F) arg9.view (Rect.unit ![0, 0] S1920x512.size inb_S1920x512_S1920x512_0_0).toLoadRect (harg9.unread xs0))
            (View.readAt (Elt F) arg3.view (Rect.unit ![0, 0] S1920x2048.size inb_S1920x2048_S1920x2048_0_0).toLoadRect (harg3.unread x0))
            (View.readAt (Elt F) arg4.view (Rect.unit ![0, 0] S2048x512.size inb_S2048x512_S2048x512_0_0).toLoadRect (harg4.unread x1))⟩])
    = k0_pay2 xs0 x0 x1 := by
  rw [View.read_writes_eq_canon _ _ _ (fun y => ⟨_, List.mem_singleton_self _, by
    rw [Rect.mem_set_unit]
    intro a
    exact ⟨by rw [congrFun zeros a]; exact Nat.zero_le _, by rw [congrFun zeros a, Nat.zero_add]; exact (y a).isLt⟩⟩),
    View.canon_unit_zero zeros]
  simp only [View.readAt_eq_ld, harg3.read_unread, harg4.read_unread, harg9.read_unread,
    View.ld_unit_zero (S := S1920x2048) zeros, View.ld_unit_zero (S := S2048x512) zeros, View.ld_unit_zero (S := S1920x512) zeros]

/-- The last point of a sweep leaves, in its block of the first result, `f` of `g`, `u` and the finished accumulator. -/
theorem out_C4 (hc0 : ¬cond0_0 i) (hc1 : cond0_1 i)
    (f : F .bf16 → F .bf16 → F .f32 → F .bf16) (f' : F .bf16 → F .f32 → F .bf16)
    (hf : ∀ (a b : Vec F S64x512 .bf16) (s : Vec F S64x512 .f32) (x : S64x512.Idx), k0_pay6 a b s x = f (a x) (b x) (s x))
    (hf' : ∀ (a : Vec F S64x512 .bf16) (s : Vec F S64x512 .f32) (x : S64x512.Idx), k0_pay7 a s x = f' (a x) (s x))
    (y : S1920x512.Idx) :
    out0_C_4 c i arg3 harg3 arg4 harg4 arg5 harg5 arg6 harg6 arg7 harg7 arg8 harg8 arg9 harg9 hc0 hc1 x0 x1 x2 x3 xs0 y
      = f (x2 y) (x3 y) (k0_pay2 xs0 x0 x1 y) := by
  have hcov := cover0_C_4 c i arg3 harg3 arg4 harg4 arg5 harg5 arg6 harg6 arg7 harg7 arg8 harg8 arg9 harg9 hc0 hc1 x0 x1 x2 x3 xs0
  unfold out0_C_4
  rw [View.read_writes_eq_canon _ _ _ hcov]
  unfold kernelRun0_C
  dsimp only
  sl_unfold_words
  refine View.canon_apply_of_pieces (fun y => f (x2 y) (x3 y) (k0_pay2 xs0 x0 x1 y)) _ (fun p hp x => ?_) y (hcov y)
  have e := (pieces_agree c i arg3 harg3 arg4 harg4 arg5 harg5 arg6 harg6 arg7 harg7 arg8 harg8 arg9 harg9 hc1 (harg5.unread x2) (harg6.unread x3) _ f f' hf hf' _ le_rfl).1 p hp x
  rw [e, harg5.read_unread, harg6.read_unread]
  exact congrArg (f _ _) (congrFun (read_acc arg3 harg3 arg4 harg4 arg9 harg9 x0 x1 xs0) _)

/-- The last point of a sweep leaves, in its block of the second result, `f'` of `g` and the finished accumulator. -/
theorem out_C5 (hc0 : ¬cond0_0 i) (hc1 : cond0_1 i)
    (f : F .bf16 → F .bf16 → F .f32 → F .bf16) (f' : F .bf16 → F .f32 → F .bf16)
    (hf : ∀ (a b : Vec F S64x512 .bf16) (s : Vec F S64x512 .f32) (x : S64x512.Idx), k0_pay6 a b s x = f (a x) (b x) (s x))
    (hf' : ∀ (a : Vec F S64x512 .bf16) (s : Vec F S64x512 .f32) (x : S64x512.Idx), k0_pay7 a s x = f' (a x) (s x))
    (y : S1920x512.Idx) :
    out0_C_5 c i arg3 harg3 arg4 harg4 arg5 harg5 arg6 harg6 arg7 harg7 arg8 harg8 arg9 harg9 hc0 hc1 x0 x1 x2 x3 xs0 y
      = f' (x2 y) (k0_pay2 xs0 x0 x1 y) := by
  have hcov := cover0_C_5 c i arg3 harg3 arg4 harg4 arg5 harg5 arg6 harg6 arg7 harg7 arg8 harg8 arg9 harg9 hc0 hc1 x0 x1 x2 x3 xs0
  unfold out0_C_5
  rw [View.read_writes_eq_canon _ _ _ hcov]
  unfold kernelRun0_C
  dsimp only
  sl_unfold_words
  refine View.canon_apply_of_pieces (fun y => f' (x2 y) (k0_pay2 xs0 x0 x1 y)) _ (fun p hp x => ?_) y (hcov y)
  have e := (pieces_agree c i arg3 harg3 arg4 harg4 arg5 harg5 arg6 harg6 arg7 harg7 arg8 harg8 arg9 harg9 hc1 (harg5.unread x2) (harg6.unread x3) _ f f' hf hf' _ le_rfl).2 p hp x
  rw [e, harg5.read_unread]
  exact congrArg (f' _) (congrFun (read_acc arg3 harg3 arg4 harg4 arg9 harg9 x0 x1 xs0) _)

end

end Cert.DxCases

end
-- ==== Proof.DxPoint.lean ====
/-
  The input-gradient call at the ideal values, one block at a time: the entry-by-entry formulas of the two results, and
  what adding one block product to the accumulator means at an entry.
-/
module

public import proofs.«01_k».proof.Proof.DxCases
public import proofs.«01_k».proof.Proof.DwValue
public import Idealize.ShloMosaic.Lib.MatmulPlain
public import Idealize.ShloMosaic.Lib.IdealHost

@[expose] public section

noncomputable section

namespace Cert.DxPoint

open Cert.KernelDxIdeal Cert.KernelDxIdeal.Gen Idealize.ShloMosaic.TcCoe Idealize.SL.Sem
open Idealize.ShloMosaic hiding ix2 eq_ix2
open Idealize.ShloMosaic.ValueIdx (ix2 eq_ix2)
open Cert.DwValue (unshrink)
open scoped BigOperators

/-- The gradient of the gate at one entry, from the gate `g`, the up value `u` and the raw sum `s` of the product: with
    `x = s * 16/9` and `σ = 1 / (1 + exp (-g))`, it is `x * u * σ * (1 + g * (1 - σ))`. -/
def gateGrad (g u s : EReal) : EReal :=
  s * unshrink * u * Ideal.logistic g * (1 + g * (1 - Ideal.logistic g))

/-- The gradient of the up value at one entry: with `x` and `σ` as before, it is `x * (g * σ)`. -/
def upGrad (g s : EReal) : EReal := s * unshrink * (g * Ideal.logistic g)

/-- A strip stored into the first result holds the gradient of the gate, entry by entry. -/
theorem gate_payload (a b : Vec Ideal S64x512 .bf16) (s : Vec Ideal S64x512 .f32) (x : S64x512.Idx) :
    k0_pay6 (F := Ideal) a b s x = gateGrad (a x) (b x) (s x) := by
  unfold k0_pay6 k0_pay5 k0_pay4 k0_pay3
  simp only [shapeCast_self]
  show s x * unshrink * b x * Ideal.logistic (a x)
    * (Ideal.ofBits .f32 0x3F800000#32 + a x * (Ideal.ofBits .f32 0x3F800000#32 - Ideal.logistic (a x))) = _
  rw [Ideal.ofBits_one_f32]
  rfl

/-- A strip stored into the second result holds the gradient of the up value, entry by entry. -/
theorem up_payload (a : Vec Ideal S64x512 .bf16) (s : Vec Ideal S64x512 .f32) (x : S64x512.Idx) :
    k0_pay7 (F := Ideal) a s x = upGrad (a x) (s x) := by
  unfold k0_pay7 k0_pay5 k0_pay4 k0_pay3
  simp only [shapeCast_self]
  rfl

/-- Adding one block product: entry `(r, q)` of the accumulator grows by the sum over the block's 2048 positions. -/
theorem step_apply (acc : Vec Ideal S1920x512 .f32) (x : Vec Ideal S1920x2048 .bf16) (y : Vec Ideal S2048x512 .bf16)
    (r : Fin 1920) (q : Fin 512) :
    k0_pay2 (F := Ideal) acc x y (ix2 r q) = acc (ix2 r q) + ∑ k : Fin 2048, x (ix2 r k) * y (ix2 k q) := by
  unfold k0_pay2
  simp only [shapeCast_self]
  show acc (ix2 r q) + FloatOps.matmul (F := Ideal) (DotDims.plain 1920 2048 512) none x y (constant S1920x512 .f32 0x00000000#32) (ix2 r q) = _
  rw [Ideal.matmul_plain_apply]
  congr 1
  show Ideal.ofBits .f32 0x00000000#32 + _ = _
  rw [Ideal.ofBits_zero_f32, zero_add]

/-- The accumulator is started at zero. -/
theorem start_apply (j : S1920x512.Idx) : k0_pay1 (F := Ideal) j = (0 : EReal) := by
  unfold k0_pay1
  simp only [shapeCast_self]
  exact Ideal.ofBits_zero_f32

end Cert.DxPoint

end
-- ==== Proof.DxAccum.lean ====
/-
  The accumulator of the input-gradient call along a sweep: after the point that handles contraction block `j`, it holds
  the sum of the products over the first `2048 * (j + 1)` contracted positions, and after the last one the whole sum.
-/
module

public import proofs.«01_k».proof.Proof.DxPoint

@[expose] public section

noncomputable section

namespace Cert.DxAccum

open Cert.KernelDxIdeal Cert.KernelDxIdeal.Gen Idealize.ShloMosaic.TcCoe Idealize.SL.Sem
open Idealize.ShloMosaic hiding ix2 eq_ix2
open Idealize.ShloMosaic.ValueIdx (ix2 eq_ix2)
open scoped BigOperators

variable (m : (ℓ : Loc nD τ sig) → Buf (Elt Ideal) ℓ)

/-- Where the blocks lie. Point `t` works on contraction block `t mod 8`, token block `t / 8 mod 2` and channel block
    `t / 16`. -/
theorem places : ∀ t : Fin cfg0.N,
    ((win0_0.index t (0 : Fin 2) = t.val / 8 % 2 ∧ win0_0.index t (1 : Fin 2) = t.val % 8)
    ∧ (win0_1.index t (0 : Fin 2) = t.val % 8 ∧ win0_1.index t (1 : Fin 2) = t.val / 16))
    ∧ ((win0_2.index t (0 : Fin 2) = t.val / 8 % 2 ∧ win0_2.index t (1 : Fin 2) = t.val / 16)
    ∧ (win0_3.index t (0 : Fin 2) = t.val / 8 % 2 ∧ win0_3.index t (1 : Fin 2) = t.val / 16))
    ∧ ((win0_4.index t (0 : Fin 2) = t.val / 8 % 2 ∧ win0_4.index t (1 : Fin 2) = t.val / 16)
    ∧ (win0_5.index t (0 : Fin 2) = t.val / 8 % 2 ∧ win0_5.index t (1 : Fin 2) = t.val / 16)) :=
  (by decide +kernel : ∀ t : Fin grid0.N, _)

/-- The product of the two arrays at contracted position `n` (zero past the end), for row `i` and column `j`. -/
def term (dy : Vec Ideal S3840x16384 .bf16) (w : Vec Ideal S16384x6144 .bf16) (i : Fin 3840) (j : Fin 6144) (n : ℕ) : EReal :=
  if h : n < 16384 then dy (ix2 i ⟨n, h⟩) * w (ix2 ⟨n, h⟩ j) else 0

/-- The sum over the block of point `t`, at entry `(r, q)` of the block, is the sum of the array products over the
    block's contracted positions. -/
theorem block_sum (c : Dev nD) (t : Fin cfg0.N) (x : Vec Ideal S1920x2048 .bf16) (y : Vec Ideal S2048x512 .bf16)
    (hx : x = iblk m c 0 t) (hy : y = iblk m c 1 t) (r : Fin 1920) (q : Fin 512) (i : Fin 3840) (j : Fin 6144)
    (hi : i.val = t.val / 8 % 2 * 1920 + r.val) (hj : j.val = t.val / 16 * 512 + q.val) :
    (∑ k : Fin 2048, x (ix2 r k) * y (ix2 k q))
      = ∑ n ∈ Finset.range 2048, term (m ((c : Thread nD τ).loc main_arg0)) (m ((c : Thread nD τ).loc main_arg1)) i j
          (2048 * (t.val % 8) + n) := by
  subst hx hy
  rw [Finset.sum_range]
  obtain ⟨⟨⟨a0, a1⟩, ⟨b0, b1⟩⟩, _⟩ := places t
  refine Finset.sum_congr rfl fun k _ => ?_
  have hk := k.isLt
  unfold term
  rw [dif_pos (by omega)]
  congr 1
  · show V m c main_arg0 _ = _
    rw [V_main_arg0]
    congr 1
    funext a
    apply Fin.ext
    match a with
    | ⟨0, _⟩ =>
      show win0_0.index t 0 * 1920 + 1 * r.val = i.val
      rw [a0]; omega
    | ⟨1, _⟩ =>
      show win0_0.index t 1 * 2048 + 1 * k.val = 2048 * (t.val % 8) + k.val
      rw [a1]; omega
  · show V m c main_arg1 _ = _
    rw [V_main_arg1]
    congr 1
    funext a
    apply Fin.ext
    match a with
    | ⟨0, _⟩ =>
      show win0_1.index t 0 * 2048 + 1 * k.val = 2048 * (t.val % 8) + k.val
      rw [b0]; omega
    | ⟨1, _⟩ =>
      show win0_1.index t 1 * 512 + 1 * q.val = j.val
      rw [b1]; omega

/-- After the point for contraction block `b` of sweep `p`, the accumulator's entry `(r, q)` is the sum of the array
    products over the first `2048 * (b + 1)` contracted positions. -/
theorem partial_sum (c : Dev nD) (p : ℕ) (r : Fin 1920) (q : Fin 512) (i : Fin 3840) (j : Fin 6144)
    (hi : i.val = p % 2 * 1920 + r.val) (hj : j.val = p / 2 * 512 + q.val) :
    ∀ (b : ℕ), b < 8 → ∀ h : 8 * p + b < cfg0.N,
      (outsAt0 m c (8 * p + b) h).2.2 (ix2 r q)
        = ∑ n ∈ Finset.range (2048 * (b + 1)),
            term (m ((c : Thread nD τ).loc main_arg0)) (m ((c : Thread nD τ).loc main_arg1)) i j n
  | 0, _, h => by
    have e := outsAt0_A m c ⟨8 * p + 0, h⟩ (by show (8 * p + 0) % 8 = 0; omega) (by show ¬(8 * p + 0) % 8 = 7; omega)
    rw [congrArg (fun z => z.2.2) e]
    dsimp only
    rw [Cert.DxCases.scratch_A]
    refine (Cert.DxPoint.step_apply _ _ _ r q).trans ?_
    rw [Cert.DxPoint.start_apply, zero_add]
    refine (block_sum m c ⟨8 * p + 0, h⟩ _ _ rfl rfl r q i j (by show i.val = (8 * p + 0) / 8 % 2 * 1920 + r.val; omega)
      (by show j.val = (8 * p + 0) / 16 * 512 + q.val; omega)).trans ?_
    refine Finset.sum_congr rfl fun n _ => ?_
    congr 1
    show 2048 * ((8 * p + 0) % 8) + n = n
    omega
  | b + 1, hb, h => by
    have ih := partial_sum c p r q i j hi hj b (by omega) (by omega)
    have hs := block_sum m c ⟨8 * p + (b + 1), h⟩ _ _ rfl rfl r q i j (by show i.val = (8 * p + (b + 1)) / 8 % 2 * 1920 + r.val; omega)
      (by show j.val = (8 * p + (b + 1)) / 16 * 512 + q.val; omega)
    have hm : (8 * p + (b + 1)) % 8 = b + 1 := by omega
    have key : (outsAt0 m c (8 * p + (b + 1)) h).2.2
        = k0_pay2 (F := Ideal) (outsAt0 m c (8 * p + b) (by omega)).2.2 (iblk m c 0 ⟨8 * p + (b + 1), h⟩) (iblk m c 1 ⟨8 * p + (b + 1), h⟩) := by
      by_cases h7 : (8 * p + (b + 1)) % 8 = 7
      · have e := outsAt0_C m c ⟨8 * p + (b + 1), h⟩ (by show ¬(8 * p + (b + 1)) % 8 = 0; omega) h7
        rw [congrArg (fun z => z.2.2) e]
        dsimp only
        rw [Cert.DxCases.scratch_C]
        rfl
      · have e := outsAt0_B m c ⟨8 * p + (b + 1), h⟩ (by show ¬(8 * p + (b + 1)) % 8 = 0; omega) h7
        rw [congrArg (fun z => z.2.2) e]
        dsimp only
        rw [Cert.DxCases.scratch_B]
        rfl
    rw [key]
    refine (Cert.DxPoint.step_apply _ _ _ r q).trans ?_
    rw [ih, hs, show 2048 * (b + 1 + 1) = 2048 * (b + 1) + 2048 by ring, Finset.sum_range_add]
    congr 1
    refine Finset.sum_congr rfl fun n _ => ?_
    congr 1
    show 2048 * ((8 * p + (b + 1)) % 8) + n = 2048 * (b + 1) + n
    rw [hm]

/-- The raw product: entry `(i, j)` is the sum of `dy[i, n] * w[n, j]` over all 16384 positions. -/
def rawSum (dy : Vec Ideal S3840x16384 .bf16) (w : Vec Ideal S16384x6144 .bf16) (i : Fin 3840) (j : Fin 6144) : EReal :=
  ∑ n : Fin 16384, dy (ix2 i n) * w (ix2 n j)

/-- The terms add up to the raw product. -/
theorem sum_term (dy : Vec Ideal S3840x16384 .bf16) (w : Vec Ideal S16384x6144 .bf16) (i : Fin 3840) (j : Fin 6144) :
    (∑ n ∈ Finset.range 16384, term dy w i j n) = rawSum dy w i j := by
  rw [Finset.sum_range]
  exact Finset.sum_congr rfl fun n _ => dif_pos n.isLt

/-- At the last point of a sweep the accumulator, with that point's block product added, is the raw product. -/
theorem finished (c : Dev nD) (t : Fin cfg0.N) (h7 : t.val % 8 = 7) (r : Fin 1920) (q : Fin 512) (i : Fin 3840)
    (j : Fin 6144) (hi : i.val = t.val / 8 % 2 * 1920 + r.val) (hj : j.val = t.val / 16 * 512 + q.val) :
    k0_pay2 (F := Ideal) (outsAt0 m c (t.val - 1) (Nat.lt_of_le_of_lt (Nat.sub_le _ _) t.isLt)).2.2 (iblk m c 0 t) (iblk m c 1 t) (ix2 r q)
      = rawSum (m ((c : Thread nD τ).loc main_arg0)) (m ((c : Thread nD τ).loc main_arg1)) i j := by
  have e := outsAt0_C m c t (by omega) h7
  have e2 : (outsAt0 m c t.val t.isLt).2.2
      = k0_pay2 (F := Ideal) (outsAt0 m c (t.val - 1) (Nat.lt_of_le_of_lt (Nat.sub_le _ _) t.isLt)).2.2 (iblk m c 0 t) (iblk m c 1 t) := by
    rw [congrArg (fun z => z.2.2) e]
    dsimp only
    rw [Cert.DxCases.scratch_C]
  rw [← e2, ← sum_term]
  obtain ⟨n, hn⟩ := t
  obtain ⟨p, rfl⟩ : ∃ p, n = 8 * p + 7 := ⟨n / 8, by dsimp only at h7; omega⟩
  exact partial_sum m c p r q i j (by dsimp only at hi; omega) (by dsimp only at hj; omega) 7 (by omega) hn

end Cert.DxAccum

end
-- ==== Proof.DxValue.lean ====
/-
  What the two result arrays of the input-gradient call hold after the run, as formulas over the argument arrays.
-/
module

public import proofs.«01_k».proof.Proof.DxAccum

@[expose] public section

noncomputable section

namespace Cert.DxValue

open Cert.KernelDxIdeal Cert.KernelDxIdeal.Gen Idealize.ShloMosaic.TcCoe Idealize.SL.Sem
open Idealize.ShloMosaic hiding ix2 eq_ix2
open Idealize.ShloMosaic.Pipeline (Dat)
open Idealize.ShloMosaic.ValueIdx (ix2 eq_ix2)
open Cert.DxPoint Cert.DxAccum

/-- The gate or up values with the batch and the sequence as one axis of 3840 tokens. -/
def flat (g : Vec Ideal S3x1280x6144 .bf16) : Vec Ideal S3840x6144 .bf16 :=
  shapeCast S3840x6144 g shapeCasts_S3x1280x6144_S3840x6144

/-- The gradient of the gate as an array. -/
def gateArray (dy : Vec Ideal S3840x16384 .bf16) (w : Vec Ideal S16384x6144 .bf16) (g u : Vec Ideal S3x1280x6144 .bf16) :
    Vec Ideal S3840x6144 .bf16 :=
  fun i => gateGrad (flat g i) (flat u i) (rawSum dy w (i 0) (i 1))

/-- The gradient of the up value as an array. -/
def upArray (dy : Vec Ideal S3840x16384 .bf16) (w : Vec Ideal S16384x6144 .bf16) (g : Vec Ideal S3x1280x6144 .bf16) :
    Vec Ideal S3840x6144 .bf16 :=
  fun i => upGrad (flat g i) (rawSum dy w (i 0) (i 1))

variable (m : (ℓ : Loc nD τ sig) → Buf (Elt Ideal) ℓ) (ρ : Dev nD → PrngReg)

/-- The call finds the flattened gate values in its third operand. -/
theorem found_gate (c : Dev nD) : V m c main_v0 = flat (m ((c : Thread nD τ).loc main_arg2)) := by
  show StableHlo.after hostOps0 _ (Proc.devRef .tc main_v0) = _
  unfold hostOps0
  rw [StableHlo.after_cons, StableHlo.after_cons, StableHlo.after_nil,
    StableHlo.reshape_result_ne _ _ _ _ _ _ _ (r := main_v0) (by decide)]
  exact (StableHlo.reshape_result (Val := Elt Ideal) main_arg2 main_v0 rfl shapeCasts_S3x1280x6144_S3840x6144 _ _ _).trans rfl

/-- The call finds the flattened up values in its fourth operand. -/
theorem found_up (c : Dev nD) : V m c main_v1 = flat (m ((c : Thread nD τ).loc main_arg3)) := by
  show StableHlo.after hostOps0 _ (Proc.devRef .tc main_v1) = _
  unfold hostOps0
  rw [StableHlo.after_cons, StableHlo.after_cons, StableHlo.after_nil]
  refine (StableHlo.reshape_result (Val := Elt Ideal) main_arg3 main_v1 rfl shapeCasts_S3x1280x6144_S3840x6144 _ _ _).trans ?_
  have e := StableHlo.reshape_result_ne (τ := τ) (Val := Elt Ideal) main_arg2 main_v0 rfl shapeCasts_S3x1280x6144_S3840x6144
    (by decide) (by decide) (fun b => m (c, b)) (r := main_arg3) (by decide)
  funext i
  exact congrFun (congrArg flat e) i

/-- A block of the gate values, read at an entry. -/
theorem gate_block (c : Dev nD) (t : Fin cfg0.N) (y : S1920x512.Idx) (i : S3840x6144.Idx)
    (h0 : (i 0).val = t.val / 8 % 2 * 1920 + (y 0).val) (h1 : (i 1).val = t.val / 16 * 512 + (y 1).val) :
    iblk m c 2 t y = flat (m ((c : Thread nD τ).loc main_arg2)) i := by
  obtain ⟨_, ⟨⟨a0, a1⟩, _⟩, _⟩ := places t
  show V m c main_v0 _ = _
  rw [found_gate]
  congr 1
  funext a
  apply Fin.ext
  match a with
  | ⟨0, _⟩ =>
    show win0_2.index t 0 * 1920 + 1 * (y 0).val = (i 0).val
    rw [a0]; omega
  | ⟨1, _⟩ =>
    show win0_2.index t 1 * 512 + 1 * (y 1).val = (i 1).val
    rw [a1]; omega

/-- A block of the up values, read at an entry. -/
theorem up_block (c : Dev nD) (t : Fin cfg0.N) (y : S1920x512.Idx) (i : S3840x6144.Idx)
    (h0 : (i 0).val = t.val / 8 % 2 * 1920 + (y 0).val) (h1 : (i 1).val = t.val / 16 * 512 + (y 1).val) :
    iblk m c 3 t y = flat (m ((c : Thread nD τ).loc main_arg3)) i := by
  obtain ⟨_, ⟨_, ⟨a0, a1⟩⟩, _⟩ := places t
  show V m c main_v1 _ = _
  rw [found_up]
  congr 1
  funext a
  apply Fin.ext
  match a with
  | ⟨0, _⟩ =>
    show win0_3.index t 0 * 1920 + 1 * (y 0).val = (i 0).val
    rw [a0]; omega
  | ⟨1, _⟩ =>
    show win0_3.index t 1 * 512 + 1 * (y 1).val = (i 1).val
    rw [a1]; omega

/-- The first result array after the run is the gradient of the gate. -/
theorem final_gate (c : Dev nD) : (dats m 0 c).arrAt 4 cfg0.N
    = gateArray (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h7 : t.val % 8 = 7 := (flush0_4 t).mp hf
  obtain ⟨_, _, ⟨⟨a0, a1⟩, _⟩⟩ := places t
  have e0 : (((cfg0.win 4).blk t).view.emb y 0).val = t.val / 8 % 2 * 1920 + (y 0).val := by
    show win0_4.index t 0 * 1920 + 1 * (y 0).val = _
    rw [a0]; omega
  have e1 : (((cfg0.win 4).blk t).view.emb y 1).val = t.val / 16 * 512 + (y 1).val := by
    show win0_4.index t 1 * 512 + 1 * (y 1).val = _
    rw [a1]; omega
  show (dats m 0 c).after 4 t y = _
  rw [after0_4, congrArg (fun z => z.1) (outsAt0_C m c t (by omega) h7)]
  dsimp only
  refine (Cert.DxCases.out_C4 (F := Ideal) _ _ _ _ _ _ _ _ _ _ _ _ _ _ _ _ _ _ _ _ _ _ _ gateGrad upGrad gate_payload up_payload y).trans ?_
  unfold gateArray
  rw [gate_block m c t y _ e0 e1, up_block m c t y _ e0 e1]
  refine congrArg (gateGrad _ _) ?_
  rw [eq_ix2 y]
  exact finished m c t h7 (y 0) (y 1) _ _ e0 e1

/-- The second result array after the run is the gradient of the up value. -/
theorem final_up (c : Dev nD) : (dats m 0 c).arrAt 5 cfg0.N
    = upArray (m ((c : Thread nD τ).loc main_arg0)) (m ((c : Thread nD τ).loc main_arg1))
        (m ((c : Thread nD τ).loc main_arg2)) := by
  refine (dats m 0 c).arrAt_eq_of_covers 5 _ (by decide +kernel) fun t hf y => ?_
  have h7 : t.val % 8 = 7 := (flush0_5 t).mp hf
  obtain ⟨_, _, ⟨_, ⟨a0, a1⟩⟩⟩ := places t
  have e0 : (((cfg0.win 5).blk t).view.emb y 0).val = t.val / 8 % 2 * 1920 + (y 0).val := by
    show win0_5.index t 0 * 1920 + 1 * (y 0).val = _
    rw [a0]; omega
  have e1 : (((cfg0.win 5).blk t).view.emb y 1).val = t.val / 16 * 512 + (y 1).val := by
    show win0_5.index t 1 * 512 + 1 * (y 1).val = _
    rw [a1]; omega
  show (dats m 0 c).after 5 t y = _
  rw [after0_5, congrArg (fun z => z.2.1) (outsAt0_C m c t (by omega) h7)]
  dsimp only
  refine (Cert.DxCases.out_C5 (F := Ideal) _ _ _ _ _ _ _ _ _ _ _ _ _ _ _ _ _ _ _ _ _ _ _ gateGrad upGrad gate_payload up_payload y).trans ?_
  unfold upArray
  rw [gate_block m c t y _ e0 e1]
  refine congrArg (upGrad _) ?_
  rw [eq_ix2 y]
  exact finished m c t h7 (y 0) (y 1) _ _ e0 e1

/-- Every run of the call ends with the two result arrays at the gradients, the arguments unchanged. -/
theorem run : θ_run defs (onTc (τ := τ) (main (F := Ideal))) ⟨m, fun _ => 0, ρ⟩ fun r => ∀ c : Dev nD,
      r.2.mem ((c : Thread nD τ).loc main_v2_0)
        = gateArray (m ((c : Thread nD τ).loc main_arg0)) (m ((c : Thread nD τ).loc main_arg1))
            (m ((c : Thread nD τ).loc main_arg2)) (m ((c : Thread nD τ).loc main_arg3))
      ∧ r.2.mem ((c : Thread nD τ).loc main_v2_1)
        = upArray (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_gate m c), (h c).2.1.trans (final_up m c), (h c).2.2⟩)
    (Cert.KernelDxIdeal.Value.run_blocks m ρ)

end Cert.DxValue

end
-- ==== Proof.DxEquation.lean ====
/-
  The input-gradient call: what the reference computes, and the equation of the two.
-/
module

public import proofs.«01_k».proof.Defs
public import proofs.«01_k».proof.Proof.DxValue
public import proofs.«01_k».proof.Proof.Gen.ReferenceDxIdeal.Read
public import Idealize.ShloMosaic.Lib.Quiescent

@[expose] public section

noncomputable section

namespace Cert.DxEquation

open Idealize.ShloMosaic.TcCoe Idealize.SL.Sem
open Idealize.ShloMosaic
open Cert.ReferenceDxIdeal Cert.ReferenceDxIdeal.Read
open Cert.DxPoint Cert.DxAccum Cert.DxValue
open Cert.DwValue (unshrink)
open scoped BigOperators

variable (dy : Vec Ideal Cert.KernelDxIdeal.S3840x16384 .bf16) (w : Vec Ideal Cert.KernelDxIdeal.S16384x6144 .bf16)
  (g u : Vec Ideal Cert.KernelDxIdeal.S3x1280x6144 .bf16)

/-- The reference's widened gate values, flattened, are the flattened gate values. -/
theorem read_gate (i : S3840x6144.Idx) : val_main_v1 (F := Ideal) g i = flat g i := rfl

/-- The reference's widened up values, flattened, are the flattened up values. -/
theorem read_up (i : S3840x6144.Idx) : val_main_v3 (F := Ideal) u i = flat u i := rfl

/-- The reference's sigmoid, spelled out with an exponential and a division, is the logistic function. -/
theorem read_sigmoid (i : S3840x6144.Idx) : val_main_v9 (F := Ideal) g i = Ideal.logistic (flat g i) := by
  rw [val_main_v9_apply, val_main_v8_apply, val_main_cst_0_apply, val_main_v7_apply, val_main_v6_apply,
    val_main_cst_apply, val_main_v5_apply, val_main_v4_apply, read_gate]
  show Ideal.div (Ideal.ofBits .f32 0x3F800000#32) (Ideal.ofBits .f32 0x3F800000#32 + Ideal.exp (-(flat g i))) = _
  rw [Ideal.ofBits_one_f32]
  rfl

/-- The reference's scaled product is the raw product times the factor. -/
theorem read_product (i : S3840x6144.Idx) :
    val_main_v13 (F := Ideal) dy w i = rawSum dy w (i 0) (i 1) * unshrink := by
  rw [val_main_v13_apply, val_main_v12_apply, val_main_cst_1_apply, val_main_v11_apply]
  rw [Ideal.mulf_def, mul_comm]
  refine congrArg (· * unshrink) ?_
  unfold rawSum
  refine Finset.sum_congr rfl fun k _ => ?_
  congr 1
  · congr 1; funext a; match a with | ⟨0, _⟩ => rfl | ⟨1, _⟩ => rfl
  · congr 1; funext a; match a with | ⟨0, _⟩ => rfl | ⟨1, _⟩ => rfl

/-- The reference's first result is the gradient of the gate. -/
theorem reference_gate : val_main_v22 (F := Ideal) dy w g u = gateArray dy w g u := by
  funext i
  rw [val_main_v22_apply, val_main_v21_apply, val_main_v20_apply, val_main_v19_apply, val_main_cst_3_apply,
    val_main_v18_apply, val_main_v17_apply, val_main_v16_apply, val_main_cst_2_apply, val_main_v15_apply,
    val_main_v14_apply, read_sigmoid, read_gate, read_up, read_product]
  show rawSum dy w (i 0) (i 1) * unshrink * flat u i * Ideal.logistic (flat g i)
    * (Ideal.ofBits .f32 0x3F800000#32 + flat g i * (Ideal.ofBits .f32 0x3F800000#32 - Ideal.logistic (flat g i))) = _
  rw [Ideal.ofBits_one_f32]
  rfl

/-- The reference's second result is the gradient of the up value. -/
theorem reference_up : val_main_v24 (F := Ideal) dy w g = upArray dy w g := by
  funext i
  rw [val_main_v24_apply, val_main_v23_apply, val_main_v10_apply, read_sigmoid, read_gate, read_product]
  rfl

/-- The reference runs, leaves its arguments as they were, and ends with every semaphore at zero. -/
theorem frame_reference : Cert.quiescent_ReferenceDxIdeal (hReferenceDxIdeal := Cert.ReferenceDxIdeal.Gen.facts) := fun m ρ _ =>
  (θ_run Cert.ReferenceDxIdeal.defs _ _).mono (fun r h => ⟨fun c => (h c).2.2,
      Idealize.ShloMosaic.sem_eq_zero_of_no_sems (by decide) r.2⟩)
    (Cert.ReferenceDxIdeal.Value.run (F := Ideal) m ρ)

/-- From equal arguments the kernel's two results and the reference's are equal, entry by entry. -/
theorem algebraic : Cert.algebraic_KernelDxIdeal_ReferenceDxIdeal (hKernelDxIdeal := Cert.KernelDxIdeal.Gen.facts)
    (hReferenceDxIdeal := Cert.ReferenceDxIdeal.Gen.facts) := by
  intro m ρ m' ρ' _ hagree
  refine ⟨fun c => gateArray (m ((c.tc : Thread _ _).loc Cert.KernelDxIdeal.main_arg0))
      (m ((c.tc : Thread _ _).loc Cert.KernelDxIdeal.main_arg1)) (m ((c.tc : Thread _ _).loc Cert.KernelDxIdeal.main_arg2))
      (m ((c.tc : Thread _ _).loc Cert.KernelDxIdeal.main_arg3)),
    fun c => upArray (m ((c.tc : Thread _ _).loc Cert.KernelDxIdeal.main_arg0))
      (m ((c.tc : Thread _ _).loc Cert.KernelDxIdeal.main_arg1)) (m ((c.tc : Thread _ _).loc Cert.KernelDxIdeal.main_arg2)),
    Cert.DxValue.run m ρ, ?_⟩
  refine (θ_run Cert.ReferenceDxIdeal.defs _ _).mono (fun _ h c => ⟨(h c).1.trans ?_, (h c).2.1.trans ?_, (h c).2.2⟩)
    (Cert.ReferenceDxIdeal.Value.run (F := Ideal) m' ρ')
  · rw [(hagree c).1, (hagree c).2.1, (hagree c).2.2.1, (hagree c).2.2.2]
    exact (val_main_v22_eq _ _ _ _).trans (reference_gate _ _ _ _)
  · rw [(hagree c).1, (hagree c).2.1, (hagree c).2.2.1]
    exact (val_main_v24_eq _ _ _).trans (reference_up _ _ _)

end Cert.DxEquation

end
-- ==== Proof.QuantXFrame.lean ====
/-
  The frame of `QuantX`: the quantiser of x, which first multiplies g's activation by u, launched alone. Every run ends, nothing faults, and the
  arguments end as they began. Nothing is said of the results: the body's triple forgets what is in each
  window and in each scratch, so the loop's invariant is that all of them are there.
-/
module

public import proofs.«01_k».proof.Defs
public import proofs.«01_k».proof.Proof.Gen.QuantX
public import proofs.«01_k».proof.Proof.Gen.QuantX.Skeleton
public import proofs.«01_k».proof.Proof.Gen.QuantX.Loops
public import proofs.«01_k».proof.Proof.Gen.QuantX.Launch
public import proofs.«01_k».proof.Proof.Gen.QuantX.Points
public import proofs.«01_k».proof.Proof.Gen.QuantX.Frame

@[expose] public section

set_option maxRecDepth 16384

noncomputable section

namespace Cert.QuantXFrame

open Cert.QuantX Cert.QuantX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## One trip of the loop -/

/-- What a trip of the loop touches: each memory at some contents. -/
abbrev held (c : Dev nD) (arg1 : Memref sig .tc .vmem S3840x128 .f32) (arg2 : Memref sig .tc .vmem S3840x256 .bf16) (arg3 : Memref sig .tc .vmem S3840x256 .bf16) (arg4 : Memref sig .tc .vmem S3840x256 .i8) (arg5 : Memref sig .tc .vmem S256x3840 .bf16) (arg6 : Memref sig .tc .vmem S1920x256 .i8) (arg8 : Memref sig .tc .vmem S120x256 .i32) (arg9 : Memref sig .tc .vmem S160x128 .i32) (arg10 : Memref sig .tc .vmem S96x128 .i32) (arg11 : Memref sig .tc .vmem S32x128 .i32) (arg12 : Memref sig .tc .vmem S160x128 .i32) (arg13 : Memref sig .tc .vmem S96x128 .i32) (arg14 : Memref sig .tc .vmem S32x128 .i32) : sProp 𝕄 :=
  iprop((∃ f, (arg1.view.loc (c : Thread nD τ) ↦[arg1.view.set]{fullShare} f))
      ∗ (∃ f, (arg2.view.loc (c : Thread nD τ) ↦[arg2.view.set]{fullShare} f))
      ∗ (∃ f, (arg3.view.loc (c : Thread nD τ) ↦[arg3.view.set]{fullShare} f))
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f)))

set_option maxHeartbeats 100000000 in
/-- One trip of the loop runs. -/
theorem trip (𝒱 : Variants) (c : Dev nD) (bd : Option 𝒱.V) (E : Set ℕ) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .bf16) (harg3 : arg3.IsWhole) (arg4 : Memref sig .tc .vmem S3840x256 .i8) (harg4 : arg4.IsWhole) (arg5 : Memref sig .tc .vmem S256x3840 .bf16) (harg5 : arg5.IsWhole) (arg6 : Memref sig .tc .vmem S1920x256 .i8) (harg6 : arg6.IsWhole) (arg7 : Memref sig .tc .vmem S3x40x256 .i8) (harg7 : arg7.IsWhole) (arg8 : Memref sig .tc .vmem S120x256 .i32) (harg8 : arg8.IsWhole) (arg9 : Memref sig .tc .vmem S160x128 .i32) (harg9 : arg9.IsWhole) (arg10 : Memref sig .tc .vmem S96x128 .i32) (harg10 : arg10.IsWhole) (arg11 : Memref sig .tc .vmem S32x128 .i32) (harg11 : arg11.IsWhole) (arg12 : Memref sig .tc .vmem S160x128 .i32) (harg12 : arg12.IsWhole) (arg13 : Memref sig .tc .vmem S96x128 .i32) (harg13 : arg13.IsWhole) (arg14 : Memref sig .tc .vmem S32x128 .i32) (harg14 : arg14.IsWhole)
    (k : Fin k0_t1_loop.trips) :
    held (F := F) c arg1 arg2 arg3 arg4 arg5 arg6 arg8 arg9 arg10 arg11 arg12 arg13 arg14
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k PUnit.unit)
        (fun _ => held (F := F) c arg1 arg2 arg3 arg4 arg5 arg6 arg8 arg9 arg10 arg11 arg12 arg13 arg14) := by
  have hk : k.val < 15 := Nat.lt_of_lt_of_le k.isLt k0_t1_abs.2.1
  unfold k0_t1_body
  iintro ⟨⟨%f_arg1, H_arg1⟩, ⟨%f_arg2, H_arg2⟩, ⟨%f_arg3, H_arg3⟩, ⟨%f_arg4, H_arg4⟩, ⟨%f_arg5, H_arg5⟩, ⟨%f_arg6, H_arg6⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩⟩
  sl_exec
  sl_step
  sl_close

set_option warn.classDefReducibility false in
/-- The loop's invariant: each memory it touches is there. -/
@[sl_loop] def tripInv (𝒱 : Variants) (c : Dev nD) (bd : Option 𝒱.V) (E : Set ℕ) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .bf16) (harg3 : arg3.IsWhole) (arg4 : Memref sig .tc .vmem S3840x256 .i8) (harg4 : arg4.IsWhole) (arg5 : Memref sig .tc .vmem S256x3840 .bf16) (harg5 : arg5.IsWhole) (arg6 : Memref sig .tc .vmem S1920x256 .i8) (harg6 : arg6.IsWhole) (arg7 : Memref sig .tc .vmem S3x40x256 .i8) (harg7 : arg7.IsWhole) (arg8 : Memref sig .tc .vmem S120x256 .i32) (harg8 : arg8.IsWhole) (arg9 : Memref sig .tc .vmem S160x128 .i32) (harg9 : arg9.IsWhole) (arg10 : Memref sig .tc .vmem S96x128 .i32) (harg10 : arg10.IsWhole) (arg11 : Memref sig .tc .vmem S32x128 .i32) (harg11 : arg11.IsWhole) (arg12 : Memref sig .tc .vmem S160x128 .i32) (harg12 : arg12.IsWhole) (arg13 : Memref sig .tc .vmem S96x128 .i32) (harg13 : arg13.IsWhole) (arg14 : Memref sig .tc .vmem S32x128 .i32) (harg14 : arg14.IsWhole) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv _ _ := held (F := F) c arg1 arg2 arg3 arg4 arg5 arg6 arg8 arg9 arg10 arg11 arg12 arg13 arg14
  step k _ := trip 𝒱 c bd E i arg1 harg1 arg2 harg2 arg3 harg3 arg4 harg4 arg5 harg5 arg6 harg6 arg7 harg7 arg8 harg8 arg9 harg9 arg10 harg10 arg11 harg11 arg12 harg12 arg13 harg13 arg14 harg14 k

/-! ## The body -/

set_option maxHeartbeats 100000000 in
/-- The body runs: from every window and scratch at some contents to the same. -/
theorem run_body (c : Dev nD) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .bf16) (harg3 : arg3.IsWhole) (arg4 : Memref sig .tc .vmem S3840x256 .i8) (harg4 : arg4.IsWhole) (arg5 : Memref sig .tc .vmem S256x3840 .bf16) (harg5 : arg5.IsWhole) (arg6 : Memref sig .tc .vmem S1920x256 .i8) (harg6 : arg6.IsWhole) (arg7 : Memref sig .tc .vmem S3x40x256 .i8) (harg7 : arg7.IsWhole) (arg8 : Memref sig .tc .vmem S120x256 .i32) (harg8 : arg8.IsWhole) (arg9 : Memref sig .tc .vmem S160x128 .i32) (harg9 : arg9.IsWhole) (arg10 : Memref sig .tc .vmem S96x128 .i32) (harg10 : arg10.IsWhole) (arg11 : Memref sig .tc .vmem S32x128 .i32) (harg11 : arg11.IsWhole) (arg12 : Memref sig .tc .vmem S160x128 .i32) (harg12 : arg12.IsWhole) (arg13 : Memref sig .tc .vmem S96x128 .i32) (harg13 : arg13.IsWhole) (arg14 : Memref sig .tc .vmem S32x128 .i32) (harg14 : arg14.IsWhole)
    (K : PUnit → sProp 𝕄) :
    iprop((∃ d, owns (c : Thread nD τ) arg1 fullShare d)
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (iprop((∃ d, owns (c : Thread nD τ) arg1 fullShare d)
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)) -∗ K ⟨⟩))
      ⊢ wp frame (wpE (defs₀ (F := F)) Variants.none (c : Thread nD τ) none) Set.univ
          (cc0_quant_x (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_quant_x_eq_skeleton]; unfold cc0_quant_x_skel
  unfold owns
  iintro ⟨⟨%d_arg1, %f_arg1, -, H_arg1⟩, ⟨%d_arg2, %f_arg2, -, H_arg2⟩, ⟨%d_arg3, %f_arg3, -, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, Hk⟩
  sl_exec
  sl_step
  iapply Hk
  isplitl [H_arg1]
  · iexists _, _; isplitr; swap; · iexact H_arg1
    ipureintro; rfl
  isplitl [H_arg2]
  · iexists _, _; isplitr; swap; · iexact H_arg2
    ipureintro; rfl
  isplitl [H_arg3]
  · iexists _, _; isplitr; swap; · iexact H_arg3
    ipureintro; rfl
  isplitl [H_arg4]
  · iexists _, _; isplitr; swap; · iexact H_arg4
    ipureintro; rfl
  isplitl [H_arg5]
  · iexists _, _; isplitr; swap; · iexact H_arg5
    ipureintro; rfl
  isplitl [H_arg6]
  · iexists _, _; isplitr; swap; · iexact H_arg6
    ipureintro; rfl
  isplitl [H_arg7]
  · iexists _, _; isplitr; swap; · iexact H_arg7
    ipureintro; rfl
  isplitl [H_arg8]
  · iexists _, _; isplitr; swap; · iexact H_arg8
    ipureintro; rfl
  isplitl [H_arg9]
  · iexists _, _; isplitr; swap; · iexact H_arg9
    ipureintro; rfl
  isplitl [H_arg10]
  · iexists _, _; isplitr; swap; · iexact H_arg10
    ipureintro; rfl
  isplitl [H_arg11]
  · iexists _, _; isplitr; swap; · iexact H_arg11
    ipureintro; rfl
  isplitl [H_arg12]
  · iexists _, _; isplitr; swap; · iexact H_arg12
    ipureintro; rfl
  isplitl [H_arg13]
  · iexists _, _; isplitr; swap; · iexact H_arg13
    ipureintro; rfl
  iexists _, _; isplitr; swap; · iexact H_arg14
  ipureintro; rfl

/-! ## The proof data and the body obligation -/

variable [∀ e, Nonempty (Elt F e)]
variable (m : (ℓ : Loc nD τ sig) → Buf (Elt F) ℓ) (ρ : Dev nD → PrngReg)

/-- Every window is forgotten: the frame reads none of them. -/
def forgets0 : Fin 7 → Bool := fun _ => true

/-- The proof data: the arrays as the region finds them, what the body leaves unnamed, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))
@[inherit_doc bodyPre] def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))

/-- The invariant between points: each scratch at some contents, the generator's register at some state. -/
theorem ΦA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq]
  iintro ⟨⟨⟨S_0, S_1, S_2, S_3, S_4, S_5, S_6⟩, Hg⟩, HO, H_0, H_1, H_2, H_3, H_4, H_5, H_6⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [S_0]; · iexact S_0
  isplitl [S_1]; · iexact S_1
  isplitl [S_2]; · iexact S_2
  isplitl [S_3]; · iexact S_3
  isplitl [S_4]; · iexact S_4
  isplitl [S_5]; · iexact S_5
  isplitl [S_6]; · iexact S_6
  iintro ⟨H_0, H_1, H_2, H_3, H_4, H_5, H_6, S_0, S_1, S_2, S_3, S_4, S_5, S_6⟩
  isplitl [S_0 S_1 S_2 S_3 S_4 S_5 S_6 Hg]
  · isplitl [S_0 S_1 S_2 S_3 S_4 S_5 S_6]
    · isplitl [S_0]; · iexact S_0
      isplitl [S_1]; · iexact S_1
      isplitl [S_2]; · iexact S_2
      isplitl [S_3]; · iexact S_3
      isplitl [S_4]; · iexact S_4
      isplitl [S_5]; · iexact S_5
      iexact S_6
    iexact Hg
  isplitl [HO]; · iexact HO
  isplitl [H_0]; · iexact H_0
  isplitl [H_1]; · iexact H_1
  isplitl [H_2]; · iexact H_2
  isplitl [H_3]; · iexact H_3
  isplitl [H_4]; · iexact H_4
  isplitl [H_5]; · iexact H_5
  iexact H_6

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- The launch runs, its input arrays end as it found them, and every semaphore ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the launch the arguments are as they were. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame claim. -/
theorem frame_claim (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
        ∧ r.2.sem = fun _ => 0) :=
  (θ_run defs _ _).mono (fun _ h => ⟨fun c => arguments h.1 c, h.2⟩) (run_main (F := Bits) m ρ)

end Cert.QuantXFrame

end
-- ==== Proof.QuantDyTFrame.lean ====
/-
  The frame of `QuantDyT`: the quantiser of dy along the tokens, launched alone. Every run ends, nothing faults, and the
  arguments end as they began. Nothing is said of the results: the body's triple forgets what is in each
  window and in each scratch, so the loop's invariant is that all of them are there.
-/
module

public import proofs.«01_k».proof.Defs
public import proofs.«01_k».proof.Proof.Gen.QuantDyT
public import proofs.«01_k».proof.Proof.Gen.QuantDyT.Skeleton
public import proofs.«01_k».proof.Proof.Gen.QuantDyT.Loops
public import proofs.«01_k».proof.Proof.Gen.QuantDyT.Launch
public import proofs.«01_k».proof.Proof.Gen.QuantDyT.Points
public import proofs.«01_k».proof.Proof.Gen.QuantDyT.Frame

@[expose] public section

set_option maxRecDepth 16384

noncomputable section

namespace Cert.QuantDyTFrame

open Cert.QuantDyT Cert.QuantDyT.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## One trip of the loop -/

/-- What a trip of the loop touches: each memory at some contents. -/
abbrev held (c : Dev nD) (arg1 : Memref sig .tc .vmem S3840x128 .f32) (arg2 : Memref sig .tc .vmem S3840x256 .bf16) (arg3 : Memref sig .tc .vmem S3840x256 .i8) (arg4 : Memref sig .tc .vmem S3840x256 .bf16) (arg5 : Memref sig .tc .vmem S1920x256 .i8) (arg7 : Memref sig .tc .vmem S120x256 .i32) (arg8 : Memref sig .tc .vmem S160x128 .i32) (arg9 : Memref sig .tc .vmem S96x128 .i32) (arg10 : Memref sig .tc .vmem S32x128 .i32) (arg11 : Memref sig .tc .vmem S160x128 .i32) (arg12 : Memref sig .tc .vmem S96x128 .i32) (arg13 : Memref sig .tc .vmem S32x128 .i32) : sProp 𝕄 :=
  iprop((∃ f, (arg1.view.loc (c : Thread nD τ) ↦[arg1.view.set]{fullShare} f))
      ∗ (∃ f, (arg2.view.loc (c : Thread nD τ) ↦[arg2.view.set]{fullShare} f))
      ∗ (∃ f, (arg3.view.loc (c : Thread nD τ) ↦[arg3.view.set]{fullShare} f))
      ∗ (∃ f, (arg4.view.loc (c : Thread nD τ) ↦[arg4.view.set]{fullShare} f))
      ∗ (∃ f, (arg5.view.loc (c : Thread nD τ) ↦[arg5.view.set]{fullShare} f))
      ∗ (∃ f, (arg7.view.loc (c : Thread nD τ) ↦[arg7.view.set]{fullShare} f))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f)))

set_option maxHeartbeats 100000000 in
/-- One trip of the loop runs. -/
theorem trip (𝒱 : Variants) (c : Dev nD) (bd : Option 𝒱.V) (E : Set ℕ) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .i8) (harg3 : arg3.IsWhole) (arg4 : Memref sig .tc .vmem S3840x256 .bf16) (harg4 : arg4.IsWhole) (arg5 : Memref sig .tc .vmem S1920x256 .i8) (harg5 : arg5.IsWhole) (arg6 : Memref sig .tc .vmem S3x40x256 .i8) (harg6 : arg6.IsWhole) (arg7 : Memref sig .tc .vmem S120x256 .i32) (harg7 : arg7.IsWhole) (arg8 : Memref sig .tc .vmem S160x128 .i32) (harg8 : arg8.IsWhole) (arg9 : Memref sig .tc .vmem S96x128 .i32) (harg9 : arg9.IsWhole) (arg10 : Memref sig .tc .vmem S32x128 .i32) (harg10 : arg10.IsWhole) (arg11 : Memref sig .tc .vmem S160x128 .i32) (harg11 : arg11.IsWhole) (arg12 : Memref sig .tc .vmem S96x128 .i32) (harg12 : arg12.IsWhole) (arg13 : Memref sig .tc .vmem S32x128 .i32) (harg13 : arg13.IsWhole)
    (k : Fin k0_t1_loop.trips) :
    held (F := F) c arg1 arg2 arg3 arg4 arg5 arg7 arg8 arg9 arg10 arg11 arg12 arg13
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
        (fun _ => held (F := F) c arg1 arg2 arg3 arg4 arg5 arg7 arg8 arg9 arg10 arg11 arg12 arg13) := by
  have hk : k.val < 15 := Nat.lt_of_lt_of_le k.isLt k0_t1_abs.2.1
  unfold k0_t1_body
  iintro ⟨⟨%f_arg1, H_arg1⟩, ⟨%f_arg2, H_arg2⟩, ⟨%f_arg3, H_arg3⟩, ⟨%f_arg4, H_arg4⟩, ⟨%f_arg5, H_arg5⟩, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩⟩
  sl_exec
  sl_step
  sl_close

set_option warn.classDefReducibility false in
/-- The loop's invariant: each memory it touches is there. -/
@[sl_loop] def tripInv (𝒱 : Variants) (c : Dev nD) (bd : Option 𝒱.V) (E : Set ℕ) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .i8) (harg3 : arg3.IsWhole) (arg4 : Memref sig .tc .vmem S3840x256 .bf16) (harg4 : arg4.IsWhole) (arg5 : Memref sig .tc .vmem S1920x256 .i8) (harg5 : arg5.IsWhole) (arg6 : Memref sig .tc .vmem S3x40x256 .i8) (harg6 : arg6.IsWhole) (arg7 : Memref sig .tc .vmem S120x256 .i32) (harg7 : arg7.IsWhole) (arg8 : Memref sig .tc .vmem S160x128 .i32) (harg8 : arg8.IsWhole) (arg9 : Memref sig .tc .vmem S96x128 .i32) (harg9 : arg9.IsWhole) (arg10 : Memref sig .tc .vmem S32x128 .i32) (harg10 : arg10.IsWhole) (arg11 : Memref sig .tc .vmem S160x128 .i32) (harg11 : arg11.IsWhole) (arg12 : Memref sig .tc .vmem S96x128 .i32) (harg12 : arg12.IsWhole) (arg13 : Memref sig .tc .vmem S32x128 .i32) (harg13 : arg13.IsWhole) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv _ _ := held (F := F) c arg1 arg2 arg3 arg4 arg5 arg7 arg8 arg9 arg10 arg11 arg12 arg13
  step k _ := trip 𝒱 c bd E i arg1 harg1 arg2 harg2 arg3 harg3 arg4 harg4 arg5 harg5 arg6 harg6 arg7 harg7 arg8 harg8 arg9 harg9 arg10 harg10 arg11 harg11 arg12 harg12 arg13 harg13 k

/-! ## The body -/

set_option maxHeartbeats 100000000 in
/-- The body runs: from every window and scratch at some contents to the same. -/
theorem run_body (c : Dev nD) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .i8) (harg3 : arg3.IsWhole) (arg4 : Memref sig .tc .vmem S3840x256 .bf16) (harg4 : arg4.IsWhole) (arg5 : Memref sig .tc .vmem S1920x256 .i8) (harg5 : arg5.IsWhole) (arg6 : Memref sig .tc .vmem S3x40x256 .i8) (harg6 : arg6.IsWhole) (arg7 : Memref sig .tc .vmem S120x256 .i32) (harg7 : arg7.IsWhole) (arg8 : Memref sig .tc .vmem S160x128 .i32) (harg8 : arg8.IsWhole) (arg9 : Memref sig .tc .vmem S96x128 .i32) (harg9 : arg9.IsWhole) (arg10 : Memref sig .tc .vmem S32x128 .i32) (harg10 : arg10.IsWhole) (arg11 : Memref sig .tc .vmem S160x128 .i32) (harg11 : arg11.IsWhole) (arg12 : Memref sig .tc .vmem S96x128 .i32) (harg12 : arg12.IsWhole) (arg13 : Memref sig .tc .vmem S32x128 .i32) (harg13 : arg13.IsWhole)
    (K : PUnit → sProp 𝕄) :
    iprop((∃ d, owns (c : Thread nD τ) arg1 fullShare d)
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (iprop((∃ d, owns (c : Thread nD τ) arg1 fullShare d)
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)) -∗ K ⟨⟩))
      ⊢ wp frame (wpE (defs₀ (F := F)) Variants.none (c : Thread nD τ) none) Set.univ
          (cc0_quant_dy_t (F := F) i arg1 harg1 arg2 harg2 arg3 harg3 arg4 harg4 arg5 harg5 arg6 harg6 arg7 harg7 arg8 harg8 arg9 harg9 arg10 harg10 arg11 harg11 arg12 harg12 arg13 harg13) K := by
  simp only [cc0_quant_dy_t_eq_skeleton]; unfold cc0_quant_dy_t_skel
  unfold owns
  iintro ⟨⟨%d_arg1, %f_arg1, -, H_arg1⟩, ⟨%d_arg2, %f_arg2, -, H_arg2⟩, ⟨%d_arg3, %f_arg3, -, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, Hk⟩
  sl_exec
  sl_step
  iapply Hk
  isplitl [H_arg1]
  · iexists _, _; isplitr; swap; · iexact H_arg1
    ipureintro; rfl
  isplitl [H_arg2]
  · iexists _, _; isplitr; swap; · iexact H_arg2
    ipureintro; rfl
  isplitl [H_arg3]
  · iexists _, _; isplitr; swap; · iexact H_arg3
    ipureintro; rfl
  isplitl [H_arg4]
  · iexists _, _; isplitr; swap; · iexact H_arg4
    ipureintro; rfl
  isplitl [H_arg5]
  · iexists _, _; isplitr; swap; · iexact H_arg5
    ipureintro; rfl
  isplitl [H_arg6]
  · iexists _, _; isplitr; swap; · iexact H_arg6
    ipureintro; rfl
  isplitl [H_arg7]
  · iexists _, _; isplitr; swap; · iexact H_arg7
    ipureintro; rfl
  isplitl [H_arg8]
  · iexists _, _; isplitr; swap; · iexact H_arg8
    ipureintro; rfl
  isplitl [H_arg9]
  · iexists _, _; isplitr; swap; · iexact H_arg9
    ipureintro; rfl
  isplitl [H_arg10]
  · iexists _, _; isplitr; swap; · iexact H_arg10
    ipureintro; rfl
  isplitl [H_arg11]
  · iexists _, _; isplitr; swap; · iexact H_arg11
    ipureintro; rfl
  isplitl [H_arg12]
  · iexists _, _; isplitr; swap; · iexact H_arg12
    ipureintro; rfl
  iexists _, _; isplitr; swap; · iexact H_arg13
  ipureintro; rfl

/-! ## The proof data and the body obligation -/

variable [∀ e, Nonempty (Elt F e)]
variable (m : (ℓ : Loc nD τ sig) → Buf (Elt F) ℓ) (ρ : Dev nD → PrngReg)

/-- Every window is forgotten: the frame reads none of them. -/
def forgets0 : Fin 6 → Bool := fun _ => true

/-- The proof data: the arrays as the region finds them, what the body leaves unnamed, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d))
@[inherit_doc bodyPre] def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d))

/-- The invariant between points: each scratch at some contents, the generator's register at some state. -/
theorem ΦA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq]
  iintro ⟨⟨⟨S_0, S_1, S_2, S_3, S_4, S_5, S_6⟩, Hg⟩, HO, H_0, H_1, H_2, H_3, H_4, H_5⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) _)
  isplitl [H_0]; · iexact H_0
  isplitl [H_1]; · iexact H_1
  isplitl [H_2]; · iexact H_2
  isplitl [H_3]; · iexact H_3
  isplitl [H_4]; · iexact H_4
  isplitl [H_5]; · iexact H_5
  isplitl [S_0]; · iexact S_0
  isplitl [S_1]; · iexact S_1
  isplitl [S_2]; · iexact S_2
  isplitl [S_3]; · iexact S_3
  isplitl [S_4]; · iexact S_4
  isplitl [S_5]; · iexact S_5
  isplitl [S_6]; · iexact S_6
  iintro ⟨H_0, H_1, H_2, H_3, H_4, H_5, S_0, S_1, S_2, S_3, S_4, S_5, S_6⟩
  isplitl [S_0 S_1 S_2 S_3 S_4 S_5 S_6 Hg]
  · isplitl [S_0 S_1 S_2 S_3 S_4 S_5 S_6]
    · isplitl [S_0]; · iexact S_0
      isplitl [S_1]; · iexact S_1
      isplitl [S_2]; · iexact S_2
      isplitl [S_3]; · iexact S_3
      isplitl [S_4]; · iexact S_4
      isplitl [S_5]; · iexact S_5
      iexact S_6
    iexact Hg
  isplitl [HO]; · iexact HO
  isplitl [H_0]; · iexact H_0
  isplitl [H_1]; · iexact H_1
  isplitl [H_2]; · iexact H_2
  isplitl [H_3]; · iexact H_3
  isplitl [H_4]; · iexact H_4
  iexact H_5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- The launch runs, its input arrays end as it found them, and every semaphore ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the launch the arguments are as they were. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame claim. -/
theorem frame_claim (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
        ∧ r.2.sem = fun _ => 0) :=
  (θ_run defs _ _).mono (fun _ h => ⟨fun c => arguments h.1 c, h.2⟩) (run_main (F := Bits) m ρ)

end Cert.QuantDyTFrame

end
-- ==== Proof.QuantDyNFrame.lean ====
/-
  The frame of `QuantDyN`: the quantiser of dy along the channels, launched alone. Every run ends, nothing faults, and the
  arguments end as they began. Nothing is said of the results: the body's triple forgets what is in each
  window and in each scratch, so the loop's invariant is that all of them are there.
-/
module

public import proofs.«01_k».proof.Defs
public import proofs.«01_k».proof.Proof.Gen.QuantDyN
public import proofs.«01_k».proof.Proof.Gen.QuantDyN.Skeleton
public import proofs.«01_k».proof.Proof.Gen.QuantDyN.Loops
public import proofs.«01_k».proof.Proof.Gen.QuantDyN.Launch
public import proofs.«01_k».proof.Proof.Gen.QuantDyN.Points
public import proofs.«01_k».proof.Proof.Gen.QuantDyN.Frame

@[expose] public section

set_option maxRecDepth 16384

noncomputable section

namespace Cert.QuantDyNFrame

open Cert.QuantDyN Cert.QuantDyN.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## One trip of the loop -/

/-- What a trip of the loop touches: each memory at some contents. -/
abbrev held (c : Dev nD) (arg2 : Memref sig .tc .vmem S4096x128 .f32) (arg3 : Memref sig .tc .vmem S256x4096 .bf16) (arg4 : Memref sig .tc .vmem S256x4096 .i8) (arg5 : Memref sig .tc .vmem S256x4096 .bf16) (arg6 : Memref sig .tc .vmem S256x2048 .i8) (arg8 : Memref sig .tc .vmem S128x256 .i32) (arg9 : Memref sig .tc .vmem S160x128 .i32) (arg10 : Memref sig .tc .vmem S160x128 .i32) (arg11 : Memref sig .tc .vmem S96x128 .i32) (arg12 : Memref sig .tc .vmem S160x128 .i32) (arg13 : Memref sig .tc .vmem S160x128 .i32) (arg14 : Memref sig .tc .vmem S96x128 .i32) : sProp 𝕄 :=
  iprop((∃ f, (arg2.view.loc (c : Thread nD τ) ↦[arg2.view.set]{fullShare} f))
      ∗ (∃ f, (arg3.view.loc (c : Thread nD τ) ↦[arg3.view.set]{fullShare} f))
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f)))

set_option maxHeartbeats 100000000 in
/-- One trip of the loop runs. -/
theorem trip (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S256x4096 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (k : Fin k0_t1_loop.trips) :
    held (F := F) c arg2 arg3 arg4 arg5 arg6 arg8 arg9 arg10 arg11 arg12 arg13 arg14
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
        (fun _ => held (F := F) c arg2 arg3 arg4 arg5 arg6 arg8 arg9 arg10 arg11 arg12 arg13 arg14) := by
  have hk : k.val < 16 := Nat.lt_of_lt_of_le k.isLt k0_t1_abs.2.1
  unfold k0_t1_body
  iintro ⟨⟨%f_arg2, H_arg2⟩, ⟨%f_arg3, H_arg3⟩, ⟨%f_arg4, H_arg4⟩, ⟨%f_arg5, H_arg5⟩, ⟨%f_arg6, H_arg6⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩⟩
  sl_exec
  sl_step
  sl_close

set_option warn.classDefReducibility false in
/-- The loop's invariant: each memory it touches is there. -/
@[sl_loop] def tripInv (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S256x4096 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 where
  inv _ _ := held (F := F) c arg2 arg3 arg4 arg5 arg6 arg8 arg9 arg10 arg11 arg12 arg13 arg14
  step k _ := trip 𝒱 c bd E i arg2 harg2 arg3 harg3 arg4 harg4 arg5 harg5 arg6 harg6 arg7 harg7 arg8 harg8 arg9 harg9 arg10 harg10 arg11 harg11 arg12 harg12 arg13 harg13 arg14 harg14 k

/-! ## The body -/

set_option maxHeartbeats 100000000 in
/-- The body runs: from every window and scratch at some contents to the same. -/
theorem run_body (c : Dev nD) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S256x4096 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (K : PUnit → sProp 𝕄) :
    iprop((∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (iprop((∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)) -∗ K ⟨⟩))
      ⊢ wp frame (wpE (defs₀ (F := F)) Variants.none (c : Thread nD τ) none) Set.univ
          (cc0_quant_dy_n (F := F) i arg2 harg2 arg3 harg3 arg4 harg4 arg5 harg5 arg6 harg6 arg7 harg7 arg8 harg8 arg9 harg9 arg10 harg10 arg11 harg11 arg12 harg12 arg13 harg13 arg14 harg14) K := by
  simp only [cc0_quant_dy_n_eq_skeleton]; unfold cc0_quant_dy_n_skel
  unfold owns
  iintro ⟨⟨%d_arg2, %f_arg2, -, H_arg2⟩, ⟨%d_arg3, %f_arg3, -, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, Hk⟩
  sl_exec
  sl_step
  iapply Hk
  isplitl [H_arg2]
  · iexists _, _; isplitr; swap; · iexact H_arg2
    ipureintro; rfl
  isplitl [H_arg3]
  · iexists _, _; isplitr; swap; · iexact H_arg3
    ipureintro; rfl
  isplitl [H_arg4]
  · iexists _, _; isplitr; swap; · iexact H_arg4
    ipureintro; rfl
  isplitl [H_arg5]
  · iexists _, _; isplitr; swap; · iexact H_arg5
    ipureintro; rfl
  isplitl [H_arg6]
  · iexists _, _; isplitr; swap; · iexact H_arg6
    ipureintro; rfl
  isplitl [H_arg7]
  · iexists _, _; isplitr; swap; · iexact H_arg7
    ipureintro; rfl
  isplitl [H_arg8]
  · iexists _, _; isplitr; swap; · iexact H_arg8
    ipureintro; rfl
  isplitl [H_arg9]
  · iexists _, _; isplitr; swap; · iexact H_arg9
    ipureintro; rfl
  isplitl [H_arg10]
  · iexists _, _; isplitr; swap; · iexact H_arg10
    ipureintro; rfl
  isplitl [H_arg11]
  · iexists _, _; isplitr; swap; · iexact H_arg11
    ipureintro; rfl
  isplitl [H_arg12]
  · iexists _, _; isplitr; swap; · iexact H_arg12
    ipureintro; rfl
  isplitl [H_arg13]
  · iexists _, _; isplitr; swap; · iexact H_arg13
    ipureintro; rfl
  iexists _, _; isplitr; swap; · iexact H_arg14
  ipureintro; rfl

/-! ## The proof data and the body obligation -/

variable [∀ e, Nonempty (Elt F e)]
variable (m : (ℓ : Loc nD τ sig) → Buf (Elt F) ℓ) (ρ : Dev nD → PrngReg)

/-- Every window is forgotten: the frame reads none of them. -/
def forgets0 : Fin 6 → Bool := fun _ => true

/-- The proof data: the arrays as the region finds them, what the body leaves unnamed, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d))
@[inherit_doc bodyPre] def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d))

/-- The invariant between points: each scratch at some contents, the generator's register at some state. -/
theorem ΦA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq]
  iintro ⟨⟨⟨S_0, S_1, S_2, S_3, S_4, S_5, S_6⟩, Hg⟩, HO, H_0, H_1, H_2, H_3, H_4, H_5⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) _)
  isplitl [H_0]; · iexact H_0
  isplitl [H_1]; · iexact H_1
  isplitl [H_2]; · iexact H_2
  isplitl [H_3]; · iexact H_3
  isplitl [H_4]; · iexact H_4
  isplitl [H_5]; · iexact H_5
  isplitl [S_0]; · iexact S_0
  isplitl [S_1]; · iexact S_1
  isplitl [S_2]; · iexact S_2
  isplitl [S_3]; · iexact S_3
  isplitl [S_4]; · iexact S_4
  isplitl [S_5]; · iexact S_5
  isplitl [S_6]; · iexact S_6
  iintro ⟨H_0, H_1, H_2, H_3, H_4, H_5, S_0, S_1, S_2, S_3, S_4, S_5, S_6⟩
  isplitl [S_0 S_1 S_2 S_3 S_4 S_5 S_6 Hg]
  · isplitl [S_0 S_1 S_2 S_3 S_4 S_5 S_6]
    · isplitl [S_0]; · iexact S_0
      isplitl [S_1]; · iexact S_1
      isplitl [S_2]; · iexact S_2
      isplitl [S_3]; · iexact S_3
      isplitl [S_4]; · iexact S_4
      isplitl [S_5]; · iexact S_5
      iexact S_6
    iexact Hg
  isplitl [HO]; · iexact HO
  isplitl [H_0]; · iexact H_0
  isplitl [H_1]; · iexact H_1
  isplitl [H_2]; · iexact H_2
  isplitl [H_3]; · iexact H_3
  isplitl [H_4]; · iexact H_4
  iexact H_5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- The launch runs, its input arrays end as it found them, and every semaphore ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the launch the arguments are as they were. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame claim. -/
theorem frame_claim (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
        ∧ r.2.sem = fun _ => 0) :=
  (θ_run defs _ _).mono (fun _ h => ⟨fun c => arguments h.1 c, h.2⟩) (run_main (F := Bits) m ρ)

end Cert.QuantDyNFrame

end
-- ==== Proof.QuantWFrame.lean ====
/-
  The frame of `QuantW`: the quantiser of w, launched alone. Every run ends, nothing faults, and the
  arguments end as they began. Nothing is said of the results: the body's triple forgets what is in each
  window and in each scratch, so the loop's invariant is that all of them are there.
-/
module

public import proofs.«01_k».proof.Defs
public import proofs.«01_k».proof.Proof.Gen.QuantW
public import proofs.«01_k».proof.Proof.Gen.QuantW.Skeleton
public import proofs.«01_k».proof.Proof.Gen.QuantW.Loops
public import proofs.«01_k».proof.Proof.Gen.QuantW.Launch
public import proofs.«01_k».proof.Proof.Gen.QuantW.Points
public import proofs.«01_k».proof.Proof.Gen.QuantW.Frame

@[expose] public section

set_option maxRecDepth 16384

noncomputable section

namespace Cert.QuantWFrame

open Cert.QuantW Cert.QuantW.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## One trip of the loop -/

/-- What a trip of the loop touches: each memory at some contents. -/
abbrev held (c : Dev nD) (arg2 : Memref sig .tc .vmem S4096x128 .f32) (arg3 : Memref sig .tc .vmem S256x4096 .bf16) (arg4 : Memref sig .tc .vmem S256x4096 .i8) (arg5 : Memref sig .tc .vmem S4096x256 .bf16) (arg6 : Memref sig .tc .vmem S256x2048 .i8) (arg8 : Memref sig .tc .vmem S128x256 .i32) (arg9 : Memref sig .tc .vmem S160x128 .i32) (arg10 : Memref sig .tc .vmem S160x128 .i32) (arg11 : Memref sig .tc .vmem S96x128 .i32) (arg12 : Memref sig .tc .vmem S160x128 .i32) (arg13 : Memref sig .tc .vmem S160x128 .i32) (arg14 : Memref sig .tc .vmem S96x128 .i32) : sProp 𝕄 :=
  iprop((∃ f, (arg2.view.loc (c : Thread nD τ) ↦[arg2.view.set]{fullShare} f))
      ∗ (∃ f, (arg3.view.loc (c : Thread nD τ) ↦[arg3.view.set]{fullShare} f))
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f)))

set_option maxHeartbeats 100000000 in
/-- One trip of the loop runs. -/
theorem trip (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S4096x256 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (k : Fin k0_t1_loop.trips) :
    held (F := F) c arg2 arg3 arg4 arg5 arg6 arg8 arg9 arg10 arg11 arg12 arg13 arg14
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
        (fun _ => held (F := F) c arg2 arg3 arg4 arg5 arg6 arg8 arg9 arg10 arg11 arg12 arg13 arg14) := by
  have hk : k.val < 16 := Nat.lt_of_lt_of_le k.isLt k0_t1_abs.2.1
  unfold k0_t1_body
  iintro ⟨⟨%f_arg2, H_arg2⟩, ⟨%f_arg3, H_arg3⟩, ⟨%f_arg4, H_arg4⟩, ⟨%f_arg5, H_arg5⟩, ⟨%f_arg6, H_arg6⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩⟩
  sl_exec
  sl_step
  sl_close

set_option warn.classDefReducibility false in
/-- The loop's invariant: each memory it touches is there. -/
@[sl_loop] def tripInv (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S4096x256 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 where
  inv _ _ := held (F := F) c arg2 arg3 arg4 arg5 arg6 arg8 arg9 arg10 arg11 arg12 arg13 arg14
  step k _ := trip 𝒱 c bd E i arg2 harg2 arg3 harg3 arg4 harg4 arg5 harg5 arg6 harg6 arg7 harg7 arg8 harg8 arg9 harg9 arg10 harg10 arg11 harg11 arg12 harg12 arg13 harg13 arg14 harg14 k

/-! ## The body -/

set_option maxHeartbeats 100000000 in
/-- The body runs: from every window and scratch at some contents to the same. -/
theorem run_body (c : Dev nD) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S4096x256 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (K : PUnit → sProp 𝕄) :
    iprop((∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (iprop((∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)) -∗ K ⟨⟩))
      ⊢ wp frame (wpE (defs₀ (F := F)) Variants.none (c : Thread nD τ) none) Set.univ
          (cc0_quant_w (F := F) i arg2 harg2 arg3 harg3 arg4 harg4 arg5 harg5 arg6 harg6 arg7 harg7 arg8 harg8 arg9 harg9 arg10 harg10 arg11 harg11 arg12 harg12 arg13 harg13 arg14 harg14) K := by
  simp only [cc0_quant_w_eq_skeleton]; unfold cc0_quant_w_skel
  unfold owns
  iintro ⟨⟨%d_arg2, %f_arg2, -, H_arg2⟩, ⟨%d_arg3, %f_arg3, -, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, Hk⟩
  sl_exec
  sl_step
  iapply Hk
  isplitl [H_arg2]
  · iexists _, _; isplitr; swap; · iexact H_arg2
    ipureintro; rfl
  isplitl [H_arg3]
  · iexists _, _; isplitr; swap; · iexact H_arg3
    ipureintro; rfl
  isplitl [H_arg4]
  · iexists _, _; isplitr; swap; · iexact H_arg4
    ipureintro; rfl
  isplitl [H_arg5]
  · iexists _, _; isplitr; swap; · iexact H_arg5
    ipureintro; rfl
  isplitl [H_arg6]
  · iexists _, _; isplitr; swap; · iexact H_arg6
    ipureintro; rfl
  isplitl [H_arg7]
  · iexists _, _; isplitr; swap; · iexact H_arg7
    ipureintro; rfl
  isplitl [H_arg8]
  · iexists _, _; isplitr; swap; · iexact H_arg8
    ipureintro; rfl
  isplitl [H_arg9]
  · iexists _, _; isplitr; swap; · iexact H_arg9
    ipureintro; rfl
  isplitl [H_arg10]
  · iexists _, _; isplitr; swap; · iexact H_arg10
    ipureintro; rfl
  isplitl [H_arg11]
  · iexists _, _; isplitr; swap; · iexact H_arg11
    ipureintro; rfl
  isplitl [H_arg12]
  · iexists _, _; isplitr; swap; · iexact H_arg12
    ipureintro; rfl
  isplitl [H_arg13]
  · iexists _, _; isplitr; swap; · iexact H_arg13
    ipureintro; rfl
  iexists _, _; isplitr; swap; · iexact H_arg14
  ipureintro; rfl

/-! ## The proof data and the body obligation -/

variable [∀ e, Nonempty (Elt F e)]
variable (m : (ℓ : Loc nD τ sig) → Buf (Elt F) ℓ) (ρ : Dev nD → PrngReg)

/-- Every window is forgotten: the frame reads none of them. -/
def forgets0 : Fin 6 → Bool := fun _ => true

/-- The proof data: the arrays as the region finds them, what the body leaves unnamed, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d))
@[inherit_doc bodyPre] def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d))

/-- The invariant between points: each scratch at some contents, the generator's register at some state. -/
theorem ΦA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq]
  iintro ⟨⟨⟨S_0, S_1, S_2, S_3, S_4, S_5, S_6⟩, Hg⟩, HO, H_0, H_1, H_2, H_3, H_4, H_5⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) _)
  isplitl [H_0]; · iexact H_0
  isplitl [H_1]; · iexact H_1
  isplitl [H_2]; · iexact H_2
  isplitl [H_3]; · iexact H_3
  isplitl [H_4]; · iexact H_4
  isplitl [H_5]; · iexact H_5
  isplitl [S_0]; · iexact S_0
  isplitl [S_1]; · iexact S_1
  isplitl [S_2]; · iexact S_2
  isplitl [S_3]; · iexact S_3
  isplitl [S_4]; · iexact S_4
  isplitl [S_5]; · iexact S_5
  isplitl [S_6]; · iexact S_6
  iintro ⟨H_0, H_1, H_2, H_3, H_4, H_5, S_0, S_1, S_2, S_3, S_4, S_5, S_6⟩
  isplitl [S_0 S_1 S_2 S_3 S_4 S_5 S_6 Hg]
  · isplitl [S_0 S_1 S_2 S_3 S_4 S_5 S_6]
    · isplitl [S_0]; · iexact S_0
      isplitl [S_1]; · iexact S_1
      isplitl [S_2]; · iexact S_2
      isplitl [S_3]; · iexact S_3
      isplitl [S_4]; · iexact S_4
      isplitl [S_5]; · iexact S_5
      iexact S_6
    iexact Hg
  isplitl [HO]; · iexact HO
  isplitl [H_0]; · iexact H_0
  isplitl [H_1]; · iexact H_1
  isplitl [H_2]; · iexact H_2
  isplitl [H_3]; · iexact H_3
  isplitl [H_4]; · iexact H_4
  iexact H_5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- The launch runs, its input arrays end as it found them, and every semaphore ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the launch the arguments are as they were. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 1 rfl).trans (V_main_arg0 m c),
    ((h c).2 main_arg1 (Pipeline.mem_restRefs_of main_arg1 (by decide) (by decide))).trans (V_main_arg1 m c),
    (h.arr_in c 2 rfl).trans (V_main_arg2 m c)⟩

/-- The frame claim. -/
theorem frame_claim (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
        ∧ r.2.sem = fun _ => 0) :=
  (θ_run defs _ _).mono (fun _ h => ⟨fun c => arguments h.1 c, h.2⟩) (run_main (F := Bits) m ρ)

end Cert.QuantWFrame

end
-- ==== Proof.BlockExponent.lean ====
/-
  The exponent of a block of thirty-two numbers, over any float operations: the block is rotated by the five
  stages of sums and differences at distances 1, 2, 4, 8 and 16, its largest magnitude is taken, and the exponent
  field of that magnitude, less 129, is the exponent — zero where the field is zero.

  The second half reads the scratch the words of a tile go through: eight strips of sixteen rows are stored at
  every twentieth row, and a read at stride twenty from row `p` finds row `16 b + p` of the tile in lane-row `b`.
-/
module

public import proofs.«01_k».proof.Defs
public import Idealize.ShloMosaic.Lib.ValueIdxCore
public import Idealize.ShloMosaic.Lib.BitcastPair
public import Idealize.ShloMosaic.Lib.Pipeline.Value

@[expose] public section

set_option maxRecDepth 16384

noncomputable section

namespace Cert.BlockExponent

open Idealize.ShloMosaic
open Idealize.ShloMosaic.ValueIdx (ix2)
open Idealize.ShloMosaic.Pipeline

variable {F : FTy → Type} [BitOps F]

/-! ## One block -/

/-- One stage of the rotation: sums and differences at distance `s`. -/
def stage (s : ℕ) (v : ℕ → F .f32) (i : ℕ) : F .f32 :=
  if i / s % 2 = 0 then FloatOps.addf (v i) (v (i + s)) else FloatOps.subf (v (i - s)) (v i)

/-- The five stages. -/
def rotated (v : ℕ → F .f32) : ℕ → F .f32 := stage 16 (stage 8 (stage 4 (stage 2 (stage 1 v))))

/-- The largest magnitude of the first `n + 1`. -/
def largest (u : ℕ → F .f32) : ℕ → F .f32
  | 0 => FloatOps.absf (u 0)
  | n + 1 => FloatOps.maximumf (largest u n) (FloatOps.absf (u (n + 1)))

/-- The exponent word of a magnitude, as the kernels compute it. -/
def exponent (a : F .f32) : BitVec 32 :=
  IntOp.subi (Scalar.select (IntOp.cmpi .eq (IntOp.shrui .vector (BitOps.toBits a) 23#32) 0#32) 129#32
    (IntOp.shrui .vector (BitOps.toBits a) 23#32)) 129#32

/-- The exponent word of a block. -/
def blockExponent (v : ℕ → F .f32) : BitVec 32 := exponent (largest (rotated v) 31)

/-- Only the thirty-two elements matter. -/
theorem blockExponent_congr {v u : ℕ → F .f32} (h : ∀ i < 32, v i = u i) : blockExponent v = blockExponent u := by
  have hs : ∀ (s : ℕ) (a b : ℕ → F .f32), s ∈ [1, 2, 4, 8, 16] → (∀ i < 32, a i = b i) → ∀ i < 32, stage s a i = stage s b i := by
    intro s a b hs hab i hi
    unfold stage
    by_cases hc : i / s % 2 = 0
    · rw [if_pos hc, if_pos hc, hab i hi, hab (i + s) (by fin_cases hs <;> omega)]
    · rw [if_neg hc, if_neg hc, hab i hi, hab (i - s) (by omega)]
  have hr : ∀ i < 32, rotated v i = rotated u i :=
    hs 16 _ _ (by simp) (hs 8 _ _ (by simp) (hs 4 _ _ (by simp) (hs 2 _ _ (by simp) (hs 1 _ _ (by simp) h))))
  have hl : ∀ n < 32, largest (rotated v) n = largest (rotated u) n := by
    intro n; induction n with
    | zero => intro _; simp only [largest, hr 0 (by omega)]
    | succ n ih => intro hn; simp only [largest, ih (by omega), hr (n + 1) hn]
  unfold blockExponent; rw [hl 31 (by omega)]

/-- A bf16 number as an f32 one: its word in the high half. -/
def widened (b : F .bf16) : F .f32 := FloatOps.ofBits .f32 ((BitOps.toBits b : BitVec 16).setWidth 32 <<< 16)

/-- The number in the low half of a word for an even `i`, in its high half for an odd one. -/
def ofHalf (i : ℕ) (w : BitVec 32) : F .f32 :=
  FloatOps.ofBits .f32 (if i % 2 = 0 then IntOp.shli .vector w 16#32 else IntOp.andi w 4294901760#32)

theorem low_half (a b : BitVec 16) : (a ++ b) <<< 16 = b.setWidth 32 <<< 16 := by
  apply BitVec.eq_of_getLsbD_eq
  intro j hj
  rw [BitVec.getLsbD_shiftLeft, BitVec.getLsbD_append, BitVec.getLsbD_shiftLeft, BitVec.getLsbD_setWidth]
  by_cases h : j < 16
  · simp only [h, decide_true, Bool.not_true, Bool.and_false, Bool.false_and]
  · rw [if_pos (by omega : j - 16 < 16)]
    have h3 : j - 16 < 32 := by omega
    have h4 : j < 32 := by omega
    simp only [h, h3, h4, decide_true, decide_false, Bool.not_false, Bool.true_and, Bool.and_true]

theorem high_half (a b : BitVec 16) : (a ++ b) &&& 4294901760#32 = a.setWidth 32 <<< 16 := by
  have hm : (4294901760#32) = (BitVec.allOnes 16).setWidth 32 <<< 16 := by decide
  rw [hm]
  apply BitVec.eq_of_getLsbD_eq
  intro j hj
  rw [BitVec.getLsbD_and, BitVec.getLsbD_append, BitVec.getLsbD_shiftLeft, BitVec.getLsbD_shiftLeft, BitVec.getLsbD_setWidth,
    BitVec.getLsbD_setWidth, BitVec.getLsbD_allOnes]
  have h4 : j < 32 := by omega
  by_cases h : j < 16
  · simp only [h, decide_true, Bool.not_true, Bool.and_false, Bool.false_and]
  · have h2 : j - 16 < 16 := by omega
    have h3 : j - 16 < 32 := by omega
    simp only [h, h2, h3, h4, if_false, decide_true, decide_false, Bool.not_false, Bool.true_and, Bool.and_true]

theorem ofHalf_low {i : ℕ} (hi : i % 2 = 0) (a b : F .bf16) (w : BitVec 32)
    (hw : w = (BitOps.toBits a : BitVec 16) ++ (BitOps.toBits b : BitVec 16)) : ofHalf (F := F) i w = widened b := by
  unfold ofHalf widened
  rw [if_pos hi, hw]
  exact congrArg (FloatOps.ofBits .f32) (low_half _ _)

theorem ofHalf_high {i : ℕ} (hi : i % 2 = 1) (a b : F .bf16) (w : BitVec 32)
    (hw : w = (BitOps.toBits a : BitVec 16) ++ (BitOps.toBits b : BitVec 16)) : ofHalf (F := F) i w = widened a := by
  unfold ofHalf widened
  rw [if_neg (by omega), hw]
  exact congrArg (FloatOps.ofBits .f32) (high_half _ _)

/-! ## A tile of blocks -/

/-- Eight blocks in each of 128 lanes: element `i` of the block of lane-row `b` and lane `l` is half `i % 2` of word
    `i / 2`, times the sign. -/
def tileExponents (W : ℕ → (⟨2, ![8, 128]⟩ : Shape).Idx → BitVec 32) (G : ℕ → (⟨2, ![8, 128]⟩ : Shape).Idx → F .f32) :
    (⟨2, ![8, 128]⟩ : Shape).Idx → BitVec 32 :=
  fun x => blockExponent fun i => FloatOps.mulf (ofHalf i (W (i / 2) x)) (G i x)

/-! ## The scratch of words -/

variable [∀ e, Nonempty (Elt F e)]

/-- Rows `p`, `p + 20`, … of the scratch. -/
abbrev everyTwentieth (p : ℕ) (hp : p < 16) : LoadRect (⟨2, ![160, 128]⟩ : Shape) :=
  ⟨![p, 0], (⟨2, ![8, 128]⟩ : Shape).size, ![20, 1], fun a => by fin_cases a <;> simp <;> omega⟩

/-- The eight strips of a tile of words, as the scratch holds them. -/
def strips (X : IVec (⟨2, ![128, 128]⟩ : Shape) 32) : List (View.Piece (Elt F) (⟨2, ![160, 128]⟩ : Shape) .i32) :=
  [⟨Rect.unit ![140, 0] ![16, 128] (by decide), shapeCast ⟨2, ![16, 128]⟩ (extractStridedSlice ⟨2, ![16, 128]⟩ ![112, 0] X (by decide)) (by decide)⟩,
   ⟨Rect.unit ![120, 0] ![16, 128] (by decide), shapeCast ⟨2, ![16, 128]⟩ (extractStridedSlice ⟨2, ![16, 128]⟩ ![96, 0] X (by decide)) (by decide)⟩,
   ⟨Rect.unit ![100, 0] ![16, 128] (by decide), shapeCast ⟨2, ![16, 128]⟩ (extractStridedSlice ⟨2, ![16, 128]⟩ ![80, 0] X (by decide)) (by decide)⟩,
   ⟨Rect.unit ![80, 0] ![16, 128] (by decide), shapeCast ⟨2, ![16, 128]⟩ (extractStridedSlice ⟨2, ![16, 128]⟩ ![64, 0] X (by decide)) (by decide)⟩,
   ⟨Rect.unit ![60, 0] ![16, 128] (by decide), shapeCast ⟨2, ![16, 128]⟩ (extractStridedSlice ⟨2, ![16, 128]⟩ ![48, 0] X (by decide)) (by decide)⟩,
   ⟨Rect.unit ![40, 0] ![16, 128] (by decide), shapeCast ⟨2, ![16, 128]⟩ (extractStridedSlice ⟨2, ![16, 128]⟩ ![32, 0] X (by decide)) (by decide)⟩,
   ⟨Rect.unit ![20, 0] ![16, 128] (by decide), shapeCast ⟨2, ![16, 128]⟩ (extractStridedSlice ⟨2, ![16, 128]⟩ ![16, 0] X (by decide)) (by decide)⟩,
   ⟨Rect.unit ![0, 0] ![16, 128] (by decide), shapeCast ⟨2, ![16, 128]⟩ (extractStridedSlice ⟨2, ![16, 128]⟩ ![0, 0] X (by decide)) (by decide)⟩]

/-- What a read at stride twenty finds after the writes `L`. -/
def readWords {sig : RefSig} {κ : Kind} {sp : Space} (v : View sig κ sp (⟨2, ![160, 128]⟩ : Shape) .i32)
    (L : List (View.Piece (Elt F) (⟨2, ![160, 128]⟩ : Shape) .i32)) (p : ℕ) : (⟨2, ![8, 128]⟩ : Shape).Idx → BitVec 32 :=
  if hp : p < 16 then v.readCov L (everyTwentieth p hp) else fun _ => 0#32

/-- What the scratch holds at a row that a strip covers. -/
def stripRow (X : IVec (⟨2, ![128, 128]⟩ : Shape) 32) (y : (⟨2, ![160, 128]⟩ : Shape).Idx) : BitVec 32 :=
  X (ix2 ⟨(16 * ((y 0).val / 20) + (y 0).val % 20) % 128, Nat.mod_lt _ (by decide)⟩ (y 1))

/-- A strip's payload is what the scratch holds at the strip's rows. -/
theorem strip_apply (X : IVec (⟨2, ![128, 128]⟩ : Shape) 32) (t o : ℕ) (ht : t < 8)
    (inb : ∀ a, (![20 * t, 0] : Fin 2 → ℕ) a + (![16, 128] : Fin 2 → ℕ) a ≤ (⟨2, ![160, 128]⟩ : Shape).size a)
    (h : (⟨2, ![128, 128]⟩ : Shape).Slices ![o, 0] ⟨2, ![16, 128]⟩) (ho : o = 16 * t) (x : (Rect.unit (s := (⟨2, ![160, 128]⟩ : Shape)) ![20 * t, 0] ![16, 128] inb).shape.Idx) :
    extractStridedSlice ⟨2, ![16, 128]⟩ ![o, 0] X h x = stripRow X ((Rect.unit ![20 * t, 0] ![16, 128] inb).emb x) := by
  have h0 : (x 0).val < 16 := (x 0).isLt
  have e0 : ((Rect.unit (s := ⟨2, ![160, 128]⟩) ![20 * t, 0] ![16, 128] inb).emb x 0).val = 20 * t + (x 0).val := by
    rw [Rect.emb_apply]; simp [Rect.unit]
  have e1 : ((Rect.unit (s := ⟨2, ![160, 128]⟩) ![20 * t, 0] ![16, 128] inb).emb x 1).val = (x 1).val := by
    rw [Rect.emb_apply]; simp [Rect.unit]
  refine congrArg X (funext fun a => ?_)
  match a with
  | ⟨0, _⟩ =>
    apply Fin.ext
    show o + (x 0).val = (16 * (_ / 20) + _ % 20) % 128
    rw [e0]; omega
  | ⟨1, _⟩ =>
    apply Fin.ext
    show 0 + (x 1).val = ((Rect.unit (s := ⟨2, ![160, 128]⟩) ![20 * t, 0] ![16, 128] inb).emb x 1).val
    rw [e1]; omega

theorem readWords_strips {sig : RefSig} {κ : Kind} {sp : Space} (v : View sig κ sp (⟨2, ![160, 128]⟩ : Shape) .i32)
    (X : IVec (⟨2, ![128, 128]⟩ : Shape) 32) (p : ℕ) (hp : p < 16) (b : Fin 8) (l : Fin 128) :
    readWords (F := F) v (strips X) p (ix2 b l) = X (ix2 ⟨16 * b.val + p, by omega⟩ l) := by
  unfold readWords
  rw [dif_pos hp, View.readCov_eq_canon']
  show View.canon (strips (F := F) X) _ = _
  rw [View.canon_apply_of_pieces (stripRow X)]
  · unfold stripRow
    congr 1
    funext a
    match a with
    | ⟨0, _⟩ =>
      apply Fin.ext
      simp [LoadRect.idx, ix2]
      omega
    | ⟨1, _⟩ => apply Fin.ext; simp [LoadRect.idx, ix2]
  · intro q hq x
    simp only [strips, List.mem_cons, List.not_mem_nil, or_false] at hq
    rcases hq with rfl | rfl | rfl | rfl | rfl | rfl | rfl | rfl
    · rw [shapeCast_self]; exact strip_apply X 7 112 (by decide) (by decide) (by decide) rfl x
    · rw [shapeCast_self]; exact strip_apply X 6 96 (by decide) (by decide) (by decide) rfl x
    · rw [shapeCast_self]; exact strip_apply X 5 80 (by decide) (by decide) (by decide) rfl x
    · rw [shapeCast_self]; exact strip_apply X 4 64 (by decide) (by decide) (by decide) rfl x
    · rw [shapeCast_self]; exact strip_apply X 3 48 (by decide) (by decide) (by decide) rfl x
    · rw [shapeCast_self]; exact strip_apply X 2 32 (by decide) (by decide) (by decide) rfl x
    · rw [shapeCast_self]; exact strip_apply X 1 16 (by decide) (by decide) (by decide) rfl x
    · rw [shapeCast_self]; exact strip_apply X 0 0 (by decide) (by decide) (by decide) rfl x
  · refine ⟨⟨Rect.unit ![20 * b.val, 0] ![16, 128] (fun a => by fin_cases a <;> simp <;> omega),
      shapeCast ⟨2, ![16, 128]⟩ (extractStridedSlice ⟨2, ![16, 128]⟩ ![16 * b.val, 0] X ⟨rfl, fun a => by fin_cases a <;> simp <;> omega⟩) (by decide)⟩, ?_, ?_⟩
    · fin_cases b <;> simp [strips]
    · rw [Rect.mem_set_unit]
      intro a
      fin_cases a <;> simp [LoadRect.idx, ix2] <;> omega

/-! ## The words of a tile of bf16 -/

/-- A tile of 128 rows of 256 numbers, transposed, each pair of neighbours one word. -/
def packed (a : (⟨2, ![128, 256]⟩ : Shape).Idx → F .bf16) : IVec (⟨2, ![128, 128]⟩ : Shape) 32 :=
  bitcast ⟨2, ![128, 128]⟩ 32 (bitcastToInt (transpose ⟨2, ![256, 128]⟩ [1, 0] a (by decide))) (by decide)

omit [∀ e, Nonempty (Elt F e)] in
theorem packed_apply (a : (⟨2, ![128, 256]⟩ : Shape).Idx → F .bf16) (r l : Fin 128) :
    packed a (ix2 r l) = (BitOps.toBits (a (ix2 l ⟨2 * r.val + 1, by omega⟩)) : BitVec 16)
      ++ (BitOps.toBits (a (ix2 l ⟨2 * r.val, by omega⟩)) : BitVec 16) := by
  have hrow : Shape.row (s := ⟨2, ![128, 128]⟩) (ix2 r l) = r.val := rfl
  unfold packed
  refine (bitcast_16_32 _ _ _).trans ?_
  refine congrArg₂ (· ++ ·) ?_ ?_
  · refine congrArg (fun z => (BitOps.toBits (a z) : BitVec 16)) (funext fun z => ?_)
    match z with
    | ⟨0, _⟩ => rfl
    | ⟨1, _⟩ => rfl
  · refine congrArg (fun z => (BitOps.toBits (a z) : BitVec 16)) (funext fun z => ?_)
    match z with
    | ⟨0, _⟩ => rfl
    | ⟨1, _⟩ => rfl

/-- The exponents of a tile that went through the scratch. -/
theorem tileExponents_packed {sig : RefSig} {κ : Kind} {sp : Space} (v : View sig κ sp (⟨2, ![160, 128]⟩ : Shape) .i32)
    (a : (⟨2, ![128, 256]⟩ : Shape).Idx → F .bf16) (G : ℕ → (⟨2, ![8, 128]⟩ : Shape).Idx → F .f32) (b : Fin 8) (l : Fin 128) :
    tileExponents (readWords (F := F) v (strips (packed a))) G (ix2 b l)
      = blockExponent fun i => FloatOps.mulf (widened (a (ix2 l ⟨(32 * b.val + i) % 256, Nat.mod_lt _ (by decide)⟩))) (G i (ix2 b l)) := by
  unfold tileExponents
  refine blockExponent_congr fun i hi => ?_
  have hw := (readWords_strips (F := F) v (packed a) (i / 2) (by omega) b l).trans (packed_apply a _ l)
  refine congrArg (FloatOps.mulf · (G i (ix2 b l))) ?_
  by_cases h : i % 2 = 0
  · rw [ofHalf_low h _ _ _ hw]
    refine congrArg (fun q => widened (a (ix2 l q))) (Fin.ext ?_)
    show 2 * (16 * b.val + i / 2) = (32 * b.val + i) % 256
    have := b.isLt; omega
  · rw [ofHalf_high (by omega) _ _ _ hw]
    refine congrArg (fun q => widened (a (ix2 l q))) (Fin.ext ?_)
    show 2 * (16 * b.val + i / 2) + 1 = (32 * b.val + i) % 256
    have := b.isLt; omega

end Cert.BlockExponent

end
-- ==== Proof.QuantWTrip.lean ====
/-
  One trip of `QuantW`'s loop, with what it leaves in the scratch of exponents: trip `k` fills rows `8 k` to `8 k + 7` of
  it with the exponents of the blocks of columns `256 k` to `256 k + 255` of the tile, each block scaled by its
  signs and rotated, and leaves the tile and the signs alone.
-/
module

public import proofs.«01_k».proof.Defs
public import proofs.«01_k».proof.Proof.Gen.QuantW
public import proofs.«01_k».proof.Proof.Gen.QuantW.Skeleton
public import proofs.«01_k».proof.Proof.Gen.QuantW.Loops
public import proofs.«01_k».proof.Proof.Gen.QuantW.Launch
public import proofs.«01_k».proof.Proof.Gen.QuantW.Points
public import proofs.«01_k».proof.Proof.Gen.QuantW.Frame
public import proofs.«01_k».proof.Proof.BlockExponent

@[expose] public section

set_option maxRecDepth 16384

noncomputable section

namespace Cert.QuantWScales

open Cert.QuantW Cert.QuantW.Gen Cert.BlockExponent
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2)

variable {F : FTy → Type} [BitOps F]

local notation "𝕄" => MT nD τ sig Unit (Elt F) ℕ (UR sig nD τ) ℕ

/-! ## Where a trip reads and writes -/

theorem trip_lt (k : Fin k0_t1_loop.trips) : k.val < 16 := Nat.lt_of_lt_of_le k.isLt k0_t1_abs.2.1

theorem step_256 (n : ℕ) (h : n < 16) : (Scalar.muli (Scf.iv 0#32 1#32 n) 256#32).toNat = 256 * n := by
  interval_cases n <;> rfl

theorem step_8 (n : ℕ) (h : n < 16) : (Scalar.muli (Scf.iv 0#32 1#32 n) 8#32).toNat = 8 * n := by
  interval_cases n <;> rfl

theorem off1_eq (k : Fin k0_t1_loop.trips) : k0_off1 k = ![0, 256 * k.val] := by
  funext a
  fin_cases a
  · rfl
  · exact step_256 k.val (trip_lt k)

theorem off6_eq (k : Fin k0_t1_loop.trips) : k0_off6 k = ![128, 256 * k.val] := by
  funext a
  fin_cases a
  · rfl
  · exact step_256 k.val (trip_lt k)

theorem off5_eq (k : Fin k0_t1_loop.trips) : k0_off5 k = ![8 * k.val, 0] := by
  funext a
  fin_cases a
  · exact step_8 k.val (trip_lt k)
  · rfl

theorem off9_eq (k : Fin k0_t1_loop.trips) : k0_off9 k = ![8 * k.val, 128] := by
  funext a
  fin_cases a
  · exact step_8 k.val (trip_lt k)
  · rfl

theorem off2_eq (k : Fin k0_t1_loop.trips) (i : Fin 32) :
    k0_off2 k (BitVec.ofNat 32 (8 * i.val)) = ![256 * k.val + 8 * i.val, 0] := by
  have h := trip_lt k
  have e : (Scalar.addi (Scalar.muli (Scf.iv 0#32 1#32 k.val) 256#32) (BitVec.ofNat 32 (8 * i.val))).toNat = 256 * k.val + 8 * i.val := by
    obtain ⟨n, hn⟩ := k
    obtain ⟨i, hi⟩ := i
    dsimp only at h ⊢
    have e1 : Scalar.muli (Scf.iv 0#32 1#32 n) 256#32 = BitVec.ofNat 32 (256 * n) := by interval_cases n <;> rfl
    rw [e1]
    show (BitVec.ofNat 32 (256 * n) + BitVec.ofNat 32 (8 * i)).toNat = _
    rw [BitVec.toNat_add, BitVec.toNat_ofNat, BitVec.toNat_ofNat]
    omega
  funext a
  fin_cases a
  · exact e
  · rfl

/-! ## The exponents of a tile -/

/-- The exponent of block `y 0` of row `y 1` of a tile `A` with the signs `S`: element `i` of the block is column
    `32 (y 0) + i`, and its sign stands in row `256 (y 0 / 8) + 8 i + y 0 % 8`. -/
def tileExponent (A : S256x4096.Idx → F .bf16) (S : S4096x128.Idx → F .f32) (y : S128x256.Idx) : BitVec 32 :=
  blockExponent fun i => FloatOps.mulf
    (widened (A (ix2 (y 1) ⟨(32 * (y 0).val + i) % 4096, Nat.mod_lt _ (by decide)⟩)))
    (S (ix2 ⟨(256 * ((y 0).val / 8) + 8 * i + (y 0).val % 8) % 4096, Nat.mod_lt _ (by decide)⟩
      ⟨(y 1).val % 128, Nat.mod_lt _ (by decide)⟩))

variable [∀ e, Nonempty (Elt F e)]

/-- The signs trip `k` reads for element `i`. -/
def signs (arg2 : Memref sig .tc .vmem S4096x128 .f32) (k : Fin k0_t1_loop.trips) (f : arg2.view.ty.Contents (Elt F)) (i : ℕ) :
    S8x128.Idx → F .f32 :=
  if h : i < 32 then
    shapeCast S8x128 (arg2.view.readAt (Elt F) (Rect.unit (s := S4096x128) (k0_off2 k (BitVec.ofNat 32 (8 * i))) S8x128.size (k0_off2_inb k ⟨i, h⟩)).toLoadRect f) shapeCasts_S8x128_S8x128
  else fun _ => FloatOps.ofBits .f32 0

theorem signs_apply (arg2 : Memref sig .tc .vmem S4096x128 .f32) (k : Fin k0_t1_loop.trips) (f : arg2.view.ty.Contents (Elt F)) (i : ℕ)
    (hi : i < 32) (b : Fin 8) (l : Fin 128) :
    signs (F := F) arg2 k f i (ix2 b l) = arg2.view.read (Elt F) f (ix2 ⟨(256 * k.val + 8 * i + b.val) % 4096, Nat.mod_lt _ (by decide)⟩ l) := by
  have hk := trip_lt k
  unfold signs
  rw [dif_pos hi]
  refine (congrFun (shapeCast_self _ _) _).trans ?_
  refine congrArg (arg2.view.read (Elt F) f) (funext fun a => Fin.ext ?_)
  show (k0_off2 k (BitVec.ofNat 32 (8 * i))) a + 1 * ((ix2 b l : S8x128.Idx) a).val = _
  rw [off2_eq k ⟨i, hi⟩]
  have hb := b.isLt
  match a with
  | ⟨0, _⟩ => show 256 * k.val + 8 * i + 1 * b.val = (256 * k.val + 8 * i + b.val) % 4096; omega
  | ⟨1, _⟩ => show 0 + 1 * l.val = l.val; omega

/-- What trip `k` stores of the first 128 rows of the tile; -/
theorem exponents_first (arg2 : Memref sig .tc .vmem S4096x128 .f32) (arg3 : Memref sig .tc .vmem S256x4096 .bf16) {κ : Kind} {sp : Space} (v : View sig κ sp S160x128 .i32)
    (k : Fin k0_t1_loop.trips) (f2 : arg2.view.ty.Contents (Elt F)) (f3 : arg3.view.ty.Contents (Elt F)) (b : Fin 8) (l : Fin 128) :
    tileExponents (readWords (F := F) v (strips (packed (arg3.view.readAt (Elt F) (Rect.unit (s := S256x4096) (k0_off1 k) S128x256.size (k0_off1_inb k)).toLoadRect f3))))
        (signs arg2 k f2) (ix2 b l)
      = tileExponent (arg3.view.read (Elt F) f3) (arg2.view.read (Elt F) f2) (ix2 ⟨8 * k.val + b.val, by have := trip_lt k; omega⟩ ⟨l.val, by omega⟩) := by
  have hk := trip_lt k
  have hb := b.isLt
  rw [tileExponents_packed]
  unfold tileExponent
  refine blockExponent_congr fun i hi => ?_
  rw [signs_apply arg2 k f2 i hi]
  refine congrArg₂ FloatOps.mulf (congrArg widened (congrArg (arg3.view.read (Elt F) f3) (funext fun a => Fin.ext ?_)))
    (congrArg (arg2.view.read (Elt F) f2) (funext fun a => Fin.ext ?_))
  · show (k0_off1 k) a + 1 * ((ix2 l ⟨(32 * b.val + i) % 256, Nat.mod_lt _ (by decide)⟩ : S128x256.Idx) a).val = _
    rw [off1_eq]
    match a with
    | ⟨0, _⟩ => show 0 + 1 * l.val = l.val; omega
    | ⟨1, _⟩ => show 256 * k.val + 1 * ((32 * b.val + i) % 256) = (32 * (8 * k.val + b.val) + i) % 4096; omega
  · match a with
    | ⟨0, _⟩ => show (256 * k.val + 8 * i + b.val) % 4096 = (256 * ((8 * k.val + b.val) / 8) + 8 * i + (8 * k.val + b.val) % 8) % 4096; omega
    | ⟨1, _⟩ => show l.val = l.val % 128; have := l.isLt; omega

/-- and of the last 128. -/
theorem exponents_last (arg2 : Memref sig .tc .vmem S4096x128 .f32) (arg3 : Memref sig .tc .vmem S256x4096 .bf16) {κ : Kind} {sp : Space} (v : View sig κ sp S160x128 .i32)
    (k : Fin k0_t1_loop.trips) (f2 : arg2.view.ty.Contents (Elt F)) (f3 : arg3.view.ty.Contents (Elt F)) (b : Fin 8) (l : Fin 128) :
    tileExponents (readWords (F := F) v (strips (packed (arg3.view.readAt (Elt F) (Rect.unit (s := S256x4096) (k0_off6 k) S128x256.size (k0_off6_inb k)).toLoadRect f3))))
        (signs arg2 k f2) (ix2 b l)
      = tileExponent (arg3.view.read (Elt F) f3) (arg2.view.read (Elt F) f2) (ix2 ⟨8 * k.val + b.val, by have := trip_lt k; omega⟩ ⟨128 + l.val, by omega⟩) := by
  have hk := trip_lt k
  have hb := b.isLt
  rw [tileExponents_packed]
  unfold tileExponent
  refine blockExponent_congr fun i hi => ?_
  rw [signs_apply arg2 k f2 i hi]
  refine congrArg₂ FloatOps.mulf (congrArg widened (congrArg (arg3.view.read (Elt F) f3) (funext fun a => Fin.ext ?_)))
    (congrArg (arg2.view.read (Elt F) f2) (funext fun a => Fin.ext ?_))
  · show (k0_off6 k) a + 1 * ((ix2 l ⟨(32 * b.val + i) % 256, Nat.mod_lt _ (by decide)⟩ : S128x256.Idx) a).val = _
    rw [off6_eq]
    match a with
    | ⟨0, _⟩ => show 128 + 1 * l.val = 128 + l.val; omega
    | ⟨1, _⟩ => show 256 * k.val + 1 * ((32 * b.val + i) % 256) = (32 * (8 * k.val + b.val) + i) % 4096; omega
  · match a with
    | ⟨0, _⟩ => show (256 * k.val + 8 * i + b.val) % 4096 = (256 * ((8 * k.val + b.val) / 8) + 8 * i + (8 * k.val + b.val) % 8) % 4096; omega
    | ⟨1, _⟩ => show l.val = (128 + l.val) % 128; have := l.isLt; omega

/-- The rows before `8 n` of the scratch hold the exponents `E`. -/
def filled (arg8 : Memref sig .tc .vmem S128x256 .i32) (E : S128x256.Idx → BitVec 32) (n : ℕ) (f : arg8.view.ty.Contents (Elt F)) : Prop :=
  ∀ y : S128x256.Idx, (y 0).val < 8 * n → arg8.view.read (Elt F) f y = E y

/-- A trip's two stores add eight rows. -/
theorem filled_step (arg8 : Memref sig .tc .vmem S128x256 .i32) (E : S128x256.Idx → BitVec 32) (k : Fin k0_t1_loop.trips)
    (f : arg8.view.ty.Contents (Elt F)) (h : filled arg8 E k.val f) (P Q : S8x128.Idx → BitVec 32)
    (hP : ∀ (b : Fin 8) (l : Fin 128), P (ix2 b l) = E (ix2 ⟨8 * k.val + b.val, by have := trip_lt k; omega⟩ ⟨128 + l.val, by omega⟩))
    (hQ : ∀ (b : Fin 8) (l : Fin 128), Q (ix2 b l) = E (ix2 ⟨8 * k.val + b.val, by have := trip_lt k; omega⟩ ⟨l.val, by omega⟩)) :
    filled arg8 E (k.val + 1) (arg8.view.writes (Elt F) f [⟨Rect.unit (s := S128x256) (k0_off9 k) S8x128.size (k0_off9_inb k), P⟩, ⟨Rect.unit (s := S128x256) (k0_off5 k) S8x128.size (k0_off5_inb k), Q⟩]) := by
  have hk := trip_lt k
  intro y hy
  have h1 : (y 1).val < 256 := (y 1).isLt
  have m9 : y ∈ (Rect.unit (s := S128x256) (k0_off9 k) S8x128.size (k0_off9_inb k)).set ↔ 8 * k.val ≤ (y 0).val ∧ 128 ≤ (y 1).val := by
    rw [Rect.mem_set_unit, off9_eq]
    constructor
    · intro hh; exact ⟨(hh 0).1, (hh 1).1⟩
    · intro hh a
      match a with
      | ⟨0, _⟩ => exact ⟨hh.1, show (y 0).val < 8 * k.val + 8 by omega⟩
      | ⟨1, _⟩ => exact ⟨hh.2, show (y 1).val < 128 + 128 by omega⟩
  have m5 : y ∈ (Rect.unit (s := S128x256) (k0_off5 k) S8x128.size (k0_off5_inb k)).set ↔ 8 * k.val ≤ (y 0).val ∧ (y 1).val < 128 := by
    rw [Rect.mem_set_unit, off5_eq]
    constructor
    · intro hh; exact ⟨(hh 0).1, by have := (hh 1).2; simpa using this⟩
    · intro hh a
      match a with
      | ⟨0, _⟩ => exact ⟨hh.1, show (y 0).val < 8 * k.val + 8 by omega⟩
      | ⟨1, _⟩ => exact ⟨Nat.zero_le _, show (y 1).val < 0 + 128 by omega⟩
  by_cases c9 : 8 * k.val ≤ (y 0).val ∧ 128 ≤ (y 1).val
  · obtain ⟨x, hx⟩ := LoadRect.exists_idx_of_mem _ (m9.mpr c9)
    rw [← hx]
    refine (View.read_writes_cons_emb _ _ _ _ _ _).trans ?_
    rw [hx]
    have e0 : (y 0).val = 8 * k.val + 1 * (x 0).val := by
      rw [← hx]; exact congrArg (· + 1 * (x 0).val) (congrFun (off9_eq k) 0)
    have e1 : (y 1).val = 128 + 1 * (x 1).val := by
      rw [← hx]; exact congrArg (· + 1 * (x 1).val) (congrFun (off9_eq k) 1)
    have ex : x = (ix2 (x 0) (x 1) : S8x128.Idx) := by funext a; match a with | ⟨0, _⟩ => rfl | ⟨1, _⟩ => rfl
    refine (congrArg P ex).trans ((hP (x 0) (x 1)).trans (congrArg E (funext fun a => Fin.ext ?_)))
    match a with
    | ⟨0, _⟩ => show 8 * k.val + (x 0).val = (y 0).val; omega
    | ⟨1, _⟩ => show 128 + (x 1).val = (y 1).val; omega
  · rw [View.writes_cons, View.read_slice_write_of_not_mem _ _ _ _ (by rw [Rect.map_emb_univ]; exact fun hm => c9 (m9.mp hm))]
    by_cases c5 : 8 * k.val ≤ (y 0).val ∧ (y 1).val < 128
    · obtain ⟨x, hx⟩ := LoadRect.exists_idx_of_mem _ (m5.mpr c5)
      rw [← hx]
      refine (View.read_writes_cons_emb _ _ _ _ _ _).trans ?_
      rw [hx]
      have e0 : (y 0).val = 8 * k.val + 1 * (x 0).val := by
        rw [← hx]; exact congrArg (· + 1 * (x 0).val) (congrFun (off5_eq k) 0)
      have e1 : (y 1).val = 0 + 1 * (x 1).val := by
        rw [← hx]; exact congrArg (· + 1 * (x 1).val) (congrFun (off5_eq k) 1)
      have ex : x = (ix2 (x 0) (x 1) : S8x128.Idx) := by funext a; match a with | ⟨0, _⟩ => rfl | ⟨1, _⟩ => rfl
      refine (congrArg Q ex).trans ((hQ (x 0) (x 1)).trans (congrArg E (funext fun a => Fin.ext ?_)))
      match a with
      | ⟨0, _⟩ => show 8 * k.val + (x 0).val = (y 0).val; omega
      | ⟨1, _⟩ => show (x 1).val = (y 1).val; omega
    · rw [View.writes_cons, View.read_slice_write_of_not_mem _ _ _ _ (by rw [Rect.map_emb_univ]; exact fun hm => c5 (m5.mp hm))]
      rw [View.writes_nil]
      exact h y (by omega)

/-! ## One trip of the loop -/

/-- What a trip of the loop touches: the signs and the tile as they are, the exponents so far, the rest at some
    contents. -/
abbrev held (c : Dev nD) (arg2 : Memref sig .tc .vmem S4096x128 .f32) (arg3 : Memref sig .tc .vmem S256x4096 .bf16) (arg4 : Memref sig .tc .vmem S256x4096 .i8) (arg5 : Memref sig .tc .vmem S4096x256 .bf16) (arg6 : Memref sig .tc .vmem S256x2048 .i8) (arg8 : Memref sig .tc .vmem S128x256 .i32) (arg9 : Memref sig .tc .vmem S160x128 .i32) (arg10 : Memref sig .tc .vmem S160x128 .i32) (arg11 : Memref sig .tc .vmem S96x128 .i32) (arg12 : Memref sig .tc .vmem S160x128 .i32) (arg13 : Memref sig .tc .vmem S160x128 .i32) (arg14 : Memref sig .tc .vmem S96x128 .i32) (f2 : arg2.view.ty.Contents (Elt F)) (f3 : arg3.view.ty.Contents (Elt F)) (n : ℕ) : sProp 𝕄 :=
  iprop((arg2.view.loc (c : Thread nD τ) ↦[arg2.view.set]{fullShare} f2)
      ∗ (arg3.view.loc (c : Thread nD τ) ↦[arg3.view.set]{fullShare} f3)
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, ⌜filled (F := F) arg8 (tileExponent (arg3.view.read (Elt F) f3) (arg2.view.read (Elt F) f2)) n f⌝ ∗ (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f)))

set_option maxHeartbeats 100000000 in
/-- One trip of the loop fills eight more rows. -/
theorem trip (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S4096x256 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (k : Fin k0_t1_loop.trips)
    (f2 : arg2.view.ty.Contents (Elt F)) (f3 : arg3.view.ty.Contents (Elt F)) :
    held (F := F) c arg2 arg3 arg4 arg5 arg6 arg8 arg9 arg10 arg11 arg12 arg13 arg14 f2 f3 k.val
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
        (fun _ => held (F := F) c arg2 arg3 arg4 arg5 arg6 arg8 arg9 arg10 arg11 arg12 arg13 arg14 f2 f3 (k.val + 1)) := by
  unfold k0_t1_body
  iintro ⟨H_arg2, H_arg3, ⟨%f_arg4, H_arg4⟩, ⟨%f_arg5, H_arg5⟩, ⟨%f_arg6, H_arg6⟩, ⟨%f_arg8, %hf, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩⟩
  sl_exec
  sl_step
  isplitl [H_arg2]
  · iexact H_arg2
  isplitl [H_arg3]
  · iexact H_arg3
  isplitl [H_arg4]
  · iexists _; iexact H_arg4
  isplitl [H_arg5]
  · iexists _; iexact H_arg5
  isplitl [H_arg6]
  · iexists _; iexact H_arg6
  isplitl [H_arg8]
  · iexists _; isplitr; swap; · iexact H_arg8
    ipureintro
    refine filled_step arg8 _ k _ hf _ _ (fun b l => Eq.trans ?_ (exponents_last arg2 arg3 arg12.view k f2 f3 b l)) (fun b l => Eq.trans ?_ (exponents_first arg2 arg3 arg9.view k f2 f3 b l))
    · unfold k0_pay1
      refine (congrFun (shapeCast_self _ _) _).trans ?_
      rfl
    · refine (congrFun (shapeCast_self _ _) _).trans ?_
      rfl
  isplitl [H_arg9]
  · iexists _; iexact H_arg9
  isplitl [H_arg10]
  · iexists _; iexact H_arg10
  isplitl [H_arg11]
  · iexists _; iexact H_arg11
  isplitl [H_arg12]
  · iexists _; iexact H_arg12
  isplitl [H_arg13]
  · iexists _; iexact H_arg13
  iexists _; iexact H_arg14

set_option warn.classDefReducibility false in
/-- The loop's invariant: after `n` trips the first `8 n` rows are filled. -/
@[sl_loop] def tripInv (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S4096x256 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)  (f2 : arg2.view.ty.Contents (Elt F)) (f3 : arg3.view.ty.Contents (Elt F)) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 where
  inv n _ := held (F := F) c arg2 arg3 arg4 arg5 arg6 arg8 arg9 arg10 arg11 arg12 arg13 arg14 f2 f3 n
  step k _ := trip 𝒱 c bd E i arg2 harg2 arg3 harg3 arg4 harg4 arg5 harg5 arg6 harg6 arg7 harg7 arg8 harg8 arg9 harg9 arg10 harg10 arg11 harg11 arg12 harg12 arg13 harg13 arg14 harg14 k f2 f3

end Cert.QuantWScales

end
-- ==== Proof.QuantWScales.lean ====
/-
  The exponents `QuantW` writes: one body fills its block of them from the tile and the signs in its windows, and after
  the launch every block of the array holds what its point's tile and signs determine. What the other results hold is
  forgotten.
-/
module

public import proofs.«01_k».proof.Defs
public import proofs.«01_k».proof.Proof.Gen.QuantW
public import proofs.«01_k».proof.Proof.Gen.QuantW.Skeleton
public import proofs.«01_k».proof.Proof.Gen.QuantW.Loops
public import proofs.«01_k».proof.Proof.Gen.QuantW.Launch
public import proofs.«01_k».proof.Proof.Gen.QuantW.Points
public import proofs.«01_k».proof.Proof.Gen.QuantW.Frame
public import proofs.«01_k».proof.Proof.BlockExponent
public import proofs.«01_k».proof.Proof.QuantWTrip

@[expose] public section

set_option maxRecDepth 16384

noncomputable section

namespace Cert.QuantWScales

open Cert.QuantW Cert.QuantW.Gen Cert.BlockExponent
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2)

variable {F : FTy → Type} [BitOps F]

local notation "𝕄" => MT nD τ sig Unit (Elt F) ℕ (UR sig nD τ) ℕ

variable [∀ e, Nonempty (Elt F e)]

/-! ## The body -/

/-- The block of exponents a tile and its signs determine: the tile's, transposed, each one byte. -/
def blockScales (S : S4096x128.Idx → F .f32) (A : S256x4096.Idx → F .bf16) (z : S256x128.Idx) : BitVec 8 :=
  (tileExponent A S (ix2 (z 1) (z 0))).setWidth 8

/-- The bytes stored from a scratch that is filled. -/
theorem stored_eq (arg8 : Memref sig .tc .vmem S128x256 .i32) (S : S4096x128.Idx → F .f32) (A : S256x4096.Idx → F .bf16) (f : arg8.view.ty.Contents (Elt F))
    (h : filled (F := F) arg8 (tileExponent A S) 16 f) (R : (Rect.unit (s := S128x256) ![0, 0] S128x256.size inb_S128x256_S128x256_0_0).shape.Idx → BitVec 32)
    (hR : R = arg8.view.readAt (Elt F) (Rect.unit (s := S128x256) ![0, 0] S128x256.size inb_S128x256_S128x256_0_0).toLoadRect f) :
    k0_pay2 (F := F) R = blockScales S A := by
  subst hR
  funext z
  have hz : (z 1).val < 128 := (z 1).isLt
  refine congrArg (fun w : BitVec 32 => w.setWidth 8) (Eq.trans ?_ (h (ix2 (z 1) (z 0)) (by show (z 1).val < 128; exact hz)))
  refine congrArg (arg8.view.read (Elt F) f) (funext fun a => Fin.ext ?_)
  match a with
  | ⟨0, _⟩ => show 0 + 1 * (z 1).val = (z 1).val; omega
  | ⟨1, _⟩ => show 0 + 1 * (z 0).val = (z 0).val; omega

set_option maxHeartbeats 100000000 in
/-- The body leaves the tile and the signs as they are, and its block of exponents. -/
theorem run_body (c : Dev nD) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S4096x256 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (d2 : S4096x128.Idx → Elt F .f32) (d3 : S256x4096.Idx → Elt F .bf16) (K : PUnit → sProp 𝕄) :
    iprop(owns (c : Thread nD τ) arg2 fullShare d2
      ∗ owns (c : Thread nD τ) arg3 fullShare d3
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (iprop(owns (c : Thread nD τ) arg2 fullShare d2
      ∗ owns (c : Thread nD τ) arg3 fullShare d3
      ∗ (∃ d, owns (c : Thread nD τ) arg4 fullShare d)
      ∗ (∃ d, owns (c : Thread nD τ) arg5 fullShare d)
      ∗ (∃ d, owns (c : Thread nD τ) arg6 fullShare d)
      ∗ owns (c : Thread nD τ) arg7 fullShare (blockScales (F := F) d2 d3)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)) -∗ K ⟨⟩))
      ⊢ wp frame (wpE (defs₀ (F := F)) Variants.none (c : Thread nD τ) none) Set.univ
          (cc0_quant_w (F := F) i arg2 harg2 arg3 harg3 arg4 harg4 arg5 harg5 arg6 harg6 arg7 harg7 arg8 harg8 arg9 harg9 arg10 harg10 arg11 harg11 arg12 harg12 arg13 harg13 arg14 harg14) K := by
  simp only [cc0_quant_w_eq_skeleton]; unfold cc0_quant_w_skel
  unfold owns
  iintro ⟨⟨%f_arg2, %h2, H_arg2⟩, ⟨%f_arg3, %h3, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, Hk⟩
  have h0 : filled (F := F) arg8 (tileExponent (arg3.view.read (Elt F) f_arg3) (arg2.view.read (Elt F) f_arg2)) 0 f_arg8 :=
    fun y hy => absurd hy (by omega)
  sl_exec
  sl_step
  iapply Hk
  isplitl [H_arg2]
  · iexists _; isplitr; swap; · iexact H_arg2
    ipureintro; exact h2
  isplitl [H_arg3]
  · iexists _; isplitr; swap; · iexact H_arg3
    ipureintro; exact h3
  isplitl [H_arg4]
  · iexists _, _; isplitr; swap; · iexact H_arg4
    ipureintro; rfl
  isplitl [H_arg5]
  · iexists _, _; isplitr; swap; · iexact H_arg5
    ipureintro; rfl
  isplitl [H_arg6]
  · iexists _, _; isplitr; swap; · iexact H_arg6
    ipureintro; rfl
  isplitl [H_arg7]
  · iexists _; isplitr; swap; · iexact H_arg7
    ipureintro
    subst h2 h3
    have e16 : k0_t1_loop.trips = 16 := by rfl
    funext z
    have ez : (Rect.unit (s := S256x128) ![0, 0] S256x128.size inb_S256x128_S256x128_0_0).emb z = z := by
      funext a
      apply Fin.ext
      match a with
      | ⟨0, _⟩ => show 0 + 1 * (z 0).val = (z 0).val; omega
      | ⟨1, _⟩ => show 0 + 1 * (z 1).val = (z 1).val; omega
    exact (congrArg (View.read (Elt F) arg7.view _) ez.symm).trans
      ((View.read_writes_cons_emb _ _ _ _ _ _).trans (congrFun (stored_eq arg8 _ _ fL3 (e16 ▸ hL5) _ rfl) z))
  isplitl [H_arg8]
  · iexists _, _; isplitr; swap; · iexact H_arg8
    ipureintro; rfl
  isplitl [H_arg9]
  · iexists _, _; isplitr; swap; · iexact H_arg9
    ipureintro; rfl
  isplitl [H_arg10]
  · iexists _, _; isplitr; swap; · iexact H_arg10
    ipureintro; rfl
  isplitl [H_arg11]
  · iexists _, _; isplitr; swap; · iexact H_arg11
    ipureintro; rfl
  isplitl [H_arg12]
  · iexists _, _; isplitr; swap; · iexact H_arg12
    ipureintro; rfl
  isplitl [H_arg13]
  · iexists _, _; isplitr; swap; · iexact H_arg13
    ipureintro; rfl
  iexists _, _; isplitr; swap; · iexact H_arg14
  ipureintro; rfl

/-! ## The proof data and the body obligation -/

variable (m : (ℓ : Loc nD τ sig) → Buf (Elt F) ℓ) (ρ : Dev nD → PrngReg)

/-- Forgotten are the column signs and the two arrays of codes. -/
def forgets0 : Fin 6 → Bool := fun w => w.val == 2 || w.val == 3 || w.val == 4

/-- The proof data: the arrays as the region finds them; the signs and the tile stay, the exponents are the block's, the rest is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨5, _⟩ => blockScales (F := F) (iblk m c 0 t) (iblk m c 1 t)
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare ((dats m 0 c).before 5 t d)))
@[inherit_doc bodyPre] def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ owns (c : Thread nD τ) (win0_5.stage (cfg0.slots t 5)) fullShare ((dats m 0 c).after 5 t))

/-- The invariant between points: each scratch at some contents, the generator's register at some state. -/
theorem ΦA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq]
  simp only [before0_0_of (m := m) (c := c) (dats m 0 c) (A_eq m c 0) (fun _ => rfl), before0_1_of (m := m) (c := c) (dats m 0 c) (A_eq m c 1) (fun _ => rfl)]
  iintro ⟨⟨⟨S_0, S_1, S_2, S_3, S_4, S_5, S_6⟩, Hg⟩, HO, ⟨%_, H_0⟩, ⟨%_, H_1⟩, H_2, H_3, H_4, ⟨%_, H_5⟩⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) _)
  isplitl [H_0]; · iexact H_0
  isplitl [H_1]; · iexact H_1
  isplitl [H_2]; · iexact H_2
  isplitl [H_3]; · iexact H_3
  isplitl [H_4]; · iexact H_4
  isplitl [H_5]; · iexists _; iexact H_5
  isplitl [S_0]; · iexact S_0
  isplitl [S_1]; · iexact S_1
  isplitl [S_2]; · iexact S_2
  isplitl [S_3]; · iexact S_3
  isplitl [S_4]; · iexact S_4
  isplitl [S_5]; · iexact S_5
  isplitl [S_6]; · iexact S_6
  iintro ⟨H_0, H_1, H_2, H_3, H_4, H_5, S_0, S_1, S_2, S_3, S_4, S_5, S_6⟩
  isplitl [S_0 S_1 S_2 S_3 S_4 S_5 S_6 Hg]
  · isplitl [S_0 S_1 S_2 S_3 S_4 S_5 S_6]
    · isplitl [S_0]; · iexact S_0
      isplitl [S_1]; · iexact S_1
      isplitl [S_2]; · iexact S_2
      isplitl [S_3]; · iexact S_3
      isplitl [S_4]; · iexact S_4
      isplitl [S_5]; · iexact S_5
      iexact S_6
    iexact Hg
  isplitl [HO]; · iexact HO
  isplitl [H_0]; · iexact H_0
  isplitl [H_1]; · iexact H_1
  isplitl [H_2]; · iexact H_2
  isplitl [H_3]; · iexact H_3
  isplitl [H_4]; · iexact H_4
  iexact H_5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- The launch runs, every array is what the proof data say, and every semaphore ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the launch the arguments are as they were. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 1 rfl).trans (V_main_arg0 m c),
    ((h c).2 main_arg1 (Pipeline.mem_restRefs_of main_arg1 (by decide) (by decide))).trans (V_main_arg1 m c),
    (h.arr_in c 2 rfl).trans (V_main_arg2 m c)⟩

end Cert.QuantWScales

end
-- ==== Proof.RowBlock.lean ====
/-
  A block of thirty-two neighbours in a row of a matrix, each times its sign over the square root of thirty-two, and
  the exponent of such a block as the predicates on the scales compute it.
-/
module

public import proofs.«01_k».proof.Proof.BlockExponent
public import Idealize.ShloMosaic.PureOps.BitExact
public import Idealize.ShloMosaic.Lib.ValueLayout

@[expose] public section

noncomputable section

namespace Cert.RowBlock

open Cert.BlockExponent
open Idealize.ShloMosaic
open Idealize.ShloMosaic.ValueIdx (ix1 ix2 ix3)
open Idealize.ShloMosaic.Pipeline

variable {F : FTy → Type} [BitOps F]

/-- One over the square root of thirty-two. -/
def root : F .f32 := FloatOps.ofBits .f32 0x3E3504F3#32

/-- Element `i` of block `q` of row `r`. -/
def rowBlock {R : ℕ} (w : (⟨2, ![R, 16384]⟩ : Shape).Idx → F .bf16) (s : (⟨1, ![16384]⟩ : Shape).Idx → F .f32) (r : Fin R) (q : Fin 512)
    (i : ℕ) : F .f32 :=
  FloatOps.mulf (widened (w (ix2 r ⟨(32 * q.val + i) % 16384, Nat.mod_lt _ (by omega)⟩)))
    (FloatOps.mulf (s (ix1 ⟨(32 * q.val + i) % 16384, Nat.mod_lt _ (by omega)⟩)) root)

/-! ## The predicates' exponent -/

/-- The largest magnitude of the first `n + 1`, with the magnitude the predicates take. -/
def largestHost (u : ℕ → F .f32) : ℕ → F .f32
  | 0 => FloatOps.hostAbsf (u 0)
  | n + 1 => FloatOps.maximumf (largestHost u n) (FloatOps.hostAbsf (u (n + 1)))

/-- The exponent word of a magnitude, as the predicates compute it. -/
def exponentHost (a : F .f32) : BitVec 32 :=
  Scalar.select (IntOp.cmpi .eq (IntOp.shrui .host (BitOps.toBits a) 23#32) 0#32) 0#32
    (IntOp.subi (IntOp.shrui .host (BitOps.toBits a) 23#32) 129#32)

/-- It is the kernels' exponent word. -/
theorem exponentHost_eq (a : F .f32) : exponentHost a = exponent a := by
  have e : IntOp.shrui .host (BitOps.toBits a : BitVec 32) 23#32 = IntOp.shrui .vector (BitOps.toBits a) 23#32 := rfl
  unfold exponentHost exponent
  rw [e]
  generalize IntOp.shrui .vector (BitOps.toBits a : BitVec 32) 23#32 = f
  by_cases h : f = 0#32
  · subst h; rfl
  · have hc : IntOp.cmpi .eq f 0#32 = 0#1 := by
      show BitVec.ofBool (f == 0#32) = 0#1
      rw [beq_eq_false_iff_ne.mpr h]; rfl
    rw [hc]; rfl

/-- At bit patterns the two largest magnitudes are one. -/
theorem largestHost_eq (u : ℕ → Bits .f32) (n : ℕ) : largestHost (F := Bits) u n = largest (F := Bits) u n := by
  induction n with
  | zero => rfl
  | succ n ih => show FloatOps.maximumf (largestHost u n) _ = FloatOps.maximumf (largest u n) _; rw [ih]; rfl

/-- A bf16 number widened as the predicates widen it. -/
def widenedHost (b : F .bf16) : F .f32 := FloatOps.ofBits .f32 (IntOp.shli .host ((BitOps.toBits b : BitVec 16).setWidth 32) 16#32)

theorem widenedHost_eq (b : F .bf16) : widenedHost b = widened b := rfl

/-- Element `i` of every block of a matrix of rows, times its sign, is the block's element. -/
theorem element_eq {R : ℕ} (i : ℕ) (hi : i < 32) (w : (⟨2, ![R, 16384]⟩ : Shape).Idx → F .bf16) (s : (⟨1, ![16384]⟩ : Shape).Idx → F .f32)
    (h1 : (⟨2, ![R, 16384]⟩ : Shape).SlicesBy (![0, i] : Fin 2 → ℕ) ![1, 32] ⟨2, ![R, 512]⟩)
    (h2 : (⟨1, ![16384]⟩ : Shape).SlicesBy (![i] : Fin 1 → ℕ) ![32] ⟨1, ![512]⟩)
    (h3 : (⟨1, ![512]⟩ : Shape).BroadcastsInDim ⟨2, ![1, 512]⟩ (![1] : Fin 1 → Fin 2))
    (h4 : (⟨2, ![1, 512]⟩ : Shape).BroadcastsInDim ⟨2, ![R, 512]⟩ (![0, 1] : Fin 2 → Fin 2)) (z : (⟨2, ![R, 512]⟩ : Shape).Idx) :
    mulf (F := F) (Host.slice ⟨2, ![R, 512]⟩ ![0, i] ![1, 32] (fun k => widenedHost (w k)) h1)
      (broadcastInDim ⟨2, ![R, 512]⟩ ![0, 1] h4 (broadcastInDim ⟨2, ![1, 512]⟩ ![1] h3
        (Host.slice ⟨1, ![512]⟩ ![i] ![32] (fun k => FloatOps.mulf (s k) root) h2))) z
      = rowBlock w s (z 0) (z 1) i := by
  have hz : (z 1).val < 512 := (z 1).isLt
  show FloatOps.mulf _ _ = _
  rw [broadcastInDim_apply _ h4 _ z (ix2 ⟨0, by omega⟩ (z 1)) (fun a => by match a with | ⟨0, _⟩ => rfl | ⟨1, _⟩ => rfl),
    broadcastInDim_apply _ h3 _ _ (ix1 (z 1)) (fun a => by match a with | ⟨0, _⟩ => rfl)]
  unfold rowBlock Host.slice
  refine congrArg₂ FloatOps.mulf ?_ ?_
  · show widened (w _) = _
    refine congrArg (fun k => widened (w k)) (funext fun a => Fin.ext ?_)
    match a with
    | ⟨0, _⟩ => show 0 + 1 * (z 0).val = (z 0).val; omega
    | ⟨1, _⟩ => show i + 32 * (z 1).val = (32 * (z 1).val + i) % 16384; omega
  · refine congrArg (fun k => FloatOps.mulf (s k) root) (funext fun a => Fin.ext ?_)
    match a with
    | ⟨0, _⟩ => show i + 32 * (z 1).val = (32 * (z 1).val + i) % 16384; omega

/-! ## The signs, spread over rows of tiles -/

/-- Row `256 g + 8 i + b` of the spread signs is sign `256 g + 32 b + i`. -/
theorem spread_apply (x : (⟨1, ![16384]⟩ : Shape).Idx → F .f32)
    (h1 : (⟨1, ![16384]⟩ : Shape).ShapeCasts ⟨3, ![64, 8, 32]⟩)
    (h2 : (⟨3, ![64, 8, 32]⟩ : Shape).Transposes [0, 2, 1] ⟨3, ![64, 32, 8]⟩)
    (h3 : (⟨3, ![64, 32, 8]⟩ : Shape).ShapeCasts ⟨2, ![16384, 1]⟩)
    (h4 : (⟨2, ![16384, 1]⟩ : Shape).BroadcastsInDim ⟨2, ![16384, 128]⟩ (![0, 1] : Fin 2 → Fin 2))
    (k : (⟨2, ![16384, 128]⟩ : Shape).Idx) (p : Fin 16384)
    (hp : p.val = 256 * ((k 0).val / 256) + 32 * ((k 0).val % 8) + (k 0).val % 256 / 8) :
    broadcastInDim ⟨2, ![16384, 128]⟩ ![0, 1] h4 (shapeCast ⟨2, ![16384, 1]⟩
      (transpose ⟨3, ![64, 32, 8]⟩ [0, 2, 1] (shapeCast ⟨3, ![64, 8, 32]⟩ x h1) h2) h3) k = x (ix1 p) := by
  have hk : (k 0).val < 16384 := (k 0).isLt
  rw [broadcastInDim_apply _ h4 _ k (ix2 (k 0) ⟨0, by omega⟩) (fun a => by match a with | ⟨0, _⟩ => rfl | ⟨1, _⟩ => rfl),
    shapeCast_apply _ h3 _ (ix3 (n0 := 64) (n1 := 32) (n2 := 8) ⟨(k 0).val / 256, by omega⟩ ⟨(k 0).val % 256 / 8, by omega⟩ ⟨(k 0).val % 8, by omega⟩)
      (by
        rw [Shape.rowMajor_val_three, Shape.rowMajor_val_two]
        show ((k 0).val / 256 * 32 + (k 0).val % 256 / 8) * 8 + (k 0).val % 8 = (k 0).val * 1 + 0
        omega),
    ValueIdx.transpose_ix3_021_apply,
    shapeCast_apply _ h1 _ (ix1 p) (by
        rw [Shape.rowMajor_val_three, Shape.rowMajor_val_one]
        show p.val = ((k 0).val / 256 * 8 + (k 0).val % 8) * 32 + (k 0).val % 256 / 8
        omega)]

end Cert.RowBlock

end
-- ==== Proof.WScalesPredicate.lean ====
/-
  What the predicate on the weight's scales says at one block: it holds where the stored exponent is the one that the
  block's thirty-two elements determine.
-/
module

public import proofs.«01_k».proof.Defs
public import proofs.«01_k».proof.Proof.Gen.Post_w_scales
public import proofs.«01_k».proof.Proof.RowBlock

@[expose] public section

set_option maxRecDepth 65536

noncomputable section

namespace Cert.WScalesPredicate

open Cert.Post_w_scales Cert.Post_w_scales.Gen Cert.BlockExponent Cert.RowBlock
open Idealize.ShloMosaic

variable {F : FTy → Type} [BitOps F]

/-- Element `i` of block `z`, as the predicate computes it from the wide matrix `v` and the scaled signs `s`. -/
def element (v : FVec F S6144x16384 .f32) (s : FVec F S16384 .f32) (z : S6144x512.Idx) : ℕ → F .f32
  | 0 => fn_row_element v s z
  | 1 => fn_row_element_0 v s z
  | 2 => fn_row_element_1 v s z
  | 3 => fn_row_element_2 v s z
  | 4 => fn_row_element_3 v s z
  | 5 => fn_row_element_4 v s z
  | 6 => fn_row_element_5 v s z
  | 7 => fn_row_element_6 v s z
  | 8 => fn_row_element_7 v s z
  | 9 => fn_row_element_8 v s z
  | 10 => fn_row_element_9 v s z
  | 11 => fn_row_element_10 v s z
  | 12 => fn_row_element_11 v s z
  | 13 => fn_row_element_12 v s z
  | 14 => fn_row_element_13 v s z
  | 15 => fn_row_element_14 v s z
  | 16 => fn_row_element_15 v s z
  | 17 => fn_row_element_16 v s z
  | 18 => fn_row_element_17 v s z
  | 19 => fn_row_element_18 v s z
  | 20 => fn_row_element_19 v s z
  | 21 => fn_row_element_20 v s z
  | 22 => fn_row_element_21 v s z
  | 23 => fn_row_element_22 v s z
  | 24 => fn_row_element_23 v s z
  | 25 => fn_row_element_24 v s z
  | 26 => fn_row_element_25 v s z
  | 27 => fn_row_element_26 v s z
  | 28 => fn_row_element_27 v s z
  | 29 => fn_row_element_28 v s z
  | 30 => fn_row_element_29 v s z
  | 31 => fn_row_element_30 v s z
  | _ => fn_row_element v s z

set_option maxHeartbeats 4000000 in
/-- The predicate at a block. -/
theorem at_block (w : FVec F S6144x16384 .bf16) (s : FVec F S16384 .f32) (r : IVec S6144x16384 8) (wq : FVec F S16384x6144 .bf16)
    (codes : IVec S6144x8192 8) (scales : IVec S6144x512 8) (z : S6144x512.Idx) :
    fn w s r wq codes scales z = IntOp.cmpi .eq (scales z)
      ((exponentHost (largestHost (rotated (element (fun k => widenedHost (w k)) (fun k => FloatOps.mulf (s k) root) z)) 31)).setWidth 8) := by
  rfl

/-- Its elements are the block's. -/
theorem elements (w : FVec F S6144x16384 .bf16) (s : FVec F S16384 .f32) (z : S6144x512.Idx) :
    ∀ i < 32, element (fun k => widenedHost (w k)) (fun k => FloatOps.mulf (s k) root) z i = rowBlock w s (z 0) (z 1) i := by
  intro i hi
  interval_cases i <;> exact element_eq _ (by omega) w s _ _ _ _ z

/-- Where the stored exponent is the block's, the predicate holds. -/
theorem holds_at (w : FVec Bits S6144x16384 .bf16) (s : FVec Bits S16384 .f32) (r : IVec S6144x16384 8) (wq : FVec Bits S16384x6144 .bf16)
    (codes : IVec S6144x8192 8) (scales : IVec S6144x512 8) (z : S6144x512.Idx)
    (h : scales z = (blockExponent (rowBlock w s (z 0) (z 1))).setWidth 8) :
    fn w s r wq codes scales z = 1#1 := by
  rw [at_block, exponentHost_eq, largestHost_eq, h]
  have e := blockExponent_congr (elements w s z)
  unfold blockExponent at e ⊢
  rw [e]
  simp [IntOp.cmpi]

end Cert.WScalesPredicate

end
-- ==== Proof.QuantWHolds.lean ====
/-
  The array of exponents after the call: every one is its block's, so the predicate on the weight's scales holds of every run.
-/
module

public import proofs.«01_k».proof.Proof.QuantWScales
public import proofs.«01_k».proof.Proof.WScalesPredicate
public import Idealize.ShloMosaic.Lib.Pipeline.ValueKit.Geometry

@[expose] public section

set_option maxRecDepth 16384

noncomputable section

namespace Cert.QuantWScales

open Cert.QuantW Cert.QuantW.Gen Cert.BlockExponent Cert.RowBlock
open Idealize.ShloMosaic Idealize.ShloMosaic.TcCoe Idealize.SL.Sem
open Idealize.ShloMosaic.Pipeline (Dat)
open Idealize.ShloMosaic.ValueIdx (ix1 ix2)

variable {F : FTy → Type} [BitOps F] [∀ e, Nonempty (Elt F e)]
variable (m : (ℓ : Loc nD τ sig) → Buf (Elt F) ℓ) (ρ : Dev nD → PrngReg)

/-- The exponents of all blocks. -/
def scales (w : S6144x16384.Idx → F .bf16) (s : S16384.Idx → F .f32) (z : S6144x512.Idx) : BitVec 8 :=
  (blockExponent (rowBlock w s (z 0) (z 1))).setWidth 8

/-- The signs as the call finds them: scaled, and spread over the rows of a tile's thirty-two by eight. -/
theorem found_signs (c : Dev nD) (k : S16384x128.Idx) (p : Fin 16384)
    (hp : p.val = 256 * ((k 0).val / 256) + 32 * ((k 0).val % 8) + (k 0).val % 256 / 8) :
    V m c main_v5 k = FloatOps.mulf ((m ((c : Thread nD τ).loc main_arg1) : S16384.Idx → F .f32) (ix1 p)) root := by
  have e : V m c main_v5 = broadcastInDim S16384x128 ![0, 1] bcast_S16384x1_S16384x128_0_1
      (shapeCast S16384x1 (transpose S64x32x8 [0, 2, 1] (shapeCast S64x8x32
        (fun q => FloatOps.mulf ((m ((c : Thread nD τ).loc main_arg1) : S16384.Idx → F .f32) q) root)
        shapeCasts_S16384_S64x8x32) transposes_S64x8x32_S64x32x8_0_2_1) shapeCasts_S64x32x8_S16384x1) := by
    rfl
  rw [e]
  exact spread_apply _ _ _ _ _ k p hp

/-- Which blocks the windows name at a point. -/
theorem places : ∀ t : Fin cfg0.N,
    (win0_0.index t (0 : Fin 2) = t.val % 4 ∧ win0_0.index t (1 : Fin 2) = 0)
    ∧ (win0_1.index t (0 : Fin 2) = t.val / 4 ∧ win0_1.index t (1 : Fin 2) = t.val % 4)
    ∧ (win0_5.index t (0 : Fin 2) = t.val / 4 ∧ win0_5.index t (1 : Fin 2) = t.val % 4) :=
  (by decide +kernel : ∀ t : Fin grid0.N, _)

/-- The array of exponents after the run. -/
theorem final (c : Dev nD) : (dats m 0 c).arrAt 5 cfg0.N
    = scales (F := F) (m ((c : Thread nD τ).loc main_arg0)) (m ((c : Thread nD τ).loc main_arg1)) := by
  refine (dats m 0 c).arrAt_eq_of_covers 5 _ (by decide +kernel) fun t _ y => ?_
  obtain ⟨⟨a0, a1⟩, ⟨b0, b1⟩, ⟨c0, c1⟩⟩ := places t
  have ht : t.val < 96 := t.isLt
  have y0 : (y 0).val < 256 := (y 0).isLt
  have y1 : (y 1).val < 128 := (y 1).isLt
  have e0 : (((cfg0.win 5).blk t).view.emb y 0).val = t.val / 4 * 256 + (y 0).val := by
    show win0_5.index t 0 * 256 + 1 * (y 0).val = _
    rw [c0]; omega
  have e1 : (((cfg0.win 5).blk t).view.emb y 1).val = t.val % 4 * 128 + (y 1).val := by
    show win0_5.index t 1 * 128 + 1 * (y 1).val = _
    rw [c1]; omega
  show (blockExponent (fun i => _)).setWidth 8 = (blockExponent _).setWidth 8
  refine congrArg (fun b : BitVec 32 => b.setWidth 8) (blockExponent_congr fun i hi => ?_)
  refine congrArg₂ FloatOps.mulf ?_ ?_
  · refine congrArg widened ?_
    show V m c main_arg0 _ = _
    rw [V_main_arg0]
    refine congrArg (m ((c : Thread nD τ).loc main_arg0)) (funext fun a => Fin.ext ?_)
    match a with
    | ⟨0, _⟩ =>
      show win0_1.index t 0 * 256 + 1 * (y 0).val = (((cfg0.win 5).blk t).view.emb y 0).val
      rw [b0, e0]; omega
    | ⟨1, _⟩ =>
      show win0_1.index t 1 * 4096 + 1 * ((32 * (y 1).val + i) % 4096) = (32 * (((cfg0.win 5).blk t).view.emb y 1).val + i) % 16384
      rw [b1, e1]; omega
  · refine found_signs m c _ _ ?_
    have hq : (y 1).val / 8 < 16 := by omega
    have hs : (256 * ((y 1).val / 8) + 8 * i + (y 1).val % 8) % 4096 = 256 * ((y 1).val / 8) + (8 * i + (y 1).val % 8) := by omega
    have hr : win0_0.index t 0 * 4096 + 1 * ((256 * ((y 1).val / 8) + 8 * i + (y 1).val % 8) % 4096)
        = 256 * (16 * (t.val % 4) + (y 1).val / 8) + (8 * i + (y 1).val % 8) := by rw [a0, hs]; omega
    show (32 * (((cfg0.win 5).blk t).view.emb y 1).val + i) % 16384
      = 256 * ((win0_0.index t 0 * 4096 + 1 * ((256 * ((y 1).val / 8) + 8 * i + (y 1).val % 8) % 4096)) / 256)
        + 32 * ((win0_0.index t 0 * 4096 + 1 * ((256 * ((y 1).val / 8) + 8 * i + (y 1).val % 8) % 4096)) % 8)
        + (win0_0.index t 0 * 4096 + 1 * ((256 * ((y 1).val / 8) + 8 * i + (y 1).val % 8) % 4096)) % 256 / 8
    rw [hr, e1]
    generalize hg : 16 * (t.val % 4) + (y 1).val / 8 = g
    generalize hb : (y 1).val % 8 = b
    have hb8 : b < 8 := by omega
    rw [show (256 * g + (8 * i + b)) / 256 = g from by omega, show (256 * g + (8 * i + b)) % 8 = b from by omega,
      show (256 * g + (8 * i + b)) % 256 / 8 = i from by omega]
    omega

/-- Every run leaves the arguments as they were and its exponents as the predicate says. -/
theorem holds (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ Cert.Post_w_scales.fn (F := Bits) (m ((c.tc : Thread nD τ).loc main_arg0)) (m ((c.tc : Thread nD τ).loc main_arg1))
          (m ((c.tc : Thread nD τ).loc main_arg2)) (r.2.mem ((c.tc : Thread nD τ).loc main_v6_0))
          (r.2.mem ((c.tc : Thread nD τ).loc main_v6_1)) (r.2.mem ((c.tc : Thread nD τ).loc main_v6_2)) = fun _ => 1#1) :=
  (θ_run defs _ _).mono (fun r h c => by
    obtain ⟨k0, k1, k2⟩ := arguments h.1 c
    refine ⟨k0, k1, k2, funext fun z => Cert.WScalesPredicate.holds_at _ _ _ _ _ _ z ?_⟩
    exact congrFun ((((dats (F := Bits) m 0 c).toRForget_arrAt_iff (show forgets0 5 = false from rfl) _ _).mp ((h.1 c).1 5)).trans (final m c)) z)
    (run_main (F := Bits) m ρ)

end Cert.QuantWScales

end
-- ==== Proof.QuantDyNTrip.lean ====
/-
  One trip of `QuantDyN`'s loop, with what it leaves in the scratch of exponents: trip `k` fills rows `8 k` to `8 k + 7` of
  it with the exponents of the blocks of columns `256 k` to `256 k + 255` of the tile, each block scaled by its
  signs and rotated, and leaves the tile and the signs alone.
-/
module

public import proofs.«01_k».proof.Defs
public import proofs.«01_k».proof.Proof.Gen.QuantDyN
public import proofs.«01_k».proof.Proof.Gen.QuantDyN.Skeleton
public import proofs.«01_k».proof.Proof.Gen.QuantDyN.Loops
public import proofs.«01_k».proof.Proof.Gen.QuantDyN.Launch
public import proofs.«01_k».proof.Proof.Gen.QuantDyN.Points
public import proofs.«01_k».proof.Proof.Gen.QuantDyN.Frame
public import proofs.«01_k».proof.Proof.BlockExponent

@[expose] public section

set_option maxRecDepth 16384

noncomputable section

namespace Cert.QuantDyNScales

open Cert.QuantDyN Cert.QuantDyN.Gen Cert.BlockExponent
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2)

variable {F : FTy → Type} [BitOps F]

local notation "𝕄" => MT nD τ sig Unit (Elt F) ℕ (UR sig nD τ) ℕ

/-! ## Where a trip reads and writes -/

theorem trip_lt (k : Fin k0_t1_loop.trips) : k.val < 16 := Nat.lt_of_lt_of_le k.isLt k0_t1_abs.2.1

theorem step_256 (n : ℕ) (h : n < 16) : (Scalar.muli (Scf.iv 0#32 1#32 n) 256#32).toNat = 256 * n := by
  interval_cases n <;> rfl

theorem step_8 (n : ℕ) (h : n < 16) : (Scalar.muli (Scf.iv 0#32 1#32 n) 8#32).toNat = 8 * n := by
  interval_cases n <;> rfl

theorem off1_eq (k : Fin k0_t1_loop.trips) : k0_off1 k = ![0, 256 * k.val] := by
  funext a
  fin_cases a
  · rfl
  · exact step_256 k.val (trip_lt k)

theorem off6_eq (k : Fin k0_t1_loop.trips) : k0_off5 k = ![128, 256 * k.val] := by
  funext a
  fin_cases a
  · rfl
  · exact step_256 k.val (trip_lt k)

theorem off5_eq (k : Fin k0_t1_loop.trips) : k0_off4 k = ![8 * k.val, 0] := by
  funext a
  fin_cases a
  · exact step_8 k.val (trip_lt k)
  · rfl

theorem off9_eq (k : Fin k0_t1_loop.trips) : k0_off7 k = ![8 * k.val, 128] := by
  funext a
  fin_cases a
  · exact step_8 k.val (trip_lt k)
  · rfl

theorem off2_eq (k : Fin k0_t1_loop.trips) (i : Fin 32) :
    k0_off2 k (BitVec.ofNat 32 (8 * i.val)) = ![256 * k.val + 8 * i.val, 0] := by
  have h := trip_lt k
  have e : (Scalar.addi (Scalar.muli (Scf.iv 0#32 1#32 k.val) 256#32) (BitVec.ofNat 32 (8 * i.val))).toNat = 256 * k.val + 8 * i.val := by
    obtain ⟨n, hn⟩ := k
    obtain ⟨i, hi⟩ := i
    dsimp only at h ⊢
    have e1 : Scalar.muli (Scf.iv 0#32 1#32 n) 256#32 = BitVec.ofNat 32 (256 * n) := by interval_cases n <;> rfl
    rw [e1]
    show (BitVec.ofNat 32 (256 * n) + BitVec.ofNat 32 (8 * i)).toNat = _
    rw [BitVec.toNat_add, BitVec.toNat_ofNat, BitVec.toNat_ofNat]
    omega
  funext a
  fin_cases a
  · exact e
  · rfl

/-! ## The exponents of a tile -/

/-- The exponent of block `y 0` of row `y 1` of a tile `A` with the signs `S`: element `i` of the block is column
    `32 (y 0) + i`, and its sign stands in row `256 (y 0 / 8) + 8 i + y 0 % 8`. -/
def tileExponent (A : S256x4096.Idx → F .bf16) (S : S4096x128.Idx → F .f32) (y : S128x256.Idx) : BitVec 32 :=
  blockExponent fun i => FloatOps.mulf
    (widened (A (ix2 (y 1) ⟨(32 * (y 0).val + i) % 4096, Nat.mod_lt _ (by decide)⟩)))
    (S (ix2 ⟨(256 * ((y 0).val / 8) + 8 * i + (y 0).val % 8) % 4096, Nat.mod_lt _ (by decide)⟩
      ⟨(y 1).val % 128, Nat.mod_lt _ (by decide)⟩))

variable [∀ e, Nonempty (Elt F e)]

/-- The signs trip `k` reads for element `i`. -/
def signs (arg2 : Memref sig .tc .vmem S4096x128 .f32) (k : Fin k0_t1_loop.trips) (f : arg2.view.ty.Contents (Elt F)) (i : ℕ) :
    S8x128.Idx → F .f32 :=
  if h : i < 32 then
    shapeCast S8x128 (arg2.view.readAt (Elt F) (Rect.unit (s := S4096x128) (k0_off2 k (BitVec.ofNat 32 (8 * i))) S8x128.size (k0_off2_inb k ⟨i, h⟩)).toLoadRect f) shapeCasts_S8x128_S8x128
  else fun _ => FloatOps.ofBits .f32 0

theorem signs_apply (arg2 : Memref sig .tc .vmem S4096x128 .f32) (k : Fin k0_t1_loop.trips) (f : arg2.view.ty.Contents (Elt F)) (i : ℕ)
    (hi : i < 32) (b : Fin 8) (l : Fin 128) :
    signs (F := F) arg2 k f i (ix2 b l) = arg2.view.read (Elt F) f (ix2 ⟨(256 * k.val + 8 * i + b.val) % 4096, Nat.mod_lt _ (by decide)⟩ l) := by
  have hk := trip_lt k
  unfold signs
  rw [dif_pos hi]
  refine (congrFun (shapeCast_self _ _) _).trans ?_
  refine congrArg (arg2.view.read (Elt F) f) (funext fun a => Fin.ext ?_)
  show (k0_off2 k (BitVec.ofNat 32 (8 * i))) a + 1 * ((ix2 b l : S8x128.Idx) a).val = _
  rw [off2_eq k ⟨i, hi⟩]
  have hb := b.isLt
  match a with
  | ⟨0, _⟩ => show 256 * k.val + 8 * i + 1 * b.val = (256 * k.val + 8 * i + b.val) % 4096; omega
  | ⟨1, _⟩ => show 0 + 1 * l.val = l.val; omega

/-- What trip `k` stores of the first 128 rows of the tile; -/
theorem exponents_first (arg2 : Memref sig .tc .vmem S4096x128 .f32) (arg3 : Memref sig .tc .vmem S256x4096 .bf16) {κ : Kind} {sp : Space} (v : View sig κ sp S160x128 .i32)
    (k : Fin k0_t1_loop.trips) (f2 : arg2.view.ty.Contents (Elt F)) (f3 : arg3.view.ty.Contents (Elt F)) (b : Fin 8) (l : Fin 128) :
    tileExponents (readWords (F := F) v (strips (packed (shapeCast S128x256 (arg3.view.readAt (Elt F) (Rect.unit (s := S256x4096) (k0_off1 k) S128x256.size (k0_off1_inb k)).toLoadRect f3) shapeCasts_S128x256_S128x256))))
        (signs arg2 k f2) (ix2 b l)
      = tileExponent (arg3.view.read (Elt F) f3) (arg2.view.read (Elt F) f2) (ix2 ⟨8 * k.val + b.val, by have := trip_lt k; omega⟩ ⟨l.val, by omega⟩) := by
  have hk := trip_lt k
  have hb := b.isLt
  rw [show shapeCast S128x256 _ shapeCasts_S128x256_S128x256 = _ from shapeCast_self _ _, tileExponents_packed]
  unfold tileExponent
  refine blockExponent_congr fun i hi => ?_
  rw [signs_apply arg2 k f2 i hi]
  refine congrArg₂ FloatOps.mulf (congrArg widened (congrArg (arg3.view.read (Elt F) f3) (funext fun a => Fin.ext ?_)))
    (congrArg (arg2.view.read (Elt F) f2) (funext fun a => Fin.ext ?_))
  · show (k0_off1 k) a + 1 * ((ix2 l ⟨(32 * b.val + i) % 256, Nat.mod_lt _ (by decide)⟩ : S128x256.Idx) a).val = _
    rw [off1_eq]
    match a with
    | ⟨0, _⟩ => show 0 + 1 * l.val = l.val; omega
    | ⟨1, _⟩ => show 256 * k.val + 1 * ((32 * b.val + i) % 256) = (32 * (8 * k.val + b.val) + i) % 4096; omega
  · match a with
    | ⟨0, _⟩ => show (256 * k.val + 8 * i + b.val) % 4096 = (256 * ((8 * k.val + b.val) / 8) + 8 * i + (8 * k.val + b.val) % 8) % 4096; omega
    | ⟨1, _⟩ => show l.val = l.val % 128; have := l.isLt; omega

/-- and of the last 128. -/
theorem exponents_last (arg2 : Memref sig .tc .vmem S4096x128 .f32) (arg3 : Memref sig .tc .vmem S256x4096 .bf16) {κ : Kind} {sp : Space} (v : View sig κ sp S160x128 .i32)
    (k : Fin k0_t1_loop.trips) (f2 : arg2.view.ty.Contents (Elt F)) (f3 : arg3.view.ty.Contents (Elt F)) (b : Fin 8) (l : Fin 128) :
    tileExponents (readWords (F := F) v (strips (packed (shapeCast S128x256 (arg3.view.readAt (Elt F) (Rect.unit (s := S256x4096) (k0_off5 k) S128x256.size (k0_off5_inb k)).toLoadRect f3) shapeCasts_S128x256_S128x256))))
        (signs arg2 k f2) (ix2 b l)
      = tileExponent (arg3.view.read (Elt F) f3) (arg2.view.read (Elt F) f2) (ix2 ⟨8 * k.val + b.val, by have := trip_lt k; omega⟩ ⟨128 + l.val, by omega⟩) := by
  have hk := trip_lt k
  have hb := b.isLt
  rw [show shapeCast S128x256 _ shapeCasts_S128x256_S128x256 = _ from shapeCast_self _ _, tileExponents_packed]
  unfold tileExponent
  refine blockExponent_congr fun i hi => ?_
  rw [signs_apply arg2 k f2 i hi]
  refine congrArg₂ FloatOps.mulf (congrArg widened (congrArg (arg3.view.read (Elt F) f3) (funext fun a => Fin.ext ?_)))
    (congrArg (arg2.view.read (Elt F) f2) (funext fun a => Fin.ext ?_))
  · show (k0_off5 k) a + 1 * ((ix2 l ⟨(32 * b.val + i) % 256, Nat.mod_lt _ (by decide)⟩ : S128x256.Idx) a).val = _
    rw [off6_eq]
    match a with
    | ⟨0, _⟩ => show 128 + 1 * l.val = 128 + l.val; omega
    | ⟨1, _⟩ => show 256 * k.val + 1 * ((32 * b.val + i) % 256) = (32 * (8 * k.val + b.val) + i) % 4096; omega
  · match a with
    | ⟨0, _⟩ => show (256 * k.val + 8 * i + b.val) % 4096 = (256 * ((8 * k.val + b.val) / 8) + 8 * i + (8 * k.val + b.val) % 8) % 4096; omega
    | ⟨1, _⟩ => show l.val = (128 + l.val) % 128; have := l.isLt; omega

/-- The rows before `8 n` of the scratch hold the exponents `E`. -/
def filled (arg8 : Memref sig .tc .vmem S128x256 .i32) (E : S128x256.Idx → BitVec 32) (n : ℕ) (f : arg8.view.ty.Contents (Elt F)) : Prop :=
  ∀ y : S128x256.Idx, (y 0).val < 8 * n → arg8.view.read (Elt F) f y = E y

/-- A trip's two stores add eight rows. -/
theorem filled_step (arg8 : Memref sig .tc .vmem S128x256 .i32) (E : S128x256.Idx → BitVec 32) (k : Fin k0_t1_loop.trips)
    (f : arg8.view.ty.Contents (Elt F)) (h : filled arg8 E k.val f) (P Q : S8x128.Idx → BitVec 32)
    (hP : ∀ (b : Fin 8) (l : Fin 128), P (ix2 b l) = E (ix2 ⟨8 * k.val + b.val, by have := trip_lt k; omega⟩ ⟨128 + l.val, by omega⟩))
    (hQ : ∀ (b : Fin 8) (l : Fin 128), Q (ix2 b l) = E (ix2 ⟨8 * k.val + b.val, by have := trip_lt k; omega⟩ ⟨l.val, by omega⟩)) :
    filled arg8 E (k.val + 1) (arg8.view.writes (Elt F) f [⟨Rect.unit (s := S128x256) (k0_off7 k) S8x128.size (k0_off7_inb k), P⟩, ⟨Rect.unit (s := S128x256) (k0_off4 k) S8x128.size (k0_off4_inb k), Q⟩]) := by
  have hk := trip_lt k
  intro y hy
  have h1 : (y 1).val < 256 := (y 1).isLt
  have m9 : y ∈ (Rect.unit (s := S128x256) (k0_off7 k) S8x128.size (k0_off7_inb k)).set ↔ 8 * k.val ≤ (y 0).val ∧ 128 ≤ (y 1).val := by
    rw [Rect.mem_set_unit, off9_eq]
    constructor
    · intro hh; exact ⟨(hh 0).1, (hh 1).1⟩
    · intro hh a
      match a with
      | ⟨0, _⟩ => exact ⟨hh.1, show (y 0).val < 8 * k.val + 8 by omega⟩
      | ⟨1, _⟩ => exact ⟨hh.2, show (y 1).val < 128 + 128 by omega⟩
  have m5 : y ∈ (Rect.unit (s := S128x256) (k0_off4 k) S8x128.size (k0_off4_inb k)).set ↔ 8 * k.val ≤ (y 0).val ∧ (y 1).val < 128 := by
    rw [Rect.mem_set_unit, off5_eq]
    constructor
    · intro hh; exact ⟨(hh 0).1, by have := (hh 1).2; simpa using this⟩
    · intro hh a
      match a with
      | ⟨0, _⟩ => exact ⟨hh.1, show (y 0).val < 8 * k.val + 8 by omega⟩
      | ⟨1, _⟩ => exact ⟨Nat.zero_le _, show (y 1).val < 0 + 128 by omega⟩
  by_cases c9 : 8 * k.val ≤ (y 0).val ∧ 128 ≤ (y 1).val
  · obtain ⟨x, hx⟩ := LoadRect.exists_idx_of_mem _ (m9.mpr c9)
    rw [← hx]
    refine (View.read_writes_cons_emb _ _ _ _ _ _).trans ?_
    rw [hx]
    have e0 : (y 0).val = 8 * k.val + 1 * (x 0).val := by
      rw [← hx]; exact congrArg (· + 1 * (x 0).val) (congrFun (off9_eq k) 0)
    have e1 : (y 1).val = 128 + 1 * (x 1).val := by
      rw [← hx]; exact congrArg (· + 1 * (x 1).val) (congrFun (off9_eq k) 1)
    have ex : x = (ix2 (x 0) (x 1) : S8x128.Idx) := by funext a; match a with | ⟨0, _⟩ => rfl | ⟨1, _⟩ => rfl
    refine (congrArg P ex).trans ((hP (x 0) (x 1)).trans (congrArg E (funext fun a => Fin.ext ?_)))
    match a with
    | ⟨0, _⟩ => show 8 * k.val + (x 0).val = (y 0).val; omega
    | ⟨1, _⟩ => show 128 + (x 1).val = (y 1).val; omega
  · rw [View.writes_cons, View.read_slice_write_of_not_mem _ _ _ _ (by rw [Rect.map_emb_univ]; exact fun hm => c9 (m9.mp hm))]
    by_cases c5 : 8 * k.val ≤ (y 0).val ∧ (y 1).val < 128
    · obtain ⟨x, hx⟩ := LoadRect.exists_idx_of_mem _ (m5.mpr c5)
      rw [← hx]
      refine (View.read_writes_cons_emb _ _ _ _ _ _).trans ?_
      rw [hx]
      have e0 : (y 0).val = 8 * k.val + 1 * (x 0).val := by
        rw [← hx]; exact congrArg (· + 1 * (x 0).val) (congrFun (off5_eq k) 0)
      have e1 : (y 1).val = 0 + 1 * (x 1).val := by
        rw [← hx]; exact congrArg (· + 1 * (x 1).val) (congrFun (off5_eq k) 1)
      have ex : x = (ix2 (x 0) (x 1) : S8x128.Idx) := by funext a; match a with | ⟨0, _⟩ => rfl | ⟨1, _⟩ => rfl
      refine (congrArg Q ex).trans ((hQ (x 0) (x 1)).trans (congrArg E (funext fun a => Fin.ext ?_)))
      match a with
      | ⟨0, _⟩ => show 8 * k.val + (x 0).val = (y 0).val; omega
      | ⟨1, _⟩ => show (x 1).val = (y 1).val; omega
    · rw [View.writes_cons, View.read_slice_write_of_not_mem _ _ _ _ (by rw [Rect.map_emb_univ]; exact fun hm => c5 (m5.mp hm))]
      rw [View.writes_nil]
      exact h y (by omega)

/-! ## One trip of the loop -/

/-- What a trip of the loop touches: the signs and the tile as they are, the exponents so far, the rest at some
    contents. -/
abbrev held (c : Dev nD) (arg2 : Memref sig .tc .vmem S4096x128 .f32) (arg3 : Memref sig .tc .vmem S256x4096 .bf16) (arg4 : Memref sig .tc .vmem S256x4096 .i8) (arg5 : Memref sig .tc .vmem S256x4096 .bf16) (arg6 : Memref sig .tc .vmem S256x2048 .i8) (arg8 : Memref sig .tc .vmem S128x256 .i32) (arg9 : Memref sig .tc .vmem S160x128 .i32) (arg10 : Memref sig .tc .vmem S160x128 .i32) (arg11 : Memref sig .tc .vmem S96x128 .i32) (arg12 : Memref sig .tc .vmem S160x128 .i32) (arg13 : Memref sig .tc .vmem S160x128 .i32) (arg14 : Memref sig .tc .vmem S96x128 .i32) (f2 : arg2.view.ty.Contents (Elt F)) (f3 : arg3.view.ty.Contents (Elt F)) (n : ℕ) : sProp 𝕄 :=
  iprop((arg2.view.loc (c : Thread nD τ) ↦[arg2.view.set]{fullShare} f2)
      ∗ (arg3.view.loc (c : Thread nD τ) ↦[arg3.view.set]{fullShare} f3)
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, ⌜filled (F := F) arg8 (tileExponent (arg3.view.read (Elt F) f3) (arg2.view.read (Elt F) f2)) n f⌝ ∗ (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f)))

set_option maxHeartbeats 100000000 in
/-- One trip of the loop fills eight more rows. -/
theorem trip (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S256x4096 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (k : Fin k0_t1_loop.trips)
    (f2 : arg2.view.ty.Contents (Elt F)) (f3 : arg3.view.ty.Contents (Elt F)) :
    held (F := F) c arg2 arg3 arg4 arg5 arg6 arg8 arg9 arg10 arg11 arg12 arg13 arg14 f2 f3 k.val
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
        (fun _ => held (F := F) c arg2 arg3 arg4 arg5 arg6 arg8 arg9 arg10 arg11 arg12 arg13 arg14 f2 f3 (k.val + 1)) := by
  unfold k0_t1_body
  iintro ⟨H_arg2, H_arg3, ⟨%f_arg4, H_arg4⟩, ⟨%f_arg5, H_arg5⟩, ⟨%f_arg6, H_arg6⟩, ⟨%f_arg8, %hf, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩⟩
  sl_exec
  sl_step
  isplitl [H_arg2]
  · iexact H_arg2
  isplitl [H_arg3]
  · iexact H_arg3
  isplitl [H_arg4]
  · iexists _; iexact H_arg4
  isplitl [H_arg5]
  · iexists _; iexact H_arg5
  isplitl [H_arg6]
  · iexists _; iexact H_arg6
  isplitl [H_arg8]
  · iexists _; isplitr; swap; · iexact H_arg8
    ipureintro
    refine filled_step arg8 _ k _ hf _ _ (fun b l => Eq.trans ?_ (exponents_last arg2 arg3 arg12.view k f2 f3 b l)) (fun b l => Eq.trans ?_ (exponents_first arg2 arg3 arg9.view k f2 f3 b l))
    · unfold k0_pay1
      refine (congrFun (shapeCast_self _ _) _).trans ?_
      rfl
    · unfold k0_pay339
      refine (congrFun (shapeCast_self _ _) _).trans ?_
      rfl
  isplitl [H_arg9]
  · iexists _; iexact H_arg9
  isplitl [H_arg10]
  · iexists _; iexact H_arg10
  isplitl [H_arg11]
  · iexists _; iexact H_arg11
  isplitl [H_arg12]
  · iexists _; iexact H_arg12
  isplitl [H_arg13]
  · iexists _; iexact H_arg13
  iexists _; iexact H_arg14

set_option warn.classDefReducibility false in
/-- The loop's invariant: after `n` trips the first `8 n` rows are filled. -/
@[sl_loop] def tripInv (𝒱 : Variants) (c : Dev nD) (bd : Option 𝒱.V) (E : Set ℕ) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S256x4096 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)  (f2 : arg2.view.ty.Contents (Elt F)) (f3 : arg3.view.ty.Contents (Elt F)) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 where
  inv n _ := held (F := F) c arg2 arg3 arg4 arg5 arg6 arg8 arg9 arg10 arg11 arg12 arg13 arg14 f2 f3 n
  step k _ := trip 𝒱 c bd E i arg2 harg2 arg3 harg3 arg4 harg4 arg5 harg5 arg6 harg6 arg7 harg7 arg8 harg8 arg9 harg9 arg10 harg10 arg11 harg11 arg12 harg12 arg13 harg13 arg14 harg14 k f2 f3

end Cert.QuantDyNScales

end
-- ==== Proof.QuantDyNScales.lean ====
/-
  The exponents `QuantDyN` writes: one body fills its block of them from the tile and the signs in its windows, and after
  the launch every block of the array holds what its point's tile and signs determine. What the other results hold is
  forgotten.
-/
module

public import proofs.«01_k».proof.Defs
public import proofs.«01_k».proof.Proof.Gen.QuantDyN
public import proofs.«01_k».proof.Proof.Gen.QuantDyN.Skeleton
public import proofs.«01_k».proof.Proof.Gen.QuantDyN.Loops
public import proofs.«01_k».proof.Proof.Gen.QuantDyN.Launch
public import proofs.«01_k».proof.Proof.Gen.QuantDyN.Points
public import proofs.«01_k».proof.Proof.Gen.QuantDyN.Frame
public import proofs.«01_k».proof.Proof.BlockExponent
public import proofs.«01_k».proof.Proof.QuantDyNTrip

@[expose] public section

set_option maxRecDepth 16384

noncomputable section

namespace Cert.QuantDyNScales

open Cert.QuantDyN Cert.QuantDyN.Gen Cert.BlockExponent
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2)

variable {F : FTy → Type} [BitOps F]

local notation "𝕄" => MT nD τ sig Unit (Elt F) ℕ (UR sig nD τ) ℕ

variable [∀ e, Nonempty (Elt F e)]

/-! ## The body -/

/-- The block of exponents a tile and its signs determine: the tile's, transposed, each one byte. -/
def blockScales (S : S4096x128.Idx → F .f32) (A : S256x4096.Idx → F .bf16) (z : S256x128.Idx) : BitVec 8 :=
  (tileExponent A S (ix2 (z 1) (z 0))).setWidth 8

/-- The bytes stored from a scratch that is filled. -/
theorem stored_eq (arg8 : Memref sig .tc .vmem S128x256 .i32) (S : S4096x128.Idx → F .f32) (A : S256x4096.Idx → F .bf16) (f : arg8.view.ty.Contents (Elt F))
    (h : filled (F := F) arg8 (tileExponent A S) 16 f) (R : (Rect.unit (s := S128x256) ![0, 0] S128x256.size inb_S128x256_S128x256_0_0).shape.Idx → BitVec 32)
    (hR : R = arg8.view.readAt (Elt F) (Rect.unit (s := S128x256) ![0, 0] S128x256.size inb_S128x256_S128x256_0_0).toLoadRect f) :
    k0_pay2 (F := F) R = blockScales S A := by
  subst hR
  funext z
  have hz : (z 1).val < 128 := (z 1).isLt
  refine congrArg (fun w : BitVec 32 => w.setWidth 8) (Eq.trans ?_ (h (ix2 (z 1) (z 0)) (by show (z 1).val < 128; exact hz)))
  refine congrArg (arg8.view.read (Elt F) f) (funext fun a => Fin.ext ?_)
  match a with
  | ⟨0, _⟩ => show 0 + 1 * (z 1).val = (z 1).val; omega
  | ⟨1, _⟩ => show 0 + 1 * (z 0).val = (z 0).val; omega

set_option maxHeartbeats 100000000 in
/-- The body leaves the tile and the signs as they are, and its block of exponents. -/
theorem run_body (c : Dev nD) (i : grid0.Coords) (arg2 : Memref sig .tc .vmem S4096x128 .f32) (harg2 : arg2.IsWhole) (arg3 : Memref sig .tc .vmem S256x4096 .bf16) (harg3 : arg3.IsWhole) (arg4 : Memref sig .tc .vmem S256x4096 .i8) (harg4 : arg4.IsWhole) (arg5 : Memref sig .tc .vmem S256x4096 .bf16) (harg5 : arg5.IsWhole) (arg6 : Memref sig .tc .vmem S256x2048 .i8) (harg6 : arg6.IsWhole) (arg7 : Memref sig .tc .vmem S256x128 .i8) (harg7 : arg7.IsWhole) (arg8 : Memref sig .tc .vmem S128x256 .i32) (harg8 : arg8.IsWhole) (arg9 : Memref sig .tc .vmem S160x128 .i32) (harg9 : arg9.IsWhole) (arg10 : Memref sig .tc .vmem S160x128 .i32) (harg10 : arg10.IsWhole) (arg11 : Memref sig .tc .vmem S96x128 .i32) (harg11 : arg11.IsWhole) (arg12 : Memref sig .tc .vmem S160x128 .i32) (harg12 : arg12.IsWhole) (arg13 : Memref sig .tc .vmem S160x128 .i32) (harg13 : arg13.IsWhole) (arg14 : Memref sig .tc .vmem S96x128 .i32) (harg14 : arg14.IsWhole)
    (d2 : S4096x128.Idx → Elt F .f32) (d3 : S256x4096.Idx → Elt F .bf16) (K : PUnit → sProp 𝕄) :
    iprop(owns (c : Thread nD τ) arg2 fullShare d2
      ∗ owns (c : Thread nD τ) arg3 fullShare d3
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (iprop(owns (c : Thread nD τ) arg2 fullShare d2
      ∗ owns (c : Thread nD τ) arg3 fullShare d3
      ∗ (∃ d, owns (c : Thread nD τ) arg4 fullShare d)
      ∗ (∃ d, owns (c : Thread nD τ) arg5 fullShare d)
      ∗ (∃ d, owns (c : Thread nD τ) arg6 fullShare d)
      ∗ owns (c : Thread nD τ) arg7 fullShare (blockScales (F := F) d2 d3)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)) -∗ K ⟨⟩))
      ⊢ wp frame (wpE (defs₀ (F := F)) Variants.none (c : Thread nD τ) none) Set.univ
          (cc0_quant_dy_n (F := F) i arg2 harg2 arg3 harg3 arg4 harg4 arg5 harg5 arg6 harg6 arg7 harg7 arg8 harg8 arg9 harg9 arg10 harg10 arg11 harg11 arg12 harg12 arg13 harg13 arg14 harg14) K := by
  simp only [cc0_quant_dy_n_eq_skeleton]; unfold cc0_quant_dy_n_skel
  unfold owns
  iintro ⟨⟨%f_arg2, %h2, H_arg2⟩, ⟨%f_arg3, %h3, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, Hk⟩
  have h0 : filled (F := F) arg8 (tileExponent (arg3.view.read (Elt F) f_arg3) (arg2.view.read (Elt F) f_arg2)) 0 f_arg8 :=
    fun y hy => absurd hy (by omega)
  sl_exec
  sl_step
  iapply Hk
  isplitl [H_arg2]
  · iexists _; isplitr; swap; · iexact H_arg2
    ipureintro; exact h2
  isplitl [H_arg3]
  · iexists _; isplitr; swap; · iexact H_arg3
    ipureintro; exact h3
  isplitl [H_arg4]
  · iexists _, _; isplitr; swap; · iexact H_arg4
    ipureintro; rfl
  isplitl [H_arg5]
  · iexists _, _; isplitr; swap; · iexact H_arg5
    ipureintro; rfl
  isplitl [H_arg6]
  · iexists _, _; isplitr; swap; · iexact H_arg6
    ipureintro; rfl
  isplitl [H_arg7]
  · iexists _; isplitr; swap; · iexact H_arg7
    ipureintro
    subst h2 h3
    have e16 : k0_t1_loop.trips = 16 := by rfl
    funext z
    have ez : (Rect.unit (s := S256x128) ![0, 0] S256x128.size inb_S256x128_S256x128_0_0).emb z = z := by
      funext a
      apply Fin.ext
      match a with
      | ⟨0, _⟩ => show 0 + 1 * (z 0).val = (z 0).val; omega
      | ⟨1, _⟩ => show 0 + 1 * (z 1).val = (z 1).val; omega
    exact (congrArg (View.read (Elt F) arg7.view _) ez.symm).trans
      ((View.read_writes_cons_emb _ _ _ _ _ _).trans (congrFun (stored_eq arg8 _ _ fL3 (e16 ▸ hL5) _ rfl) z))
  isplitl [H_arg8]
  · iexists _, _; isplitr; swap; · iexact H_arg8
    ipureintro; rfl
  isplitl [H_arg9]
  · iexists _, _; isplitr; swap; · iexact H_arg9
    ipureintro; rfl
  isplitl [H_arg10]
  · iexists _, _; isplitr; swap; · iexact H_arg10
    ipureintro; rfl
  isplitl [H_arg11]
  · iexists _, _; isplitr; swap; · iexact H_arg11
    ipureintro; rfl
  isplitl [H_arg12]
  · iexists _, _; isplitr; swap; · iexact H_arg12
    ipureintro; rfl
  isplitl [H_arg13]
  · iexists _, _; isplitr; swap; · iexact H_arg13
    ipureintro; rfl
  iexists _, _; isplitr; swap; · iexact H_arg14
  ipureintro; rfl

/-! ## The proof data and the body obligation -/

variable (m : (ℓ : Loc nD τ sig) → Buf (Elt F) ℓ) (ρ : Dev nD → PrngReg)

/-- Forgotten are the column signs and the two arrays of codes. -/
def forgets0 : Fin 6 → Bool := fun w => w.val == 2 || w.val == 3 || w.val == 4

/-- The proof data: the arrays as the region finds them; the signs and the tile stay, the exponents are the block's, the rest is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨5, _⟩ => blockScales (F := F) (iblk m c 0 t) (iblk m c 1 t)
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare ((dats m 0 c).before 5 t d)))
@[inherit_doc bodyPre] def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ owns (c : Thread nD τ) (win0_5.stage (cfg0.slots t 5)) fullShare ((dats m 0 c).after 5 t))

/-- The invariant between points: each scratch at some contents, the generator's register at some state. -/
theorem ΦA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq]
  simp only [before0_0_of (m := m) (c := c) (dats m 0 c) (A_eq m c 0) (fun _ => rfl), before0_1_of (m := m) (c := c) (dats m 0 c) (A_eq m c 1) (fun _ => rfl)]
  iintro ⟨⟨⟨S_0, S_1, S_2, S_3, S_4, S_5, S_6⟩, Hg⟩, HO, ⟨%_, H_0⟩, ⟨%_, H_1⟩, H_2, H_3, H_4, ⟨%_, H_5⟩⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) _)
  isplitl [H_0]; · iexact H_0
  isplitl [H_1]; · iexact H_1
  isplitl [H_2]; · iexact H_2
  isplitl [H_3]; · iexact H_3
  isplitl [H_4]; · iexact H_4
  isplitl [H_5]; · iexists _; iexact H_5
  isplitl [S_0]; · iexact S_0
  isplitl [S_1]; · iexact S_1
  isplitl [S_2]; · iexact S_2
  isplitl [S_3]; · iexact S_3
  isplitl [S_4]; · iexact S_4
  isplitl [S_5]; · iexact S_5
  isplitl [S_6]; · iexact S_6
  iintro ⟨H_0, H_1, H_2, H_3, H_4, H_5, S_0, S_1, S_2, S_3, S_4, S_5, S_6⟩
  isplitl [S_0 S_1 S_2 S_3 S_4 S_5 S_6 Hg]
  · isplitl [S_0 S_1 S_2 S_3 S_4 S_5 S_6]
    · isplitl [S_0]; · iexact S_0
      isplitl [S_1]; · iexact S_1
      isplitl [S_2]; · iexact S_2
      isplitl [S_3]; · iexact S_3
      isplitl [S_4]; · iexact S_4
      isplitl [S_5]; · iexact S_5
      iexact S_6
    iexact Hg
  isplitl [HO]; · iexact HO
  isplitl [H_0]; · iexact H_0
  isplitl [H_1]; · iexact H_1
  isplitl [H_2]; · iexact H_2
  isplitl [H_3]; · iexact H_3
  isplitl [H_4]; · iexact H_4
  iexact H_5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- The launch runs, every array is what the proof data say, and every semaphore ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the launch the arguments are as they were. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.QuantDyNScales

end
-- ==== Proof.DyScalesNPredicate.lean ====
/-
  What the predicate on the output gradient's scales along the channels says at one block: it holds where the stored exponent is the one that the
  block's thirty-two elements determine.
-/
module

public import proofs.«01_k».proof.Defs
public import proofs.«01_k».proof.Proof.Gen.Post_dy_scales_n
public import proofs.«01_k».proof.Proof.RowBlock

@[expose] public section

set_option maxRecDepth 65536

noncomputable section

namespace Cert.DyScalesNPredicate

open Cert.Post_dy_scales_n Cert.Post_dy_scales_n.Gen Cert.BlockExponent Cert.RowBlock
open Idealize.ShloMosaic

variable {F : FTy → Type} [BitOps F]

/-- Element `i` of block `z`, as the predicate computes it from the wide matrix `v` and the scaled signs `s`. -/
def element (v : FVec F S3840x16384 .f32) (s : FVec F S16384 .f32) (z : S3840x512.Idx) : ℕ → F .f32
  | 0 => fn_row_element v s z
  | 1 => fn_row_element_0 v s z
  | 2 => fn_row_element_1 v s z
  | 3 => fn_row_element_2 v s z
  | 4 => fn_row_element_3 v s z
  | 5 => fn_row_element_4 v s z
  | 6 => fn_row_element_5 v s z
  | 7 => fn_row_element_6 v s z
  | 8 => fn_row_element_7 v s z
  | 9 => fn_row_element_8 v s z
  | 10 => fn_row_element_9 v s z
  | 11 => fn_row_element_10 v s z
  | 12 => fn_row_element_11 v s z
  | 13 => fn_row_element_12 v s z
  | 14 => fn_row_element_13 v s z
  | 15 => fn_row_element_14 v s z
  | 16 => fn_row_element_15 v s z
  | 17 => fn_row_element_16 v s z
  | 18 => fn_row_element_17 v s z
  | 19 => fn_row_element_18 v s z
  | 20 => fn_row_element_19 v s z
  | 21 => fn_row_element_20 v s z
  | 22 => fn_row_element_21 v s z
  | 23 => fn_row_element_22 v s z
  | 24 => fn_row_element_23 v s z
  | 25 => fn_row_element_24 v s z
  | 26 => fn_row_element_25 v s z
  | 27 => fn_row_element_26 v s z
  | 28 => fn_row_element_27 v s z
  | 29 => fn_row_element_28 v s z
  | 30 => fn_row_element_29 v s z
  | 31 => fn_row_element_30 v s z
  | _ => fn_row_element v s z

/-- The argument with its two leading axes taken as one. -/
def matrix (x : FVec F S3x1280x16384 .bf16) : FVec F S3840x16384 .bf16 :=
  shapeCast S3840x16384 x shapeCasts_S3x1280x16384_S3840x16384

set_option maxHeartbeats 4000000 in
/-- The predicate at a block. -/
theorem at_block (x : FVec F S3x1280x16384 .bf16) (s : FVec F S16384 .f32) (r : IVec S3x1280x16384 8) (dyq : FVec F S3840x16384 .bf16)
    (codes : IVec S3840x8192 8) (scales : IVec S3840x512 8) (z : S3840x512.Idx) :
    fn x s r dyq codes scales z = IntOp.cmpi .eq (scales z)
      ((exponentHost (largestHost (rotated (element (fun k => widenedHost (matrix x k)) (fun k => FloatOps.mulf (s k) root) z)) 31)).setWidth 8) := by
  rfl

/-- Its elements are the block's. -/
theorem elements (w : FVec F S3840x16384 .bf16) (s : FVec F S16384 .f32) (z : S3840x512.Idx) :
    ∀ i < 32, element (fun k => widenedHost (w k)) (fun k => FloatOps.mulf (s k) root) z i = rowBlock w s (z 0) (z 1) i := by
  intro i hi
  interval_cases i <;> exact element_eq _ (by omega) w s _ _ _ _ z

/-- Where the stored exponent is the block's, the predicate holds. -/
theorem holds_at (x : FVec Bits S3x1280x16384 .bf16) (s : FVec Bits S16384 .f32) (r : IVec S3x1280x16384 8) (dyq : FVec Bits S3840x16384 .bf16)
    (codes : IVec S3840x8192 8) (scales : IVec S3840x512 8) (z : S3840x512.Idx)
    (h : scales z = (blockExponent (rowBlock (matrix x) s (z 0) (z 1))).setWidth 8) :
    fn x s r dyq codes scales z = 1#1 := by
  rw [at_block, exponentHost_eq, largestHost_eq, h]
  have e := blockExponent_congr (elements (matrix x) s z)
  unfold blockExponent at e ⊢
  rw [e]
  simp [IntOp.cmpi]

end Cert.DyScalesNPredicate

end
-- ==== Proof.QuantDyNHolds.lean ====
/-
  The array of exponents after the call: every one is its block's, so the predicate on the output gradient's scales along the channels holds of every run.
-/
module

public import proofs.«01_k».proof.Proof.QuantDyNScales
public import proofs.«01_k».proof.Proof.DyScalesNPredicate
public import Idealize.ShloMosaic.Lib.Pipeline.ValueKit.Geometry

@[expose] public section

set_option maxRecDepth 16384

noncomputable section

namespace Cert.QuantDyNScales

open Cert.QuantDyN Cert.QuantDyN.Gen Cert.BlockExponent Cert.RowBlock
open Idealize.ShloMosaic Idealize.ShloMosaic.TcCoe Idealize.SL.Sem
open Idealize.ShloMosaic.Pipeline (Dat)
open Idealize.ShloMosaic.ValueIdx (ix1 ix2)

variable {F : FTy → Type} [BitOps F] [∀ e, Nonempty (Elt F e)]
variable (m : (ℓ : Loc nD τ sig) → Buf (Elt F) ℓ) (ρ : Dev nD → PrngReg)

/-- The exponents of all blocks. -/
def scales (w : S3840x16384.Idx → F .bf16) (s : S16384.Idx → F .f32) (z : S3840x512.Idx) : BitVec 8 :=
  (blockExponent (rowBlock w s (z 0) (z 1))).setWidth 8

/-- The signs as the call finds them: scaled, and spread over the rows of a tile's thirty-two by eight. -/
theorem found_signs (c : Dev nD) (k : S16384x128.Idx) (p : Fin 16384)
    (hp : p.val = 256 * ((k 0).val / 256) + 32 * ((k 0).val % 8) + (k 0).val % 256 / 8) :
    V m c main_v7 k = FloatOps.mulf ((m ((c : Thread nD τ).loc main_arg1) : S16384.Idx → F .f32) (ix1 p)) root := by
  have e : V m c main_v7 = broadcastInDim S16384x128 ![0, 1] bcast_S16384x1_S16384x128_0_1
      (shapeCast S16384x1 (transpose S64x32x8 [0, 2, 1] (shapeCast S64x8x32
        (fun q => FloatOps.mulf ((m ((c : Thread nD τ).loc main_arg1) : S16384.Idx → F .f32) q) root)
        shapeCasts_S16384_S64x8x32) transposes_S64x8x32_S64x32x8_0_2_1) shapeCasts_S64x32x8_S16384x1) := by
    rfl
  rw [e]
  exact spread_apply _ _ _ _ _ k p hp

/-- The matrix the call reads its tiles from: the argument, its two leading axes taken as one. -/
def matrix (x : S3x1280x16384.Idx → F .bf16) : S3840x16384.Idx → F .bf16 :=
  shapeCast S3840x16384 x shapeCasts_S3x1280x16384_S3840x16384

/-- The call finds it so. -/
theorem found_matrix (c : Dev nD) : V m c main_v0 = matrix (F := F) (m ((c : Thread nD τ).loc main_arg0)) := by
  rfl

/-- Which blocks the windows name at a point. -/
theorem places : ∀ t : Fin cfg0.N,
    (win0_0.index t (0 : Fin 2) = t.val % 4 ∧ win0_0.index t (1 : Fin 2) = 0)
    ∧ (win0_1.index t (0 : Fin 2) = t.val / 4 ∧ win0_1.index t (1 : Fin 2) = t.val % 4)
    ∧ (win0_5.index t (0 : Fin 2) = t.val / 4 ∧ win0_5.index t (1 : Fin 2) = t.val % 4) :=
  (by decide +kernel : ∀ t : Fin grid0.N, _)

/-- The array of exponents after the run. -/
theorem final (c : Dev nD) : (dats m 0 c).arrAt 5 cfg0.N
    = scales (F := F) (matrix (F := F) (m ((c : Thread nD τ).loc main_arg0))) (m ((c : Thread nD τ).loc main_arg1)) := by
  refine (dats m 0 c).arrAt_eq_of_covers 5 _ (by decide +kernel) fun t _ y => ?_
  obtain ⟨⟨a0, a1⟩, ⟨b0, b1⟩, ⟨c0, c1⟩⟩ := places t
  have ht : t.val < 60 := t.isLt
  have y0 : (y 0).val < 256 := (y 0).isLt
  have y1 : (y 1).val < 128 := (y 1).isLt
  have e0 : (((cfg0.win 5).blk t).view.emb y 0).val = t.val / 4 * 256 + (y 0).val := by
    show win0_5.index t 0 * 256 + 1 * (y 0).val = _
    rw [c0]; omega
  have e1 : (((cfg0.win 5).blk t).view.emb y 1).val = t.val % 4 * 128 + (y 1).val := by
    show win0_5.index t 1 * 128 + 1 * (y 1).val = _
    rw [c1]; omega
  show (blockExponent (fun i => _)).setWidth 8 = (blockExponent _).setWidth 8
  refine congrArg (fun b : BitVec 32 => b.setWidth 8) (blockExponent_congr fun i hi => ?_)
  refine congrArg₂ FloatOps.mulf ?_ ?_
  · refine congrArg widened ?_
    show V m c main_v0 _ = _
    rw [found_matrix]
    refine congrArg (matrix (F := F) (m ((c : Thread nD τ).loc main_arg0))) (funext fun a => Fin.ext ?_)
    match a with
    | ⟨0, _⟩ =>
      show win0_1.index t 0 * 256 + 1 * (y 0).val = (((cfg0.win 5).blk t).view.emb y 0).val
      rw [b0, e0]; omega
    | ⟨1, _⟩ =>
      show win0_1.index t 1 * 4096 + 1 * ((32 * (y 1).val + i) % 4096) = (32 * (((cfg0.win 5).blk t).view.emb y 1).val + i) % 16384
      rw [b1, e1]; omega
  · refine found_signs m c _ _ ?_
    have hq : (y 1).val / 8 < 16 := by omega
    have hs : (256 * ((y 1).val / 8) + 8 * i + (y 1).val % 8) % 4096 = 256 * ((y 1).val / 8) + (8 * i + (y 1).val % 8) := by omega
    have hr : win0_0.index t 0 * 4096 + 1 * ((256 * ((y 1).val / 8) + 8 * i + (y 1).val % 8) % 4096)
        = 256 * (16 * (t.val % 4) + (y 1).val / 8) + (8 * i + (y 1).val % 8) := by rw [a0, hs]; omega
    show (32 * (((cfg0.win 5).blk t).view.emb y 1).val + i) % 16384
      = 256 * ((win0_0.index t 0 * 4096 + 1 * ((256 * ((y 1).val / 8) + 8 * i + (y 1).val % 8) % 4096)) / 256)
        + 32 * ((win0_0.index t 0 * 4096 + 1 * ((256 * ((y 1).val / 8) + 8 * i + (y 1).val % 8) % 4096)) % 8)
        + (win0_0.index t 0 * 4096 + 1 * ((256 * ((y 1).val / 8) + 8 * i + (y 1).val % 8) % 4096)) % 256 / 8
    rw [hr, e1]
    generalize hg : 16 * (t.val % 4) + (y 1).val / 8 = g
    generalize hb : (y 1).val % 8 = b
    have hb8 : b < 8 := by omega
    rw [show (256 * g + (8 * i + b)) / 256 = g from by omega, show (256 * g + (8 * i + b)) % 8 = b from by omega,
      show (256 * g + (8 * i + b)) % 256 / 8 = i from by omega]
    omega

/-- Every run leaves the arguments as they were and its exponents as the predicate says. -/
theorem holds (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ Cert.Post_dy_scales_n.fn (F := Bits) (m ((c.tc : Thread nD τ).loc main_arg0)) (m ((c.tc : Thread nD τ).loc main_arg1))
          (m ((c.tc : Thread nD τ).loc main_arg2)) (r.2.mem ((c.tc : Thread nD τ).loc main_v8_0))
          (r.2.mem ((c.tc : Thread nD τ).loc main_v8_1)) (r.2.mem ((c.tc : Thread nD τ).loc main_v8_2)) = fun _ => 1#1) :=
  (θ_run defs _ _).mono (fun r h c => by
    obtain ⟨k0, k1, k2⟩ := arguments h.1 c
    refine ⟨k0, k1, k2, funext fun z => Cert.DyScalesNPredicate.holds_at _ _ _ _ _ _ z ?_⟩
    exact congrFun ((((dats (F := Bits) m 0 c).toRForget_arrAt_iff (show forgets0 5 = false from rfl) _ _).mp ((h.1 c).1 5)).trans (final m c)) z)
    (run_main (F := Bits) m ρ)

end Cert.QuantDyNScales

end
-- ==== Proof.ColumnBlock.lean ====
/-
  A block of thirty-two neighbours in a column of a matrix: how its words pass through the scratch, and the exponent of
  such a block as the predicate on the scales computes it.
-/
module

public import proofs.«01_k».proof.Proof.RowBlock

@[expose] public section

noncomputable section

namespace Cert.ColumnBlock

open Cert.BlockExponent Cert.RowBlock
open Idealize.ShloMosaic
open Idealize.ShloMosaic.ValueIdx (ix1 ix2 ix3)
open Idealize.ShloMosaic.Pipeline

variable {F : FTy → Type} [BitOps F]

/-! ## The words of a tile of bf16 -/

/-- A tile of 256 rows of 128 numbers, each pair of rows one row of words. -/
def stacked (a : (⟨2, ![256, 128]⟩ : Shape).Idx → F .bf16) : IVec (⟨2, ![128, 128]⟩ : Shape) 32 :=
  bitcast ⟨2, ![128, 128]⟩ 32 (bitcastToInt a) (by decide)

theorem stacked_apply (a : (⟨2, ![256, 128]⟩ : Shape).Idx → F .bf16) (r l : Fin 128) :
    stacked a (ix2 r l) = (BitOps.toBits (a (ix2 ⟨2 * r.val + 1, by omega⟩ l)) : BitVec 16)
      ++ (BitOps.toBits (a (ix2 ⟨2 * r.val, by omega⟩ l)) : BitVec 16) := by
  have hrow : Shape.row (s := ⟨2, ![128, 128]⟩) (ix2 r l) = r.val := rfl
  unfold stacked
  refine (bitcast_16_32 _ _ _).trans ?_
  refine congrArg₂ (· ++ ·) ?_ ?_
  · refine congrArg (fun z => (BitOps.toBits (a z) : BitVec 16)) (funext fun z => ?_)
    match z with
    | ⟨0, _⟩ => rfl
    | ⟨1, _⟩ => rfl
  · refine congrArg (fun z => (BitOps.toBits (a z) : BitVec 16)) (funext fun z => ?_)
    match z with
    | ⟨0, _⟩ => rfl
    | ⟨1, _⟩ => rfl

/-- The exponents of a tile that went through the scratch. -/
theorem tileExponents_stacked [∀ e, Nonempty (Elt F e)] {sig : RefSig} {κ : Kind} {sp : Space} (v : View sig κ sp (⟨2, ![160, 128]⟩ : Shape) .i32)
    (a : (⟨2, ![256, 128]⟩ : Shape).Idx → F .bf16) (G : ℕ → (⟨2, ![8, 128]⟩ : Shape).Idx → F .f32) (b : Fin 8) (l : Fin 128) :
    tileExponents (readWords (F := F) v (strips (stacked a))) G (ix2 b l)
      = blockExponent fun i => FloatOps.mulf (widened (a (ix2 ⟨(32 * b.val + i) % 256, Nat.mod_lt _ (by decide)⟩ l))) (G i (ix2 b l)) := by
  unfold tileExponents
  refine blockExponent_congr fun i hi => ?_
  have hw := (readWords_strips (F := F) v (stacked a) (i / 2) (by omega) b l).trans (stacked_apply a _ l)
  refine congrArg (FloatOps.mulf · (G i (ix2 b l))) ?_
  by_cases h : i % 2 = 0
  · rw [ofHalf_low h _ _ _ hw]
    refine congrArg (fun q => widened (a (ix2 q l))) (Fin.ext ?_)
    show 2 * (16 * b.val + i / 2) = (32 * b.val + i) % 256
    have := b.isLt; omega
  · rw [ofHalf_high (by omega) _ _ _ hw]
    refine congrArg (fun q => widened (a (ix2 q l))) (Fin.ext ?_)
    show 2 * (16 * b.val + i / 2) + 1 = (32 * b.val + i) % 256
    have := b.isLt; omega

end Cert.ColumnBlock

end
-- ==== Proof.QuantDyTTrip.lean ====
/-
  One trip of `QuantDyT`'s loop, with what it leaves in the scratch of exponents: trip `k` fills rows `8 k` to `8 k + 7` of
  it with the exponents of the blocks of rows `256 k` to `256 k + 255` of the tile, each block scaled by its
  signs and rotated, and leaves the tile and the signs alone.
-/
module

public import proofs.«01_k».proof.Defs
public import proofs.«01_k».proof.Proof.Gen.QuantDyT
public import proofs.«01_k».proof.Proof.Gen.QuantDyT.Skeleton
public import proofs.«01_k».proof.Proof.Gen.QuantDyT.Loops
public import proofs.«01_k».proof.Proof.Gen.QuantDyT.Launch
public import proofs.«01_k».proof.Proof.Gen.QuantDyT.Points
public import proofs.«01_k».proof.Proof.Gen.QuantDyT.Frame
public import proofs.«01_k».proof.Proof.ColumnBlock

@[expose] public section

set_option maxRecDepth 16384

noncomputable section

namespace Cert.QuantDyTScales

open Cert.QuantDyT Cert.QuantDyT.Gen Cert.BlockExponent Cert.ColumnBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2)

variable {F : FTy → Type} [BitOps F]

local notation "𝕄" => MT nD τ sig Unit (Elt F) ℕ (UR sig nD τ) ℕ

/-! ## Where a trip reads and writes -/

theorem trip_lt (k : Fin k0_t1_loop.trips) : k.val < 15 := Nat.lt_of_lt_of_le k.isLt k0_t1_abs.2.1

theorem step_256 (n : ℕ) (h : n < 15) : (Scalar.muli (Scf.iv 0#32 1#32 n) 256#32).toNat = 256 * n := by
  interval_cases n <;> rfl

theorem step_8 (n : ℕ) (h : n < 15) : (Scalar.muli (Scf.iv 0#32 1#32 n) 8#32).toNat = 8 * n := by
  interval_cases n <;> rfl

theorem off1_eq (k : Fin k0_t1_loop.trips) : k0_off1 k = ![256 * k.val, 0] := by
  funext a
  fin_cases a
  · exact step_256 k.val (trip_lt k)
  · rfl

theorem off6_eq (k : Fin k0_t1_loop.trips) : k0_off6 k = ![256 * k.val, 128] := by
  funext a
  fin_cases a
  · exact step_256 k.val (trip_lt k)
  · rfl

theorem off5_eq (k : Fin k0_t1_loop.trips) : k0_off5 k = ![8 * k.val, 0] := by
  funext a
  fin_cases a
  · exact step_8 k.val (trip_lt k)
  · rfl

theorem off9_eq (k : Fin k0_t1_loop.trips) : k0_off9 k = ![8 * k.val, 128] := by
  funext a
  fin_cases a
  · exact step_8 k.val (trip_lt k)
  · rfl

theorem off2_eq (k : Fin k0_t1_loop.trips) (i : Fin 32) :
    k0_off2 k (BitVec.ofNat 32 (8 * i.val)) = ![256 * k.val + 8 * i.val, 0] := by
  have h := trip_lt k
  have e : (Scalar.addi (Scalar.muli (Scf.iv 0#32 1#32 k.val) 256#32) (BitVec.ofNat 32 (8 * i.val))).toNat = 256 * k.val + 8 * i.val := by
    obtain ⟨n, hn⟩ := k
    obtain ⟨i, hi⟩ := i
    dsimp only at h ⊢
    have e1 : Scalar.muli (Scf.iv 0#32 1#32 n) 256#32 = BitVec.ofNat 32 (256 * n) := by interval_cases n <;> rfl
    rw [e1]
    show (BitVec.ofNat 32 (256 * n) + BitVec.ofNat 32 (8 * i)).toNat = _
    rw [BitVec.toNat_add, BitVec.toNat_ofNat, BitVec.toNat_ofNat]
    omega
  funext a
  fin_cases a
  · exact e
  · rfl

/-! ## The exponents of a tile -/

/-- The exponent of block `y 0` of column `y 1` of a tile `A` with the signs `S`: element `i` of the block is row
    `32 (y 0) + i`, and its sign stands in row `256 (y 0 / 8) + 8 i + y 0 % 8`. -/
def tileExponent (A : S3840x256.Idx → F .bf16) (S : S3840x128.Idx → F .f32) (y : S120x256.Idx) : BitVec 32 :=
  blockExponent fun i => FloatOps.mulf
    (widened (A (ix2 ⟨(32 * (y 0).val + i) % 3840, Nat.mod_lt _ (by decide)⟩ (y 1))))
    (S (ix2 ⟨(256 * ((y 0).val / 8) + 8 * i + (y 0).val % 8) % 3840, Nat.mod_lt _ (by decide)⟩
      ⟨(y 1).val % 128, Nat.mod_lt _ (by decide)⟩))

variable [∀ e, Nonempty (Elt F e)]

/-- The signs trip `k` reads for element `i`. -/
def signs (arg1 : Memref sig .tc .vmem S3840x128 .f32) (k : Fin k0_t1_loop.trips) (f : arg1.view.ty.Contents (Elt F)) (i : ℕ) :
    S8x128.Idx → F .f32 :=
  if h : i < 32 then
    shapeCast S8x128 (arg1.view.readAt (Elt F) (Rect.unit (s := S3840x128) (k0_off2 k (BitVec.ofNat 32 (8 * i))) S8x128.size (k0_off2_inb k ⟨i, h⟩)).toLoadRect f) shapeCasts_S8x128_S8x128
  else fun _ => FloatOps.ofBits .f32 0

theorem signs_apply (arg1 : Memref sig .tc .vmem S3840x128 .f32) (k : Fin k0_t1_loop.trips) (f : arg1.view.ty.Contents (Elt F)) (i : ℕ)
    (hi : i < 32) (b : Fin 8) (l : Fin 128) :
    signs (F := F) arg1 k f i (ix2 b l) = arg1.view.read (Elt F) f (ix2 ⟨(256 * k.val + 8 * i + b.val) % 3840, Nat.mod_lt _ (by decide)⟩ l) := by
  have hk := trip_lt k
  unfold signs
  rw [dif_pos hi]
  refine (congrFun (shapeCast_self _ _) _).trans ?_
  refine congrArg (arg1.view.read (Elt F) f) (funext fun a => Fin.ext ?_)
  show (k0_off2 k (BitVec.ofNat 32 (8 * i))) a + 1 * ((ix2 b l : S8x128.Idx) a).val = _
  rw [off2_eq k ⟨i, hi⟩]
  have hb := b.isLt
  match a with
  | ⟨0, _⟩ => show 256 * k.val + 8 * i + 1 * b.val = (256 * k.val + 8 * i + b.val) % 3840; omega
  | ⟨1, _⟩ => show 0 + 1 * l.val = l.val; omega

/-- What trip `k` stores of the first 128 columns of the tile; -/
theorem exponents_first (arg1 : Memref sig .tc .vmem S3840x128 .f32) (arg2 : Memref sig .tc .vmem S3840x256 .bf16) {κ : Kind} {sp : Space} (v : View sig κ sp S160x128 .i32)
    (k : Fin k0_t1_loop.trips) (f1 : arg1.view.ty.Contents (Elt F)) (f2 : arg2.view.ty.Contents (Elt F)) (b : Fin 8) (l : Fin 128) :
    tileExponents (readWords (F := F) v (strips (stacked (shapeCast S256x128 (arg2.view.readAt (Elt F) (Rect.unit (s := S3840x256) (k0_off1 k) S256x128.size (k0_off1_inb k)).toLoadRect f2) shapeCasts_S256x128_S256x128))))
        (signs arg1 k f1) (ix2 b l)
      = tileExponent (arg2.view.read (Elt F) f2) (arg1.view.read (Elt F) f1) (ix2 ⟨8 * k.val + b.val, by have := trip_lt k; omega⟩ ⟨l.val, by omega⟩) := by
  have hk := trip_lt k
  have hb := b.isLt
  rw [show shapeCast S256x128 _ shapeCasts_S256x128_S256x128 = _ from shapeCast_self _ _, tileExponents_stacked]
  unfold tileExponent
  refine blockExponent_congr fun i hi => ?_
  rw [signs_apply arg1 k f1 i hi]
  refine congrArg₂ FloatOps.mulf (congrArg widened (congrArg (arg2.view.read (Elt F) f2) (funext fun a => Fin.ext ?_)))
    (congrArg (arg1.view.read (Elt F) f1) (funext fun a => Fin.ext ?_))
  · show (k0_off1 k) a + 1 * ((ix2 ⟨(32 * b.val + i) % 256, Nat.mod_lt _ (by decide)⟩ l : S256x128.Idx) a).val = _
    rw [off1_eq]
    match a with
    | ⟨0, _⟩ => show 256 * k.val + 1 * ((32 * b.val + i) % 256) = (32 * (8 * k.val + b.val) + i) % 3840; omega
    | ⟨1, _⟩ => show 0 + 1 * l.val = l.val; omega
  · match a with
    | ⟨0, _⟩ => show (256 * k.val + 8 * i + b.val) % 3840 = (256 * ((8 * k.val + b.val) / 8) + 8 * i + (8 * k.val + b.val) % 8) % 3840; omega
    | ⟨1, _⟩ => show l.val = l.val % 128; have := l.isLt; omega

/-- and of the last 128. -/
theorem exponents_last (arg1 : Memref sig .tc .vmem S3840x128 .f32) (arg2 : Memref sig .tc .vmem S3840x256 .bf16) {κ : Kind} {sp : Space} (v : View sig κ sp S160x128 .i32)
    (k : Fin k0_t1_loop.trips) (f1 : arg1.view.ty.Contents (Elt F)) (f2 : arg2.view.ty.Contents (Elt F)) (b : Fin 8) (l : Fin 128) :
    tileExponents (readWords (F := F) v (strips (stacked (shapeCast S256x128 (arg2.view.readAt (Elt F) (Rect.unit (s := S3840x256) (k0_off6 k) S256x128.size (k0_off6_inb k)).toLoadRect f2) shapeCasts_S256x128_S256x128))))
        (signs arg1 k f1) (ix2 b l)
      = tileExponent (arg2.view.read (Elt F) f2) (arg1.view.read (Elt F) f1) (ix2 ⟨8 * k.val + b.val, by have := trip_lt k; omega⟩ ⟨128 + l.val, by omega⟩) := by
  have hk := trip_lt k
  have hb := b.isLt
  rw [show shapeCast S256x128 _ shapeCasts_S256x128_S256x128 = _ from shapeCast_self _ _, tileExponents_stacked]
  unfold tileExponent
  refine blockExponent_congr fun i hi => ?_
  rw [signs_apply arg1 k f1 i hi]
  refine congrArg₂ FloatOps.mulf (congrArg widened (congrArg (arg2.view.read (Elt F) f2) (funext fun a => Fin.ext ?_)))
    (congrArg (arg1.view.read (Elt F) f1) (funext fun a => Fin.ext ?_))
  · show (k0_off6 k) a + 1 * ((ix2 ⟨(32 * b.val + i) % 256, Nat.mod_lt _ (by decide)⟩ l : S256x128.Idx) a).val = _
    rw [off6_eq]
    match a with
    | ⟨0, _⟩ => show 256 * k.val + 1 * ((32 * b.val + i) % 256) = (32 * (8 * k.val + b.val) + i) % 3840; omega
    | ⟨1, _⟩ => show 128 + 1 * l.val = 128 + l.val; omega
  · match a with
    | ⟨0, _⟩ => show (256 * k.val + 8 * i + b.val) % 3840 = (256 * ((8 * k.val + b.val) / 8) + 8 * i + (8 * k.val + b.val) % 8) % 3840; omega
    | ⟨1, _⟩ => show l.val = (128 + l.val) % 128; have := l.isLt; omega

/-- The rows before `8 n` of the scratch hold the exponents `E`. -/
def filled (arg7 : Memref sig .tc .vmem S120x256 .i32) (E : S120x256.Idx → BitVec 32) (n : ℕ) (f : arg7.view.ty.Contents (Elt F)) : Prop :=
  ∀ y : S120x256.Idx, (y 0).val < 8 * n → arg7.view.read (Elt F) f y = E y

/-- A trip's two stores add eight rows. -/
theorem filled_step (arg7 : Memref sig .tc .vmem S120x256 .i32) (E : S120x256.Idx → BitVec 32) (k : Fin k0_t1_loop.trips)
    (f : arg7.view.ty.Contents (Elt F)) (h : filled arg7 E k.val f) (P Q : S8x128.Idx → BitVec 32)
    (hP : ∀ (b : Fin 8) (l : Fin 128), P (ix2 b l) = E (ix2 ⟨8 * k.val + b.val, by have := trip_lt k; omega⟩ ⟨128 + l.val, by omega⟩))
    (hQ : ∀ (b : Fin 8) (l : Fin 128), Q (ix2 b l) = E (ix2 ⟨8 * k.val + b.val, by have := trip_lt k; omega⟩ ⟨l.val, by omega⟩)) :
    filled arg7 E (k.val + 1) (arg7.view.writes (Elt F) f [⟨Rect.unit (s := S120x256) (k0_off9 k) S8x128.size (k0_off9_inb k), P⟩, ⟨Rect.unit (s := S120x256) (k0_off5 k) S8x128.size (k0_off5_inb k), Q⟩]) := by
  have hk := trip_lt k
  intro y hy
  have h1 : (y 1).val < 256 := (y 1).isLt
  have m9 : y ∈ (Rect.unit (s := S120x256) (k0_off9 k) S8x128.size (k0_off9_inb k)).set ↔ 8 * k.val ≤ (y 0).val ∧ 128 ≤ (y 1).val := by
    rw [Rect.mem_set_unit, off9_eq]
    constructor
    · intro hh; exact ⟨(hh 0).1, (hh 1).1⟩
    · intro hh a
      match a with
      | ⟨0, _⟩ => exact ⟨hh.1, show (y 0).val < 8 * k.val + 8 by omega⟩
      | ⟨1, _⟩ => exact ⟨hh.2, show (y 1).val < 128 + 128 by omega⟩
  have m5 : y ∈ (Rect.unit (s := S120x256) (k0_off5 k) S8x128.size (k0_off5_inb k)).set ↔ 8 * k.val ≤ (y 0).val ∧ (y 1).val < 128 := by
    rw [Rect.mem_set_unit, off5_eq]
    constructor
    · intro hh; exact ⟨(hh 0).1, by have := (hh 1).2; simpa using this⟩
    · intro hh a
      match a with
      | ⟨0, _⟩ => exact ⟨hh.1, show (y 0).val < 8 * k.val + 8 by omega⟩
      | ⟨1, _⟩ => exact ⟨Nat.zero_le _, show (y 1).val < 0 + 128 by omega⟩
  by_cases c9 : 8 * k.val ≤ (y 0).val ∧ 128 ≤ (y 1).val
  · obtain ⟨x, hx⟩ := LoadRect.exists_idx_of_mem _ (m9.mpr c9)
    rw [← hx]
    refine (View.read_writes_cons_emb _ _ _ _ _ _).trans ?_
    rw [hx]
    have e0 : (y 0).val = 8 * k.val + 1 * (x 0).val := by
      rw [← hx]; exact congrArg (· + 1 * (x 0).val) (congrFun (off9_eq k) 0)
    have e1 : (y 1).val = 128 + 1 * (x 1).val := by
      rw [← hx]; exact congrArg (· + 1 * (x 1).val) (congrFun (off9_eq k) 1)
    have ex : x = (ix2 (x 0) (x 1) : S8x128.Idx) := by funext a; match a with | ⟨0, _⟩ => rfl | ⟨1, _⟩ => rfl
    refine (congrArg P ex).trans ((hP (x 0) (x 1)).trans (congrArg E (funext fun a => Fin.ext ?_)))
    match a with
    | ⟨0, _⟩ => show 8 * k.val + (x 0).val = (y 0).val; omega
    | ⟨1, _⟩ => show 128 + (x 1).val = (y 1).val; omega
  · rw [View.writes_cons, View.read_slice_write_of_not_mem _ _ _ _ (by rw [Rect.map_emb_univ]; exact fun hm => c9 (m9.mp hm))]
    by_cases c5 : 8 * k.val ≤ (y 0).val ∧ (y 1).val < 128
    · obtain ⟨x, hx⟩ := LoadRect.exists_idx_of_mem _ (m5.mpr c5)
      rw [← hx]
      refine (View.read_writes_cons_emb _ _ _ _ _ _).trans ?_
      rw [hx]
      have e0 : (y 0).val = 8 * k.val + 1 * (x 0).val := by
        rw [← hx]; exact congrArg (· + 1 * (x 0).val) (congrFun (off5_eq k) 0)
      have e1 : (y 1).val = 0 + 1 * (x 1).val := by
        rw [← hx]; exact congrArg (· + 1 * (x 1).val) (congrFun (off5_eq k) 1)
      have ex : x = (ix2 (x 0) (x 1) : S8x128.Idx) := by funext a; match a with | ⟨0, _⟩ => rfl | ⟨1, _⟩ => rfl
      refine (congrArg Q ex).trans ((hQ (x 0) (x 1)).trans (congrArg E (funext fun a => Fin.ext ?_)))
      match a with
      | ⟨0, _⟩ => show 8 * k.val + (x 0).val = (y 0).val; omega
      | ⟨1, _⟩ => show (x 1).val = (y 1).val; omega
    · rw [View.writes_cons, View.read_slice_write_of_not_mem _ _ _ _ (by rw [Rect.map_emb_univ]; exact fun hm => c5 (m5.mp hm))]
      rw [View.writes_nil]
      exact h y (by omega)

/-! ## One trip of the loop -/

/-- What a trip of the loop touches: the signs and the tile as they are, the exponents so far, the rest at some
    contents. -/
abbrev held (c : Dev nD) (arg1 : Memref sig .tc .vmem S3840x128 .f32) (arg2 : Memref sig .tc .vmem S3840x256 .bf16) (arg3 : Memref sig .tc .vmem S3840x256 .i8) (arg4 : Memref sig .tc .vmem S3840x256 .bf16) (arg5 : Memref sig .tc .vmem S1920x256 .i8) (arg7 : Memref sig .tc .vmem S120x256 .i32) (arg8 : Memref sig .tc .vmem S160x128 .i32) (arg9 : Memref sig .tc .vmem S96x128 .i32) (arg10 : Memref sig .tc .vmem S32x128 .i32) (arg11 : Memref sig .tc .vmem S160x128 .i32) (arg12 : Memref sig .tc .vmem S96x128 .i32) (arg13 : Memref sig .tc .vmem S32x128 .i32) (f1 : arg1.view.ty.Contents (Elt F)) (f2 : arg2.view.ty.Contents (Elt F)) (n : ℕ) : sProp 𝕄 :=
  iprop((arg1.view.loc (c : Thread nD τ) ↦[arg1.view.set]{fullShare} f1)
      ∗ (arg2.view.loc (c : Thread nD τ) ↦[arg2.view.set]{fullShare} f2)
      ∗ (∃ f, (arg3.view.loc (c : Thread nD τ) ↦[arg3.view.set]{fullShare} f))
      ∗ (∃ f, (arg4.view.loc (c : Thread nD τ) ↦[arg4.view.set]{fullShare} f))
      ∗ (∃ f, (arg5.view.loc (c : Thread nD τ) ↦[arg5.view.set]{fullShare} f))
      ∗ (∃ f, ⌜filled (F := F) arg7 (tileExponent (arg2.view.read (Elt F) f2) (arg1.view.read (Elt F) f1)) n f⌝ ∗ (arg7.view.loc (c : Thread nD τ) ↦[arg7.view.set]{fullShare} f))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f)))

set_option maxHeartbeats 100000000 in
/-- One trip of the loop fills eight more rows. -/
theorem trip (𝒱 : Variants) (c : Dev nD) (bd : Option 𝒱.V) (E : Set ℕ) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .i8) (harg3 : arg3.IsWhole) (arg4 : Memref sig .tc .vmem S3840x256 .bf16) (harg4 : arg4.IsWhole) (arg5 : Memref sig .tc .vmem S1920x256 .i8) (harg5 : arg5.IsWhole) (arg6 : Memref sig .tc .vmem S3x40x256 .i8) (harg6 : arg6.IsWhole) (arg7 : Memref sig .tc .vmem S120x256 .i32) (harg7 : arg7.IsWhole) (arg8 : Memref sig .tc .vmem S160x128 .i32) (harg8 : arg8.IsWhole) (arg9 : Memref sig .tc .vmem S96x128 .i32) (harg9 : arg9.IsWhole) (arg10 : Memref sig .tc .vmem S32x128 .i32) (harg10 : arg10.IsWhole) (arg11 : Memref sig .tc .vmem S160x128 .i32) (harg11 : arg11.IsWhole) (arg12 : Memref sig .tc .vmem S96x128 .i32) (harg12 : arg12.IsWhole) (arg13 : Memref sig .tc .vmem S32x128 .i32) (harg13 : arg13.IsWhole)
    (k : Fin k0_t1_loop.trips)
    (f1 : arg1.view.ty.Contents (Elt F)) (f2 : arg2.view.ty.Contents (Elt F)) :
    held (F := F) c arg1 arg2 arg3 arg4 arg5 arg7 arg8 arg9 arg10 arg11 arg12 arg13 f1 f2 k.val
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
        (fun _ => held (F := F) c arg1 arg2 arg3 arg4 arg5 arg7 arg8 arg9 arg10 arg11 arg12 arg13 f1 f2 (k.val + 1)) := by
  unfold k0_t1_body
  iintro ⟨H_arg1, H_arg2, ⟨%f_arg3, H_arg3⟩, ⟨%f_arg4, H_arg4⟩, ⟨%f_arg5, H_arg5⟩, ⟨%f_arg7, %hf, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩⟩
  sl_exec
  sl_step
  isplitl [H_arg1]
  · iexact H_arg1
  isplitl [H_arg2]
  · iexact H_arg2
  isplitl [H_arg3]
  · iexists _; iexact H_arg3
  isplitl [H_arg4]
  · iexists _; iexact H_arg4
  isplitl [H_arg5]
  · iexists _; iexact H_arg5
  isplitl [H_arg7]
  · iexists _; isplitr; swap; · iexact H_arg7
    ipureintro
    refine filled_step arg7 _ k _ hf _ _ (fun b l => Eq.trans ?_ (exponents_last arg1 arg2 arg11.view k f1 f2 b l)) (fun b l => Eq.trans ?_ (exponents_first arg1 arg2 arg8.view k f1 f2 b l))
    · unfold k0_pay674
      refine (congrFun (shapeCast_self _ _) _).trans ?_
      rfl
    · unfold k0_pay341
      refine (congrFun (shapeCast_self _ _) _).trans ?_
      rfl
  isplitl [H_arg8]
  · iexists _; iexact H_arg8
  isplitl [H_arg9]
  · iexists _; iexact H_arg9
  isplitl [H_arg10]
  · iexists _; iexact H_arg10
  isplitl [H_arg11]
  · iexists _; iexact H_arg11
  isplitl [H_arg12]
  · iexists _; iexact H_arg12
  iexists _; iexact H_arg13

set_option warn.classDefReducibility false in
/-- The loop's invariant: after `n` trips the first `8 n` rows are filled. -/
@[sl_loop] def tripInv (𝒱 : Variants) (c : Dev nD) (bd : Option 𝒱.V) (E : Set ℕ) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .i8) (harg3 : arg3.IsWhole) (arg4 : Memref sig .tc .vmem S3840x256 .bf16) (harg4 : arg4.IsWhole) (arg5 : Memref sig .tc .vmem S1920x256 .i8) (harg5 : arg5.IsWhole) (arg6 : Memref sig .tc .vmem S3x40x256 .i8) (harg6 : arg6.IsWhole) (arg7 : Memref sig .tc .vmem S120x256 .i32) (harg7 : arg7.IsWhole) (arg8 : Memref sig .tc .vmem S160x128 .i32) (harg8 : arg8.IsWhole) (arg9 : Memref sig .tc .vmem S96x128 .i32) (harg9 : arg9.IsWhole) (arg10 : Memref sig .tc .vmem S32x128 .i32) (harg10 : arg10.IsWhole) (arg11 : Memref sig .tc .vmem S160x128 .i32) (harg11 : arg11.IsWhole) (arg12 : Memref sig .tc .vmem S96x128 .i32) (harg12 : arg12.IsWhole) (arg13 : Memref sig .tc .vmem S32x128 .i32) (harg13 : arg13.IsWhole)  (f1 : arg1.view.ty.Contents (Elt F)) (f2 : arg2.view.ty.Contents (Elt F)) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv n _ := held (F := F) c arg1 arg2 arg3 arg4 arg5 arg7 arg8 arg9 arg10 arg11 arg12 arg13 f1 f2 n
  step k _ := trip 𝒱 c bd E i arg1 harg1 arg2 harg2 arg3 harg3 arg4 harg4 arg5 harg5 arg6 harg6 arg7 harg7 arg8 harg8 arg9 harg9 arg10 harg10 arg11 harg11 arg12 harg12 arg13 harg13 k f1 f2

end Cert.QuantDyTScales

end
-- ==== Proof.QuantDyTScales.lean ====
/-
  The exponents `QuantDyT` writes: one body fills its block of them from the tile and the signs in its windows, and after
  the launch every block of the array holds what its point's tile and signs determine. What the other results hold is
  forgotten.
-/
module

public import proofs.«01_k».proof.Defs
public import proofs.«01_k».proof.Proof.Gen.QuantDyT
public import proofs.«01_k».proof.Proof.Gen.QuantDyT.Skeleton
public import proofs.«01_k».proof.Proof.Gen.QuantDyT.Loops
public import proofs.«01_k».proof.Proof.Gen.QuantDyT.Launch
public import proofs.«01_k».proof.Proof.Gen.QuantDyT.Points
public import proofs.«01_k».proof.Proof.Gen.QuantDyT.Frame
public import proofs.«01_k».proof.Proof.ColumnBlock
public import proofs.«01_k».proof.Proof.QuantDyTTrip
public import Idealize.ShloMosaic.Lib.WritesUnit

@[expose] public section

set_option maxRecDepth 16384

noncomputable section

namespace Cert.QuantDyTScales

open Cert.QuantDyT Cert.QuantDyT.Gen Cert.BlockExponent Cert.ColumnBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2 ix3)

variable {F : FTy → Type} [BitOps F]

local notation "𝕄" => MT nD τ sig Unit (Elt F) ℕ (UR sig nD τ) ℕ

variable [∀ e, Nonempty (Elt F e)]

/-! ## The body -/

/-- The block of exponents a tile and its signs determine: the tile's, forty rows to each of three planes, each one byte. -/
def blockScales (S : S3840x128.Idx → F .f32) (A : S3840x256.Idx → F .bf16) (z : S3x40x256.Idx) : BitVec 8 :=
  (tileExponent A S (ix2 ⟨(40 * (z 0).val + (z 1).val) % 120, Nat.mod_lt _ (by decide)⟩ (z 2))).setWidth 8

/-- A plane's bytes, from a scratch that is filled. -/
theorem plane_eq (arg7 : Memref sig .tc .vmem S120x256 .i32) (S : S3840x128.Idx → F .f32) (A : S3840x256.Idx → F .bf16) (f : arg7.view.ty.Contents (Elt F))
    (h : filled (F := F) arg7 (tileExponent A S) 15 f) (n o : ℕ) (hn : n < 3) (ho : o = 40 * n)
    (inb : ∀ a, (![o, 0] : Fin 2 → ℕ) a + S40x256.size a ≤ S120x256.size a) (sc : S40x256.ShapeCasts S1x40x256) (x : S1x40x256.Idx) :
    shapeCast S1x40x256 (fun q : S40x256.Idx => (arg7.view.readAt (Elt F) (Rect.unit (s := S120x256) ![o, 0] S40x256.size inb).toLoadRect f q).setWidth 8) sc x
      = blockScales S A (ix3 ⟨n, hn⟩ (x 1) (x 2)) := by
  subst ho
  have x0 : (x 0).val < 1 := (x 0).isLt
  have x1 : (x 1).val < 40 := (x 1).isLt
  rw [shapeCast_apply _ sc x (ix2 (x 1) (x 2)) (by
    rw [Shape.rowMajor_val_two, Shape.rowMajor_val_three]
    show (x 1).val * 256 + (x 2).val = ((x 0).val * 40 + (x 1).val) * 256 + (x 2).val
    omega)]
  refine congrArg (fun w : BitVec 32 => w.setWidth 8) (Eq.trans ?_ (h (ix2 ⟨(40 * n + (x 1).val) % 120, Nat.mod_lt _ (by decide)⟩ (x 2))
    (by show (40 * n + (x 1).val) % 120 < 8 * 15; omega)))
  refine congrArg (arg7.view.read (Elt F) f) (funext fun a => Fin.ext ?_)
  match a with
  | ⟨0, _⟩ => show 40 * n + 1 * (x 1).val = (40 * n + (x 1).val) % 120; omega
  | ⟨1, _⟩ => show 0 + 1 * (x 2).val = (x 2).val; omega

/-- The three planes are the block. -/
theorem planes_eq (arg6 : Memref sig .tc .vmem S3x40x256 .i8) (g : arg6.view.ty.Contents (Elt F)) (E : S3x40x256.Idx → BitVec 8)
    (P0 P1 P2 : S1x40x256.Idx → BitVec 8) (h0 : ∀ x, P0 x = E (ix3 ⟨0, by decide⟩ (x 1) (x 2))) (h1 : ∀ x, P1 x = E (ix3 ⟨1, by decide⟩ (x 1) (x 2)))
    (h2 : ∀ x, P2 x = E (ix3 ⟨2, by decide⟩ (x 1) (x 2))) :
    arg6.view.read (Elt F) (arg6.view.writes (Elt F) g
      [⟨Rect.unit (s := S3x40x256) ![2, 0, 0] S1x40x256.size inb_S3x40x256_S1x40x256_2_0_0, P2⟩,
       ⟨Rect.unit (s := S3x40x256) ![1, 0, 0] S1x40x256.size inb_S3x40x256_S1x40x256_1_0_0, P1⟩,
       ⟨Rect.unit (s := S3x40x256) ![0, 0, 0] S1x40x256.size inb_S3x40x256_S1x40x256_0_0_0, P0⟩]) = E := by
  funext y
  have y0 : (y 0).val < 3 := (y 0).isLt
  have hy : ∀ (n : ℕ) (hn : n < 3), (y 0).val = n → (ix3 ⟨n, hn⟩ (y 1) (y 2) : S3x40x256.Idx) = y := by
    intro n hn e
    funext a
    match a with
    | ⟨0, _⟩ => exact Fin.ext e.symm
    | ⟨1, _⟩ => rfl
    | ⟨2, _⟩ => rfl
  have hx : ∀ n : ℕ, (y 0).val = n → ∀ a : Fin 3, (y a).val = (![n, 0, 0] : Fin 3 → ℕ) a + ((ix3 ⟨0, by decide⟩ (y 1) (y 2) : S1x40x256.Idx) a).val := by
    intro n e a
    match a with
    | ⟨0, _⟩ => show (y 0).val = n + 0; omega
    | ⟨1, _⟩ => show (y 1).val = 0 + (y 1).val; omega
    | ⟨2, _⟩ => show (y 2).val = 0 + (y 2).val; omega
  by_cases e2 : (y 0).val = 2
  · rw [View.read_writes_cons_unit_of_mem (size := S1x40x256.size) (off := ![2, 0, 0]) (off' := ![2, 0, 0]) arg6.view g inb_S3x40x256_S1x40x256_2_0_0 P2 _ y (ix3 ⟨0, by decide⟩ (y 1) (y 2)) rfl (hx 2 e2), h2]
    exact congrArg E (hy 2 (by decide) e2)
  rw [View.read_writes_cons_unit_of_not_mem (size := S1x40x256.size) (off := ![2, 0, 0]) (off' := ![2, 0, 0]) arg6.view g inb_S3x40x256_S1x40x256_2_0_0 P2 _ y rfl 0 (Or.inl (by show (y 0).val < 2; omega))]
  by_cases e1 : (y 0).val = 1
  · rw [View.read_writes_cons_unit_of_mem (size := S1x40x256.size) (off := ![1, 0, 0]) (off' := ![1, 0, 0]) arg6.view g inb_S3x40x256_S1x40x256_1_0_0 P1 _ y (ix3 ⟨0, by decide⟩ (y 1) (y 2)) rfl (hx 1 e1), h1]
    exact congrArg E (hy 1 (by decide) e1)
  rw [View.read_writes_cons_unit_of_not_mem (size := S1x40x256.size) (off := ![1, 0, 0]) (off' := ![1, 0, 0]) arg6.view g inb_S3x40x256_S1x40x256_1_0_0 P1 _ y rfl 0 (Or.inl (by show (y 0).val < 1; omega))]
  have e0 : (y 0).val = 0 := by omega
  rw [View.read_writes_cons_unit_of_mem (size := S1x40x256.size) (off := ![0, 0, 0]) (off' := ![0, 0, 0]) arg6.view g inb_S3x40x256_S1x40x256_0_0_0 P0 _ y (ix3 ⟨0, by decide⟩ (y 1) (y 2)) rfl (hx 0 e0), h0]
  exact congrArg E (hy 0 (by decide) e0)

set_option maxHeartbeats 100000000 in
/-- The body leaves the tile and the signs as they are, and its block of exponents. -/
theorem run_body (c : Dev nD) (i : grid0.Coords) (arg1 : Memref sig .tc .vmem S3840x128 .f32) (harg1 : arg1.IsWhole) (arg2 : Memref sig .tc .vmem S3840x256 .bf16) (harg2 : arg2.IsWhole) (arg3 : Memref sig .tc .vmem S3840x256 .i8) (harg3 : arg3.IsWhole) (arg4 : Memref sig .tc .vmem S3840x256 .bf16) (harg4 : arg4.IsWhole) (arg5 : Memref sig .tc .vmem S1920x256 .i8) (harg5 : arg5.IsWhole) (arg6 : Memref sig .tc .vmem S3x40x256 .i8) (harg6 : arg6.IsWhole) (arg7 : Memref sig .tc .vmem S120x256 .i32) (harg7 : arg7.IsWhole) (arg8 : Memref sig .tc .vmem S160x128 .i32) (harg8 : arg8.IsWhole) (arg9 : Memref sig .tc .vmem S96x128 .i32) (harg9 : arg9.IsWhole) (arg10 : Memref sig .tc .vmem S32x128 .i32) (harg10 : arg10.IsWhole) (arg11 : Memref sig .tc .vmem S160x128 .i32) (harg11 : arg11.IsWhole) (arg12 : Memref sig .tc .vmem S96x128 .i32) (harg12 : arg12.IsWhole) (arg13 : Memref sig .tc .vmem S32x128 .i32) (harg13 : arg13.IsWhole)
    (d1 : S3840x128.Idx → Elt F .f32) (d2 : S3840x256.Idx → Elt F .bf16) (K : PUnit → sProp 𝕄) :
    iprop(owns (c : Thread nD τ) arg1 fullShare d1
      ∗ owns (c : Thread nD τ) arg2 fullShare d2
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (iprop(owns (c : Thread nD τ) arg1 fullShare d1
      ∗ owns (c : Thread nD τ) arg2 fullShare d2
      ∗ (∃ d, owns (c : Thread nD τ) arg3 fullShare d)
      ∗ (∃ d, owns (c : Thread nD τ) arg4 fullShare d)
      ∗ (∃ d, owns (c : Thread nD τ) arg5 fullShare d)
      ∗ owns (c : Thread nD τ) arg6 fullShare (blockScales (F := F) d1 d2)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)) -∗ K ⟨⟩))
      ⊢ wp frame (wpE (defs₀ (F := F)) Variants.none (c : Thread nD τ) none) Set.univ
          (cc0_quant_dy_t (F := F) i arg1 harg1 arg2 harg2 arg3 harg3 arg4 harg4 arg5 harg5 arg6 harg6 arg7 harg7 arg8 harg8 arg9 harg9 arg10 harg10 arg11 harg11 arg12 harg12 arg13 harg13) K := by
  simp only [cc0_quant_dy_t_eq_skeleton]; unfold cc0_quant_dy_t_skel
  unfold owns
  iintro ⟨⟨%f_arg1, %h1, H_arg1⟩, ⟨%f_arg2, %h2, H_arg2⟩, ⟨%d_arg3, %f_arg3, -, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, Hk⟩
  have h0 : filled (F := F) arg7 (tileExponent (arg2.view.read (Elt F) f_arg2) (arg1.view.read (Elt F) f_arg1)) 0 f_arg7 :=
    fun y hy => absurd hy (by omega)
  sl_exec
  sl_step
  iapply Hk
  isplitl [H_arg1]
  · iexists _; isplitr; swap; · iexact H_arg1
    ipureintro; exact h1
  isplitl [H_arg2]
  · iexists _; isplitr; swap; · iexact H_arg2
    ipureintro; exact h2
  isplitl [H_arg3]
  · iexists _, _; isplitr; swap; · iexact H_arg3
    ipureintro; rfl
  isplitl [H_arg4]
  · iexists _, _; isplitr; swap; · iexact H_arg4
    ipureintro; rfl
  isplitl [H_arg5]
  · iexists _, _; isplitr; swap; · iexact H_arg5
    ipureintro; rfl
  isplitl [H_arg6]
  · iexists _; isplitr; swap; · iexact H_arg6
    ipureintro
    subst h1 h2
    have e15 : k0_t1_loop.trips = 15 := by rfl
    exact planes_eq arg6 _ _ _ _ _
      (fun x => plane_eq arg7 _ _ fL3 (e15 ▸ hL5) 0 0 (by decide) rfl _ shapeCasts_S40x256_S1x40x256 x)
      (fun x => plane_eq arg7 _ _ fL3 (e15 ▸ hL5) 1 40 (by decide) rfl _ shapeCasts_S40x256_S1x40x256 x)
      (fun x => plane_eq arg7 _ _ fL3 (e15 ▸ hL5) 2 80 (by decide) rfl _ shapeCasts_S40x256_S1x40x256 x)
  isplitl [H_arg7]
  · iexists _, _; isplitr; swap; · iexact H_arg7
    ipureintro; rfl
  isplitl [H_arg8]
  · iexists _, _; isplitr; swap; · iexact H_arg8
    ipureintro; rfl
  isplitl [H_arg9]
  · iexists _, _; isplitr; swap; · iexact H_arg9
    ipureintro; rfl
  isplitl [H_arg10]
  · iexists _, _; isplitr; swap; · iexact H_arg10
    ipureintro; rfl
  isplitl [H_arg11]
  · iexists _, _; isplitr; swap; · iexact H_arg11
    ipureintro; rfl
  isplitl [H_arg12]
  · iexists _, _; isplitr; swap; · iexact H_arg12
    ipureintro; rfl
  iexists _, _; isplitr; swap; · iexact H_arg13
  ipureintro; rfl

/-! ## The proof data and the body obligation -/

variable (m : (ℓ : Loc nD τ sig) → Buf (Elt F) ℓ) (ρ : Dev nD → PrngReg)

/-- Forgotten are the bits of the rounding and the two arrays of values and codes. -/
def forgets0 : Fin 6 → Bool := fun w => w.val == 2 || w.val == 3 || w.val == 4

/-- The proof data: the arrays as the region finds them; the signs and the tile stay, the exponents are the block's, the rest is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨5, _⟩ => blockScales (F := F) (iblk m c 0 t) (iblk m c 1 t)
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare ((dats m 0 c).before 5 t d)))
@[inherit_doc bodyPre] def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ owns (c : Thread nD τ) (win0_5.stage (cfg0.slots t 5)) fullShare ((dats m 0 c).after 5 t))

/-- The invariant between points: each scratch at some contents, the generator's register at some state. -/
theorem ΦA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq]
  simp only [before0_0_of (m := m) (c := c) (dats m 0 c) (A_eq m c 0) (fun _ => rfl), before0_1_of (m := m) (c := c) (dats m 0 c) (A_eq m c 1) (fun _ => rfl)]
  iintro ⟨⟨⟨S_0, S_1, S_2, S_3, S_4, S_5, S_6⟩, Hg⟩, HO, ⟨%_, H_0⟩, ⟨%_, H_1⟩, H_2, H_3, H_4, ⟨%_, H_5⟩⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) _)
  isplitl [H_0]; · iexact H_0
  isplitl [H_1]; · iexact H_1
  isplitl [H_2]; · iexact H_2
  isplitl [H_3]; · iexact H_3
  isplitl [H_4]; · iexact H_4
  isplitl [H_5]; · iexists _; iexact H_5
  isplitl [S_0]; · iexact S_0
  isplitl [S_1]; · iexact S_1
  isplitl [S_2]; · iexact S_2
  isplitl [S_3]; · iexact S_3
  isplitl [S_4]; · iexact S_4
  isplitl [S_5]; · iexact S_5
  isplitl [S_6]; · iexact S_6
  iintro ⟨H_0, H_1, H_2, H_3, H_4, H_5, S_0, S_1, S_2, S_3, S_4, S_5, S_6⟩
  isplitl [S_0 S_1 S_2 S_3 S_4 S_5 S_6 Hg]
  · isplitl [S_0 S_1 S_2 S_3 S_4 S_5 S_6]
    · isplitl [S_0]; · iexact S_0
      isplitl [S_1]; · iexact S_1
      isplitl [S_2]; · iexact S_2
      isplitl [S_3]; · iexact S_3
      isplitl [S_4]; · iexact S_4
      isplitl [S_5]; · iexact S_5
      iexact S_6
    iexact Hg
  isplitl [HO]; · iexact HO
  isplitl [H_0]; · iexact H_0
  isplitl [H_1]; · iexact H_1
  isplitl [H_2]; · iexact H_2
  isplitl [H_3]; · iexact H_3
  isplitl [H_4]; · iexact H_4
  iexact H_5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- The launch runs, every array is what the proof data say, and every semaphore ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the launch the arguments are as they were. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.QuantDyTScales

end
-- ==== Proof.ColumnElements.lean ====
/-
  The elements of a block of thirty-two neighbours in a column: how the predicate on the scales along the tokens reads
  them, and where a block's signs lie in the array of signs the call is given.
-/
module

public import proofs.«01_k».proof.Proof.RowBlock

@[expose] public section

noncomputable section

namespace Cert.ColumnBlock

open Cert.BlockExponent Cert.RowBlock
open Idealize.ShloMosaic
open Idealize.ShloMosaic.ValueIdx (ix1 ix2 ix3)
open Idealize.ShloMosaic.Pipeline

variable {F : FTy → Type} [BitOps F]

/-- Element `i` of block `q` of column `c`. -/
def columnBlock (w : (⟨2, ![3840, 16384]⟩ : Shape).Idx → F .bf16) (s : (⟨1, ![3840]⟩ : Shape).Idx → F .f32) (q : Fin 120) (c : Fin 16384)
    (i : ℕ) : F .f32 :=
  FloatOps.mulf (widened (w (ix2 ⟨(32 * q.val + i) % 3840, Nat.mod_lt _ (by omega)⟩ c)))
    (FloatOps.mulf (s (ix1 ⟨(32 * q.val + i) % 3840, Nat.mod_lt _ (by omega)⟩)) root)

/-- Element `i` of every block of a matrix of columns, times its sign, is the block's element. -/
theorem element_eq (i : ℕ) (hi : i < 32) (w : (⟨2, ![3840, 16384]⟩ : Shape).Idx → F .bf16) (s : (⟨1, ![3840]⟩ : Shape).Idx → F .f32)
    (h1 : (⟨2, ![3840, 16384]⟩ : Shape).SlicesBy (![i, 0] : Fin 2 → ℕ) ![32, 1] ⟨2, ![120, 16384]⟩)
    (h2 : (⟨1, ![3840]⟩ : Shape).SlicesBy (![i] : Fin 1 → ℕ) ![32] ⟨1, ![120]⟩)
    (h3 : (⟨1, ![120]⟩ : Shape).BroadcastsInDim ⟨2, ![120, 1]⟩ (![0] : Fin 1 → Fin 2))
    (h4 : (⟨2, ![120, 1]⟩ : Shape).BroadcastsInDim ⟨2, ![120, 16384]⟩ (![0, 1] : Fin 2 → Fin 2)) (z : (⟨2, ![120, 16384]⟩ : Shape).Idx) :
    mulf (F := F) (Host.slice ⟨2, ![120, 16384]⟩ ![i, 0] ![32, 1] (fun k => widenedHost (w k)) h1)
      (broadcastInDim ⟨2, ![120, 16384]⟩ ![0, 1] h4 (broadcastInDim ⟨2, ![120, 1]⟩ ![0] h3
        (Host.slice ⟨1, ![120]⟩ ![i] ![32] (fun k => FloatOps.mulf (s k) root) h2))) z
      = columnBlock w s (z 0) (z 1) i := by
  have hz : (z 0).val < 120 := (z 0).isLt
  show FloatOps.mulf _ _ = _
  rw [broadcastInDim_apply _ h4 _ z (ix2 (z 0) ⟨0, by omega⟩) (fun a => by match a with | ⟨0, _⟩ => rfl | ⟨1, _⟩ => rfl),
    broadcastInDim_apply _ h3 _ _ (ix1 (z 0)) (fun a => by match a with | ⟨0, _⟩ => rfl)]
  unfold columnBlock Host.slice
  refine congrArg₂ FloatOps.mulf ?_ ?_
  · show widened (w _) = _
    refine congrArg (fun k => widened (w k)) (funext fun a => Fin.ext ?_)
    match a with
    | ⟨0, _⟩ => show i + 32 * (z 0).val = (32 * (z 0).val + i) % 3840; omega
    | ⟨1, _⟩ => show 0 + 1 * (z 1).val = (z 1).val; omega
  · refine congrArg (fun k => FloatOps.mulf (s k) root) (funext fun a => Fin.ext ?_)
    match a with
    | ⟨0, _⟩ => show i + 32 * (z 0).val = (32 * (z 0).val + i) % 3840; omega

/-- Row `256 g + 8 i + b` of the spread signs is sign `256 g + 32 b + i`. -/
theorem spread_apply (x : (⟨1, ![3840]⟩ : Shape).Idx → F .f32)
    (h1 : (⟨1, ![3840]⟩ : Shape).ShapeCasts ⟨3, ![15, 8, 32]⟩)
    (h2 : (⟨3, ![15, 8, 32]⟩ : Shape).Transposes [0, 2, 1] ⟨3, ![15, 32, 8]⟩)
    (h3 : (⟨3, ![15, 32, 8]⟩ : Shape).ShapeCasts ⟨2, ![3840, 1]⟩)
    (h4 : (⟨2, ![3840, 1]⟩ : Shape).BroadcastsInDim ⟨2, ![3840, 128]⟩ (![0, 1] : Fin 2 → Fin 2))
    (k : (⟨2, ![3840, 128]⟩ : Shape).Idx) (p : Fin 3840)
    (hp : p.val = 256 * ((k 0).val / 256) + 32 * ((k 0).val % 8) + (k 0).val % 256 / 8) :
    broadcastInDim ⟨2, ![3840, 128]⟩ ![0, 1] h4 (shapeCast ⟨2, ![3840, 1]⟩
      (transpose ⟨3, ![15, 32, 8]⟩ [0, 2, 1] (shapeCast ⟨3, ![15, 8, 32]⟩ x h1) h2) h3) k = x (ix1 p) := by
  have hk : (k 0).val < 3840 := (k 0).isLt
  rw [broadcastInDim_apply _ h4 _ k (ix2 (k 0) ⟨0, by omega⟩) (fun a => by match a with | ⟨0, _⟩ => rfl | ⟨1, _⟩ => rfl),
    shapeCast_apply _ h3 _ (ix3 (n0 := 15) (n1 := 32) (n2 := 8) ⟨(k 0).val / 256, by omega⟩ ⟨(k 0).val % 256 / 8, by omega⟩ ⟨(k 0).val % 8, by omega⟩)
      (by
        rw [Shape.rowMajor_val_three, Shape.rowMajor_val_two]
        show ((k 0).val / 256 * 32 + (k 0).val % 256 / 8) * 8 + (k 0).val % 8 = (k 0).val * 1 + 0
        omega),
    ValueIdx.transpose_ix3_021_apply,
    shapeCast_apply _ h1 _ (ix1 p) (by
        rw [Shape.rowMajor_val_three, Shape.rowMajor_val_one]
        show p.val = ((k 0).val / 256 * 8 + (k 0).val % 8) * 32 + (k 0).val % 256 / 8
        omega)]

end Cert.ColumnBlock

end
-- ==== Proof.DyScalesTPredicate.lean ====
/-
  What the predicate on the output gradient's scales along the tokens says at one block: it holds where the stored exponent is the one that the
  block's thirty-two elements determine.
-/
module

public import proofs.«01_k».proof.Defs
public import proofs.«01_k».proof.Proof.Gen.Post_dy_scales_t
public import proofs.«01_k».proof.Proof.ColumnElements

@[expose] public section

set_option maxRecDepth 65536

noncomputable section

namespace Cert.DyScalesTPredicate

open Cert.Post_dy_scales_t Cert.Post_dy_scales_t.Gen Cert.BlockExponent Cert.RowBlock Cert.ColumnBlock
open Idealize.ShloMosaic
open Idealize.ShloMosaic.ValueIdx (ix1 ix2)

variable {F : FTy → Type} [BitOps F]

/-- Element `i` of block `z`, as the predicate computes it from the wide matrix `v` and the scaled signs `s`. -/
def element (v : FVec F S3840x16384 .f32) (s : FVec F S3840 .f32) (z : S120x16384.Idx) : ℕ → F .f32
  | 0 => fn_column_element v s z
  | 1 => fn_column_element_0 v s z
  | 2 => fn_column_element_1 v s z
  | 3 => fn_column_element_2 v s z
  | 4 => fn_column_element_3 v s z
  | 5 => fn_column_element_4 v s z
  | 6 => fn_column_element_5 v s z
  | 7 => fn_column_element_6 v s z
  | 8 => fn_column_element_7 v s z
  | 9 => fn_column_element_8 v s z
  | 10 => fn_column_element_9 v s z
  | 11 => fn_column_element_10 v s z
  | 12 => fn_column_element_11 v s z
  | 13 => fn_column_element_12 v s z
  | 14 => fn_column_element_13 v s z
  | 15 => fn_column_element_14 v s z
  | 16 => fn_column_element_15 v s z
  | 17 => fn_column_element_16 v s z
  | 18 => fn_column_element_17 v s z
  | 19 => fn_column_element_18 v s z
  | 20 => fn_column_element_19 v s z
  | 21 => fn_column_element_20 v s z
  | 22 => fn_column_element_21 v s z
  | 23 => fn_column_element_22 v s z
  | 24 => fn_column_element_23 v s z
  | 25 => fn_column_element_24 v s z
  | 26 => fn_column_element_25 v s z
  | 27 => fn_column_element_26 v s z
  | 28 => fn_column_element_27 v s z
  | 29 => fn_column_element_28 v s z
  | 30 => fn_column_element_29 v s z
  | 31 => fn_column_element_30 v s z
  | _ => fn_column_element v s z

/-- The argument with its two leading axes taken as one. -/
def matrix (x : FVec F S3x1280x16384 .bf16) : FVec F S3840x16384 .bf16 :=
  shapeCast S3840x16384 x shapeCasts_S3x1280x16384_S3840x16384

/-- The signs with their two axes taken as one. -/
def flat (x : FVec F S3x1280 .f32) : FVec F S3840 .f32 := shapeCast S3840 x shapeCasts_S3x1280_S3840

/-- The exponents, as the predicate computes them. -/
def exponents (x : FVec F S3x1280x16384 .bf16) (s : FVec F S3x1280 .f32) (q : S120x16384.Idx) : BitVec 8 :=
  (exponentHost (largestHost (rotated (element (fun k => widenedHost (matrix x k)) (fun k => FloatOps.mulf (flat s k) root) q)) 31)).setWidth 8

set_option maxHeartbeats 4000000 in
/-- The predicate at a block. -/
theorem at_block (x : FVec F S3x1280x16384 .bf16) (s : FVec F S3x1280 .f32) (r : IVec S3x1280x16384 8) (dyq : FVec F S3840x16384 .bf16)
    (codes : IVec S1920x16384 8) (scales : IVec S3x40x16384 8) (z : S3x40x16384.Idx) :
    fn x s r dyq codes scales z = IntOp.cmpi .eq (scales z) (shapeCast S3x40x16384 (exponents x s) shapeCasts_S120x16384_S3x40x16384 z) := by
  rfl

/-- Its elements are the block's. -/
theorem elements (w : FVec F S3840x16384 .bf16) (s : FVec F S3840 .f32) (z : S120x16384.Idx) :
    ∀ i < 32, element (fun k => widenedHost (w k)) (fun k => FloatOps.mulf (s k) root) z i = columnBlock w s (z 0) (z 1) i := by
  intro i hi
  interval_cases i <;> exact ColumnBlock.element_eq _ (by omega) w s _ _ _ _ z

/-- Where the stored exponent is the block's, the predicate holds. -/
theorem holds_at (x : FVec Bits S3x1280x16384 .bf16) (s : FVec Bits S3x1280 .f32) (r : IVec S3x1280x16384 8) (dyq : FVec Bits S3840x16384 .bf16)
    (codes : IVec S1920x16384 8) (scales : IVec S3x40x16384 8) (z : S3x40x16384.Idx) (q : Fin 120) (hq : q.val = 40 * (z 0).val + (z 1).val)
    (h : scales z = (blockExponent (columnBlock (matrix x) (flat s) q (z 2))).setWidth 8) :
    fn x s r dyq codes scales z = 1#1 := by
  rw [at_block, shapeCast_apply (exponents x s) shapeCasts_S120x16384_S3x40x16384 z (ix2 q (z 2)) (by
    rw [Shape.rowMajor_val_two, Shape.rowMajor_val_three]
    show q.val * 16384 + (z 2).val = ((z 0).val * 40 + (z 1).val) * 16384 + (z 2).val
    omega)]
  unfold exponents
  rw [exponentHost_eq, largestHost_eq, h]
  have e := blockExponent_congr (elements (matrix x) (flat s) (ix2 q (z 2)))
  have e' : blockExponent (columnBlock (matrix x) (flat s) ((ix2 q (z 2) : S120x16384.Idx) 0) ((ix2 q (z 2) : S120x16384.Idx) 1))
      = blockExponent (columnBlock (matrix x) (flat s) q (z 2)) := rfl
  replace e := e.trans e'
  unfold blockExponent at e ⊢
  rw [e]
  simp [IntOp.cmpi]

end Cert.DyScalesTPredicate

end
-- ==== Proof.QuantDyTHolds.lean ====
/-
  The array of exponents after the call: every one is its block's, so the predicate on the output gradient's scales along the tokens holds of every run.
-/
module

public import proofs.«01_k».proof.Proof.QuantDyTScales
public import proofs.«01_k».proof.Proof.DyScalesTPredicate
public import proofs.«01_k».proof.Proof.ColumnElements
public import Idealize.ShloMosaic.Lib.Pipeline.ValueKit.Geometry

@[expose] public section

set_option maxRecDepth 16384

noncomputable section

namespace Cert.QuantDyTScales

open Cert.QuantDyT Cert.QuantDyT.Gen Cert.BlockExponent Cert.RowBlock Cert.ColumnBlock
open Idealize.ShloMosaic Idealize.ShloMosaic.TcCoe Idealize.SL.Sem
open Idealize.ShloMosaic.Pipeline (Dat)
open Idealize.ShloMosaic.ValueIdx (ix1 ix2)

variable {F : FTy → Type} [BitOps F] [∀ e, Nonempty (Elt F e)]
variable (m : (ℓ : Loc nD τ sig) → Buf (Elt F) ℓ) (ρ : Dev nD → PrngReg)

/-- The exponents of all blocks. -/
def scales (w : S3840x16384.Idx → F .bf16) (s : S3840.Idx → F .f32) (z : S3x40x16384.Idx) : BitVec 8 :=
  (blockExponent (columnBlock w s ⟨(40 * (z 0).val + (z 1).val) % 120, Nat.mod_lt _ (by decide)⟩ (z 2))).setWidth 8

/-- The signs with their two axes taken as one. -/
def flat (x : S3x1280.Idx → F .f32) : S3840.Idx → F .f32 := shapeCast S3840 x shapeCasts_S3x1280_S3840

/-- The signs as the call finds them: scaled, and spread over the rows of a tile's thirty-two by eight. -/
theorem found_signs (c : Dev nD) (k : S3840x128.Idx) (p : Fin 3840)
    (hp : p.val = 256 * ((k 0).val / 256) + 32 * ((k 0).val % 8) + (k 0).val % 256 / 8) :
    V m c main_v8 k = FloatOps.mulf (flat (F := F) (m ((c : Thread nD τ).loc main_arg1)) (ix1 p)) root := by
  have e : V m c main_v8 = broadcastInDim S3840x128 ![0, 1] bcast_S3840x1_S3840x128_0_1
      (shapeCast S3840x1 (transpose S15x32x8 [0, 2, 1] (shapeCast S15x8x32
        (fun q => FloatOps.mulf (flat (F := F) (m ((c : Thread nD τ).loc main_arg1)) q) root)
        shapeCasts_S3840_S15x8x32) transposes_S15x8x32_S15x32x8_0_2_1) shapeCasts_S15x32x8_S3840x1) := by
    rfl
  rw [e]
  exact ColumnBlock.spread_apply _ _ _ _ _ k p hp

/-- The matrix the call reads its tiles from: the argument, its two leading axes taken as one. -/
def matrix (x : S3x1280x16384.Idx → F .bf16) : S3840x16384.Idx → F .bf16 :=
  shapeCast S3840x16384 x shapeCasts_S3x1280x16384_S3840x16384

/-- The call finds it so. -/
theorem found_matrix (c : Dev nD) : V m c main_v0 = matrix (F := F) (m ((c : Thread nD τ).loc main_arg0)) := by
  rfl

/-- Which blocks the windows name at a point. -/
theorem places : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_5.index t (0 : Fin 3) = 0 ∧ win0_5.index t (1 : Fin 3) = 0 ∧ win0_5.index t (2 : Fin 3) = t.val) :=
  (by decide +kernel : ∀ t : Fin grid0.N, _)

/-- The array of exponents after the run. -/
theorem final (c : Dev nD) : (dats m 0 c).arrAt 5 cfg0.N
    = scales (F := F) (matrix (F := F) (m ((c : Thread nD τ).loc main_arg0))) (flat (F := F) (m ((c : Thread nD τ).loc main_arg1))) := by
  refine (dats m 0 c).arrAt_eq_of_covers 5 _ (by decide +kernel) fun t _ y => ?_
  obtain ⟨⟨a0, a1⟩, ⟨b0, b1⟩, ⟨c0, c1, c2⟩⟩ := places t
  have ht : t.val < 64 := t.isLt
  have y0 : (y 0).val < 3 := (y 0).isLt
  have y1 : (y 1).val < 40 := (y 1).isLt
  have y2 : (y 2).val < 256 := (y 2).isLt
  have e0 : (((cfg0.win 5).blk t).view.emb y 0).val = (y 0).val := by
    show win0_5.index t 0 * 3 + 1 * (y 0).val = _
    rw [c0]; omega
  have e1 : (((cfg0.win 5).blk t).view.emb y 1).val = (y 1).val := by
    show win0_5.index t 1 * 40 + 1 * (y 1).val = _
    rw [c1]; omega
  have e2 : (((cfg0.win 5).blk t).view.emb y 2).val = t.val * 256 + (y 2).val := by
    show win0_5.index t 2 * 256 + 1 * (y 2).val = _
    rw [c2]; omega
  show (blockExponent (fun i => _)).setWidth 8 = (blockExponent _).setWidth 8
  refine congrArg (fun b : BitVec 32 => b.setWidth 8) (blockExponent_congr fun i hi => ?_)
  refine congrArg₂ FloatOps.mulf ?_ ?_
  · refine congrArg widened ?_
    show V m c main_v0 _ = _
    rw [found_matrix]
    refine congrArg (matrix (F := F) (m ((c : Thread nD τ).loc main_arg0))) (funext fun a => Fin.ext ?_)
    match a with
    | ⟨0, _⟩ =>
      show win0_1.index t 0 * 3840 + 1 * ((32 * ((40 * (y 0).val + (y 1).val) % 120) + i) % 3840)
        = (32 * ((40 * (((cfg0.win 5).blk t).view.emb y 0).val + (((cfg0.win 5).blk t).view.emb y 1).val) % 120) + i) % 3840
      rw [b0, e0, e1]; omega
    | ⟨1, _⟩ =>
      show win0_1.index t 1 * 256 + 1 * (y 2).val = (((cfg0.win 5).blk t).view.emb y 2).val
      rw [b1, e2]; omega
  · refine found_signs m c _ _ ?_
    show (32 * ((40 * (((cfg0.win 5).blk t).view.emb y 0).val + (((cfg0.win 5).blk t).view.emb y 1).val) % 120) + i) % 3840
      = 256 * ((win0_0.index t 0 * 3840 + 1 * ((256 * (((40 * (y 0).val + (y 1).val) % 120) / 8) + 8 * i + ((40 * (y 0).val + (y 1).val) % 120) % 8) % 3840)) / 256)
        + 32 * ((win0_0.index t 0 * 3840 + 1 * ((256 * (((40 * (y 0).val + (y 1).val) % 120) / 8) + 8 * i + ((40 * (y 0).val + (y 1).val) % 120) % 8) % 3840)) % 8)
        + (win0_0.index t 0 * 3840 + 1 * ((256 * (((40 * (y 0).val + (y 1).val) % 120) / 8) + 8 * i + ((40 * (y 0).val + (y 1).val) % 120) % 8) % 3840)) % 256 / 8
    rw [e0, e1, a0]
    have hq : (40 * (y 0).val + (y 1).val) % 120 < 120 := Nat.mod_lt _ (by decide)
    generalize (40 * (y 0).val + (y 1).val) % 120 = q at hq
    have hs : 0 * 3840 + 1 * ((256 * (q / 8) + 8 * i + q % 8) % 3840) = 256 * (q / 8) + (8 * i + q % 8) := by
      have : q / 8 < 15 := by omega
      omega
    rw [hs]
    generalize hg : q / 8 = g
    generalize hb : q % 8 = b
    have hb8 : b < 8 := by omega
    rw [show (256 * g + (8 * i + b)) / 256 = g from by omega, show (256 * g + (8 * i + b)) % 8 = b from by omega,
      show (256 * g + (8 * i + b)) % 256 / 8 = i from by omega]
    omega

/-- Every run leaves the arguments as they were and its exponents as the predicate says. -/
theorem holds (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ Cert.Post_dy_scales_t.fn (F := Bits) (m ((c.tc : Thread nD τ).loc main_arg0)) (m ((c.tc : Thread nD τ).loc main_arg1))
          (m ((c.tc : Thread nD τ).loc main_arg2)) (r.2.mem ((c.tc : Thread nD τ).loc main_v9_0))
          (r.2.mem ((c.tc : Thread nD τ).loc main_v9_1)) (r.2.mem ((c.tc : Thread nD τ).loc main_v9_2)) = fun _ => 1#1) :=
  (θ_run defs _ _).mono (fun r h c => by
    obtain ⟨k0, k1, k2⟩ := arguments h.1 c
    refine ⟨k0, k1, k2, funext fun z => Cert.DyScalesTPredicate.holds_at _ _ _ _ _ _ z ⟨(40 * (z 0).val + (z 1).val) % 120, Nat.mod_lt _ (by decide)⟩ ?_ ?_⟩
    · have z0 : (z 0).val < 3 := (z 0).isLt
      have z1 : (z 1).val < 40 := (z 1).isLt
      show (40 * (z 0).val + (z 1).val) % 120 = _
      omega
    exact congrFun ((((dats (F := Bits) m 0 c).toRForget_arrAt_iff (show forgets0 5 = false from rfl) _ _).mp ((h.1 c).1 5)).trans (final m c)) z)
    (run_main (F := Bits) m ρ)

end Cert.QuantDyTScales

end
-- ==== Proof.lean ====
/- The assembly: the witnesses of the programs' stated facts, then the seventeen claims in the order of
   `Cert.Claim`. The frames of the two products are the generated ones; the references' frames and the two equations
   are proved in `DwEquation` and `DxEquation`; the frames of the four quantisers in `QuantXFrame`, `QuantDyTFrame`,
   `QuantDyNFrame` and `QuantWFrame`; the scales of the weight
   in `QuantWHolds`, those of the output gradient along the channels in `QuantDyNHolds`, those along the tokens in `QuantDyTHolds`; `preserves` holds by definition, for no rule rewrites either product. -/
module

public import proofs.«01_k».proof.Defs
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.ReferenceDwIdeal
public import proofs.«01_k».proof.Proof.Gen.KernelDx
public import proofs.«01_k».proof.Proof.Gen.KernelDx.Skeleton
public import proofs.«01_k».proof.Proof.Gen.KernelDx.Loops
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Loops
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.ReferenceDxIdeal
public import proofs.«01_k».proof.Proof.Gen.KernelDwIdeal.Value
public import proofs.«01_k».proof.Proof.Gen.KernelDxIdeal.Value
public import proofs.«01_k».proof.Proof.Gen.ReferenceDwIdeal.Read
public import proofs.«01_k».proof.Proof.Gen.ReferenceDxIdeal.Read
public import proofs.«01_k».proof.Proof.Gen.Post_w_scales
public import proofs.«01_k».proof.Proof.Gen.Post_dy_scales_n
public import proofs.«01_k».proof.Proof.Gen.Post_dy_scales_t
public import proofs.«01_k».proof.Proof.DwEquation
public import proofs.«01_k».proof.Proof.DxEquation
public import proofs.«01_k».proof.Proof.QuantXFrame
public import proofs.«01_k».proof.Proof.QuantDyTFrame
public import proofs.«01_k».proof.Proof.QuantDyNFrame
public import proofs.«01_k».proof.Proof.QuantWFrame
public import proofs.«01_k».proof.Proof.QuantWHolds
public import proofs.«01_k».proof.Proof.QuantDyNHolds
public import proofs.«01_k».proof.Proof.QuantDyTHolds
public import Idealize.ShloMosaic.Adequacy
public import Idealize.ShloMosaic.Init

@[expose] public section

noncomputable section

namespace Cert.Proof

open Idealize.ShloMosaic Idealize.SL.Sem Cert.KernelDw

/-- The whole certificate: frames, idealizations and values of the two products of the backward pass, the frames of its
    four quantisers, and the scales of the weight and of the output gradient along
    the channels. -/
theorem claim : Cert.Claim := ⟨Cert.KernelDw.Gen.facts, Cert.KernelDwIdeal.Gen.facts, Cert.ReferenceDwIdeal.Gen.facts, Cert.KernelDx.Gen.facts, Cert.KernelDxIdeal.Gen.facts, Cert.ReferenceDxIdeal.Gen.facts,
  Cert.QuantX.Gen.facts, Cert.QuantDyT.Gen.facts, Cert.QuantDyN.Gen.facts, Cert.QuantW.Gen.facts, Cert.Post_w_scales.Gen.facts, Cert.Post_dy_scales_n.Gen.facts, Cert.Post_dy_scales_t.Gen.facts,
  fun m ρ _ => Cert.KernelDw.Gen.frame m ρ,
  fun m ρ _ => Cert.KernelDwIdeal.Gen.frame m ρ,
  Cert.DwEquation.frame_reference,
  fun m ρ _ => Cert.KernelDx.Gen.frame m ρ,
  fun m ρ _ => Cert.KernelDxIdeal.Gen.frame m ρ,
  Cert.DxEquation.frame_reference,
  fun m ρ _ => Cert.QuantXFrame.frame_claim m ρ,
  fun m ρ _ => Cert.QuantDyTFrame.frame_claim m ρ,
  fun m ρ _ => Cert.QuantDyNFrame.frame_claim m ρ,
  fun m ρ _ => Cert.QuantWFrame.frame_claim m ρ,
  trivial,
  Cert.DwEquation.algebraic,
  trivial,
  Cert.DxEquation.algebraic,
  fun m ρ _ => Cert.QuantWScales.holds m ρ,
  fun m ρ _ => Cert.QuantDyNScales.holds m ρ,
  fun m ρ _ => Cert.QuantDyTScales.holds m ρ⟩

end Cert.Proof

end
